-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelVal (m : (ℓ : Loc Cert.KernelVal.nD Cert.KernelVal.τ Cert.KernelVal.sig) → Buf (Elt Bits) ℓ) : Prop :=
  True

def Pre_KernelValIdeal (m : (ℓ : Loc Cert.KernelValIdeal.nD Cert.KernelValIdeal.τ Cert.KernelValIdeal.sig) → Buf (Elt Ideal) ℓ) : Prop :=
  True

def Pre_ReferenceValIdeal (m : (ℓ : Loc Cert.ReferenceValIdeal.nD Cert.ReferenceValIdeal.τ Cert.ReferenceValIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelVal [hKernelVal : Cert.KernelVal.Facts] : Prop :=
  ∀ (m : (ℓ : Loc Cert.KernelVal.nD Cert.KernelVal.τ Cert.KernelVal.sig) → Buf (Elt Bits) ℓ) (g : Dev Cert.KernelVal.nD → PrngReg), Pre_KernelVal m →
    θ_run (Cert.KernelVal.defs (F := Bits)) (onTc (τ := Cert.KernelVal.τ) (Cert.KernelVal.main (F := Bits))) ⟨m, fun _ => 0, g⟩ (fun r => (∀ c : Dev Cert.KernelVal.nD,
      r.2.mem ((c.tc : Thread Cert.KernelVal.nD Cert.KernelVal.τ).loc Cert.KernelVal.main_arg0) = m ((c.tc : Thread Cert.KernelVal.nD Cert.KernelVal.τ).loc Cert.KernelVal.main_arg0)
      ∧ r.2.mem ((c.tc : Thread Cert.KernelVal.nD Cert.KernelVal.τ).loc Cert.KernelVal.main_arg1) = m ((c.tc : Thread Cert.KernelVal.nD Cert.KernelVal.τ).loc Cert.KernelVal.main_arg1))
      ∧ r.2.sem = fun _ => 0)

def quiescent_KernelValIdeal [hKernelValIdeal : Cert.KernelValIdeal.Facts] : Prop :=
  ∀ (m : (ℓ : Loc Cert.KernelValIdeal.nD Cert.KernelValIdeal.τ Cert.KernelValIdeal.sig) → Buf (Elt Ideal) ℓ) (g : Dev Cert.KernelValIdeal.nD → PrngReg), Pre_KernelValIdeal m →
    θ_run (Cert.KernelValIdeal.defs (F := Ideal)) (onTc (τ := Cert.KernelValIdeal.τ) (Cert.KernelValIdeal.main (F := Ideal))) ⟨m, fun _ => 0, g⟩ (fun r => (∀ c : Dev Cert.KernelValIdeal.nD,
      r.2.mem ((c.tc : Thread Cert.KernelValIdeal.nD Cert.KernelValIdeal.τ).loc Cert.KernelValIdeal.main_arg0) = m ((c.tc : Thread Cert.KernelValIdeal.nD Cert.KernelValIdeal.τ).loc Cert.KernelValIdeal.main_arg0)
      ∧ r.2.mem ((c.tc : Thread Cert.KernelValIdeal.nD Cert.KernelValIdeal.τ).loc Cert.KernelValIdeal.main_arg1) = m ((c.tc : Thread Cert.KernelValIdeal.nD Cert.KernelValIdeal.τ).loc Cert.KernelValIdeal.main_arg1))
      ∧ r.2.sem = fun _ => 0)

def quiescent_ReferenceValIdeal [hReferenceValIdeal : Cert.ReferenceValIdeal.Facts] : Prop :=
  ∀ (m : (ℓ : Loc Cert.ReferenceValIdeal.nD Cert.ReferenceValIdeal.τ Cert.ReferenceValIdeal.sig) → Buf (Elt Ideal) ℓ) (g : Dev Cert.ReferenceValIdeal.nD → PrngReg), Pre_ReferenceValIdeal m →
    θ_run (Cert.ReferenceValIdeal.defs (F := Ideal)) (onTc (τ := Cert.ReferenceValIdeal.τ) (Cert.ReferenceValIdeal.main (F := Ideal))) ⟨m, fun _ => 0, g⟩ (fun r => (∀ c : Dev Cert.ReferenceValIdeal.nD,
      r.2.mem ((c.tc : Thread Cert.ReferenceValIdeal.nD Cert.ReferenceValIdeal.τ).loc Cert.ReferenceValIdeal.main_arg0) = m ((c.tc : Thread Cert.ReferenceValIdeal.nD Cert.ReferenceValIdeal.τ).loc Cert.ReferenceValIdeal.main_arg0)
      ∧ r.2.mem ((c.tc : Thread Cert.ReferenceValIdeal.nD Cert.ReferenceValIdeal.τ).loc Cert.ReferenceValIdeal.main_arg1) = m ((c.tc : Thread Cert.ReferenceValIdeal.nD Cert.ReferenceValIdeal.τ).loc Cert.ReferenceValIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v9) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelVal_KernelValIdeal : Prop :=
  True

def algebraic_KernelValIdeal_ReferenceValIdeal [hKernelValIdeal : Cert.KernelValIdeal.Facts] [hReferenceValIdeal : Cert.ReferenceValIdeal.Facts] : Prop :=
  ∀ (m : (ℓ : Loc Cert.KernelValIdeal.nD Cert.KernelValIdeal.τ Cert.KernelValIdeal.sig) → Buf (Elt Ideal) ℓ) (g : Dev Cert.KernelValIdeal.nD → PrngReg)
    (m' : (ℓ : Loc Cert.ReferenceValIdeal.nD Cert.ReferenceValIdeal.τ Cert.ReferenceValIdeal.sig) → Buf (Elt Ideal) ℓ) (g' : Dev Cert.ReferenceValIdeal.nD → PrngReg), Pre_KernelValIdeal m →
    (∀ c : Dev Cert.KernelValIdeal.nD,
      m' ((c.tc : Thread Cert.ReferenceValIdeal.nD Cert.ReferenceValIdeal.τ).loc Cert.ReferenceValIdeal.main_arg0) = m ((c.tc : Thread Cert.KernelValIdeal.nD Cert.KernelValIdeal.τ).loc Cert.KernelValIdeal.main_arg0)
      ∧ m' ((c.tc : Thread Cert.ReferenceValIdeal.nD Cert.ReferenceValIdeal.τ).loc Cert.ReferenceValIdeal.main_arg1) = m ((c.tc : Thread Cert.KernelValIdeal.nD Cert.KernelValIdeal.τ).loc Cert.KernelValIdeal.main_arg1)) →
    ∃ (v0 : (c : Dev Cert.KernelValIdeal.nD) → Buf (Elt Ideal) ((c.tc : Thread Cert.KernelValIdeal.nD Cert.KernelValIdeal.τ).loc Cert.KernelValIdeal.main_v0)),
      θ_run (Cert.KernelValIdeal.defs (F := Ideal)) (onTc (τ := Cert.KernelValIdeal.τ) (Cert.KernelValIdeal.main (F := Ideal))) ⟨m, fun _ => 0, g⟩ (fun r => ∀ c : Dev Cert.KernelValIdeal.nD,
          r.2.mem ((c.tc : Thread Cert.KernelValIdeal.nD Cert.KernelValIdeal.τ).loc Cert.KernelValIdeal.main_v0) = v0 c
          ∧ r.2.mem ((c.tc : Thread Cert.KernelValIdeal.nD Cert.KernelValIdeal.τ).loc Cert.KernelValIdeal.main_arg0) = m ((c.tc : Thread Cert.KernelValIdeal.nD Cert.KernelValIdeal.τ).loc Cert.KernelValIdeal.main_arg0)
          ∧ r.2.mem ((c.tc : Thread Cert.KernelValIdeal.nD Cert.KernelValIdeal.τ).loc Cert.KernelValIdeal.main_arg1) = m ((c.tc : Thread Cert.KernelValIdeal.nD Cert.KernelValIdeal.τ).loc Cert.KernelValIdeal.main_arg1))
      ∧ θ_run (Cert.ReferenceValIdeal.defs (F := Ideal)) (onTc (τ := Cert.ReferenceValIdeal.τ) (Cert.ReferenceValIdeal.main (F := Ideal))) ⟨m', fun _ => 0, g'⟩ (fun r => ∀ c : Dev Cert.ReferenceValIdeal.nD,
          r.2.mem ((c.tc : Thread Cert.ReferenceValIdeal.nD Cert.ReferenceValIdeal.τ).loc Cert.ReferenceValIdeal.main_v7) = v0 c
          ∧ r.2.mem ((c.tc : Thread Cert.ReferenceValIdeal.nD Cert.ReferenceValIdeal.τ).loc Cert.ReferenceValIdeal.main_arg0) = m' ((c.tc : Thread Cert.ReferenceValIdeal.nD Cert.ReferenceValIdeal.τ).loc Cert.ReferenceValIdeal.main_arg0)
          ∧ r.2.mem ((c.tc : Thread Cert.ReferenceValIdeal.nD Cert.ReferenceValIdeal.τ).loc Cert.ReferenceValIdeal.main_arg1) = m' ((c.tc : Thread Cert.ReferenceValIdeal.nD Cert.ReferenceValIdeal.τ).loc Cert.ReferenceValIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v24) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)) →
    ∃ (v0 : (c : Dev Cert.KernelFfnIdeal.nD) → Buf (Elt Ideal) ((c.tc : Thread Cert.KernelFfnIdeal.nD Cert.KernelFfnIdeal.τ).loc Cert.KernelFfnIdeal.main_v0)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v0) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v81) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8))

def Claim : Prop :=
  ∃ (hKernel : Cert.Kernel.Facts) (hKernelIdeal : Cert.KernelIdeal.Facts) (hReferenceIdeal : Cert.ReferenceIdeal.Facts) (hKernelGate : Cert.KernelGate.Facts) (hKernelGateIdeal : Cert.KernelGateIdeal.Facts) (hReferenceGateIdeal : Cert.ReferenceGateIdeal.Facts) (hKernelVal : Cert.KernelVal.Facts) (hKernelValIdeal : Cert.KernelValIdeal.Facts) (hReferenceValIdeal : Cert.ReferenceValIdeal.Facts) (hKernelMix : Cert.KernelMix.Facts) (hKernelMixIdeal : Cert.KernelMixIdeal.Facts) (hReferenceMixIdeal : Cert.ReferenceMixIdeal.Facts) (hKernelFfn : Cert.KernelFfn.Facts) (hKernelFfnIdeal : Cert.KernelFfnIdeal.Facts) (hReferenceFfnIdeal : Cert.ReferenceFfnIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelVal (hKernelVal := hKernelVal)
    ∧ quiescent_KernelValIdeal (hKernelValIdeal := hKernelValIdeal)
    ∧ quiescent_ReferenceValIdeal (hReferenceValIdeal := hReferenceValIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGate_KernelGateIdeal
    ∧ algebraic_KernelGateIdeal_ReferenceGateIdeal (hKernelGateIdeal := hKernelGateIdeal) (hReferenceGateIdeal := hReferenceGateIdeal)
    ∧ preserves_KernelVal_KernelValIdeal
    ∧ algebraic_KernelValIdeal_ReferenceValIdeal (hKernelValIdeal := hKernelValIdeal) (hReferenceValIdeal := hReferenceValIdeal)
    ∧ preserves_KernelMix_KernelMixIdeal
    ∧ algebraic_KernelMixIdeal_ReferenceMixIdeal (hKernelMixIdeal := hKernelMixIdeal) (hReferenceMixIdeal := hReferenceMixIdeal)
    ∧ preserves_KernelFfn_KernelFfnIdeal
    ∧ algebraic_KernelFfnIdeal_ReferenceFfnIdeal (hKernelFfnIdeal := hKernelFfnIdeal) (hReferenceFfnIdeal := hReferenceFfnIdeal)
-- ==== Pre_finite.lean ====
abbrev S32768x2048 : Shape := ⟨2, ![32768, 2048]⟩
abbrev S32768x3072 : Shape := ⟨2, ![32768, 3072]⟩
abbrev S4x128 : Shape := ⟨2, ![4, 128]⟩
abbrev S1x256 : Shape := ⟨2, ![1, 256]⟩
abbrev S32768x1024 : Shape := ⟨2, ![32768, 1024]⟩
abbrev S_ : Shape := ⟨0, ![]⟩

class Facts : Prop where
  slices_S32768x3072_S32768x1024_0_0 : S32768x3072.Slices ![0, 0] S32768x1024
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S32768x2048 .bf16) (main_arg1 : FVec F S32768x3072 .bf16) (main_arg2 : FVec F S4x128 .f32) (main_arg3 : FVec F S1x256 .f32) : IVec S_ 1 :=
  let main_v0 : FVec F S32768x1024 .bf16 := (extractStridedSlice S32768x1024 ![0, 0] · slices_S32768x3072_S32768x1024_0_0) main_arg1
  let main_v1 : FVec F S32768x2048 .f32 := (extf .f32 · bitsLt_bf16_f32) main_arg0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  let main_c : IVec S_ 1 := constantI S_ 1 1#1
  let main_v5 : IVec S_ 1 := (fun x v => Host.reduce IntOp.andi x v reducesTo_S32768x2048_S_d0_1 h_S_) main_v4 main_c
  let main_v6 : FVec F S32768x1024 .f32 := (extf .f32 · bitsLt_bf16_f32) main_v0
  let main_v7 : FVec F S32768x1024 .f32 := Host.absf main_v6
  let main_cst_0 : FVec F S_ .f32 := constant S_ .f32 0x7F800000#32
  let main_v8 : FVec F S32768x1024 .f32 := broadcastInDim S32768x1024 ![] bcast_S_S32768x1024 main_cst_0
  let main_v9 : IVec S32768x1024 1 := cmpf .olt main_v7 main_v8
  let main_c_1 : IVec S_ 1 := constantI S_ 1 1#1
  let main_v10 : IVec S_ 1 := (fun x v => Host.reduce IntOp.andi x v reducesTo_S32768x1024_S_d0_1 h_S_) main_v9 main_c_1
  let main_v11 : IVec S_ 1 := andi main_v5 main_v10
  let main_v12 : FVec F S4x128 .f32 := Host.absf main_arg2
  let main_cst_2 : FVec F S_ .f32 := constant S_ .f32 0x7F800000#32
  let main_v13 : FVec F S4x128 .f32 := broadcastInDim S4x128 ![] bcast_S_S4x128 main_cst_2
  let main_v14 : IVec S4x128 1 := cmpf .olt main_v12 main_v13
  let main_c_3 : IVec S_ 1 := constantI S_ 1 1#1
  let main_v15 : IVec S_ 1 := (fun x v => Host.reduce IntOp.andi x v reducesTo_S4x128_S_d0_1 h_S_) main_v14 main_c_3
  let main_v16 : IVec S_ 1 := andi main_v11 main_v15
  main_v16
-- ==== Kernel.lean ====
abbrev S32768x2048 : Shape := ⟨2, ![32768, 2048]⟩
abbrev S32768x3072 : Shape := ⟨2, ![32768, 3072]⟩
abbrev S4x128 : Shape := ⟨2, ![4, 128]⟩
abbrev S1x256 : Shape := ⟨2, ![1, 256]⟩
abbrev S32768x1024 : Shape := ⟨2, ![32768, 1024]⟩
abbrev S512x256 : Shape := ⟨2, ![512, 256]⟩
abbrev S4096x256 : Shape := ⟨2, ![4096, 256]⟩
abbrev S1x128 : Shape := ⟨2, ![1, 128]⟩
abbrev S1 : Shape := ⟨1, ![1]⟩
abbrev S1x1 : Shape := ⟨2, ![1, 1]⟩
abbrev S512x128 : Shape := ⟨2, ![512, 128]⟩
abbrev S1024x128 : Shape := ⟨2, ![1024, 128]⟩
abbrev S512x1024 : Shape := ⟨2, ![512, 1024]⟩
abbrev S1024x256 : Shape := ⟨2, ![1024, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S32768x3072, .bf16⟩
  | .hbm, ⟨2, _⟩ => ⟨S4x128, .f32⟩
  | .hbm, ⟨3, _⟩ => ⟨S1x256, .f32⟩
  | .hbm, ⟨4, _⟩ => ⟨S32768x1024, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4x128, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x2048 : Shape := ⟨2, ![32768, 2048]⟩
abbrev S32768x3072 : Shape := ⟨2, ![32768, 3072]⟩
abbrev S4x128 : Shape := ⟨2, ![4, 128]⟩
abbrev S1x256 : Shape := ⟨2, ![1, 256]⟩
abbrev S32768x1024 : Shape := ⟨2, ![32768, 1024]⟩
abbrev S8x4096x4x2x128 : Shape := ⟨5, ![8, 4096, 4, 2, 128]⟩
abbrev S8x4096x4x256 : Shape := ⟨4, ![8, 4096, 4, 256]⟩
abbrev S1x128 : Shape := ⟨2, ![1, 128]⟩
abbrev S128 : Shape := ⟨1, ![128]⟩
abbrev S_ : Shape := ⟨0, ![]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x256x4096 : Shape := ⟨4, ![8, 4, 256, 4096]⟩
abbrev S256 : Shape := ⟨1, ![256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩

abbrev nBuf : Space → Nat
  | .hbm => 82
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x3072, .bf16⟩
  | .hbm, ⟨2, _⟩ => ⟨S4x128, .f32⟩
  | .hbm, ⟨3, _⟩ => ⟨S1x256, .f32⟩
  | .hbm, ⟨4, _⟩ => ⟨S32768x1024, .bf16⟩
  | .hbm, ⟨5, _⟩ => ⟨S32768x1024, .f32⟩
  | .hbm, ⟨6, _⟩ => ⟨S8x4096x4x2x128, .f32⟩
  | .hbm, ⟨7, _⟩ => ⟨S32768x1024, .bf16⟩
  | .hbm, ⟨8, _⟩ => ⟨S32768x1024, .f32⟩
  | .hbm, ⟨9, _⟩ => ⟨S8x4096x4x2x128, .f32⟩
  | .hbm, ⟨10, _⟩ => ⟨S32768x1024, .bf16⟩
  | .hbm, ⟨11, _⟩ => ⟨S32768x1024, .f32⟩
  | .hbm, ⟨12, _⟩ => ⟨S8x4096x4x256, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x4x2x4096x4096, .f32⟩
  | .hbm, ⟨33, _⟩ => ⟨S_, .f32⟩
  | .hbm, ⟨34, _⟩ => ⟨S_, .f32⟩
  | .hbm, ⟨35, _⟩ => ⟨S8x4x2x4096x4096, .f32⟩
  | .hbm, ⟨36, _⟩ => ⟨S8x4x2x4096x4096, .f32⟩
  | .hbm, ⟨37, _⟩ => ⟨S_, .f32⟩
  | .hbm, ⟨38, _⟩ => ⟨S8x4x2x4096, .f32⟩
  | .hbm, ⟨39, _⟩ => ⟨S_, .f32⟩
  | .hbm, ⟨40, _⟩ => ⟨S8x4x2x4096, .f32⟩
  | .hbm, ⟨41, _⟩ => ⟨S8x4x2x4096, .f32⟩
  | .hbm, ⟨42, _⟩ => ⟨S8x4x2x4096x1, .f32⟩
  | .hbm, ⟨43, _⟩ => ⟨S8x4x2x4096x4096, .f32⟩
  | .hbm, ⟨44, _⟩ => ⟨S8x4x2x4096x4096, .f32⟩
  | .hbm, ⟨45, _⟩ => ⟨S8x4x2x4096x4096, .f32⟩
  | .hbm, ⟨46, _⟩ => ⟨S_, .f32⟩
  | .hbm, ⟨47, _⟩ => ⟨S8x4x2x4096, .f32⟩
  | .hbm, ⟨48, _⟩ => ⟨S8x4x2x4096x1, .f32⟩
  | .hbm, ⟨49, _⟩ => ⟨S8x4x2x4096x4096, .f32⟩
  | .hbm, ⟨50, _⟩ => ⟨S8x4x2x4096x4096, .f32⟩
  | .hbm, ⟨51, _⟩ => ⟨S8x4x1x4096x4096, .f32⟩
  | .hbm, ⟨52, _⟩ => ⟨S8x4x4096x4096, .f32⟩
  | .hbm, ⟨53, _⟩ => ⟨S8x4x1x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x256x4096, .f32⟩
  | .hbm, ⟨59, _⟩ => ⟨S8x4096x4x256, .f32⟩
  | .hbm, ⟨60, _⟩ => ⟨S256, .f32⟩
  | .hbm, ⟨61, _⟩ => ⟨S8x4096x4x256, .f32⟩
  | .hbm, ⟨62, _⟩ => ⟨S_, .f32⟩
  | .hbm, ⟨63, _⟩ => ⟨S8x4096x4, .f32⟩
  | .hbm, ⟨64, _⟩ => ⟨S8x4096x4x1, .f32⟩
  | .hbm, ⟨65, _⟩ => ⟨S_, .f32⟩
  | .hbm, ⟨66, _⟩ => ⟨S8x4096x4x1, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S8x4096x4x1, .f32⟩
  | .hbm, ⟨72, _⟩ => ⟨S8x4096x4x256, .f32⟩
  | .hbm, ⟨73, _⟩ => ⟨S8x4096x4x256, .f32⟩
  | .hbm, ⟨74, _⟩ => ⟨S1x1x1x256, .f32⟩
  | .hbm, ⟨75, _⟩ => ⟨S8x4096x4x256, .f32⟩
  | .hbm, ⟨76, _⟩ => ⟨S8x4096x4x256, .f32⟩
  | .hbm, ⟨77, _⟩ => ⟨S_, .f32⟩
  | .hbm, ⟨78, _⟩ => ⟨S8x4096x4x256, .f32⟩
  | .hbm, ⟨79, _⟩ => ⟨S8x4096x4x256, .f32⟩
  | .hbm, ⟨80, _⟩ => ⟨S32768x1024, .f32⟩
  | .hbm, ⟨81, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== KernelGate.lean ====
abbrev S32768x2048 : Shape := ⟨2, ![32768, 2048]⟩
abbrev S2048x4096 : Shape := ⟨2, ![2048, 4096]⟩
abbrev S32768x4096 : Shape := ⟨2, ![32768, 4096]⟩
abbrev S1024x2048 : Shape := ⟨2, ![1024, 2048]⟩
abbrev S1024x4096 : Shape := ⟨2, ![1024, 4096]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x4096, .bf16⟩
  | .local _ .vmem, ⟨3, _⟩ => ⟨S1024x4096, .bf16⟩
  | .local _ .vmem, ⟨4, _⟩ => ⟨S1024x4096, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGateIdeal.lean ====
abbrev S32768x2048 : Shape := ⟨2, ![32768, 2048]⟩
abbrev S2048x4096 : Shape := ⟨2, ![2048, 4096]⟩
abbrev S32768x4096 : Shape := ⟨2, ![32768, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x2048, .f32⟩
  | .hbm, ⟨3, _⟩ => ⟨S2048x4096, .f32⟩
  | .hbm, ⟨4, _⟩ => ⟨S32768x4096, .f32⟩
  | .hbm, ⟨5, _⟩ => ⟨S32768x4096, .f32⟩
  | .hbm, ⟨6, _⟩ => ⟨S32768x4096, .f32⟩
  | .hbm, ⟨7, _⟩ => ⟨S_, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x4096, .f32⟩
  | .hbm, ⟨12, _⟩ => ⟨S32768x4096, .f32⟩
  | .hbm, ⟨13, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelVal.lean ====
abbrev S32768x2048 : Shape := ⟨2, ![32768, 2048]⟩
abbrev S2048x3072 : Shape := ⟨2, ![2048, 3072]⟩
abbrev S32768x3072 : Shape := ⟨2, ![32768, 3072]⟩
abbrev S1024x2048 : Shape := ⟨2, ![1024, 2048]⟩
abbrev S1024x3072 : Shape := ⟨2, ![1024, 3072]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x3072, .bf16⟩
  | .local _ .vmem, ⟨3, _⟩ => ⟨S1024x3072, .bf16⟩
  | .local _ .vmem, ⟨4, _⟩ => ⟨S1024x3072, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceValIdeal.lean ====
abbrev S32768x2048 : Shape := ⟨2, ![32768, 2048]⟩
abbrev S2048x3072 : Shape := ⟨2, ![2048, 3072]⟩
abbrev S32768x3072 : Shape := ⟨2, ![32768, 3072]⟩
abbrev S32768x1024 : Shape := ⟨2, ![32768, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S32768x2048, .f32⟩
  | .hbm, ⟨3, _⟩ => ⟨S2048x3072, .f32⟩
  | .hbm, ⟨4, _⟩ => ⟨S32768x3072, .f32⟩
  | .hbm, ⟨5, _⟩ => ⟨S32768x2048, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x3072, .f32⟩
  | .hbm, ⟨17, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KernelMix.lean ====
abbrev S32768x1024 : Shape := ⟨2, ![32768, 1024]⟩
abbrev S32768x4096 : Shape := ⟨2, ![32768, 4096]⟩
abbrev S32768x2048 : Shape := ⟨2, ![32768, 2048]⟩
abbrev S8x6x2048 : Shape := ⟨3, ![8, 6, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 9
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x4096, .bf16⟩
  | .hbm, ⟨3, _⟩ => ⟨S32768x2048, .f32⟩
  | .hbm, ⟨4, _⟩ => ⟨S8x6x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x6x2048, .f32⟩
  | .local _ .vmem, ⟨11, _⟩ => ⟨S1x6x2048, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMixIdeal.lean ====
abbrev S32768x1024 : Shape := ⟨2, ![32768, 1024]⟩
abbrev S32768x4096 : Shape := ⟨2, ![32768, 4096]⟩
abbrev S32768x2048 : Shape := ⟨2, ![32768, 2048]⟩
abbrev S8x6x2048 : Shape := ⟨3, ![8, 6, 2048]⟩
abbrev S1024x2048 : Shape := ⟨2, ![1024, 2048]⟩
abbrev S2048x2048 : Shape := ⟨2, ![2048, 2048]⟩
abbrev S8x4096x2048 : Shape := ⟨3, ![8, 4096, 2048]⟩
abbrev S8x4096x4096 : Shape := ⟨3, ![8, 4096, 4096]⟩
abbrev S8x4096x1024 : Shape := ⟨3, ![8, 4096, 1024]⟩
abbrev S8x1x2048 : Shape := ⟨3, ![8, 1, 2048]⟩
abbrev S8x2048 : Shape := ⟨2, ![8, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x4096, .bf16⟩
  | .hbm, ⟨3, _⟩ => ⟨S32768x2048, .f32⟩
  | .hbm, ⟨4, _⟩ => ⟨S8x6x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S8x4096x2048, .f32⟩
  | .hbm, ⟨9, _⟩ => ⟨S32768x4096, .f32⟩
  | .hbm, ⟨10, _⟩ => ⟨S8x4096x4096, .f32⟩
  | .hbm, ⟨11, _⟩ => ⟨S8x4096x2048, .f32⟩
  | .hbm, ⟨12, _⟩ => ⟨S8x4096x2048, .f32⟩
  | .hbm, ⟨13, _⟩ => ⟨S32768x1024, .f32⟩
  | .hbm, ⟨14, _⟩ => ⟨S8x4096x1024, .f32⟩
  | .hbm, ⟨15, _⟩ => ⟨S1024x2048, .f32⟩
  | .hbm, ⟨16, _⟩ => ⟨S8x4096x2048, .f32⟩
  | .hbm, ⟨17, _⟩ => ⟨S32768x1024, .f32⟩
  | .hbm, ⟨18, _⟩ => ⟨S8x4096x1024, .f32⟩
  | .hbm, ⟨19, _⟩ => ⟨S1024x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S8x1x2048, .f32⟩
  | .hbm, ⟨25, _⟩ => ⟨S8x2048, .f32⟩
  | .hbm, ⟨26, _⟩ => ⟨S8x1x2048, .f32⟩
  | .hbm, ⟨27, _⟩ => ⟨S2048x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KernelFfn.lean ====
abbrev S32768x2048 : Shape := ⟨2, ![32768, 2048]⟩
abbrev S8x6x2048 : Shape := ⟨3, ![8, 6, 2048]⟩
abbrev S1x2048 : Shape := ⟨2, ![1, 2048]⟩
abbrev S2048x5632 : Shape := ⟨2, ![2048, 5632]⟩
abbrev S3x5632 : Shape := ⟨2, ![3, 5632]⟩
abbrev S1x5632 : Shape := ⟨2, ![1, 5632]⟩
abbrev S5632x2048 : Shape := ⟨2, ![5632, 2048]⟩
abbrev S512x2048 : Shape := ⟨2, ![512, 2048]⟩
abbrev S16x2048 : Shape := ⟨2, ![16, 2048]⟩
abbrev S1x6x2048 : Shape := ⟨3, ![1, 6, 2048]⟩
abbrev S544x2048 : Shape := ⟨2, ![544, 2048]⟩
abbrev S544x512 : Shape := ⟨2, ![544, 512]⟩
abbrev S3x2048x512 : Shape := ⟨3, ![3, 2048, 512]⟩
abbrev S3x512x2048 : Shape := ⟨3, ![3, 512, 2048]⟩
abbrev S3x3 : Shape := ⟨2, ![3, 3]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S16 : Shape := ⟨1, ![16]⟩
abbrev S16x1 : Shape := ⟨2, ![16, 1]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩
abbrev S3x512 : Shape := ⟨2, ![3, 512]⟩
abbrev S1x512 : Shape := ⟨2, ![1, 512]⟩
abbrev S1x512x512 : Shape := ⟨3, ![1, 512, 512]⟩

abbrev nBuf : Space → Nat
  | .hbm => 10
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S8x6x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S3x5632, .f32⟩
  | .hbm, ⟨6, _⟩ => ⟨S1x5632, .f32⟩
  | .hbm, ⟨7, _⟩ => ⟨S5632x2048, .bf16⟩
  | .hbm, ⟨8, _⟩ => ⟨S1x2048, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S3x5632, .f32⟩
  | .local _ .vmem, ⟨10, _⟩ => ⟨S1x5632, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S544x2048, .bf16⟩
  | .local _ .vmem, ⟨15, _⟩ => ⟨S544x512, .f32⟩
  | .local _ .vmem, ⟨16, _⟩ => ⟨S512x2048, .f32⟩
  | .local _ .vmem, ⟨17, _⟩ => ⟨S3x2048x512, .bf16⟩
  | .local _ .vmem, ⟨18, _⟩ => ⟨S3x2048x512, .bf16⟩
  | .local _ .vmem, ⟨19, _⟩ => ⟨S3x512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

def k0_off1 (i : grid0.Coords) (c0_i32_1102 : BitVec 32) : Fin 2 → Nat :=
  let c0_i32_1109 : BitVec 32 := 0#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v1557 : BitVec 32 := Scalar.addi v10 c0_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![0, v1567.toNat]
def k0_off2 (i : grid0.Coords) (c0_i32_1102 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v1557 : BitVec 32 := Scalar.addi v10 c0_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  let c0_i32_1110 : BitVec 32 := 0#32
  let c0_i32_1111 : BitVec 32 := 0#32
  ![v1567.toNat, 0, 0]
def k0_off3 (i : grid0.Coords) (c0_i32_1102 : BitVec 32) : Fin 2 → Nat :=
  let c1_i32_1114 : BitVec 32 := 1#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v1557 : BitVec 32 := Scalar.addi v10 c0_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![1, v1567.toNat]
def k0_off4 (i : grid0.Coords) (c0_i32_1102 : BitVec 32) : Fin 2 → Nat :=
  let c2_i32_1119 : BitVec 32 := 2#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v1557 : BitVec 32 := Scalar.addi v10 c0_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![2, v1567.toNat]
def k0_off5 (i : grid0.Coords) (c0_i32_1102 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v1557 : BitVec 32 := Scalar.addi v10 c0_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  let c0_i32_1120 : BitVec 32 := 0#32
  let c0_i32_1121 : BitVec 32 := 0#32
  ![v1567.toNat, 0, 0]
def k0_off6 (i : grid0.Coords) (c0_i32_64 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v128 : BitVec 32 := Scalar.addi v10 c0_i32_64
  let c3_i32_65 : BitVec 32 := 3#32
  let c0_i32_66 : BitVec 32 := 0#32
  let v129 : BitVec 1 := Scalar.cmpi .eq c3_i32_65 c0_i32_66
  let c1_i32_67 : BitVec 32 := 1#32
  let v130 : BitVec 32 := Scalar.select v129 c1_i32_67 c3_i32_65
  let v131 : BitVec 32 := Scalar.remsi v128 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let v140 : Index := Scalar.indexCast v138
  let c0_73 : Index := 0#32
  let c0_74 : Index := 0#32
  ![v140.toNat, 0, 0]
def k0_off7 (i : grid0.Coords) (c1_i32_91 : BitVec 32) : Fin 2 → Nat :=
  let c0_i32_98 : BitVec 32 := 0#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v174 : BitVec 32 := Scalar.addi v10 c1_i32_91
  let c3_i32_92 : BitVec 32 := 3#32
  let c0_i32_93 : BitVec 32 := 0#32
  let v175 : BitVec 1 := Scalar.cmpi .eq c3_i32_92 c0_i32_93
  let c1_i32_94 : BitVec 32 := 1#32
  let v176 : BitVec 32 := Scalar.select v175 c1_i32_94 c3_i32_92
  let v177 : BitVec 32 := Scalar.remsi v174 v176
  let c0_i32_96 : BitVec 32 := 0#32
  let v179 : BitVec 1 := Scalar.cmpi .slt v177 c0_i32_96
  let c0_i32_97 : BitVec 32 := 0#32
  let v180 : BitVec 1 := Scalar.cmpi .slt v176 c0_i32_97
  let v181 : BitVec 1 := Scalar.xori v179 v180
  let c0_i32_95 : BitVec 32 := 0#32
  let v178 : BitVec 1 := Scalar.cmpi .ne v177 c0_i32_95
  let v182 : BitVec 1 := Scalar.andi v181 v178
  let v183 : BitVec 32 := Scalar.addi v177 v176
  let v184 : BitVec 32 := Scalar.select v182 v183 v177
  ![0, v184.toNat]
def k0_off8 (i : grid0.Coords) (c1_i32_91 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v174 : BitVec 32 := Scalar.addi v10 c1_i32_91
  let c3_i32_92 : BitVec 32 := 3#32
  let c0_i32_93 : BitVec 32 := 0#32
  let v175 : BitVec 1 := Scalar.cmpi .eq c3_i32_92 c0_i32_93
  let c1_i32_94 : BitVec 32 := 1#32
  let v176 : BitVec 32 := Scalar.select v175 c1_i32_94 c3_i32_92
  let v177 : BitVec 32 := Scalar.remsi v174 v176
  let c0_i32_96 : BitVec 32 := 0#32
  let v179 : BitVec 1 := Scalar.cmpi .slt v177 c0_i32_96
  let c0_i32_97 : BitVec 32 := 0#32
  let v180 : BitVec 1 := Scalar.cmpi .slt v176 c0_i32_97
  let v181 : BitVec 1 := Scalar.xori v179 v180
  let c0_i32_95 : BitVec 32 := 0#32
  let v178 : BitVec 1 := Scalar.cmpi .ne v177 c0_i32_95
  let v182 : BitVec 1 := Scalar.andi v181 v178
  let v183 : BitVec 32 := Scalar.addi v177 v176
  let v184 : BitVec 32 := Scalar.select v182 v183 v177
  let c0_i32_99 : BitVec 32 := 0#32
  let c0_i32_100 : BitVec 32 := 0#32
  ![v184.toNat, 0, 0]
def k0_off9 (i : grid0.Coords) (c1_i32_91 : BitVec 32) : Fin 2 → Nat :=
  let c1_i32_102 : BitVec 32 := 1#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v174 : BitVec 32 := Scalar.addi v10 c1_i32_91
  let c3_i32_92 : BitVec 32 := 3#32
  let c0_i32_93 : BitVec 32 := 0#32
  let v175 : BitVec 1 := Scalar.cmpi .eq c3_i32_92 c0_i32_93
  let c1_i32_94 : BitVec 32 := 1#32
  let v176 : BitVec 32 := Scalar.select v175 c1_i32_94 c3_i32_92
  let v177 : BitVec 32 := Scalar.remsi v174 v176
  let c0_i32_96 : BitVec 32 := 0#32
  let v179 : BitVec 1 := Scalar.cmpi .slt v177 c0_i32_96
  let c0_i32_97 : BitVec 32 := 0#32
  let v180 : BitVec 1 := Scalar.cmpi .slt v176 c0_i32_97
  let v181 : BitVec 1 := Scalar.xori v179 v180
  let c0_i32_95 : BitVec 32 := 0#32
  let v178 : BitVec 1 := Scalar.cmpi .ne v177 c0_i32_95
  let v182 : BitVec 1 := Scalar.andi v181 v178
  let v183 : BitVec 32 := Scalar.addi v177 v176
  let v184 : BitVec 32 := Scalar.select v182 v183 v177
  ![1, v184.toNat]
def k0_off10 (i : grid0.Coords) (c1_i32_91 : BitVec 32) : Fin 2 → Nat :=
  let c2_i32 : BitVec 32 := 2#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v174 : BitVec 32 := Scalar.addi v10 c1_i32_91
  let c3_i32_92 : BitVec 32 := 3#32
  let c0_i32_93 : BitVec 32 := 0#32
  let v175 : BitVec 1 := Scalar.cmpi .eq c3_i32_92 c0_i32_93
  let c1_i32_94 : BitVec 32 := 1#32
  let v176 : BitVec 32 := Scalar.select v175 c1_i32_94 c3_i32_92
  let v177 : BitVec 32 := Scalar.remsi v174 v176
  let c0_i32_96 : BitVec 32 := 0#32
  let v179 : BitVec 1 := Scalar.cmpi .slt v177 c0_i32_96
  let c0_i32_97 : BitVec 32 := 0#32
  let v180 : BitVec 1 := Scalar.cmpi .slt v176 c0_i32_97
  let v181 : BitVec 1 := Scalar.xori v179 v180
  let c0_i32_95 : BitVec 32 := 0#32
  let v178 : BitVec 1 := Scalar.cmpi .ne v177 c0_i32_95
  let v182 : BitVec 1 := Scalar.andi v181 v178
  let v183 : BitVec 32 := Scalar.addi v177 v176
  let v184 : BitVec 32 := Scalar.select v182 v183 v177
  ![2, v184.toNat]
def k0_off11 (i : grid0.Coords) (c1_i32_91 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v174 : BitVec 32 := Scalar.addi v10 c1_i32_91
  let c3_i32_92 : BitVec 32 := 3#32
  let c0_i32_93 : BitVec 32 := 0#32
  let v175 : BitVec 1 := Scalar.cmpi .eq c3_i32_92 c0_i32_93
  let c1_i32_94 : BitVec 32 := 1#32
  let v176 : BitVec 32 := Scalar.select v175 c1_i32_94 c3_i32_92
  let v177 : BitVec 32 := Scalar.remsi v174 v176
  let c0_i32_96 : BitVec 32 := 0#32
  let v179 : BitVec 1 := Scalar.cmpi .slt v177 c0_i32_96
  let c0_i32_97 : BitVec 32 := 0#32
  let v180 : BitVec 1 := Scalar.cmpi .slt v176 c0_i32_97
  let v181 : BitVec 1 := Scalar.xori v179 v180
  let c0_i32_95 : BitVec 32 := 0#32
  let v178 : BitVec 1 := Scalar.cmpi .ne v177 c0_i32_95
  let v182 : BitVec 1 := Scalar.andi v181 v178
  let v183 : BitVec 32 := Scalar.addi v177 v176
  let v184 : BitVec 32 := Scalar.select v182 v183 v177
  let c0_i32_107 : BitVec 32 := 0#32
  let c0_i32_108 : BitVec 32 := 0#32
  ![v184.toNat, 0, 0]
def k0_off12 (i : grid0.Coords) (c0_i32_64 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v128 : BitVec 32 := Scalar.addi v10 c0_i32_64
  let c3_i32_65 : BitVec 32 := 3#32
  let c0_i32_66 : BitVec 32 := 0#32
  let v129 : BitVec 1 := Scalar.cmpi .eq c3_i32_65 c0_i32_66
  let c1_i32_67 : BitVec 32 := 1#32
  let v130 : BitVec 32 := Scalar.select v129 c1_i32_67 c3_i32_65
  let v131 : BitVec 32 := Scalar.remsi v128 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let v227 : Index := Scalar.indexCast v138
  let c0_134 : Index := 0#32
  let c0_135 : Index := 0#32
  ![v227.toNat, 0, 0]
def k0_off13 (i : grid0.Coords) (c0_i32_64 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v128 : BitVec 32 := Scalar.addi v10 c0_i32_64
  let c3_i32_65 : BitVec 32 := 3#32
  let c0_i32_66 : BitVec 32 := 0#32
  let v129 : BitVec 1 := Scalar.cmpi .eq c3_i32_65 c0_i32_66
  let c1_i32_67 : BitVec 32 := 1#32
  let v130 : BitVec 32 := Scalar.select v129 c1_i32_67 c3_i32_65
  let v131 : BitVec 32 := Scalar.remsi v128 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let v236 : Index := Scalar.indexCast v138
  let c0_140 : Index := 0#32
  let c512_141 : Index := 512#32
  ![v236.toNat, 0, 512]
def k0_off14 (i : grid0.Coords) (c0_i32_64 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v128 : BitVec 32 := Scalar.addi v10 c0_i32_64
  let c3_i32_65 : BitVec 32 := 3#32
  let c0_i32_66 : BitVec 32 := 0#32
  let v129 : BitVec 1 := Scalar.cmpi .eq c3_i32_65 c0_i32_66
  let c1_i32_67 : BitVec 32 := 1#32
  let v130 : BitVec 32 := Scalar.select v129 c1_i32_67 c3_i32_65
  let v131 : BitVec 32 := Scalar.remsi v128 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let v245 : Index := Scalar.indexCast v138
  let c0_146 : Index := 0#32
  let c1024_147 : Index := 1024#32
  ![v245.toNat, 0, 1024]
def k0_off15 (i : grid0.Coords) (c0_i32_64 : BitVec 32) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v128 : BitVec 32 := Scalar.addi v10 c0_i32_64
  let c3_i32_65 : BitVec 32 := 3#32
  let c0_i32_66 : BitVec 32 := 0#32
  let v129 : BitVec 1 := Scalar.cmpi .eq c3_i32_65 c0_i32_66
  let c1_i32_67 : BitVec 32 := 1#32
  let v130 : BitVec 32 := Scalar.select v129 c1_i32_67 c3_i32_65
  let v131 : BitVec 32 := Scalar.remsi v128 v130
  let c0_i32_69 : BitVec 32 := 0#32
  let v133 : BitVec 1 := Scalar.cmpi .slt v131 c0_i32_69
  let c0_i32_70 : BitVec 32 := 0#32
  let v134 : BitVec 1 := Scalar.cmpi .slt v130 c0_i32_70
  let v135 : BitVec 1 := Scalar.xori v133 v134
  let c0_i32_68 : BitVec 32 := 0#32
  let v132 : BitVec 1 := Scalar.cmpi .ne v131 c0_i32_68
  let v136 : BitVec 1 := Scalar.andi v135 v132
  let v137 : BitVec 32 := Scalar.addi v131 v130
  let v138 : BitVec 32 := Scalar.select v136 v137 v131
  let v254 : Index := Scalar.indexCast v138
  let c0_152 : Index := 0#32
  let c1536_153 : Index := 1536#32
  ![v254.toNat, 0, 1536]
def k0_cond2 (i : grid0.Coords) : BitVec 1 :=
  let arg0 : BitVec 32 := BitVec.ofNat 32 (i 0).val
  let c1_i32_997 : BitVec 32 := 1#32
  let v1406 : BitVec 32 := Scalar.addi arg0 c1_i32_997
  let c64_i32 : BitVec 32 := 64#32
  let v1407 : BitVec 1 := Scalar.cmpi .slt v1406 c64_i32
  let v1408 : BitVec 32 := Scalar.extui v1407
  let c0_i32_998 : BitVec 32 := 0#32
  let v1409 : BitVec 1 := Scalar.cmpi .ne v1408 c0_i32_998
  v1409

def k0_off16 (i : grid0.Coords) : Fin 2 → Nat :=
  let c0_i32_1109 : BitVec 32 := 0#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![0, v1567.toNat]
def k0_off17 (i : grid0.Coords) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  let c0_i32_1110 : BitVec 32 := 0#32
  let c0_i32_1111 : BitVec 32 := 0#32
  ![v1567.toNat, 0, 0]
def k0_off18 (i : grid0.Coords) : Fin 2 → Nat :=
  let c1_i32_1114 : BitVec 32 := 1#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![1, v1567.toNat]
def k0_off19 (i : grid0.Coords) : Fin 2 → Nat :=
  let c2_i32_1119 : BitVec 32 := 2#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![2, v1567.toNat]
def k0_off20 (i : grid0.Coords) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  let c0_i32_1120 : BitVec 32 := 0#32
  let c0_i32_1121 : BitVec 32 := 0#32
  ![v1567.toNat, 0, 0]
def k0_cond3 (i : grid0.Coords) : BitVec 1 :=
  let arg0 : BitVec 32 := BitVec.ofNat 32 (i 0).val
  let c1_i32_1055 : BitVec 32 := 1#32
  let v1492 : BitVec 32 := Scalar.addi arg0 c1_i32_1055
  let c64_i32_1056 : BitVec 32 := 64#32
  let v1493 : BitVec 1 := Scalar.cmpi .slt v1492 c64_i32_1056
  let v1494 : BitVec 32 := Scalar.extui v1493
  let c0_i32_1057 : BitVec 32 := 0#32
  let v1495 : BitVec 1 := Scalar.cmpi .ne v1494 c0_i32_1057
  v1495

def k0_off21 (i : grid0.Coords) : Fin 2 → Nat :=
  let c0_i32_1109 : BitVec 32 := 0#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![0, v1567.toNat]
def k0_off22 (i : grid0.Coords) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  let c0_i32_1110 : BitVec 32 := 0#32
  let c0_i32_1111 : BitVec 32 := 0#32
  ![v1567.toNat, 0, 0]
def k0_off23 (i : grid0.Coords) : Fin 2 → Nat :=
  let c1_i32_1114 : BitVec 32 := 1#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![1, v1567.toNat]
def k0_off24 (i : grid0.Coords) : Fin 2 → Nat :=
  let c2_i32_1119 : BitVec 32 := 2#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  ![2, v1567.toNat]
def k0_off25 (i : grid0.Coords) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c11_i32_1102 : BitVec 32 := 11#32
  let v1557 : BitVec 32 := Scalar.addi v10 c11_i32_1102
  let c3_i32_1103 : BitVec 32 := 3#32
  let c0_i32_1104 : BitVec 32 := 0#32
  let v1558 : BitVec 1 := Scalar.cmpi .eq c3_i32_1103 c0_i32_1104
  let c1_i32_1105 : BitVec 32 := 1#32
  let v1559 : BitVec 32 := Scalar.select v1558 c1_i32_1105 c3_i32_1103
  let v1560 : BitVec 32 := Scalar.remsi v1557 v1559
  let c0_i32_1107 : BitVec 32 := 0#32
  let v1562 : BitVec 1 := Scalar.cmpi .slt v1560 c0_i32_1107
  let c0_i32_1108 : BitVec 32 := 0#32
  let v1563 : BitVec 1 := Scalar.cmpi .slt v1559 c0_i32_1108
  let v1564 : BitVec 1 := Scalar.xori v1562 v1563
  let c0_i32_1106 : BitVec 32 := 0#32
  let v1561 : BitVec 1 := Scalar.cmpi .ne v1560 c0_i32_1106
  let v1565 : BitVec 1 := Scalar.andi v1564 v1561
  let v1566 : BitVec 32 := Scalar.addi v1560 v1559
  let v1567 : BitVec 32 := Scalar.select v1565 v1566 v1560
  let c0_i32_1120 : BitVec 32 := 0#32
  let c0_i32_1121 : BitVec 32 := 0#32
  ![v1567.toNat, 0, 0]
def k0_cond4 (i : grid0.Coords) : BitVec 1 :=
  let arg0 : BitVec 32 := BitVec.ofNat 32 (i 0).val
  let c1_i32_1058 : BitVec 32 := 1#32
  let v1496 : BitVec 32 := Scalar.addi arg0 c1_i32_1058
  let c64_i32_1059 : BitVec 32 := 64#32
  let v1497 : BitVec 1 := Scalar.cmpi .slt v1496 c64_i32_1059
  let v1498 : BitVec 32 := Scalar.extui v1497
  let c0_i32_1060 : BitVec 32 := 0#32
  let v1499 : BitVec 1 := Scalar.cmpi .ne v1498 c0_i32_1060
  v1499

def k0_off26 (i : grid0.Coords) : Fin 2 → Nat :=
  let c0_i32_1108 : BitVec 32 := 0#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c12_i32 : BitVec 32 := 12#32
  let v1557 : BitVec 32 := Scalar.addi v10 c12_i32
  let c3_i32_1102 : BitVec 32 := 3#32
  let c0_i32_1103 : BitVec 32 := 0#32
  let v1558 : BitVec 1 := Scalar.cmpi .eq c3_i32_1102 c0_i32_1103
  let c1_i32_1104 : BitVec 32 := 1#32
  let v1559 : BitVec 32 := Scalar.select v1558 c1_i32_1104 c3_i32_1102
  let v1560 : BitVec 32 := Scalar.remsi v1557 v1559
  let c0_i32_1106 : BitVec 32 := 0#32
  let v1562 : BitVec 1 := Scalar.cmpi .slt v1560 c0_i32_1106
  let c0_i32_1107 : BitVec 32 := 0#32
  let v1563 : BitVec 1 := Scalar.cmpi .slt v1559 c0_i32_1107
  let v1564 : BitVec 1 := Scalar.xori v1562 v1563
  let c0_i32_1105 : BitVec 32 := 0#32
  let v1561 : BitVec 1 := Scalar.cmpi .ne v1560 c0_i32_1105
  let v1565 : BitVec 1 := Scalar.andi v1564 v1561
  let v1566 : BitVec 32 := Scalar.addi v1560 v1559
  let v1567 : BitVec 32 := Scalar.select v1565 v1566 v1560
  ![0, v1567.toNat]
def k0_off27 (i : grid0.Coords) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c12_i32 : BitVec 32 := 12#32
  let v1557 : BitVec 32 := Scalar.addi v10 c12_i32
  let c3_i32_1102 : BitVec 32 := 3#32
  let c0_i32_1103 : BitVec 32 := 0#32
  let v1558 : BitVec 1 := Scalar.cmpi .eq c3_i32_1102 c0_i32_1103
  let c1_i32_1104 : BitVec 32 := 1#32
  let v1559 : BitVec 32 := Scalar.select v1558 c1_i32_1104 c3_i32_1102
  let v1560 : BitVec 32 := Scalar.remsi v1557 v1559
  let c0_i32_1106 : BitVec 32 := 0#32
  let v1562 : BitVec 1 := Scalar.cmpi .slt v1560 c0_i32_1106
  let c0_i32_1107 : BitVec 32 := 0#32
  let v1563 : BitVec 1 := Scalar.cmpi .slt v1559 c0_i32_1107
  let v1564 : BitVec 1 := Scalar.xori v1562 v1563
  let c0_i32_1105 : BitVec 32 := 0#32
  let v1561 : BitVec 1 := Scalar.cmpi .ne v1560 c0_i32_1105
  let v1565 : BitVec 1 := Scalar.andi v1564 v1561
  let v1566 : BitVec 32 := Scalar.addi v1560 v1559
  let v1567 : BitVec 32 := Scalar.select v1565 v1566 v1560
  let c0_i32_1109 : BitVec 32 := 0#32
  let c0_i32_1110 : BitVec 32 := 0#32
  ![v1567.toNat, 0, 0]
def k0_off28 (i : grid0.Coords) : Fin 2 → Nat :=
  let c1_i32_1113 : BitVec 32 := 1#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c12_i32 : BitVec 32 := 12#32
  let v1557 : BitVec 32 := Scalar.addi v10 c12_i32
  let c3_i32_1102 : BitVec 32 := 3#32
  let c0_i32_1103 : BitVec 32 := 0#32
  let v1558 : BitVec 1 := Scalar.cmpi .eq c3_i32_1102 c0_i32_1103
  let c1_i32_1104 : BitVec 32 := 1#32
  let v1559 : BitVec 32 := Scalar.select v1558 c1_i32_1104 c3_i32_1102
  let v1560 : BitVec 32 := Scalar.remsi v1557 v1559
  let c0_i32_1106 : BitVec 32 := 0#32
  let v1562 : BitVec 1 := Scalar.cmpi .slt v1560 c0_i32_1106
  let c0_i32_1107 : BitVec 32 := 0#32
  let v1563 : BitVec 1 := Scalar.cmpi .slt v1559 c0_i32_1107
  let v1564 : BitVec 1 := Scalar.xori v1562 v1563
  let c0_i32_1105 : BitVec 32 := 0#32
  let v1561 : BitVec 1 := Scalar.cmpi .ne v1560 c0_i32_1105
  let v1565 : BitVec 1 := Scalar.andi v1564 v1561
  let v1566 : BitVec 32 := Scalar.addi v1560 v1559
  let v1567 : BitVec 32 := Scalar.select v1565 v1566 v1560
  ![1, v1567.toNat]
def k0_off29 (i : grid0.Coords) : Fin 2 → Nat :=
  let c2_i32_1118 : BitVec 32 := 2#32
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c12_i32 : BitVec 32 := 12#32
  let v1557 : BitVec 32 := Scalar.addi v10 c12_i32
  let c3_i32_1102 : BitVec 32 := 3#32
  let c0_i32_1103 : BitVec 32 := 0#32
  let v1558 : BitVec 1 := Scalar.cmpi .eq c3_i32_1102 c0_i32_1103
  let c1_i32_1104 : BitVec 32 := 1#32
  let v1559 : BitVec 32 := Scalar.select v1558 c1_i32_1104 c3_i32_1102
  let v1560 : BitVec 32 := Scalar.remsi v1557 v1559
  let c0_i32_1106 : BitVec 32 := 0#32
  let v1562 : BitVec 1 := Scalar.cmpi .slt v1560 c0_i32_1106
  let c0_i32_1107 : BitVec 32 := 0#32
  let v1563 : BitVec 1 := Scalar.cmpi .slt v1559 c0_i32_1107
  let v1564 : BitVec 1 := Scalar.xori v1562 v1563
  let c0_i32_1105 : BitVec 32 := 0#32
  let v1561 : BitVec 1 := Scalar.cmpi .ne v1560 c0_i32_1105
  let v1565 : BitVec 1 := Scalar.andi v1564 v1561
  let v1566 : BitVec 32 := Scalar.addi v1560 v1559
  let v1567 : BitVec 32 := Scalar.select v1565 v1566 v1560
  ![2, v1567.toNat]
def k0_off30 (i : grid0.Coords) : Fin 3 → Nat :=
  let arg0 : BitVec 32 := BitVec.ofNat 32 (i 0).val
  let c11_i32 : BitVec 32 := 11#32
  let v0 : BitVec 32 := Scalar.muli arg0 c11_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c12_i32 : BitVec 32 := 12#32
  let v1557 : BitVec 32 := Scalar.addi v10 c12_i32
  let c3_i32_1102 : BitVec 32 := 3#32
  let c0_i32_1103 : BitVec 32 := 0#32
  let v1558 : BitVec 1 := Scalar.cmpi .eq c3_i32_1102 c0_i32_1103
  let c1_i32_1104 : BitVec 32 := 1#32
  let v1559 : BitVec 32 := Scalar.select v1558 c1_i32_1104 c3_i32_1102
  let v1560 : BitVec 32 := Scalar.remsi v1557 v1559
  let c0_i32_1106 : BitVec 32 := 0#32
  let v1562 : BitVec 1 := Scalar.cmpi .slt v1560 c0_i32_1106
  let c0_i32_1107 : BitVec 32 := 0#32
  let v1563 : BitVec 1 := Scalar.cmpi .slt v1559 c0_i32_1107
  let v1564 : BitVec 1 := Scalar.xori v1562 v1563
  let c0_i32_1105 : BitVec 32 := 0#32
  let v1561 : BitVec 1 := Scalar.cmpi .ne v1560 c0_i32_1105
  let v1565 : BitVec 1 := Scalar.andi v1564 v1561
  let v1566 : BitVec 32 := Scalar.addi v1560 v1559
  let v1567 : BitVec 32 := Scalar.select v1565 v1566 v1560
  let c0_i32_1119 : BitVec 32 := 0#32
  let c0_i32_1120 : BitVec 32 := 0#32
  ![v1567.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceFfnIdeal.lean ====
abbrev S32768x2048 : Shape := ⟨2, ![32768, 2048]⟩
abbrev S8x6x2048 : Shape := ⟨3, ![8, 6, 2048]⟩
abbrev S1x2048 : Shape := ⟨2, ![1, 2048]⟩
abbrev S2048x5632 : Shape := ⟨2, ![2048, 5632]⟩
abbrev S3x5632 : Shape := ⟨2, ![3, 5632]⟩
abbrev S1x5632 : Shape := ⟨2, ![1, 5632]⟩
abbrev S5632x2048 : Shape := ⟨2, ![5632, 2048]⟩
abbrev S8x4096x2048 : Shape := ⟨3, ![8, 4096, 2048]⟩
abbrev S8x1x2048 : Shape := ⟨3, ![8, 1, 2048]⟩
abbrev S8x2048 : Shape := ⟨2, ![8, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S5632 : Shape := ⟨1, ![5632]⟩
abbrev S8x4096x5632 : Shape := ⟨3, ![8, 4096, 5632]⟩
abbrev S8x1x5632 : Shape := ⟨3, ![8, 1, 5632]⟩
abbrev S8x4098x5632 : Shape := ⟨3, ![8, 4098, 5632]⟩
abbrev S1x1x5632 : Shape := ⟨3, ![1, 1, 5632]⟩

abbrev nBuf : Space → Nat
  | .hbm => 107
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x6x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S3x5632, .f32⟩
  | .hbm, ⟨6, _⟩ => ⟨S1x5632, .f32⟩
  | .hbm, ⟨7, _⟩ => ⟨S5632x2048, .bf16⟩
  | .hbm, ⟨8, _⟩ => ⟨S1x2048, .f32⟩
  | .hbm, ⟨9, _⟩ => ⟨S8x4096x2048, .f32⟩
  | .hbm, ⟨10, _⟩ => ⟨S8x1x2048, .f32⟩
  | .hbm, ⟨11, _⟩ => ⟨S8x2048, .f32⟩
  | .hbm, ⟨12, _⟩ => ⟨S8x1x2048, .f32⟩
  | .hbm, ⟨13, _⟩ => ⟨S8x1x2048, .f32⟩
  | .hbm, ⟨14, _⟩ => ⟨S8x2048, .f32⟩
  | .hbm, ⟨15, _⟩ => ⟨S8x1x2048, .f32⟩
  | .hbm, ⟨16, _⟩ => ⟨S8x1x2048, .f32⟩
  | .hbm, ⟨17, _⟩ => ⟨S8x2048, .f32⟩
  | .hbm, ⟨18, _⟩ => ⟨S8x1x2048, .f32⟩
  | .hbm, ⟨19, _⟩ => ⟨S2048, .f32⟩
  | .hbm, ⟨20, _⟩ => ⟨S8x4096x2048, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x2048, .f32⟩
  | .hbm, ⟨32, _⟩ => ⟨S8x4096x2048, .f32⟩
  | .hbm, ⟨33, _⟩ => ⟨S1x1x2048, .f32⟩
  | .hbm, ⟨34, _⟩ => ⟨S8x4096x2048, .f32⟩
  | .hbm, ⟨35, _⟩ => ⟨S8x4096x2048, .f32⟩
  | .hbm, ⟨36, _⟩ => ⟨S_, .f32⟩
  | .hbm, ⟨37, _⟩ => ⟨S8x1x2048, .f32⟩
  | .hbm, ⟨38, _⟩ => ⟨S8x1x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S8x4096x2048, .f32⟩
  | .hbm, ⟨43, _⟩ => ⟨S2048x5632, .f32⟩
  | .hbm, ⟨44, _⟩ => ⟨S2048x5632, .f32⟩
  | .hbm, ⟨45, _⟩ => ⟨S5632, .f32⟩
  | .hbm, ⟨46, _⟩ => ⟨S5632x2048, .f32⟩
  | .hbm, ⟨47, _⟩ => ⟨S8x4096x5632, .f32⟩
  | .hbm, ⟨48, _⟩ => ⟨S_, .f32⟩
  | .hbm, ⟨49, _⟩ => ⟨S8x1x5632, .f32⟩
  | .hbm, ⟨50, _⟩ => ⟨S8x4098x5632, .f32⟩
  | .hbm, ⟨51, _⟩ => ⟨S8x4096x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S8x4096x5632, .f32⟩
  | .hbm, ⟨56, _⟩ => ⟨S8x4096x5632, .f32⟩
  | .hbm, ⟨57, _⟩ => ⟨S8x4096x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S8x4096x5632, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S8x4096x5632, .f32⟩
  | .hbm, ⟨69, _⟩ => ⟨S8x4096x5632, .f32⟩
  | .hbm, ⟨70, _⟩ => ⟨S8x4096x5632, .f32⟩
  | .hbm, ⟨71, _⟩ => ⟨S1x1x5632, .f32⟩
  | .hbm, ⟨72, _⟩ => ⟨S8x4096x5632, .f32⟩
  | .hbm, ⟨73, _⟩ => ⟨S8x4096x5632, .f32⟩
  | .hbm, ⟨74, _⟩ => ⟨S8x4096x5632, .f32⟩
  | .hbm, ⟨75, _⟩ => ⟨S8x4096x5632, .f32⟩
  | .hbm, ⟨76, _⟩ => ⟨S_, .f32⟩
  | .hbm, ⟨77, _⟩ => ⟨S8x4096x5632, .f32⟩
  | .hbm, ⟨78, _⟩ => ⟨S8x4096x5632, .f32⟩
  | .hbm, ⟨79, _⟩ => ⟨S_, .f32⟩
  | .hbm, ⟨80, _⟩ => ⟨S8x4096x5632, .f32⟩
  | .hbm, ⟨81, _⟩ => ⟨S8x4096x5632, .f32⟩
  | .hbm, ⟨82, _⟩ => ⟨S8x4096x5632, .f32⟩
  | .hbm, ⟨83, _⟩ => ⟨S8x4096x5632, .f32⟩
  | .hbm, ⟨84, _⟩ => ⟨S8x4096x5632, .f32⟩
  | .hbm, ⟨85, _⟩ => ⟨S8x4096x2048, .f32⟩
  | .hbm, ⟨86, _⟩ => ⟨S8x4096x2048, .f32⟩
  | .hbm, ⟨87, _⟩ => ⟨S8x4096x2048, .f32⟩
  | .hbm, ⟨88, _⟩ => ⟨S8x4096x2048, .f32⟩
  | .hbm, ⟨89, _⟩ => ⟨S2048, .f32⟩
  | .hbm, ⟨90, _⟩ => ⟨S8x4096x2048, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x1, .f32⟩
  | .hbm, ⟨101, _⟩ => ⟨S8x4096x2048, .f32⟩
  | .hbm, ⟨102, _⟩ => ⟨S8x4096x2048, .f32⟩
  | .hbm, ⟨103, _⟩ => ⟨S1x1x2048, .f32⟩
  | .hbm, ⟨104, _⟩ => ⟨S8x4096x2048, .f32⟩
  | .hbm, ⟨105, _⟩ => ⟨S8x4096x2048, .f32⟩
  | .hbm, ⟨106, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_4 : Ref sig .tc := ⟨.hbm, 91, rfl⟩
abbrev main_v69 : Ref sig .tc := ⟨.hbm, 92, rfl⟩
abbrev main_v70 : Ref sig .tc := ⟨.hbm, 93, rfl⟩
abbrev main_cst_5 : Ref sig .tc := ⟨.hbm, 94, rfl⟩
abbrev main_v71 : Ref sig .tc := ⟨.hbm, 95, rfl⟩
abbrev main_v72 : Ref sig .tc := ⟨.hbm, 96, rfl⟩
abbrev main_cst_6 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Proof.Attn.Softmax.lean ====
/-
  The arithmetic of a softmax-weighted sum over the extended reals, away from any program: a row of scores `s`, the
  values `v` beside it, and the two ways of computing `(∑ 2^s v) / (∑ 2^s)` met here. The blocked one carries a running
  maximum, a running denominator and a running numerator; the textbook one subtracts the row's maximum once. Neither
  needs its maximum to be THE maximum: any real number subtracted from every score leaves the quotient as it is.
-/
module

public import Idealize.ShloMosaic.Lib.Pointwise

@[expose] public section

noncomputable section

namespace Cert.Attn

open Idealize.ShloMosaic

/-- A finite sum of real numbers is the same sum taken among the extended reals. -/
theorem coe_sum {ι : Type*} (t : Finset ι) (f : ι → ℝ) : ((∑ i ∈ t, f i : ℝ) : EReal) = ∑ i ∈ t, ((f i : ℝ) : EReal) := by
  classical
  induction t using Finset.induction_on with
  | empty => simp
  | insert a t h ih => rw [Finset.sum_insert h, Finset.sum_insert h, EReal.coe_add, ih]

/-- Two to a real power, as the programs' base-two exponential has it. -/
theorem exp2_coe (r : ℝ) : Ideal.exp2 (r : EReal) = (((2 : ℝ) ^ r : ℝ) : EReal) := rfl

/-- The exponential of a real number is real. -/
theorem exp_coe (r : ℝ) : Ideal.exp (r : EReal) = ((Real.exp r : ℝ) : EReal) := rfl

/-- A quotient of reals with a divisor other than zero is the real quotient. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The greater of two reals is the same number among the extended reals. -/
theorem coe_max (a b : ℝ) : ((max a b : ℝ) : EReal) = max (a : EReal) (b : EReal) :=
  EReal.coe_strictMono.monotone.map_max

/-- The greatest of finitely many reals, folded from minus infinity, is a real number when there is at least one. -/
theorem fold_max_real {n : ℕ} (hn : 0 < n) (f : Fin n → ℝ) :
    ∃ M : ℝ, Finset.univ.fold max (⊥ : EReal) (fun k => ((f k : ℝ) : EReal)) = (M : EReal) := by
  have key : ∀ t : Finset (Fin n), t.fold max (⊥ : EReal) (fun k => ((f k : ℝ) : EReal)) = ⊥ ∧ t = ∅
      ∨ ∃ M : ℝ, t.fold max (⊥ : EReal) (fun k => ((f k : ℝ) : EReal)) = (M : EReal) := by
    intro t
    induction t using Finset.induction_on with
    | empty => exact Or.inl ⟨by simp, rfl⟩
    | insert a t h ih =>
      right
      rw [Finset.fold_insert h]
      rcases ih with ⟨h0, -⟩ | ⟨M, hM⟩
      · exact ⟨f a, by rw [h0]; simp⟩
      · exact ⟨max (f a) M, by rw [hM]; exact (coe_max _ _).symm⟩
  rcases key Finset.univ with ⟨-, h0⟩ | h
  · exact absurd (h0 ▸ Finset.mem_univ (⟨0, hn⟩ : Fin n)) (Finset.notMem_empty _)
  · exact h

/-- A running softmax row: the running maximum is some real `M`, and the running denominator and numerator are the true
    ones, `L` and `A`, scaled by `2^(-M)`. -/
def Rep (m l a : EReal) (L A : ℝ) : Prop :=
  ∃ M : ℝ, m = (M : EReal) ∧ l = ((L * (2 : ℝ) ^ (-M) : ℝ) : EReal) ∧ a = ((A * (2 : ℝ) ^ (-M) : ℝ) : EReal)

theorem sum_scaled {n : ℕ} (s : Fin n → ℝ) (M : ℝ) :
    ∑ k, Ideal.exp2 (((s k : ℝ) : EReal) - (M : EReal)) = (((∑ k, (2 : ℝ) ^ s k) * (2 : ℝ) ^ (-M) : ℝ) : EReal) := by
  rw [Finset.sum_mul, coe_sum]
  refine Finset.sum_congr rfl fun k _ => ?_
  rw [← EReal.coe_sub, exp2_coe, sub_eq_add_neg, Real.rpow_add (by norm_num)]

theorem sum_scaled_mul {n : ℕ} (s v : Fin n → ℝ) (M : ℝ) :
    ∑ k, Ideal.exp2 (((s k : ℝ) : EReal) - (M : EReal)) * ((v k : ℝ) : EReal)
      = (((∑ k, (2 : ℝ) ^ s k * v k) * (2 : ℝ) ^ (-M) : ℝ) : EReal) := by
  rw [Finset.sum_mul, coe_sum]
  refine Finset.sum_congr rfl fun k _ => ?_
  rw [← EReal.coe_sub, exp2_coe, sub_eq_add_neg, Real.rpow_add (by norm_num), ← EReal.coe_mul]
  congr 1; ring

/-- The first block of columns starts a running row. -/
theorem Rep.init {n : ℕ} (hn : 0 < n) (s v : Fin n → ℝ) (m l a : EReal)
    (hm : m = Finset.univ.fold max (⊥ : EReal) (fun k => ((s k : ℝ) : EReal)))
    (hl : l = ∑ k, Ideal.exp2 (((s k : ℝ) : EReal) - m))
    (ha : a = ∑ k, Ideal.exp2 (((s k : ℝ) : EReal) - m) * ((v k : ℝ) : EReal)) :
    Rep m l a (∑ k, (2 : ℝ) ^ s k) (∑ k, (2 : ℝ) ^ s k * v k) := by
  obtain ⟨M, hM⟩ := fold_max_real hn s
  rw [hM] at hm
  subst hm
  exact ⟨M, rfl, hl.trans (sum_scaled s M), ha.trans (sum_scaled_mul s v M)⟩

/-- A further block of columns extends a running row: old denominator and numerator rescaled, the block's added. -/
theorem Rep.step {n : ℕ} (hn : 0 < n) (s v : Fin n → ℝ) (m l a m' l' a' : EReal) (L A : ℝ) (h : Rep m l a L A)
    (hm : m' = max m (Finset.univ.fold max (⊥ : EReal) (fun k => ((s k : ℝ) : EReal))))
    (hl : l' = Ideal.exp2 (m - m') * l + ∑ k, Ideal.exp2 (((s k : ℝ) : EReal) - m'))
    (ha : a' = Ideal.exp2 (m - m') * a + ∑ k, Ideal.exp2 (((s k : ℝ) : EReal) - m') * ((v k : ℝ) : EReal)) :
    Rep m' l' a' (L + ∑ k, (2 : ℝ) ^ s k) (A + ∑ k, (2 : ℝ) ^ s k * v k) := by
  obtain ⟨M, rfl, rfl, rfl⟩ := h
  obtain ⟨M₁, hM₁⟩ := fold_max_real hn s
  rw [hM₁, ← coe_max] at hm
  generalize max M M₁ = M' at hm
  subst hm
  have e : ∀ x : ℝ, (2 : ℝ) ^ (M - M') * (x * (2 : ℝ) ^ (-M)) = x * (2 : ℝ) ^ (-M') := fun x => by
    rw [mul_left_comm, ← Real.rpow_add (by norm_num)]; congr 2; ring
  refine ⟨M', rfl, ?_, ?_⟩
  · rw [hl, sum_scaled, ← EReal.coe_sub, exp2_coe, ← EReal.coe_mul, e, ← EReal.coe_add, ← add_mul]
  · rw [ha, sum_scaled_mul, ← EReal.coe_sub, exp2_coe, ← EReal.coe_mul, e, ← EReal.coe_add, ← add_mul]

/-- The row's result: numerator over denominator, the running maximum gone. -/
theorem Rep.div (m l a : EReal) (L A : ℝ) (hL : 0 < L) (h : Rep m l a L A) : Ideal.div a l = ((A / L : ℝ) : EReal) := by
  obtain ⟨M, -, rfl, rfl⟩ := h
  have h2 : (2 : ℝ) ^ (-M) ≠ 0 := (Real.rpow_pos_of_pos (by norm_num) _).ne'
  rw [div_coe _ _ (mul_ne_zero hL.ne' h2), mul_div_mul_right _ _ h2]

/-- A row's denominator `∑ 2^s`. -/
def den {n : ℕ} (s : Fin n → ℝ) : ℝ := ∑ k, (2 : ℝ) ^ s k

theorem den_pos {n : ℕ} (hn : 0 < n) (s : Fin n → ℝ) : 0 < den s :=
  Finset.sum_pos (fun _ _ => Real.rpow_pos_of_pos (by norm_num) _) ⟨⟨0, hn⟩, Finset.mem_univ _⟩

/-- A row's softmax-weighted sum of values, `(∑ 2^s v) / (∑ 2^s)`. -/
def soft {n : ℕ} (s v : Fin n → ℝ) : ℝ := (∑ k, (2 : ℝ) ^ s k * v k) / den s

/-- The textbook softmax in base `e` of the scores times `ln 2`: a real number subtracted from every score, the
    exponentials over their sum, is `2^s / ∑ 2^s`. -/
theorem softmax_weight {n : ℕ} (hn : 0 < n) (s : Fin n → ℝ) (M : ℝ) (j : Fin n) :
    Ideal.div (Ideal.exp ((s j : EReal) * ((Real.log 2 : ℝ) : EReal) - (M : EReal)))
        (∑ k, Ideal.exp ((s k : EReal) * ((Real.log 2 : ℝ) : EReal) - (M : EReal)))
      = (((2 : ℝ) ^ s j / den s : ℝ) : EReal) := by
  have e : ∀ k, Ideal.exp ((s k : EReal) * ((Real.log 2 : ℝ) : EReal) - (M : EReal))
      = (((2 : ℝ) ^ s k * Real.exp (-M) : ℝ) : EReal) := fun k => by
    rw [← EReal.coe_mul, ← EReal.coe_sub, exp_coe, sub_eq_add_neg, Real.exp_add, Real.rpow_def_of_pos (by norm_num), mul_comm (s k)]
  have h2 : Real.exp (-M) ≠ 0 := (Real.exp_pos _).ne'
  simp only [e]
  have hd : (∑ k, (2 : ℝ) ^ s k) ≠ 0 := (den_pos hn s).ne'
  rw [← coe_sum, ← Finset.sum_mul, div_coe _ _ (mul_ne_zero hd h2), mul_div_mul_right _ _ h2]
  rfl

/-- The difference of two softmax rows, `λ` of the second taken off the first, applied to the values. -/
theorem sum_diff {n : ℕ} (s t v : Fin n → ℝ) (lam : ℝ) :
    ∑ k, ((v k : ℝ) : EReal) * ((((2 : ℝ) ^ s k / den s : ℝ) : EReal) - (lam : EReal) * (((2 : ℝ) ^ t k / den t : ℝ) : EReal))
      = ((soft s v - lam * soft t v : ℝ) : EReal) := by
  have e : ∀ k, ((v k : ℝ) : EReal) * ((((2 : ℝ) ^ s k / den s : ℝ) : EReal) - (lam : EReal) * (((2 : ℝ) ^ t k / den t : ℝ) : EReal))
      = ((v k * ((2 : ℝ) ^ s k / den s - lam * ((2 : ℝ) ^ t k / den t)) : ℝ) : EReal) := fun k => by
    rw [← EReal.coe_mul, ← EReal.coe_sub, ← EReal.coe_mul]
  simp only [e]
  rw [← coe_sum]
  congr 1
  unfold soft
  rw [Finset.sum_div, Finset.sum_div, Finset.mul_sum, ← Finset.sum_sub_distrib]
  exact Finset.sum_congr rfl fun k _ => by ring

/-- A sum over 4096 columns, taken as four sums of 1024. -/
theorem sum_quarters (f : Fin 4096 → ℝ) :
    ∑ j, f j = (((∑ k : Fin 1024, f ⟨k, by omega⟩) + ∑ k : Fin 1024, f ⟨1024 + k, by omega⟩)
      + ∑ k : Fin 1024, f ⟨2048 + k, by omega⟩) + ∑ k : Fin 1024, f ⟨3072 + k, by omega⟩ := by
  rw [Fin.sum_univ_add (a := 3072) (b := 1024) (f := f), Fin.sum_univ_add (a := 2048) (b := 1024),
    Fin.sum_univ_add (a := 1024) (b := 1024)]
  rfl

end Cert.Attn

end
-- ==== Proof.Attn.Block.lean ====
/-
  What the attention's grid point leaves in its output block, in a few named operations on whole blocks: the scores of
  one chunk of keys, the running maximum, denominator and numerator over the four chunks, and the closing combination of
  the two maps with its mean-square normalization. `out_eq` says that the program's text is these; the `_apply` lemmas
  read each at an element, over the extended reals.
-/
module

public import proofs.«01_k».proof.Proof.Gen.KernelIdeal.Value
public import proofs.«01_k».proof.Proof.Attn.Softmax
public import Idealize.ShloMosaic.Lib.Pipeline.ValueKit
public import Idealize.ShloMosaic.Lib.Pointwise

@[expose] public section

set_option maxRecDepth 16384

noncomputable section

namespace Cert.Attn

open Idealize.ShloMosaic Cert.KernelIdeal Cert.KernelIdeal.Gen Cert.KernelIdeal.Facts

section Text

variable {F : FTy → Type} [FloatOps F]

/-- The scores of a block of queries against one chunk of keys. -/
def scores (q : Vec F S512x128 .bf16) (k : Vec F S1024x128 .bf16) : FVec F S512x1024 .f32 :=
  matmul dot_S512x128_S1024x128_S512x1024_1_1_0_0_n_n none q k (constant S512x1024 .f32 0x00000000#32)

/-- Each query's greatest score in a chunk. -/
def rowMax (s : FVec F S512x1024 .f32) : FVec F S512x1 .f32 :=
  shapeCast S512x1 (multiReduction .maximumf [1] S512 s 0xFF800000#32 reduces_S512x1024_S512 (.inl rfl) rfl) shapeCasts_S512_S512x1

/-- The unnormalized weights of a chunk at a given maximum. -/
def weights (s : FVec F S512x1024 .f32) (m : FVec F S512x1 .f32) : FVec F S512x1024 .bf16 :=
  exp2 (truncf .bf16 (subf s (broadcastTo S512x1024 m broadcasts_S512x1_S512x1024)) bitsLt_bf16_f32)

/-- Each query's weights of a chunk, summed. -/
def rowSum (p : FVec F S512x1024 .bf16) : FVec F S512x1 .f32 :=
  shapeCast S512x1 (multiReduction .add [1] S512 (extf .f32 p bitsLt_bf16_f32) 0x00000000#32 reduces_S512x1024_S512 (.inl rfl) rfl)
    shapeCasts_S512_S512x1

/-- The chunk's values under its weights. -/
def weighted (p : FVec F S512x1024 .bf16) (v : Vec F S1024x256 .bf16) : FVec F S512x256 .f32 :=
  matmul dot_S512x1024_S1024x256_S512x256_1_0_0_1_n_n none p v (constant S512x256 .f32 0x00000000#32)

/-- The running maximum with a further chunk. -/
def mStep (m : FVec F S512x1 .f32) (s : FVec F S512x1024 .f32) : FVec F S512x1 .f32 := maximumf m (rowMax s)

/-- What the old sums are multiplied by when a further chunk comes. -/
def rescale (m : FVec F S512x1 .f32) (s : FVec F S512x1024 .f32) : FVec F S512x1 .f32 := exp2 (subf m (mStep m s))

/-- The running denominator with a further chunk. -/
def lStep (m l : FVec F S512x1 .f32) (s : FVec F S512x1024 .f32) : FVec F S512x1 .f32 :=
  addf (mulf (rescale m s) l) (rowSum (weights s (mStep m s)))

/-- The running numerator with a further chunk. -/
def aStep (m : FVec F S512x1 .f32) (a : FVec F S512x256 .f32) (s : FVec F S512x1024 .f32) (v : Vec F S1024x256 .bf16) :
    FVec F S512x256 .f32 :=
  addf (mulf (broadcastTo S512x256 (rescale m s) broadcasts_S512x1_S512x256) a) (weighted (weights s (mStep m s)) v)

/-- The running maximum after three chunks. -/
def max3 (s0 s1 s2 : FVec F S512x1024 .f32) : FVec F S512x1 .f32 := mStep (mStep (rowMax s0) s1) s2

/-- The denominator after all four chunks. -/
def den4 (s0 s1 s2 s3 : FVec F S512x1024 .f32) : FVec F S512x1 .f32 :=
  lStep (max3 s0 s1 s2) (lStep (mStep (rowMax s0) s1) (lStep (rowMax s0) (rowSum (weights s0 (rowMax s0))) s1) s2) s3

/-- The numerator after all four chunks. -/
def num4 (s0 s1 s2 s3 : FVec F S512x1024 .f32) (v0 v1 v2 v3 : Vec F S1024x256 .bf16) : FVec F S512x256 .f32 :=
  aStep (max3 s0 s1 s2) (aStep (mStep (rowMax s0) s1) (aStep (rowMax s0) (weighted (weights s0 (rowMax s0)) v0) s1 v1) s2 v2) s3 v3

/-- The two maps' outputs combined: the first, less `lam` of the second. -/
def combine (lam : FVec F S1x1 .f32) (l0 l1 : FVec F S512x1 .f32) (a0 a1 : FVec F S512x256 .f32) : FVec F S512x256 .f32 :=
  subf (divf a0 (broadcastTo S512x256 l0 broadcasts_S512x1_S512x256))
    (mulf (broadcastTo S512x256 lam broadcasts_S1x1_S512x256) (divf a1 (broadcastTo S512x256 l1 broadcasts_S512x1_S512x256)))

/-- The mean-square normalization of the combined output, its gain and its constant factor. -/
def normed (o : FVec F S512x256 .f32) (g : Vec F S1x256 .f32) : FVec F S512x256 .bf16 :=
  have v186 : FVec F S512x1 .f32 := shapeCast S512x1 (multiReduction .add [1] S512 (mulf o o) 0x00000000#32 reduces_S512x256_S512 (.inl rfl) rfl) shapeCasts_S512_S512x1
  have v190 : FVec F S512x1 .f32 := addf (divf v186 (broadcast S512x1 (Scalar.ofBits .f32 0x43800000#32))) (broadcast S512x1 (Scalar.ofBits .f32 0x358637BD#32))
  have v194 : FVec F S512x256 .f32 := mulf (mulf o (broadcastTo S512x256 (rsqrt v190) broadcasts_S512x1_S512x256)) (broadcastTo S512x256 g broadcasts_S1x256_S512x256)
  truncf .bf16 (mulf v194 (broadcast S512x256 (Scalar.ofBits .f32 0x3F4CCCCD#32))) bitsLt_bf16_f32

variable (x0 : Vec F S512x256 .bf16) (x1 x2 : Vec F S4096x256 .bf16) (x3 : Vec F S4x128 .f32) (x4 : Vec F S1x256 .f32)

/-- What the body stores, of its five input blocks. -/
def outB : FVec F S512x256 .bf16 :=
  normed (combine (k0_pay1 (View.ld x3 r0_0))
    (den4 (scores (View.ld x0 r0_1) (View.ld x1 r0_2)) (scores (View.ld x0 r0_1) (View.ld x1 r0_6)) (scores (View.ld x0 r0_1) (View.ld x1 r0_9)) (scores (View.ld x0 r0_1) (View.ld x1 r0_12)))
    (den4 (scores (View.ld x0 r0_3) (View.ld x1 r0_4)) (scores (View.ld x0 r0_3) (View.ld x1 r0_7)) (scores (View.ld x0 r0_3) (View.ld x1 r0_10)) (scores (View.ld x0 r0_3) (View.ld x1 r0_13)))
    (num4 (scores (View.ld x0 r0_1) (View.ld x1 r0_2)) (scores (View.ld x0 r0_1) (View.ld x1 r0_6)) (scores (View.ld x0 r0_1) (View.ld x1 r0_9)) (scores (View.ld x0 r0_1) (View.ld x1 r0_12)) (View.ld x2 r0_5) (View.ld x2 r0_8) (View.ld x2 r0_11) (View.ld x2 r0_14))
    (num4 (scores (View.ld x0 r0_3) (View.ld x1 r0_4)) (scores (View.ld x0 r0_3) (View.ld x1 r0_7)) (scores (View.ld x0 r0_3) (View.ld x1 r0_10)) (scores (View.ld x0 r0_3) (View.ld x1 r0_13)) (View.ld x2 r0_5) (View.ld x2 r0_8) (View.ld x2 r0_11) (View.ld x2 r0_14)))
    (View.ld x4 r0_15)

/-- The program's stored block is `outB`, by unfolding. -/
theorem out_eq : out0_5 x0 x1 x2 x3 x4 = View.canon [⟨r0_16, outB x0 x1 x2 x3 x4⟩] := rfl

end Text

/-! ## At an element, over the extended reals -/

theorem ninf : Ideal.ofBits .f32 0xFF800000#32 = ⊥ := by simp [Ideal.ofBits, Ideal.ieee]

theorem scores_apply (q : Vec Ideal S512x128 .bf16) (k : Vec Ideal S1024x128 .bf16) (r : Fin 512) (j : Fin 1024) :
    scores q k (ix2 r j) = ∑ d : Fin 128, q (ix2 r d) * k (ix2 j d) := by
  pointwise [scores]

theorem rowMax_apply (s : FVec Ideal S512x1024 .f32) (r : Fin 512) (z : Fin 1) :
    rowMax s (ix2 r z) = Finset.univ.fold max (⊥ : EReal) (fun j : Fin 1024 => s (ix2 r j)) := by
  pointwise [rowMax, ninf]

theorem weights_apply (s : FVec Ideal S512x1024 .f32) (m : FVec Ideal S512x1 .f32) (r : Fin 512) (j : Fin 1024) :
    weights s m (ix2 r j) = Ideal.exp2 (s (ix2 r j) - m (ix2 r 0)) := by
  pointwise [weights]
  rfl

theorem rowSum_apply (p : FVec Ideal S512x1024 .bf16) (r : Fin 512) (z : Fin 1) :
    rowSum p (ix2 r z) = ∑ j : Fin 1024, p (ix2 r j) := by
  pointwise [rowSum]

theorem weighted_apply (p : FVec Ideal S512x1024 .bf16) (v : Vec Ideal S1024x256 .bf16) (r : Fin 512) (e : Fin 256) :
    weighted p v (ix2 r e) = ∑ j : Fin 1024, p (ix2 r j) * v (ix2 j e) := by
  pointwise [weighted]

theorem mStep_apply (m : FVec Ideal S512x1 .f32) (s : FVec Ideal S512x1024 .f32) (r : Fin 512) (z : Fin 1) :
    mStep m s (ix2 r z) = max (m (ix2 r z)) (rowMax s (ix2 r z)) := rfl

theorem rescale_apply (m : FVec Ideal S512x1 .f32) (s : FVec Ideal S512x1024 .f32) (r : Fin 512) (z : Fin 1) :
    rescale m s (ix2 r z) = Ideal.exp2 (m (ix2 r z) - mStep m s (ix2 r z)) := rfl

theorem lStep_apply (m l : FVec Ideal S512x1 .f32) (s : FVec Ideal S512x1024 .f32) (r : Fin 512) :
    lStep m l s (ix2 r 0) = Ideal.exp2 (m (ix2 r 0) - mStep m s (ix2 r 0)) * l (ix2 r 0)
      + ∑ j : Fin 1024, Ideal.exp2 (s (ix2 r j) - mStep m s (ix2 r 0)) := by
  show rescale m s (ix2 r 0) * l (ix2 r 0) + rowSum (weights s (mStep m s)) (ix2 r 0) = _
  rw [rowSum_apply, rescale_apply]
  simp only [weights_apply]

theorem aStep_apply (m : FVec Ideal S512x1 .f32) (a : FVec Ideal S512x256 .f32) (s : FVec Ideal S512x1024 .f32)
    (v : Vec Ideal S1024x256 .bf16) (r : Fin 512) (e : Fin 256) :
    aStep m a s v (ix2 r e) = Ideal.exp2 (m (ix2 r 0) - mStep m s (ix2 r 0)) * a (ix2 r e)
      + ∑ j : Fin 1024, Ideal.exp2 (s (ix2 r j) - mStep m s (ix2 r 0)) * v (ix2 j e) := by
  have h : broadcastTo S512x256 (rescale m s) broadcasts_S512x1_S512x256 (ix2 r e) = rescale m s (ix2 r 0) := by pointwise
  show broadcastTo S512x256 (rescale m s) broadcasts_S512x1_S512x256 (ix2 r e) * a (ix2 r e)
    + weighted (weights s (mStep m s)) v (ix2 r e) = _
  rw [weighted_apply, h, rescale_apply]
  simp only [weights_apply]

/-- One query's row over four chunks of real scores and values is a running row of the whole. -/
theorem row_rep (s0 s1 s2 s3 : FVec Ideal S512x1024 .f32) (v0 v1 v2 v3 : Vec Ideal S1024x256 .bf16) (r : Fin 512) (e : Fin 256)
    (t0 t1 t2 t3 w0 w1 w2 w3 : Fin 1024 → ℝ)
    (h0 : ∀ j, s0 (ix2 r j) = ((t0 j : ℝ) : EReal)) (h1 : ∀ j, s1 (ix2 r j) = ((t1 j : ℝ) : EReal))
    (h2 : ∀ j, s2 (ix2 r j) = ((t2 j : ℝ) : EReal)) (h3 : ∀ j, s3 (ix2 r j) = ((t3 j : ℝ) : EReal))
    (g0 : ∀ j, v0 (ix2 j e) = ((w0 j : ℝ) : EReal)) (g1 : ∀ j, v1 (ix2 j e) = ((w1 j : ℝ) : EReal))
    (g2 : ∀ j, v2 (ix2 j e) = ((w2 j : ℝ) : EReal)) (g3 : ∀ j, v3 (ix2 j e) = ((w3 j : ℝ) : EReal)) :
    Rep (mStep (max3 s0 s1 s2) s3 (ix2 r 0)) (den4 s0 s1 s2 s3 (ix2 r 0)) (num4 s0 s1 s2 s3 v0 v1 v2 v3 (ix2 r e))
      ((((∑ k, (2 : ℝ) ^ t0 k) + ∑ k, (2 : ℝ) ^ t1 k) + ∑ k, (2 : ℝ) ^ t2 k) + ∑ k, (2 : ℝ) ^ t3 k)
      ((((∑ k, (2 : ℝ) ^ t0 k * w0 k) + ∑ k, (2 : ℝ) ^ t1 k * w1 k) + ∑ k, (2 : ℝ) ^ t2 k * w2 k) + ∑ k, (2 : ℝ) ^ t3 k * w3 k) := by
  have a0 : Rep (rowMax s0 (ix2 r 0)) (rowSum (weights s0 (rowMax s0)) (ix2 r 0))
      (weighted (weights s0 (rowMax s0)) v0 (ix2 r e)) (∑ k, (2 : ℝ) ^ t0 k) (∑ k, (2 : ℝ) ^ t0 k * w0 k) := by
    refine Rep.init (by decide) t0 w0 _ _ _ ?_ ?_ ?_
    · rw [rowMax_apply]; simp only [h0]
    · rw [rowSum_apply]; simp only [weights_apply, h0]
    · rw [weighted_apply]; simp only [weights_apply, h0, g0]
  have step : ∀ (m l : FVec Ideal S512x1 .f32) (a : FVec Ideal S512x256 .f32) (s : FVec Ideal S512x1024 .f32)
      (v : Vec Ideal S1024x256 .bf16) (t w : Fin 1024 → ℝ) (L A : ℝ), Rep (m (ix2 r 0)) (l (ix2 r 0)) (a (ix2 r e)) L A →
      (∀ j, s (ix2 r j) = ((t j : ℝ) : EReal)) → (∀ j, v (ix2 j e) = ((w j : ℝ) : EReal)) →
      Rep (mStep m s (ix2 r 0)) (lStep m l s (ix2 r 0)) (aStep m a s v (ix2 r e)) (L + ∑ k, (2 : ℝ) ^ t k)
        (A + ∑ k, (2 : ℝ) ^ t k * w k) := by
    intro m l a s v t w L A h hs hv
    refine Rep.step (by decide) t w _ _ _ _ _ _ _ _ h ?_ ?_ ?_
    · rw [mStep_apply, rowMax_apply]; simp only [hs]
    · rw [lStep_apply]; simp only [hs]
    · rw [aStep_apply]; simp only [hs, hv]
  have a1 := step _ _ _ s1 v1 t1 w1 _ _ a0 h1 g1
  have a2 := step _ _ _ s2 v2 t2 w2 _ _ a1 h2 g2
  exact step _ _ _ s3 v3 t3 w3 _ _ a2 h3 g3

/-- The whole row's quotient is the softmax-weighted sum over all 4096 columns. -/
theorem row_soft (s0 s1 s2 s3 : FVec Ideal S512x1024 .f32) (v0 v1 v2 v3 : Vec Ideal S1024x256 .bf16) (r : Fin 512) (e : Fin 256)
    (t w : Fin 4096 → ℝ)
    (h0 : ∀ j : Fin 1024, s0 (ix2 r j) = ((t ⟨j, by omega⟩ : ℝ) : EReal)) (h1 : ∀ j : Fin 1024, s1 (ix2 r j) = ((t ⟨1024 + j, by omega⟩ : ℝ) : EReal))
    (h2 : ∀ j : Fin 1024, s2 (ix2 r j) = ((t ⟨2048 + j, by omega⟩ : ℝ) : EReal)) (h3 : ∀ j : Fin 1024, s3 (ix2 r j) = ((t ⟨3072 + j, by omega⟩ : ℝ) : EReal))
    (g0 : ∀ j : Fin 1024, v0 (ix2 j e) = ((w ⟨j, by omega⟩ : ℝ) : EReal)) (g1 : ∀ j : Fin 1024, v1 (ix2 j e) = ((w ⟨1024 + j, by omega⟩ : ℝ) : EReal))
    (g2 : ∀ j : Fin 1024, v2 (ix2 j e) = ((w ⟨2048 + j, by omega⟩ : ℝ) : EReal)) (g3 : ∀ j : Fin 1024, v3 (ix2 j e) = ((w ⟨3072 + j, by omega⟩ : ℝ) : EReal)) :
    Ideal.div (num4 s0 s1 s2 s3 v0 v1 v2 v3 (ix2 r e)) (den4 s0 s1 s2 s3 (ix2 r 0)) = ((soft t w : ℝ) : EReal) := by
  have h := row_rep s0 s1 s2 s3 v0 v1 v2 v3 r e _ _ _ _ _ _ _ _ h0 h1 h2 h3 g0 g1 g2 g3
  rw [← sum_quarters (fun j => (2 : ℝ) ^ t j), ← sum_quarters (fun j => (2 : ℝ) ^ t j * w j)] at h
  exact h.div _ _ _ _ _ (den_pos (by decide) t)

/-- The scalar that weighs the second map, of the four rows of its parameter. -/
def lamOf (x : Vec Ideal S4x128 .f32) : EReal :=
  Ideal.exp (∑ d : Fin 128, x (ix2 0 d) * x (ix2 1 d)) - Ideal.exp (∑ d : Fin 128, x (ix2 2 d) * x (ix2 3 d))
    + Ideal.ofBits .f32 0x3E4CCCCD#32

/-- A row of 256 values divided by its root mean square, times the gain, times the constant factor. -/
def normRow (o g : Fin 256 → EReal) (e : Fin 256) : EReal :=
  o e * Ideal.rsqrt (Ideal.div (∑ k, o k * o k) (Ideal.ofBits .f32 0x43800000#32) + Ideal.ofBits .f32 0x358637BD#32) * g e
    * Ideal.ofBits .f32 0x3F4CCCCD#32

theorem lam_apply (x : Vec Ideal S4x128 .f32) : k0_pay1 x (ix2 0 0) = lamOf x := by
  pointwise [k0_pay1, lamOf]

theorem combine_apply (lam : FVec Ideal S1x1 .f32) (l0 l1 : FVec Ideal S512x1 .f32) (a0 a1 : FVec Ideal S512x256 .f32)
    (r : Fin 512) (e : Fin 256) :
    combine lam l0 l1 a0 a1 (ix2 r e) = Ideal.div (a0 (ix2 r e)) (l0 (ix2 r 0)) - lam (ix2 0 0) * Ideal.div (a1 (ix2 r e)) (l1 (ix2 r 0)) := by
  pointwise [combine]

theorem normed_apply (o : FVec Ideal S512x256 .f32) (g : Vec Ideal S1x256 .f32) (r : Fin 512) (e : Fin 256) :
    normed o g (ix2 r e) = normRow (fun e => o (ix2 r e)) (fun e => g (ix2 0 e)) e := by
  pointwise [normed, normRow]

/-- A query's score against key `j` in the map whose columns start at `o`. -/
def score (o : ℕ) (ho : o + 128 ≤ 256) (q : Fin 256 → ℝ) (k : Fin 4096 → Fin 256 → ℝ) (j : Fin 4096) : ℝ :=
  ∑ d : Fin 128, q ⟨o + d, by omega⟩ * k j ⟨o + d, by omega⟩

/-- One query's row of differential attention over 4096 keys: softmax of the first map's scores, less `lam` of the
    second's, applied to the values. -/
def attRow (lam : ℝ) (q : Fin 256 → ℝ) (k v : Fin 4096 → Fin 256 → ℝ) (e : Fin 256) : ℝ :=
  soft (score 0 (by decide) q k) (fun j => v j e) - lam * soft (score 128 (by decide) q k) (fun j => v j e)

theorem score_apply (q : Vec Ideal S512x128 .bf16) (k : Vec Ideal S1024x128 .bf16) (r : Fin 512) (j : Fin 1024) (f g : Fin 128 → ℝ)
    (hq : ∀ d, q (ix2 r d) = ((f d : ℝ) : EReal)) (hk : ∀ d, k (ix2 j d) = ((g d : ℝ) : EReal)) :
    scores q k (ix2 r j) = ((∑ d, f d * g d : ℝ) : EReal) := by
  rw [scores_apply, coe_sum]
  exact Finset.sum_congr rfl fun d _ => by rw [hq, hk, EReal.coe_mul]

/-- What the grid point stores at query `r`, column `e`: that query's row of attention over the block's 4096 keys and
    values, normalized. -/
theorem outB_apply (x0 : Vec Ideal S512x256 .bf16) (x1 x2 : Vec Ideal S4096x256 .bf16) (x3 : Vec Ideal S4x128 .f32)
    (x4 : Vec Ideal S1x256 .f32) (r : Fin 512) (e : Fin 256) (lam : ℝ) (q : Fin 256 → ℝ) (k v : Fin 4096 → Fin 256 → ℝ)
    (hl : lamOf x3 = (lam : EReal)) (hq : ∀ d, x0 (ix2 r d) = ((q d : ℝ) : EReal))
    (hk : ∀ j d, x1 (ix2 j d) = ((k j d : ℝ) : EReal)) (hv : ∀ j d, x2 (ix2 j d) = ((v j d : ℝ) : EReal)) :
    outB x0 x1 x2 x3 x4 (ix2 r e) = normRow (fun e => ((attRow lam q k v e : ℝ) : EReal)) (fun e => x4 (ix2 0 e)) e := by
  have q1 : ∀ d : Fin 128, View.ld x0 r0_1 (ix2 r d) = ((q ⟨0 + d, by omega⟩ : ℝ) : EReal) := fun d => by
    rw [← hq]; pointwise
  have q3 : ∀ d : Fin 128, View.ld x0 r0_3 (ix2 r d) = ((q ⟨128 + d, by omega⟩ : ℝ) : EReal) := fun d => by
    rw [← hq]; pointwise
  have k2 : ∀ (j : Fin 1024) (d : Fin 128), View.ld x1 r0_2 (ix2 j d) = ((k ⟨j, by omega⟩ ⟨0 + d, by omega⟩ : ℝ) : EReal) := fun j d => by
    rw [← hk]; pointwise
  have k6 : ∀ (j : Fin 1024) (d : Fin 128), View.ld x1 r0_6 (ix2 j d) = ((k ⟨1024 + j, by omega⟩ ⟨0 + d, by omega⟩ : ℝ) : EReal) := fun j d => by
    rw [← hk]; pointwise
  have k9 : ∀ (j : Fin 1024) (d : Fin 128), View.ld x1 r0_9 (ix2 j d) = ((k ⟨2048 + j, by omega⟩ ⟨0 + d, by omega⟩ : ℝ) : EReal) := fun j d => by
    rw [← hk]; pointwise
  have k12 : ∀ (j : Fin 1024) (d : Fin 128), View.ld x1 r0_12 (ix2 j d) = ((k ⟨3072 + j, by omega⟩ ⟨0 + d, by omega⟩ : ℝ) : EReal) := fun j d => by
    rw [← hk]; pointwise
  have k4 : ∀ (j : Fin 1024) (d : Fin 128), View.ld x1 r0_4 (ix2 j d) = ((k ⟨j, by omega⟩ ⟨128 + d, by omega⟩ : ℝ) : EReal) := fun j d => by
    rw [← hk]; pointwise
  have k7 : ∀ (j : Fin 1024) (d : Fin 128), View.ld x1 r0_7 (ix2 j d) = ((k ⟨1024 + j, by omega⟩ ⟨128 + d, by omega⟩ : ℝ) : EReal) := fun j d => by
    rw [← hk]; pointwise
  have k10 : ∀ (j : Fin 1024) (d : Fin 128), View.ld x1 r0_10 (ix2 j d) = ((k ⟨2048 + j, by omega⟩ ⟨128 + d, by omega⟩ : ℝ) : EReal) := fun j d => by
    rw [← hk]; pointwise
  have k13 : ∀ (j : Fin 1024) (d : Fin 128), View.ld x1 r0_13 (ix2 j d) = ((k ⟨3072 + j, by omega⟩ ⟨128 + d, by omega⟩ : ℝ) : EReal) := fun j d => by
    rw [← hk]; pointwise
  have v5 : ∀ (j : Fin 1024) (e : Fin 256), View.ld x2 r0_5 (ix2 j e) = ((v ⟨j, by omega⟩ e : ℝ) : EReal) := fun j e => by
    rw [← hv]; pointwise
  have v8 : ∀ (j : Fin 1024) (e : Fin 256), View.ld x2 r0_8 (ix2 j e) = ((v ⟨1024 + j, by omega⟩ e : ℝ) : EReal) := fun j e => by
    rw [← hv]; pointwise
  have v11 : ∀ (j : Fin 1024) (e : Fin 256), View.ld x2 r0_11 (ix2 j e) = ((v ⟨2048 + j, by omega⟩ e : ℝ) : EReal) := fun j e => by
    rw [← hv]; pointwise
  have v14 : ∀ (j : Fin 1024) (e : Fin 256), View.ld x2 r0_14 (ix2 j e) = ((v ⟨3072 + j, by omega⟩ e : ℝ) : EReal) := fun j e => by
    rw [← hv]; pointwise
  have l3 : View.ld x3 r0_0 = x3 := by funext i; idx_vars i; pointwise
  have l4 : View.ld x4 r0_15 = x4 := by
    funext i; idx_vars i; pointwise
    rw [Fin.fin_one_eq_zero i0]
  unfold outB
  rw [normed_apply, l3, l4]
  refine congrArg (fun o => normRow o _ e) (funext fun e => ?_)
  rw [combine_apply, lam_apply, hl]
  rw [row_soft _ _ _ _ _ _ _ _ r e (score 0 (by decide) q k) (fun j => v j e)
      (fun j => score_apply _ _ _ _ _ _ q1 (k2 j)) (fun j => score_apply _ _ _ _ _ _ q1 (k6 j))
      (fun j => score_apply _ _ _ _ _ _ q1 (k9 j)) (fun j => score_apply _ _ _ _ _ _ q1 (k12 j))
      (fun j => v5 j e) (fun j => v8 j e) (fun j => v11 j e) (fun j => v14 j e),
    row_soft _ _ _ _ _ _ _ _ r e (score 128 (by decide) q k) (fun j => v j e)
      (fun j => score_apply _ _ _ _ _ _ q3 (k4 j)) (fun j => score_apply _ _ _ _ _ _ q3 (k7 j))
      (fun j => score_apply _ _ _ _ _ _ q3 (k10 j)) (fun j => score_apply _ _ _ _ _ _ q3 (k13 j))
      (fun j => v5 j e) (fun j => v8 j e) (fun j => v11 j e) (fun j => v14 j e)]
  rw [← EReal.coe_mul, ← EReal.coe_sub]
  rfl

end Cert.Attn

end
-- ==== Proof.Attn.Array.lean ====
/-
  The attention's result array as a function of its arguments. Element (R, C) is batch R / 4096, head C / 256: the row of
  differential attention of query R over its batch's 4096 keys and values, in the head's 256 columns, normalized. `final`
  says that the kernel's run leaves exactly this array: each grid point writes 512 queries of one head.
-/
module

public import proofs.«01_k».proof.Proof.Attn.Block
public import Idealize.ShloMosaic.Lib.Pipeline.Covers

@[expose] public section

set_option maxRecDepth 16384

noncomputable section

namespace Cert.Attn

open Idealize.ShloMosaic Idealize.ShloMosaic.TcCoe Cert.KernelIdeal Cert.KernelIdeal.Gen Cert.KernelIdeal.Facts

/-- Every element of an array of extended reals is a real number. -/
def AllReal {S : Shape} (x : S.Idx → EReal) : Prop := ∀ i, x i = ((x i).toReal : EReal)

/-- Query `R`'s 256 columns in head `h`, as reals. -/
def qRow (A0 : S32768x2048.Idx → EReal) (R : Fin 32768) (h : Fin 4) (d : Fin 256) : ℝ :=
  (A0 (ix2 R ⟨h * 256 + d, by omega⟩)).toReal

/-- Key `j` of batch `b` in head `h`, as reals. -/
def kRow (A0 : S32768x2048.Idx → EReal) (b : Fin 8) (h : Fin 4) (j : Fin 4096) (d : Fin 256) : ℝ :=
  (A0 (ix2 ⟨b * 4096 + j, by omega⟩ ⟨1024 + h * 256 + d, by omega⟩)).toReal

/-- Value `j` of batch `b` in head `h`, as reals. -/
def vRow (A1 : S32768x3072.Idx → EReal) (b : Fin 8) (h : Fin 4) (j : Fin 4096) (d : Fin 256) : ℝ :=
  (A1 (ix2 ⟨b * 4096 + j, by omega⟩ ⟨h * 256 + d, by omega⟩)).toReal

/-- The attention's result at query `R`, head `h`, column `e`. -/
def attAt (A0 : S32768x2048.Idx → EReal) (A1 : S32768x3072.Idx → EReal) (A2 : S4x128.Idx → EReal) (A3 : S1x256.Idx → EReal)
    (R : Fin 32768) (h : Fin 4) (e : Fin 256) : EReal :=
  normRow (fun e => ((attRow (lamOf A2).toReal (qRow A0 R h) (kRow A0 ⟨R / 4096, by omega⟩ h) (vRow A1 ⟨R / 4096, by omega⟩ h) e : ℝ) : EReal))
    (fun e => A3 (ix2 0 e)) e

/-- The attention's result array. -/
def attArr (A0 : S32768x2048.Idx → EReal) (A1 : S32768x3072.Idx → EReal) (A2 : S4x128.Idx → EReal) (A3 : S1x256.Idx → EReal) :
    S32768x1024.Idx → EReal := fun i =>
  attAt A0 A1 A2 A3 ⟨i 0, (i 0).isLt⟩ ⟨(i 1 : Nat) / 256, by have : (i 1 : Nat) < 1024 := (i 1).isLt; omega⟩
    ⟨(i 1 : Nat) % 256, Nat.mod_lt _ (by decide)⟩

theorem toReal_sum_mul {n : ℕ} (f g : Fin n → EReal) (hf : ∀ i, f i = ((f i).toReal : EReal)) (hg : ∀ i, g i = ((g i).toReal : EReal)) :
    ∑ i, f i * g i = ((∑ i, (f i).toReal * (g i).toReal : ℝ) : EReal) := by
  rw [coe_sum]
  exact Finset.sum_congr rfl fun i _ => by rw [EReal.coe_mul, ← hf, ← hg]

/-- The scalar of the second map is real when its parameter's elements are. -/
theorem lamOf_real (A2 : S4x128.Idx → EReal) (h : AllReal A2) : lamOf A2 = ((lamOf A2).toReal : EReal) := by
  have hc : Ideal.ofBits .f32 0x3E4CCCCD#32 = ((Ideal.ofBits .f32 0x3E4CCCCD#32).toReal : EReal) := by
    simp [Ideal.ofBits, Ideal.ieee, -EReal.coe_mul]
  unfold lamOf
  rw [toReal_sum_mul _ _ (fun _ => h _) (fun _ => h _), toReal_sum_mul _ _ (fun _ => h _) (fun _ => h _), hc, exp_coe, exp_coe,
    ← EReal.coe_sub, ← EReal.coe_add, EReal.toReal_coe]

variable (m : (ℓ : Loc nD τ sig) → Buf (Elt Ideal) ℓ)

theorem idx_0 : ∀ t : Fin cfg0.N, win0_0.index t = ![(grid0.coords t 0).val * 8 + (grid0.coords t 2).val, (grid0.coords t 1).val] := by
  decide +kernel
theorem idx_1 : ∀ t : Fin cfg0.N, win0_1.index t = ![(grid0.coords t 0).val, 4 + (grid0.coords t 1).val] := by
  decide +kernel
theorem idx_2 : ∀ t : Fin cfg0.N, win0_2.index t = ![(grid0.coords t 0).val, (grid0.coords t 1).val] := by
  decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![(grid0.coords t 0).val * 8 + (grid0.coords t 2).val, (grid0.coords t 1).val] := by
  decide +kernel

/-- The kernel's result array, when queries, keys, values and the scalar's parameter hold real numbers. -/
theorem final (c : Dev nD)
    (h0 : AllReal (m ((c : Thread nD τ).loc main_arg0)))
    (h1 : ∀ (R : Fin 32768) (d : Fin 1024), (m ((c : Thread nD τ).loc main_arg1)) (ix2 R ⟨d, by omega⟩)
      = (((m ((c : Thread nD τ).loc main_arg1)) (ix2 R ⟨d, by omega⟩) : EReal).toReal : EReal))
    (h2 : AllReal (m ((c : Thread nD τ).loc main_arg2))) :
    (dats m 0 c).arrAt 5 cfg0.N = attArr (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, out_eq]
  frame_out
  obtain ⟨b, eb, hb⟩ : ∃ b, b = (grid0.coords t 0).val ∧ b < 8 := ⟨_, rfl, (grid0.coords t 0).isLt⟩
  obtain ⟨h, eh, hh⟩ : ∃ h, h = (grid0.coords t 1).val ∧ h < 4 := ⟨_, rfl, (grid0.coords t 1).isLt⟩
  obtain ⟨i, ei, hi⟩ : ∃ i, i = (grid0.coords t 2).val ∧ i < 8 := ⟨_, rfl, (grid0.coords t 2).isLt⟩
  have i0 : win0_0.index t = ![b * 8 + i, h] := by rw [eb, eh, ei]; exact idx_0 t
  have i1 : win0_1.index t = ![b, 4 + h] := by rw [eb, eh]; exact idx_1 t
  have i2 : win0_2.index t = ![b, h] := by rw [eb, eh]; exact idx_2 t
  have i5 : win0_5.index t = ![b * 8 + i, h] := by rw [eb, eh, ei]; exact idx_5 t
  idx_vars y
  have e0 : ∀ (r : Fin 512) (d : Fin 256), iblk m c 0 t (ix2 r d) = (m ((c : Thread nD τ).loc main_arg0))
      (ix2 ⟨(b * 8 + i) * 512 + r, by omega⟩ ⟨h * 256 + d, by omega⟩) := by
    intro r d
    blk_ext [iblk, V, i0]
  have e1 : ∀ (j : Fin 4096) (d : Fin 256), iblk m c 1 t (ix2 j d) = (m ((c : Thread nD τ).loc main_arg0))
      (ix2 ⟨b * 4096 + j, by omega⟩ ⟨1024 + h * 256 + d, by omega⟩) := by
    intro r d
    blk_ext [iblk, V, i1]
  have e2 : ∀ (j : Fin 4096) (d : Fin 256), iblk m c 2 t (ix2 j d) = (m ((c : Thread nD τ).loc main_arg1))
      (ix2 ⟨b * 4096 + j, by omega⟩ ⟨h * 256 + d, by omega⟩) := by
    intro r d
    blk_ext [iblk, V, i2]
  have e3 : iblk m c 3 t = m ((c : Thread nD τ).loc main_arg2) := by
    funext j
    blk_ext! [iblk, V, idx_3 t]
  have e4 : iblk m c 4 t = m ((c : Thread nD τ).loc main_arg3) := by
    funext j
    blk_ext! [iblk, V, idx_4 t]
  have e5 : ((View.whole main_v0).slice (win0_5.rect t)).emb (ix2 y0 y1)
      = (ix2 ⟨(b * 8 + i) * 512 + y0, by omega⟩ ⟨h * 256 + y1, by omega⟩ : S32768x1024.Idx) := by
    funext a
    apply Fin.ext
    fin_cases a
    · blk_simp [i5]
      rfl
    · blk_simp [i5]
      rfl
  rw [e5, e3, e4]
  have hR : ((b * 8 + i) * 512 + (y0 : ℕ)) / 4096 = b := by omega
  have hC : (h * 256 + (y1 : ℕ)) / 256 = h := by omega
  have hC' : (h * 256 + (y1 : ℕ)) % 256 = y1 := by omega
  rw [outB_apply _ _ _ _ _ y0 y1 (lamOf (m ((c : Thread nD τ).loc main_arg2))).toReal
    (qRow (m ((c : Thread nD τ).loc main_arg0)) ⟨(b * 8 + i) * 512 + y0, by omega⟩ ⟨h, hh⟩)
    (kRow (m ((c : Thread nD τ).loc main_arg0)) ⟨b, hb⟩ ⟨h, hh⟩)
    (vRow (m ((c : Thread nD τ).loc main_arg1)) ⟨b, hb⟩ ⟨h, hh⟩)
    (lamOf_real _ h2) (fun d => (e0 _ _).trans (h0 _)) (fun j d => (e1 _ _).trans (h0 _))
    (fun j d => (e2 _ _).trans (h1 _ ⟨h * 256 + d, by omega⟩))]
  unfold attArr attAt
  simp only [ix2_0, ix2_1, hR, hC, hC']

end Cert.Attn

end
-- ==== Proof.Attn.Ref.lean ====
/-
  The reference read at an element, stage by stage: the laid-out queries, keys and values, the scalar, the scores, a row's
  maximum, the weighted sum of the values, and the normalization. The weights are in `Attn.Weight`.
-/
module

public import proofs.«01_k».proof.Proof.Gen.ReferenceIdeal.Read
public import proofs.«01_k».proof.Proof.Attn.Array

@[expose] public section

set_option maxRecDepth 16384

noncomputable section

namespace Cert.Attn

open Idealize.ShloMosaic Cert.ReferenceIdeal Cert.ReferenceIdeal.Gen Cert.ReferenceIdeal.Facts Cert.ReferenceIdeal.Read

variable (A0 : S32768x2048.Idx → EReal) (A1 : S32768x3072.Idx → EReal) (A2 : S4x128.Idx → EReal) (A3 : S1x256.Idx → EReal)

/-- The queries laid out: map `k` of head `h` at row `r` of batch `b`. -/
theorem r_q (b : Fin 8) (r : Fin 4096) (h : Fin 4) (k : Fin 2) (d : Fin 128) :
    val_main_v2 (F := Ideal) A0 (ix5 b r h k d) = A0 (ix2 ⟨b * 4096 + r, by omega⟩ ⟨h * 256 + (k * 128 + d), by omega⟩) := by
  pointwise [val_main_v2, val_main_v1, val_main_v0]
  exact congrArg A0 (congrArg (ix2 _) (Fin.ext (by dsimp only; omega)))

/-- The keys laid out, from the second half of the columns. -/
theorem r_k (b : Fin 8) (r : Fin 4096) (h : Fin 4) (k : Fin 2) (d : Fin 128) :
    val_main_v5 (F := Ideal) A0 (ix5 b r h k d) = A0 (ix2 ⟨b * 4096 + r, by omega⟩ ⟨1024 + h * 256 + (k * 128 + d), by omega⟩) := by
  pointwise [val_main_v5, val_main_v4, val_main_v3]
  exact congrArg A0 (congrArg (ix2 _) (Fin.ext (by dsimp only; omega)))

/-- The values laid out, from the first 1024 columns of the activation. -/
theorem r_v (b : Fin 8) (r : Fin 4096) (h : Fin 4) (e : Fin 256) :
    val_main_v8 (F := Ideal) A1 (ix4 b r h e) = A1 (ix2 ⟨b * 4096 + r, by omega⟩ ⟨h * 256 + e, by omega⟩) := by
  pointwise [val_main_v8, val_main_v7, val_main_v6]

/-- The reference's scalar is `lamOf`. -/
theorem r_lam (z : S_.Idx) : val_main_v24 (F := Ideal) A2 z = lamOf A2 := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_cst,
    val_main_cst_0, val_main_cst_1, lamOf]

/-- A score is the product of a query row and a key row, times log 2. -/
theorem r_score (b : Fin 8) (h : Fin 4) (k : Fin 2) (r j : Fin 4096) :
    val_main_v28 (F := Ideal) A0 (ix5 b h k r j)
      = (∑ d : Fin 128, val_main_v2 (F := Ideal) A0 (ix5 b r h k d) * val_main_v5 (F := Ideal) A0 (ix5 b j h k d))
        * Ideal.log (Ideal.ofBits .f32 0x40000000#32) := by
  generalize hq : val_main_v2 (F := Ideal) A0 = q
  generalize hk : val_main_v5 (F := Ideal) A0 = kk
  unfold val_main_v28 val_main_v25
  rw [hq, hk]
  pointwise [val_main_v27, val_main_v26, val_main_cst_2]

/-- A row's maximum is the fold of `max` over its scores, from −∞. -/
theorem r_max (b : Fin 8) (h : Fin 4) (k : Fin 2) (r : Fin 4096) :
    val_main_v29 (F := Ideal) A0 (ix4 b h k r) = Finset.univ.fold max (⊥ : EReal) fun j : Fin 4096 => val_main_v28 (F := Ideal) A0 (ix5 b h k r j) := by
  unfold val_main_v29
  generalize hq : val_main_v28 (F := Ideal) A0 = q
  pointwise [val_main_cst_3]
  rw [ninf]

/-- The weighted sum of the values, in the layout batch, row, head, element. -/
theorem r_out (b : Fin 8) (r : Fin 4096) (h : Fin 4) (e : Fin 256) :
    val_main_v48 (F := Ideal) A0 A1 A2 (ix4 b r h e)
      = ∑ j : Fin 4096, val_main_v8 (F := Ideal) A1 (ix4 b j h e) * val_main_v46 (F := Ideal) A0 A2 (ix4 b h r j) := by
  unfold val_main_v48 val_main_v47
  generalize val_main_v46 (F := Ideal) A0 A2 = p
  generalize val_main_v8 (F := Ideal) A1 = q
  pointwise

/-- The batch of a row. -/
theorem row_div (i : S32768x1024.Idx) : (i 0 : Nat) / 4096 < 8 := by
  have h : (i 0 : Nat) < 32768 := (i 0).isLt
  omega

/-- The head of a column. -/
theorem col_div (i : S32768x1024.Idx) : (i 1 : Nat) / 256 < 4 := by
  have h : (i 1 : Nat) < 1024 := (i 1).isLt
  omega

/-- The reference's result is the normalized row at the element. -/
theorem r_norm (i : S32768x1024.Idx) :
    val_main_v66 (F := Ideal) A0 A1 A2 A3 i
      = normRow (fun e => val_main_v48 (F := Ideal) A0 A1 A2 (ix4 ⟨(i 0 : Nat) / 4096, row_div i⟩ ⟨(i 0 : Nat) % 4096, Nat.mod_lt _ (by decide)⟩ ⟨(i 1 : Nat) / 256, col_div i⟩ e))
          (fun e => A3 (ix2 0 e)) ⟨(i 1 : Nat) % 256, Nat.mod_lt _ (by decide)⟩ := by
  unfold val_main_v66 val_main_v65 val_main_v64 val_main_v63 val_main_v62 val_main_v61 val_main_v60 val_main_v59 val_main_v58 val_main_v57 val_main_v56 val_main_v55
    val_main_v54 val_main_v53 val_main_v52 val_main_v51 val_main_v50 val_main_v49
  generalize val_main_v48 (F := Ideal) A0 A1 A2 = p
  idx_vars i
  pointwise [val_main_cst_6, val_main_cst_7, val_main_cst_8, val_main_cst_9, normRow]

end Cert.Attn

end
-- ==== Proof.Attn.Weight.lean ====
/-
  The reference's weights of the two softmax maps and their difference, read at an element.
-/
module

public import proofs.«01_k».proof.Proof.Gen.ReferenceIdeal.Read
public import proofs.«01_k».proof.Proof.Attn.Array

@[expose] public section

set_option maxRecDepth 16384

noncomputable section

namespace Cert.Attn

open Idealize.ShloMosaic Cert.ReferenceIdeal Cert.ReferenceIdeal.Gen Cert.ReferenceIdeal.Facts Cert.ReferenceIdeal.Read

variable (A0 : S32768x2048.Idx → EReal) (A1 : S32768x3072.Idx → EReal) (A2 : S4x128.Idx → EReal) (A3 : S1x256.Idx → EReal)

/-- A weight: the exponential of the score less the row's maximum, over the sum of these along the row. -/
theorem r_weight (b : Fin 8) (h : Fin 4) (k : Fin 2) (r j : Fin 4096) :
    val_main_v39 (F := Ideal) A0 (ix5 b h k r j)
      = Ideal.div (Ideal.exp (val_main_v28 (F := Ideal) A0 (ix5 b h k r j) - val_main_v29 (F := Ideal) A0 (ix4 b h k r)))
         (∑ j : Fin 4096, Ideal.exp (val_main_v28 (F := Ideal) A0 (ix5 b h k r j) - val_main_v29 (F := Ideal) A0 (ix4 b h k r))) := by
  have e1 : ∀ j, idx_main_v32 (idx_main_v33 (ix5 b h k r j)) = ix4 b h k r := fun j => funext fun a => by fin_cases a <;> rfl
  have e2 : ∀ j, idx_main_v37 (idx_main_v38 (ix5 b h k r j)) = ix4 b h k r := fun j => funext fun a => by fin_cases a <;> rfl
  have e3 : ∀ j, idx_main_v36 (ix4 b h k r) j = ix5 b h k r j := fun j => funext fun a => by fin_cases a <;> rfl
  have e4 : ∀ i, val_main_v31 (F := Ideal) A0 i = val_main_v29 (F := Ideal) A0 i := fun i => by
    rw [val_main_v31_apply, val_main_v30_apply, val_main_cst_4_apply]
    simp only [Ideal.maximumf_def, Ideal.ofBits_def, ninf]
    exact max_eq_right bot_le
  have e5 : ∀ j, val_main_v35 (F := Ideal) A0 (ix5 b h k r j)
      = Ideal.exp (val_main_v28 (F := Ideal) A0 (ix5 b h k r j) - val_main_v29 (F := Ideal) A0 (ix4 b h k r)) := fun j => by
    rw [val_main_v35_apply, val_main_v34_apply, val_main_v33_apply, val_main_v32_apply, e1, e4]
    rfl
  rw [val_main_v39_apply, val_main_v38_apply, val_main_v37_apply, e2, val_main_v36_apply, val_main_cst_5_apply]
  simp only [e3, e5]
  rw [show (FloatOps.ofBits .f32 0x00000000#32 : Ideal .f32) = (0 : EReal) from by simp [Ideal.ofBits_def, Ideal.ofBits, Ideal.ieee], zero_add]
  rfl

/-- The differential weight: the first map's less the scalar times the second's. -/
theorem r_diff (lam : EReal) (hl : ∀ z, val_main_v24 (F := Ideal) A2 z = lam) (b : Fin 8) (h : Fin 4) (r j : Fin 4096) :
    val_main_v46 (F := Ideal) A0 A2 (ix4 b h r j)
      = val_main_v39 (F := Ideal) A0 (ix5 b h 0 r j) - lam * val_main_v39 (F := Ideal) A0 (ix5 b h 1 r j) := by
  have e1 : idx_main_v40 (idx_main_v41 (ix4 b h r j)) = ix5 b h 0 r j := funext fun a => by
    fin_cases a <;> apply Fin.ext <;> simp [ix4, ix5] <;> omega
  have e2 : idx_main_v42 (idx_main_v43 (ix4 b h r j)) = ix5 b h 1 r j := funext fun a => by
    fin_cases a <;> apply Fin.ext <;> simp [ix4, ix5] <;> omega
  rw [val_main_v46_apply, val_main_v45_apply, val_main_v44_apply, val_main_v43_apply, val_main_v42_apply, val_main_v41_apply,
    val_main_v40_apply, e1, e2, hl]
  rfl

end Cert.Attn

end
-- ==== Proof.Attn.Eq.lean ====
/-
  The reference computes the array `attArr` that the kernel's run leaves, when queries, keys, values and the scalar's
  parameter hold real numbers.
-/
module

public import proofs.«01_k».proof.Proof.Attn.Ref
public import proofs.«01_k».proof.Proof.Attn.Weight

@[expose] public section

set_option maxRecDepth 16384

noncomputable section

namespace Cert.Attn

open Idealize.ShloMosaic Cert.ReferenceIdeal Cert.ReferenceIdeal.Gen Cert.ReferenceIdeal.Facts Cert.ReferenceIdeal.Read

variable (A0 : S32768x2048.Idx → EReal) (A1 : S32768x3072.Idx → EReal) (A2 : S4x128.Idx → EReal) (A3 : S1x256.Idx → EReal)

/-- The natural logarithm of the constant 2. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  show (if (2 : ℝ) ≤ 0 then (⊥ : EReal) else ((Real.log 2 : ℝ) : EReal)) = _
  rw [if_neg (by norm_num)]

/-- A score of the reference, on real queries and keys. -/
theorem r_score_real (h0 : AllReal A0) (b : Fin 8) (h : Fin 4) (k : Fin 2) (r j : Fin 4096) :
    val_main_v28 (F := Ideal) A0 (ix5 b h k r j)
      = ((score (k * 128) (by omega) (qRow A0 ⟨b * 4096 + r, by omega⟩ h) (kRow A0 b h) j : ℝ) : EReal) * ((Real.log 2 : ℝ) : EReal) := by
  rw [r_score, log_two]
  congr 1
  simp only [r_q, r_k]
  rw [toReal_sum_mul _ _ (fun d => h0 _) (fun d => h0 _)]
  rfl

/-- A weight of the reference, on real queries and keys, is the softmax weight of base 2. -/
theorem r_weight_real (h0 : AllReal A0) (b : Fin 8) (h : Fin 4) (k : Fin 2) (r j : Fin 4096) :
    val_main_v39 (F := Ideal) A0 (ix5 b h k r j)
      = (((2 : ℝ) ^ score (k * 128) (by omega) (qRow A0 ⟨b * 4096 + r, by omega⟩ h) (kRow A0 b h) j
          / den (score (k * 128) (by omega) (qRow A0 ⟨b * 4096 + r, by omega⟩ h) (kRow A0 b h)) : ℝ) : EReal) := by
  obtain ⟨M, hM⟩ := fold_max_real (n := 4096) (by decide)
    (fun j => score (k * 128) (by omega) (qRow A0 ⟨b * 4096 + r, by omega⟩ h) (kRow A0 b h) j * Real.log 2)
  rw [r_weight, r_max]
  simp only [r_score_real A0 h0]
  simp only [EReal.coe_mul] at hM
  rw [hM]
  exact softmax_weight (by decide) _ M j

/-- The reference's result array. -/
theorem ref_eq (h0 : AllReal A0) (h1 : ∀ (R : Fin 32768) (d : Fin 1024), A1 (ix2 R ⟨d, by omega⟩) = ((A1 (ix2 R ⟨d, by omega⟩)).toReal : EReal))
    (h2 : AllReal A2) : val_main_v66 (F := Ideal) A0 A1 A2 A3 = attArr A0 A1 A2 A3 := by
  funext i
  rw [r_norm]
  unfold attArr attAt
  refine congrArg (fun o => normRow o _ _) (funext fun e => ?_)
  rw [r_out]
  have hv : ∀ (b : Fin 8) (j : Fin 4096) (h : Fin 4) (e : Fin 256), val_main_v8 (F := Ideal) A1 (ix4 b j h e) = ((vRow A1 b h j e : ℝ) : EReal) :=
    fun b j h e => (r_v A1 b j h e).trans (h1 ⟨b * 4096 + j, by omega⟩ ⟨h * 256 + e, by omega⟩)
  simp only [hv, r_diff A0 A2 _ (fun z => (r_lam A2 z).trans (lamOf_real A2 h2)), r_weight_real A0 h0]
  rw [sum_diff]
  have hi : (⟨(i 0 : Nat) / 4096 * 4096 + (i 0 : Nat) % 4096, by have : (i 0 : Nat) < 32768 := (i 0).isLt; omega⟩ : Fin 32768) = ⟨(i 0 : Nat), (i 0).isLt⟩ :=
    Fin.ext (Nat.div_add_mod' _ _)
  unfold attRow
  simp only [hi]
  rfl

end Cert.Attn

end
-- ==== Proof.Attn.Pre.lean ====
/-
  The precondition read back: where the printed predicate `finite` is true, queries, keys, values and the scalar's
  parameter hold real numbers.
-/
module

public import proofs.«01_k».proof.Pre_finite
public import proofs.«01_k».proof.Proof.Attn.Array
public import Idealize.ShloMosaic.Lib.ReduceAll

@[expose] public section

set_option maxRecDepth 16384

noncomputable section

namespace Cert.Attn

open Idealize.ShloMosaic Cert.Pre_finite

/-- An extended real whose absolute value is below +∞ is a real number. -/
theorem real_of_abs_lt (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe x => rfl

variable [Cert.Pre_finite.Facts]

/-- What the precondition says of the arguments. -/
theorem pre_real (A0 : S32768x2048.Idx → EReal) (A1 : S32768x3072.Idx → EReal) (A2 : S4x128.Idx → EReal) (A3 : S1x256.Idx → EReal)
    (h : Cert.Pre_finite.fn (F := Ideal) A0 A1 A2 A3 = fun _ => 1#1) :
    AllReal A0 ∧ (∀ (R : Fin 32768) (d : Fin 1024), A1 (ix2 R ⟨d, by omega⟩) = ((A1 (ix2 R ⟨d, by omega⟩)).toReal : EReal)) ∧ AllReal A2 := by
  have : Subsingleton S_.Idx := ⟨fun a b => funext fun i => i.elim0⟩
  have e := congrFun h (fun i => i.elim0)
  dsimp only [Cert.Pre_finite.fn] at e
  obtain ⟨e, e2⟩ := IntOp.andi_eq_one.1 e
  obtain ⟨e0, e1⟩ := IntOp.andi_eq_one.1 e
  refine ⟨fun i => real_of_abs_lt _ ?_, fun R d => real_of_abs_lt _ ?_, fun i => real_of_abs_lt _ ?_⟩
  · exact Host.reduce_andi_all _ _ _ _ _ e0 i
  · have := Host.reduce_andi_all _ _ _ _ _ e1 (ix2 R d)
    revert this
    generalize hx : extractStridedSlice S32768x1024 ![0, 0] A1 Facts.slices_S32768x3072_S32768x1024_0_0 = x
    have hx' : x (ix2 R d) = A1 (ix2 R ⟨d, by omega⟩) := by
      rw [← hx]; pointwise
    intro this
    rw [← hx']
    exact this
  · exact Host.reduce_andi_all _ _ _ _ _ e2 i

end Cert.Attn

end
-- ==== Proof.Attn.Claim.lean ====
/-
  The attention's value claim: on queries, keys, values and a scalar's parameter that are finite, the kernel and the
  reference both end with the array `attArr` of the arguments.
-/
module

public import proofs.«01_k».proof.Defs
public import proofs.«01_k».proof.Proof.Gen.KernelIdeal.Value
public import proofs.«01_k».proof.Proof.Attn.Eq
public import proofs.«01_k».proof.Proof.Attn.Pre
public import proofs.«01_k».proof.Proof.Gen.Pre_finite

@[expose] public section

set_option maxRecDepth 16384

noncomputable section

namespace Cert.Attn

open Idealize.ShloMosaic Idealize.SL.Sem

/-- The reference's run changes no argument and leaves every counter at zero. -/
theorem frame_r : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Kernel and reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => attArr (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    (θ_run Cert.KernelIdeal.defs _ _).mono (fun r h c => ?_) (Cert.KernelIdeal.Value.run_blocks (F := Ideal) m ρ),
    (θ_run Cert.ReferenceIdeal.defs _ _).mono (fun r h c => ?_) (Cert.ReferenceIdeal.Value.run (F := Ideal) m' ρ')⟩
  · obtain ⟨h0, h1, h2⟩ := pre_real _ _ _ _ (hpre c)
    exact ⟨(h c).1.trans (final m c h0 h1 h2), (h c).2⟩
  · obtain ⟨h0, h1, h2⟩ := pre_real _ _ _ _ (hpre c)
    obtain ⟨a0, a1, a2, a3⟩ := hagree c
    refine ⟨(h c).1.trans ?_, (h c).2⟩
    rw [Cert.ReferenceIdeal.Read.val_main_v66_eq, a0, a1, a2, a3]
    exact ref_eq _ _ _ _ h0 h1 h2

end Cert.Attn

end
-- ==== Proof.Gate.Array.lean ====
/-
  The gate projection's result array as a function of its arguments: element (R, C) is the logistic function of row R of
  the normalized rows times column C of the weights. `final` says that the kernel's run leaves exactly this array: each
  grid point writes 1024 rows, in eight groups of 512 columns.
-/
module

public import proofs.«01_k».proof.Proof.Gen.KernelGateIdeal.Frame
public import Idealize.ShloMosaic.Lib.Pipeline.ValueKit
public import Idealize.ShloMosaic.Lib.Pointwise
public import Idealize.ShloMosaic.Lib.Pipeline.Covers

@[expose] public section

set_option maxRecDepth 16384

noncomputable section

namespace Cert.Gate

open Idealize.ShloMosaic Idealize.ShloMosaic.TcCoe Cert.KernelGateIdeal Cert.KernelGateIdeal.Gen Cert.KernelGateIdeal.Facts

/-- One gate: the logistic function of a row times a column. -/
def gateAt {n : ℕ} (a b : Fin n → EReal) : EReal := Ideal.logistic (∑ k, a k * b k)

/-- The gate projection's result array. -/
def gateArr (A0 : S32768x2048.Idx → EReal) (A1 : S2048x4096.Idx → EReal) : S32768x4096.Idx → EReal := fun i =>
  gateAt (fun k : Fin 2048 => A0 (ix2 ⟨i 0, (i 0).isLt⟩ k)) (fun k : Fin 2048 => A1 (ix2 k ⟨i 1, (i 1).isLt⟩))

/-- One group of columns, at an index. -/
theorem pay_apply (x0 : Vec Ideal S1024x2048 .bf16) (x1 : Vec Ideal S2048x512 .bf16) (r : Fin 1024) (e : Fin 512) :
    k0_pay5 x0 x1 (ix2 r e) = gateAt (fun k : Fin 2048 => x0 (ix2 r k)) (fun k : Fin 2048 => x1 (ix2 k e)) := by
  pointwise [k0_pay5, gateAt]

/-- What a grid point leaves in its block: every row's gates, all 4096 columns. -/
theorem out_apply (x0 : Vec Ideal S1024x2048 .bf16) (x1 : Vec Ideal S2048x4096 .bf16) (r : Fin 1024) (e : Fin 4096) :
    out0_2 x0 x1 (ix2 r e) = gateAt (fun k : Fin 2048 => x0 (ix2 r k)) (fun k : Fin 2048 => x1 (ix2 k e)) := by
  have key : ∀ (o : ℕ) (inb) (y0 : Fin 1024) (y1 : Fin 512) (hr : (r : ℕ) = y0) (he : (e : ℕ) = o + y1),
      k0_pay5 (View.ld x0 r0_0) (View.ld x1 (Rect.unit (s := S2048x4096) ![0, o] S2048x512.size inb)) (ix2 y0 y1)
        = gateAt (fun k : Fin 2048 => x0 (ix2 r k)) (fun k : Fin 2048 => x1 (ix2 k e)) := by
    intro o inb y0 y1 hr he
    obtain rfl : r = y0 := Fin.ext hr
    rw [pay_apply]
    have e0 : ∀ k : Fin 2048, View.ld x0 r0_0 (ix2 r k) = x0 (ix2 r k) := fun k => by pointwise
    have e1 : ∀ k : Fin 2048, View.ld x1 (Rect.unit (s := S2048x4096) ![0, o] S2048x512.size inb) (ix2 k y1) = x1 (ix2 k e) := fun k => by
      refine View.ld_unit_apply_of _ _ _ _ _ _ fun a => ?_
      fin_cases a
      · exact (Nat.zero_add _).symm
      · exact he
    simp only [e0, e1]
  unfold out0_2
  canon_tiles x h
  all_goals idx_vars x
  all_goals exact key _ _ _ _ h0 (by omega)

variable (m : (ℓ : Loc nD τ sig) → Buf (Elt Ideal) ℓ)

theorem idx_0 : ∀ t : Fin cfg0.N, win0_0.index t = ![(grid0.coords t 0).val, 0] := by decide +kernel
theorem idx_1 : ∀ t : Fin cfg0.N, win0_1.index t = ![0, 0] := by decide +kernel
theorem idx_2 : ∀ t : Fin cfg0.N, win0_2.index t = ![(grid0.coords t 0).val, 0] := by decide +kernel

/-- The kernel's result array. -/
theorem final (c : Dev nD) :
    (dats m 0 c).arrAt 2 cfg0.N = gateArr (m ((c : Thread nD τ).loc main_arg0)) (m ((c : Thread nD τ).loc main_arg1)) := by
  refine (dats m 0 c).arrAt_eq_of_covers 2 _ (by decide +kernel) fun t hf y => ?_
  blk_simp
  rw [after0_2]
  obtain ⟨b, eb, hb⟩ : ∃ b, b = (grid0.coords t 0).val ∧ b < 32 := ⟨_, rfl, (grid0.coords t 0).isLt⟩
  have i0 : win0_0.index t = ![b, 0] := by rw [eb]; exact idx_0 t
  have i2 : win0_2.index t = ![b, 0] := by rw [eb]; exact idx_2 t
  idx_vars y
  have e0 : ∀ (r : Fin 1024) (k : Fin 2048), iblk m c 0 t (ix2 r k) = (m ((c : Thread nD τ).loc main_arg0))
      (ix2 ⟨b * 1024 + r, by omega⟩ k) := by
    intro r k
    blk_ext [iblk, V, i0]
  have e1 : iblk m c 1 t = m ((c : Thread nD τ).loc main_arg1) := by
    funext j
    blk_ext! [iblk, V, idx_1 t]
  have e2 : ((View.whole main_v0).slice (win0_2.rect t)).emb (ix2 y0 y1)
      = (ix2 ⟨b * 1024 + y0, by omega⟩ y1 : S32768x4096.Idx) := by
    funext a
    apply Fin.ext
    fin_cases a
    · blk_simp [i2]
      rfl
    · blk_simp [i2]
      rfl
  rw [e2, e1, out_apply]
  simp only [e0]
  rfl

end Cert.Gate

end
-- ==== Proof.Gate.Claim.lean ====
/-
  The gate projection's value claim: kernel and reference both end with the array `gateArr` of the arguments.
-/
module

public import proofs.«01_k».proof.Defs
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Gate.Array

@[expose] public section

set_option maxRecDepth 16384

noncomputable section

namespace Cert.Gate

open Idealize.ShloMosaic Idealize.SL.Sem Cert.ReferenceGateIdeal Cert.ReferenceGateIdeal.Read

/-- The reference's result is `gateArr`. -/
theorem ref_eq (A0 : S32768x2048.Idx → EReal) (A1 : S2048x4096.Idx → EReal) : val_main_v9 (F := Ideal) A0 A1 = gateArr A0 A1 := by
  funext i
  idx_vars i
  pointwise [val_main_v9, val_main_v8, val_main_v7, val_main_v6, val_main_v5, val_main_v4, val_main_v3, val_main_v2, val_main_v1,
    val_main_v0, val_main_cst, val_main_cst_0, gateArr, gateAt]
  rfl

/-- The reference's run changes no argument and leaves every counter at zero. -/
theorem frame_r : Cert.quiescent_ReferenceGateIdeal (hReferenceGateIdeal := Cert.ReferenceGateIdeal.Gen.facts) := fun m ρ _ =>
  (θ_run Cert.ReferenceGateIdeal.defs _ _).mono
    (fun r h => ⟨fun c => (h c).2, sem_eq_zero_of_no_sems (by decide) r.2⟩) (Cert.ReferenceGateIdeal.Value.run (F := Ideal) m ρ)

/-- Kernel and reference end with equal results. -/
theorem algebraic : Cert.algebraic_KernelGateIdeal_ReferenceGateIdeal (hKernelGateIdeal := Cert.KernelGateIdeal.Gen.facts)
    (hReferenceGateIdeal := Cert.ReferenceGateIdeal.Gen.facts) := by
  intro m ρ m' ρ' _ hagree
  refine ⟨fun c => gateArr (m ((c.tc : Thread _ _).loc Cert.KernelGateIdeal.main_arg0)) (m ((c.tc : Thread _ _).loc Cert.KernelGateIdeal.main_arg1)),
    (θ_run Cert.KernelGateIdeal.defs _ _).mono (fun r h c => ?_) (Cert.KernelGateIdeal.Value.run_blocks (F := Ideal) m ρ),
    (θ_run Cert.ReferenceGateIdeal.defs _ _).mono (fun r h c => ?_) (Cert.ReferenceGateIdeal.Value.run (F := Ideal) m' ρ')⟩
  · exact ⟨(h c).1.trans (final m c), (h c).2⟩
  · obtain ⟨a0, a1⟩ := hagree c
    refine ⟨(h c).1.trans ?_, (h c).2⟩
    rw [Cert.ReferenceGateIdeal.Read.val_main_v9_eq, a0, a1]
    exact ref_eq _ _

end Cert.Gate

end
-- ==== Proof.Val.Array.lean ====
/-
  The value projection's result array as a function of its arguments: element (R, C) is row R of the normalized rows times
  column C of the weights, and for the last 1024 columns that product times its logistic function. `final` says that the
  kernel's run leaves exactly this array: each grid point writes 1024 rows, in six groups of 512 columns.
-/
module

public import proofs.«01_k».proof.Proof.Gen.KernelValIdeal.Frame
public import Idealize.ShloMosaic.Lib.Pipeline.ValueKit
public import Idealize.ShloMosaic.Lib.Pointwise
public import Idealize.ShloMosaic.Lib.Pipeline.Covers

@[expose] public section

set_option maxRecDepth 16384

noncomputable section

namespace Cert.Val

open Idealize.ShloMosaic Idealize.ShloMosaic.TcCoe Cert.KernelValIdeal Cert.KernelValIdeal.Gen Cert.KernelValIdeal.Facts

/-- One element of the projection: a row times a column; past the first 2048 columns, times its logistic function. -/
def valAt {n : ℕ} (e : ℕ) (a b : Fin n → EReal) : EReal :=
  if e < 2048 then ∑ k, a k * b k else (∑ k, a k * b k) * Ideal.logistic (∑ k, a k * b k)

/-- The value projection's result array. -/
def valArr (A0 : S32768x2048.Idx → EReal) (A1 : S2048x3072.Idx → EReal) : S32768x3072.Idx → EReal := fun i =>
  valAt (i 1 : Nat) (fun k : Fin 2048 => A0 (ix2 ⟨i 0, (i 0).isLt⟩ k)) (fun k : Fin 2048 => A1 (ix2 k ⟨i 1, (i 1).isLt⟩))

/-- One group of plain columns, at an index. -/
theorem plain_apply (x0 : Vec Ideal S1024x2048 .bf16) (x1 : Vec Ideal S2048x512 .bf16) (r : Fin 1024) (e : Fin 512) :
    k0_pay3 x0 x1 (ix2 r e) = ∑ k : Fin 2048, x0 (ix2 r k) * x1 (ix2 k e) := by
  pointwise [k0_pay3]

/-- One group of columns past the plain ones, at an index. -/
theorem silu_apply (x0 : Vec Ideal S1024x2048 .bf16) (x1 : Vec Ideal S2048x512 .bf16) (r : Fin 1024) (e : Fin 512) :
    k0_pay2 x0 x1 (ix2 r e) = (∑ k : Fin 2048, x0 (ix2 r k) * x1 (ix2 k e)) * Ideal.logistic (∑ k : Fin 2048, x0 (ix2 r k) * x1 (ix2 k e)) := by
  pointwise [k0_pay2]

/-- What a grid point leaves in its block: every row's 3072 columns. -/
theorem out_apply (x0 : Vec Ideal S1024x2048 .bf16) (x1 : Vec Ideal S2048x3072 .bf16) (r : Fin 1024) (e : Fin 3072) :
    out0_2 x0 x1 (ix2 r e) = valAt e (fun k : Fin 2048 => x0 (ix2 r k)) (fun k : Fin 2048 => x1 (ix2 k e)) := by
  have e0 : ∀ k : Fin 2048, View.ld x0 r0_0 (ix2 r k) = x0 (ix2 r k) := fun k => by pointwise
  have e1 : ∀ (o : ℕ) (inb) (y1 : Fin 512) (_ : (e : ℕ) = o + y1) (k : Fin 2048),
      View.ld x1 (Rect.unit (s := S2048x3072) ![0, o] S2048x512.size inb) (ix2 k y1) = x1 (ix2 k e) := by
    intro o inb y1 he k
    refine View.ld_unit_apply_of _ _ _ _ _ _ fun a => ?_
    fin_cases a
    · exact (Nat.zero_add _).symm
    · exact he
  have key3 : ∀ (o : ℕ) (inb) (y0 : Fin 1024) (y1 : Fin 512) (hr : (r : ℕ) = y0) (he : (e : ℕ) = o + y1) (ho : (e : ℕ) < 2048),
      k0_pay3 (View.ld x0 r0_0) (View.ld x1 (Rect.unit (s := S2048x3072) ![0, o] S2048x512.size inb)) (ix2 y0 y1)
        = valAt e (fun k : Fin 2048 => x0 (ix2 r k)) (fun k : Fin 2048 => x1 (ix2 k e)) := by
    intro o inb y0 y1 hr he ho
    obtain rfl : r = y0 := Fin.ext hr
    rw [plain_apply, valAt, if_pos ho]
    simp only [e0, e1 o inb y1 he]
  have key2 : ∀ (o : ℕ) (inb) (y0 : Fin 1024) (y1 : Fin 512) (hr : (r : ℕ) = y0) (he : (e : ℕ) = o + y1) (ho : ¬ (e : ℕ) < 2048),
      k0_pay2 (View.ld x0 r0_0) (View.ld x1 (Rect.unit (s := S2048x3072) ![0, o] S2048x512.size inb)) (ix2 y0 y1)
        = valAt e (fun k : Fin 2048 => x0 (ix2 r k)) (fun k : Fin 2048 => x1 (ix2 k e)) := by
    intro o inb y0 y1 hr he ho
    obtain rfl : r = y0 := Fin.ext hr
    rw [silu_apply, valAt, if_neg ho]
    simp only [e0, e1 o inb y1 he]
  unfold out0_2
  canon_tiles x h
  all_goals idx_vars x
  · exact key2 _ _ _ _ h0 (by omega) (by omega)
  · exact key2 _ _ _ _ h0 (by omega) (by omega)
  all_goals exact key3 _ _ _ _ h0 (by omega) (by omega)

variable (m : (ℓ : Loc nD τ sig) → Buf (Elt Ideal) ℓ)

theorem idx_0 : ∀ t : Fin cfg0.N, win0_0.index t = ![(grid0.coords t 0).val, 0] := by decide +kernel
theorem idx_1 : ∀ t : Fin cfg0.N, win0_1.index t = ![0, 0] := by decide +kernel
theorem idx_2 : ∀ t : Fin cfg0.N, win0_2.index t = ![(grid0.coords t 0).val, 0] := by decide +kernel

/-- The kernel's result array. -/
theorem final (c : Dev nD) :
    (dats m 0 c).arrAt 2 cfg0.N = valArr (m ((c : Thread nD τ).loc main_arg0)) (m ((c : Thread nD τ).loc main_arg1)) := by
  refine (dats m 0 c).arrAt_eq_of_covers 2 _ (by decide +kernel) fun t hf y => ?_
  blk_simp
  rw [after0_2]
  obtain ⟨b, eb, hb⟩ : ∃ b, b = (grid0.coords t 0).val ∧ b < 32 := ⟨_, rfl, (grid0.coords t 0).isLt⟩
  have i0 : win0_0.index t = ![b, 0] := by rw [eb]; exact idx_0 t
  have i2 : win0_2.index t = ![b, 0] := by rw [eb]; exact idx_2 t
  idx_vars y
  have e0 : ∀ (r : Fin 1024) (k : Fin 2048), iblk m c 0 t (ix2 r k) = (m ((c : Thread nD τ).loc main_arg0))
      (ix2 ⟨b * 1024 + r, by omega⟩ k) := by
    intro r k
    blk_ext [iblk, V, i0]
  have e1 : iblk m c 1 t = m ((c : Thread nD τ).loc main_arg1) := by
    funext j
    blk_ext! [iblk, V, idx_1 t]
  have e2 : ((View.whole main_v0).slice (win0_2.rect t)).emb (ix2 y0 y1)
      = (ix2 ⟨b * 1024 + y0, by omega⟩ y1 : S32768x3072.Idx) := by
    funext a
    apply Fin.ext
    fin_cases a
    · blk_simp [i2]
      rfl
    · blk_simp [i2]
      rfl
  rw [e2, e1, out_apply]
  simp only [e0]
  rfl

end Cert.Val

end
-- ==== Proof.Val.Claim.lean ====
/-
  The value projection's value claim: kernel and reference both end with the array `valArr` of the arguments.
-/
module

public import proofs.«01_k».proof.Defs
public import proofs.«01_k».proof.Proof.Gen.KernelValIdeal.Value
public import proofs.«01_k».proof.Proof.Gen.ReferenceValIdeal.Run
public import proofs.«01_k».proof.Proof.Gen.ReferenceValIdeal.Read
public import proofs.«01_k».proof.Proof.Val.Array

@[expose] public section

set_option maxRecDepth 16384

noncomputable section

namespace Cert.Val

open Idealize.ShloMosaic Idealize.SL.Sem Cert.ReferenceValIdeal Cert.ReferenceValIdeal.Read

/-- The projection's product, at an index. -/
theorem r_dot (A0 : S32768x2048.Idx → EReal) (A1 : S2048x3072.Idx → EReal) (r : Fin 32768) (e : Fin 3072) :
    val_main_v2 (F := Ideal) A0 A1 (ix2 r e) = ∑ k : Fin 2048, A0 (ix2 r k) * A1 (ix2 k e) := by
  pointwise [val_main_v2, val_main_v1, val_main_v0]

/-- The reference's result is `valArr`. -/
theorem ref_eq (A0 : S32768x2048.Idx → EReal) (A1 : S2048x3072.Idx → EReal) : val_main_v7 (F := Ideal) A0 A1 = valArr A0 A1 := by
  funext i
  idx_vars i
  pointwise [val_main_v7, val_main_v6]
  show _ = valAt (i1 : ℕ) (fun k : Fin 2048 => A0 (ix2 i0 k)) (fun k : Fin 2048 => A1 (ix2 k i1))
  unfold valAt
  by_cases h : (i1 : ℕ) < 2048
  · rw [dif_pos h, if_pos h]
    refine Eq.trans ?_ (r_dot A0 A1 i0 i1)
    pointwise [val_main_v3]
  · have e4 : val_main_v4 (F := Ideal) A0 A1 (ix2 i0 ⟨(i1 : ℕ) - 2048, by omega⟩) = ∑ k : Fin 2048, A0 (ix2 i0 k) * A1 (ix2 k i1) := by
      refine Eq.trans ?_ (r_dot A0 A1 i0 i1)
      unfold val_main_v4
      generalize val_main_v2 (F := Ideal) A0 A1 = q
      pointwise
      exact congrArg q (congrArg (ix2 _) (Fin.ext (by dsimp only; omega)))
    rw [dif_neg h, if_neg h]
    refine Eq.trans ?_ (congrArg (fun s : EReal => s * Ideal.logistic s) e4)
    generalize hq : val_main_v4 (F := Ideal) A0 A1 = q
    pointwise [val_main_v5, val_main_call0_v5, val_main_call0_v4, val_main_call0_v3, val_main_call0_v2, val_main_call0_v1,
      val_main_call0_v0, val_main_call0_cst, val_main_call0_cst_0, hq]
    rfl

/-- The reference's run changes no argument and leaves every counter at zero. -/
theorem frame_r : Cert.quiescent_ReferenceValIdeal (hReferenceValIdeal := Cert.ReferenceValIdeal.Gen.facts) := fun m ρ _ =>
  (θ_run Cert.ReferenceValIdeal.defs _ _).mono
    (fun r h => ⟨fun c => (h c).2, sem_eq_zero_of_no_sems (by decide) r.2⟩) (Cert.ReferenceValIdeal.Value.run (F := Ideal) m ρ)

/-- Kernel and reference end with equal results. -/
theorem algebraic : Cert.algebraic_KernelValIdeal_ReferenceValIdeal (hKernelValIdeal := Cert.KernelValIdeal.Gen.facts)
    (hReferenceValIdeal := Cert.ReferenceValIdeal.Gen.facts) := by
  intro m ρ m' ρ' _ hagree
  refine ⟨fun c => valArr (m ((c.tc : Thread _ _).loc Cert.KernelValIdeal.main_arg0)) (m ((c.tc : Thread _ _).loc Cert.KernelValIdeal.main_arg1)),
    (θ_run Cert.KernelValIdeal.defs _ _).mono (fun r h c => ?_) (Cert.KernelValIdeal.Value.run_blocks (F := Ideal) m ρ),
    (θ_run Cert.ReferenceValIdeal.defs _ _).mono (fun r h c => ?_) (Cert.ReferenceValIdeal.Value.run (F := Ideal) m' ρ')⟩
  · exact ⟨(h c).1.trans (final m c), (h c).2⟩
  · obtain ⟨a0, a1⟩ := hagree c
    refine ⟨(h c).1.trans ?_, (h c).2⟩
    rw [Cert.ReferenceValIdeal.Read.val_main_v7_eq, a0, a1]
    exact ref_eq _ _

end Cert.Val

end
-- ==== Proof.Mix.Array.lean ====
/-
  The mixing's result array as a function of its arguments: at row R and column C, the layer's input plus the batch's gain
  times row R of the gated sum of the two branches times column C of the output weights. `final` says that the kernel's
  run leaves exactly this array: each grid point writes 256 rows.
-/
module

public import proofs.«01_k».proof.Proof.Gen.KernelMixIdeal.Frame
public import Idealize.ShloMosaic.Lib.Pipeline.ValueKit
public import Idealize.ShloMosaic.Lib.Pointwise
public import Idealize.ShloMosaic.Lib.Pipeline.Covers

@[expose] public section

set_option maxRecDepth 16384

noncomputable section

namespace Cert.Mix

open Idealize.ShloMosaic Idealize.ShloMosaic.TcCoe Cert.KernelMixIdeal Cert.KernelMixIdeal.Gen Cert.KernelMixIdeal.Facts

/-- One element of the gated sum: each branch's row times its weights' column, times its gate. -/
def gated (a b : Fin 1024 → EReal) (ga gb : EReal) (wa wb : Fin 1024 → EReal) : EReal :=
  ga * (∑ k, a k * wa k) + gb * (∑ k, b k * wb k)

/-- One element of the result: the input plus the gain times the gated row times the output weights' column. -/
def mixAt (x g : EReal) (u w : Fin 2048 → EReal) : EReal := x + g * (∑ k, u k * w k)

/-- The mixing's result array. -/
def mixArr (A0 A1 : S32768x1024.Idx → EReal) (A2 : S32768x4096.Idx → EReal) (A3 : S32768x2048.Idx → EReal) (A4 : S8x6x2048.Idx → EReal)
    (A5 A6 : S1024x2048.Idx → EReal) (A7 : S2048x2048.Idx → EReal) : S32768x2048.Idx → EReal := fun i =>
  mixAt (A3 (ix2 ⟨i 0, (i 0).isLt⟩ ⟨i 1, (i 1).isLt⟩))
    (A4 (ix3 ⟨(i 0 : Nat) / 4096, by have : (i 0 : Nat) < 32768 := (i 0).isLt; omega⟩ 2 ⟨i 1, (i 1).isLt⟩))
    (fun k => gated (fun a => A0 (ix2 ⟨i 0, (i 0).isLt⟩ a)) (fun a => A1 (ix2 ⟨i 0, (i 0).isLt⟩ a))
      (A2 (ix2 ⟨i 0, (i 0).isLt⟩ ⟨k, by omega⟩)) (A2 (ix2 ⟨i 0, (i 0).isLt⟩ ⟨2048 + k, by omega⟩))
      (fun a => A5 (ix2 a k)) (fun a => A6 (ix2 a k)))
    (fun k => A7 (ix2 k ⟨i 1, (i 1).isLt⟩))

/-- What a grid point stores, at an index. -/
theorem pay_apply (a : Vec Ideal S256x1024 .bf16) (wa : Vec Ideal S1024x2048 .bf16) (b : Vec Ideal S256x1024 .bf16)
    (wb : Vec Ideal S1024x2048 .bf16) (ga gb : Vec Ideal S256x2048 .bf16) (w : Vec Ideal S2048x2048 .bf16)
    (x : Vec Ideal S256x2048 .f32) (g : Vec Ideal S1x1x2048 .f32) (r : Fin 256) (e : Fin 2048) :
    k0_pay1 a wa b wb ga gb w x g (ix2 r e) = mixAt (x (ix2 r e)) (g (ix3 0 0 e))
      (fun k => gated (fun j => a (ix2 r j)) (fun j => b (ix2 r j)) (ga (ix2 r k)) (gb (ix2 r k)) (fun j => wa (ix2 j k)) (fun j => wb (ix2 j k)))
      (fun k => w (ix2 k e)) := by
  pointwise [k0_pay1, mixAt, gated]

/-- What a grid point leaves in its block, at an index. -/
theorem out_apply (a b : Vec Ideal S256x1024 .bf16) (ga gb : Vec Ideal S256x2048 .bf16) (x : Vec Ideal S256x2048 .f32)
    (g : Vec Ideal S1x6x2048 .f32) (wa wb : Vec Ideal S1024x2048 .bf16) (w : Vec Ideal S2048x2048 .bf16)
    (r : Fin 256) (e : Fin 2048) :
    out0_9 a b ga gb x g wa wb w (ix2 r e) = mixAt (x (ix2 r e)) (g (ix3 0 2 e))
      (fun k => gated (fun j => a (ix2 r j)) (fun j => b (ix2 r j)) (ga (ix2 r k)) (gb (ix2 r k)) (fun j => wa (ix2 j k)) (fun j => wb (ix2 j k)))
      (fun k => w (ix2 k e)) := by
  have eg : View.ld g r0_4 (ix3 0 0 e) = g (ix3 0 2 e) := by pointwise
  frame_out
  rw [pay_apply, ← eg]

variable (m : (ℓ : Loc nD τ sig) → Buf (Elt Ideal) ℓ)

theorem idx_0 : ∀ t : Fin cfg0.N, win0_0.index t = ![(grid0.coords t 0).val, 0] := by decide +kernel
theorem idx_1 : ∀ t : Fin cfg0.N, win0_1.index t = ![(grid0.coords t 0).val, 0] := by decide +kernel
theorem idx_2 : ∀ t : Fin cfg0.N, win0_2.index t = ![(grid0.coords t 0).val, 0] := by decide +kernel
theorem idx_3 : ∀ t : Fin cfg0.N, win0_3.index t = ![(grid0.coords t 0).val, 1] := by decide +kernel
theorem idx_4 : ∀ t : Fin cfg0.N, win0_4.index t = ![(grid0.coords t 0).val, 0] := by decide +kernel
theorem idx_5 : ∀ t : Fin cfg0.N, win0_5.index t = ![(grid0.coords t 0).val / 16, 0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![(grid0.coords t 0).val, 0] := by decide +kernel

/-- The kernel's result array. -/
theorem final (c : Dev nD) :
    (dats m 0 c).arrAt 9 cfg0.N = mixArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  obtain ⟨b, eb, hb⟩ : ∃ b, b = (grid0.coords t 0).val ∧ b < 128 := ⟨_, rfl, (grid0.coords t 0).isLt⟩
  have i0 : win0_0.index t = ![b, 0] := by rw [eb]; exact idx_0 t
  have i1 : win0_1.index t = ![b, 0] := by rw [eb]; exact idx_1 t
  have i2 : win0_2.index t = ![b, 0] := by rw [eb]; exact idx_2 t
  have i3 : win0_3.index t = ![b, 1] := by rw [eb]; exact idx_3 t
  have i4 : win0_4.index t = ![b, 0] := by rw [eb]; exact idx_4 t
  have i5 : win0_5.index t = ![b / 16, 0, 0] := by rw [eb]; exact idx_5 t
  have i9 : win0_9.index t = ![b, 0] := by rw [eb]; exact idx_9 t
  idx_vars y
  have e0 : ∀ (r : Fin 256) (k : Fin 1024), iblk m c 0 t (ix2 r k) = (m ((c : Thread nD τ).loc main_arg0))
      (ix2 ⟨b * 256 + r, by omega⟩ k) := by
    intro r k
    blk_ext [iblk, V, i0]
  have e1 : ∀ (r : Fin 256) (k : Fin 1024), iblk m c 1 t (ix2 r k) = (m ((c : Thread nD τ).loc main_arg1))
      (ix2 ⟨b * 256 + r, by omega⟩ k) := by
    intro r k
    blk_ext [iblk, V, i1]
  have e2 : ∀ (r : Fin 256) (k : Fin 2048), iblk m c 2 t (ix2 r k) = (m ((c : Thread nD τ).loc main_arg2))
      (ix2 ⟨b * 256 + r, by omega⟩ ⟨k, by omega⟩) := by
    intro r k
    blk_ext [iblk, V, i2]
  have e3 : ∀ (r : Fin 256) (k : Fin 2048), iblk m c 3 t (ix2 r k) = (m ((c : Thread nD τ).loc main_arg2))
      (ix2 ⟨b * 256 + r, by omega⟩ ⟨2048 + k, by omega⟩) := by
    intro r k
    blk_ext [iblk, V, i3]
  have e4 : ∀ (r : Fin 256) (k : Fin 2048), iblk m c 4 t (ix2 r k) = (m ((c : Thread nD τ).loc main_arg3))
      (ix2 ⟨b * 256 + r, by omega⟩ k) := by
    intro r k
    blk_ext [iblk, V, i4]
  have e5 : ∀ k : Fin 2048, iblk m c 5 t (ix3 0 2 k) = (m ((c : Thread nD τ).loc main_arg4)) (ix3 ⟨b / 16, by omega⟩ 2 k) := by
    intro k
    blk_ext [iblk, V, i5]
  have e6 : iblk m c 6 t = m ((c : Thread nD τ).loc main_arg5) := by
    funext j
    blk_ext! [iblk, V, idx_6 t]
  have e7 : iblk m c 7 t = m ((c : Thread nD τ).loc main_arg6) := by
    funext j
    blk_ext! [iblk, V, idx_7 t]
  have e8 : iblk m c 8 t = m ((c : Thread nD τ).loc main_arg7) := by
    funext j
    blk_ext! [iblk, V, idx_8 t]
  have e9 : ((View.whole main_v0).slice (win0_9.rect t)).emb (ix2 y0 y1)
      = (ix2 ⟨b * 256 + y0, by omega⟩ y1 : S32768x2048.Idx) := by
    funext a
    apply Fin.ext
    fin_cases a
    · blk_simp [i9]
      rfl
    · blk_simp [i9]
      rfl
  have hb16 : (b * 256 + (y0 : ℕ)) / 4096 = b / 16 := by omega
  rw [e9, e6, e7, e8, out_apply]
  simp only [e0, e1, e2, e3, e4, e5]
  unfold mixArr
  simp only [ix2_0, ix2_1, hb16]

end Cert.Mix

end
-- ==== Proof.Mix.Claim.lean ====
/-
  The mixing's value claim: kernel and reference both end with the array `mixArr` of the arguments.
-/
module

public import proofs.«01_k».proof.Defs
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Mix.Array

@[expose] public section

set_option maxRecDepth 16384

noncomputable section

namespace Cert.Mix

open Idealize.ShloMosaic Idealize.SL.Sem Cert.ReferenceMixIdeal Cert.ReferenceMixIdeal.Read

variable (A0 A1 : S32768x1024.Idx → EReal) (A2 : S32768x4096.Idx → EReal) (A3 : S32768x2048.Idx → EReal)
    (A4 : S8x6x2048.Idx → EReal) (A5 A6 : S1024x2048.Idx → EReal) (A7 : S2048x2048.Idx → EReal)

/-- The gated sum of the branches, at an index. -/
theorem r_gated (b : Fin 8) (r : Fin 4096) (k : Fin 2048) :
    val_main_v15 (F := Ideal) A0 A1 A2 A5 A6 (ix3 b r k)
      = gated (fun a => A0 (ix2 ⟨b * 4096 + r, by omega⟩ a)) (fun a => A1 (ix2 ⟨b * 4096 + r, by omega⟩ a))
          (A2 (ix2 ⟨b * 4096 + r, by omega⟩ ⟨k, by omega⟩)) (A2 (ix2 ⟨b * 4096 + r, by omega⟩ ⟨2048 + k, by omega⟩))
          (fun a => A5 (ix2 a k)) (fun a => A6 (ix2 a k)) := by
  pointwise [val_main_v15, val_main_v14, val_main_v13, val_main_v12, val_main_v11, val_main_v10, val_main_v9, val_main_v8, val_main_v7,
    val_main_v6, val_main_v5, val_main_v4, val_main_v3, val_main_v2, val_main_v1, gated]

/-- The result before it is laid out in rows, at an index. -/
theorem r_out (b : Fin 8) (r : Fin 4096) (e : Fin 2048) :
    val_main_v23 (F := Ideal) A0 A1 A2 A3 A4 A5 A6 A7 (ix3 b r e)
      = mixAt (A3 (ix2 ⟨b * 4096 + r, by omega⟩ e)) (A4 (ix3 b 2 e))
          (fun k => val_main_v15 (F := Ideal) A0 A1 A2 A5 A6 (ix3 b r k)) (fun k => A7 (ix2 k e)) := by
  generalize hq : val_main_v15 (F := Ideal) A0 A1 A2 A5 A6 = q
  unfold val_main_v23 val_main_v22 val_main_v20
  rw [hq]
  pointwise [val_main_v21, val_main_v19, val_main_v18, val_main_v17, val_main_v16, val_main_v0, mixAt]

/-- The reference's result is `mixArr`. -/
theorem ref_eq : val_main_v24 (F := Ideal) A0 A1 A2 A3 A4 A5 A6 A7 = mixArr A0 A1 A2 A3 A4 A5 A6 A7 := by
  funext i
  idx_vars i
  have hR : (i0 : ℕ) / 4096 * 4096 + (i0 : ℕ) % 4096 = i0 := by omega
  have e : val_main_v24 (F := Ideal) A0 A1 A2 A3 A4 A5 A6 A7 (ix2 i0 i1)
      = val_main_v23 (F := Ideal) A0 A1 A2 A3 A4 A5 A6 A7 (ix3 ⟨(i0 : ℕ) / 4096, by omega⟩ ⟨(i0 : ℕ) % 4096, by omega⟩ i1) := by
    unfold val_main_v24
    generalize val_main_v23 (F := Ideal) A0 A1 A2 A3 A4 A5 A6 A7 = q
    pointwise
  rw [e, r_out]
  simp only [r_gated, hR]
  rfl

/-- The reference's run changes no argument and leaves every counter at zero. -/
theorem frame_r : Cert.quiescent_ReferenceMixIdeal (hReferenceMixIdeal := Cert.ReferenceMixIdeal.Gen.facts) := fun m ρ _ =>
  (θ_run Cert.ReferenceMixIdeal.defs _ _).mono
    (fun r h => ⟨fun c => (h c).2, sem_eq_zero_of_no_sems (by decide) r.2⟩) (Cert.ReferenceMixIdeal.Value.run (F := Ideal) m ρ)

/-- Kernel and reference end with equal results. -/
theorem algebraic : Cert.algebraic_KernelMixIdeal_ReferenceMixIdeal (hKernelMixIdeal := Cert.KernelMixIdeal.Gen.facts)
    (hReferenceMixIdeal := Cert.ReferenceMixIdeal.Gen.facts) := by
  intro m ρ m' ρ' _ hagree
  refine ⟨fun c => mixArr (m ((c.tc : Thread _ _).loc Cert.KernelMixIdeal.main_arg0)) (m ((c.tc : Thread _ _).loc Cert.KernelMixIdeal.main_arg1))
      (m ((c.tc : Thread _ _).loc Cert.KernelMixIdeal.main_arg2)) (m ((c.tc : Thread _ _).loc Cert.KernelMixIdeal.main_arg3))
      (m ((c.tc : Thread _ _).loc Cert.KernelMixIdeal.main_arg4)) (m ((c.tc : Thread _ _).loc Cert.KernelMixIdeal.main_arg5))
      (m ((c.tc : Thread _ _).loc Cert.KernelMixIdeal.main_arg6)) (m ((c.tc : Thread _ _).loc Cert.KernelMixIdeal.main_arg7)),
    (θ_run Cert.KernelMixIdeal.defs _ _).mono (fun r h c => ?_) (Cert.KernelMixIdeal.Value.run_blocks (F := Ideal) m ρ),
    (θ_run Cert.ReferenceMixIdeal.defs _ _).mono (fun r h c => ?_) (Cert.ReferenceMixIdeal.Value.run (F := Ideal) m' ρ')⟩
  · exact ⟨(h c).1.trans (final m c), (h c).2⟩
  · obtain ⟨a0, a1, a2, a3, a4, a5, a6, a7⟩ := hagree c
    refine ⟨(h c).1.trans ?_, (h c).2⟩
    rw [Cert.ReferenceMixIdeal.Read.val_main_v24_eq, a0, a1, a2, a3, a4, a5, a6, a7]
    exact ref_eq _ _ _ _ _ _ _ _

end Cert.Mix

end
-- ==== Proof.FfnI.Names.lean ====
/- The names under which the feed-forward kernel's body is read: the three slots of each weight buffer, the slots'
   semaphores, the eleven column (row) blocks of each weight array, and the equations saying that the slices the body
   takes are these. -/
module

public import proofs.«01_k».proof.Defs
public import proofs.«01_k».proof.Proof.Gen.KernelFfnIdeal.Launch
public import proofs.«01_k».proof.Proof.Gen.KernelFfnIdeal.Skeleton
public import proofs.«01_k».proof.Proof.Gen.KernelFfnIdeal.Points
public import Idealize.ShloMosaic.Lib.Pipeline.FrameBody
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.FfnI

open Cert.KernelFfnIdeal Cert.KernelFfnIdeal.Gen
open Idealize.ShloMosaic Idealize.ShloMosaic.TcCoe Idealize.ShloMosaic.Tactic

/-- The slot of block `r` (modulo 3) at grid point `i`: eleven blocks a point, in a ring of three slots. -/
def sl (i : grid0.Coords) (r : Fin 3) : Fin 3 := ⟨(11 * (i 0).val + r.val) % 3, Nat.mod_lt _ (by decide)⟩

abbrev wgM : Memref sig .tc .hbm S2048x5632 .bf16 := Memref.whole main_arg3
abbrev wuM : Memref sig .tc .hbm S2048x5632 .bf16 := Memref.whole main_arg4
abbrev wdM : Memref sig .tc .hbm S5632x2048 .bf16 := Memref.whole main_arg7
abbrev hM : Memref sig .tc .vmem S544x2048 .bf16 := Memref.whole cc0_scratch0
abbrev gM : Memref sig .tc .vmem S544x512 .f32 := Memref.whole cc0_scratch1
abbrev accM : Memref sig .tc .vmem S512x2048 .f32 := Memref.whole cc0_scratch2
abbrev wgR : Memref sig .tc .vmem S3x2048x512 .bf16 := Memref.whole cc0_scratch3
abbrev wuR : Memref sig .tc .vmem S3x2048x512 .bf16 := Memref.whole cc0_scratch4
abbrev wdR : Memref sig .tc .vmem S3x512x2048 .bf16 := Memref.whole cc0_scratch5

abbrev slotOff (s : Fin 3) : Fin 3 → Nat := ![s.val, 0, 0]
abbrev slotBox (s : Fin 3) (q : Nat) : Fin 3 → Nat := ![s.val, 0, q]
abbrev semOff (r s : Fin 3) : Fin 2 → Nat := ![r.val, s.val]
abbrev colOff (j : Fin 11) : Fin 2 → Nat := ![0, 512 * j.val]
abbrev rowOff (j : Fin 11) : Fin 2 → Nat := ![512 * j.val, 0]

theorem slotOff_inb (s : Fin 3) : ∀ a, slotOff s a + S1x2048x512.size a ≤ S3x2048x512.size a := by
  have := s.isLt; intro a; fin_cases a
  · show s.val + 1 ≤ 3; omega
  · show 0 + 2048 ≤ 2048; omega
  · show 0 + 512 ≤ 512; omega
theorem slotOff_inb' (s : Fin 3) : ∀ a, slotOff s a + S1x512x2048.size a ≤ S3x512x2048.size a := by
  have := s.isLt; intro a; fin_cases a
  · show s.val + 1 ≤ 3; omega
  · show 0 + 512 ≤ 512; omega
  · show 0 + 2048 ≤ 2048; omega
theorem semOff_inb (r s : Fin 3) : ∀ a, semOff r s a + S1x1.size a ≤ S3x3.size a := by
  have := s.isLt; have := r.isLt; intro a; fin_cases a
  · show r.val + 1 ≤ 3; omega
  · show s.val + 1 ≤ 3; omega
theorem colOff_inb (j : Fin 11) : ∀ a, colOff j a + S2048x512.size a ≤ S2048x5632.size a := by
  have := j.isLt; intro a; fin_cases a
  · show 0 + 2048 ≤ 2048; omega
  · show 512 * j.val + 512 ≤ 5632; omega
theorem rowOff_inb (j : Fin 11) : ∀ a, rowOff j a + S512x2048.size a ≤ S5632x2048.size a := by
  have := j.isLt; intro a; fin_cases a
  · show 512 * j.val + 512 ≤ 5632; omega
  · show 0 + 2048 ≤ 2048; omega

/-- Column block `j` of the gate weight, of the up weight, and row block `j` of the down weight. -/
def wgB (j : Fin 11) : Memref sig .tc .hbm S2048x512 .bf16 := wgM.slice (Rect.unit (s := S2048x5632) (colOff j) S2048x512.size (colOff_inb j)) (fun _ => rfl)
def wuB (j : Fin 11) : Memref sig .tc .hbm S2048x512 .bf16 := wuM.slice (Rect.unit (s := S2048x5632) (colOff j) S2048x512.size (colOff_inb j)) (fun _ => rfl)
def wdB (j : Fin 11) : Memref sig .tc .hbm S512x2048 .bf16 := wdM.slice (Rect.unit (s := S5632x2048) (rowOff j) S512x2048.size (rowOff_inb j)) (fun _ => rfl)
/-- Slot `s` of each weight's buffer. -/
def wgS (s : Fin 3) : Memref sig .tc .vmem S2048x512 .bf16 :=
  (wgR.slice (Rect.unit (s := S3x2048x512) (slotOff s) S1x2048x512.size (slotOff_inb s)) (fun _ => rfl)).squeeze S2048x512 squeezes_S1x2048x512_S2048x512
def wuS (s : Fin 3) : Memref sig .tc .vmem S2048x512 .bf16 :=
  (wuR.slice (Rect.unit (s := S3x2048x512) (slotOff s) S1x2048x512.size (slotOff_inb s)) (fun _ => rfl)).squeeze S2048x512 squeezes_S1x2048x512_S2048x512
def wdS (s : Fin 3) : Memref sig .tc .vmem S512x2048 .bf16 :=
  (wdR.slice (Rect.unit (s := S3x512x2048) (slotOff s) S1x512x2048.size (slotOff_inb' s)) (fun _ => rfl)).squeeze S512x2048 squeezes_S1x512x2048_S512x2048
/-- The semaphore of row `r` (gate, up, down) and slot `s`. -/
def csm (r s : Fin 3) : DmaSems sig S_ :=
  (cc0_scratch6.slice (Rect.unit (s := S3x3) (semOff r s) S1x1.size (semOff_inb r s))).squeeze S_ squeezes_S1x1_S_

instance (s : Fin 3) : ClosedOff (slotOff s) := ⟨slotOff s, rfl⟩
instance (j : Fin 11) : ClosedOff (colOff j) := ⟨colOff j, rfl⟩
instance (j : Fin 11) : ClosedOff (rowOff j) := ⟨rowOff j, rfl⟩

/-! The offsets the body computes, at every grid point. -/

theorem off1_eq : ∀ (i : grid0.Coords) (r : Fin 2), k0_off1 i (BitVec.ofNat 32 (0 + r.val)) = semOff 0 (sl i ⟨(0 + r.val) % 3, Nat.mod_lt _ (by decide)⟩) := by decide +kernel
theorem off3_eq : ∀ (i : grid0.Coords) (r : Fin 2), k0_off3 i (BitVec.ofNat 32 (0 + r.val)) = semOff 1 (sl i ⟨(0 + r.val) % 3, Nat.mod_lt _ (by decide)⟩) := by decide +kernel
theorem off4_eq : ∀ (i : grid0.Coords) (r : Fin 2), k0_off4 i (BitVec.ofNat 32 (0 + r.val)) = semOff 2 (sl i ⟨(0 + r.val) % 3, Nat.mod_lt _ (by decide)⟩) := by decide +kernel
theorem off2_eq : ∀ (i : grid0.Coords) (r : Fin 2), k0_off2 i (BitVec.ofNat 32 (0 + r.val)) = slotOff (sl i ⟨(0 + r.val) % 3, Nat.mod_lt _ (by decide)⟩) := by decide +kernel
theorem off5_eq : ∀ (i : grid0.Coords) (r : Fin 2), k0_off5 i (BitVec.ofNat 32 (0 + r.val)) = slotOff (sl i ⟨(0 + r.val) % 3, Nat.mod_lt _ (by decide)⟩) := by decide +kernel
theorem off6_eq : ∀ (i : grid0.Coords) (r : Fin 11), k0_off6 i (BitVec.ofNat 32 (0 + r.val)) = slotOff (sl i ⟨(0 + r.val) % 3, Nat.mod_lt _ (by decide)⟩) := by decide +kernel
theorem off7_eq : ∀ (i : grid0.Coords) (r : Fin 10), k0_off7 i (BitVec.ofNat 32 (1 + r.val)) = semOff 0 (sl i ⟨(1 + r.val) % 3, Nat.mod_lt _ (by decide)⟩) := by decide +kernel
theorem off9_eq : ∀ (i : grid0.Coords) (r : Fin 10), k0_off9 i (BitVec.ofNat 32 (1 + r.val)) = semOff 1 (sl i ⟨(1 + r.val) % 3, Nat.mod_lt _ (by decide)⟩) := by decide +kernel
theorem off10_eq : ∀ (i : grid0.Coords) (r : Fin 10), k0_off10 i (BitVec.ofNat 32 (1 + r.val)) = semOff 2 (sl i ⟨(1 + r.val) % 3, Nat.mod_lt _ (by decide)⟩) := by decide +kernel
theorem off8_eq : ∀ (i : grid0.Coords) (r : Fin 10), k0_off8 i (BitVec.ofNat 32 (1 + r.val)) = slotOff (sl i ⟨(1 + r.val) % 3, Nat.mod_lt _ (by decide)⟩) := by decide +kernel
theorem off11_eq : ∀ (i : grid0.Coords) (r : Fin 10), k0_off11 i (BitVec.ofNat 32 (1 + r.val)) = slotOff (sl i ⟨(1 + r.val) % 3, Nat.mod_lt _ (by decide)⟩) := by decide +kernel
theorem off12_eq : ∀ (i : grid0.Coords) (r : Fin 11), k0_off12 i (BitVec.ofNat 32 (0 + r.val)) = slotBox (sl i ⟨(0 + r.val) % 3, Nat.mod_lt _ (by decide)⟩) 0 := by decide +kernel
theorem off13_eq : ∀ (i : grid0.Coords) (r : Fin 11), k0_off13 i (BitVec.ofNat 32 (0 + r.val)) = slotBox (sl i ⟨(0 + r.val) % 3, Nat.mod_lt _ (by decide)⟩) 512 := by decide +kernel
theorem off14_eq : ∀ (i : grid0.Coords) (r : Fin 11), k0_off14 i (BitVec.ofNat 32 (0 + r.val)) = slotBox (sl i ⟨(0 + r.val) % 3, Nat.mod_lt _ (by decide)⟩) 1024 := by decide +kernel
theorem off15_eq : ∀ (i : grid0.Coords) (r : Fin 11), k0_off15 i (BitVec.ofNat 32 (0 + r.val)) = slotBox (sl i ⟨(0 + r.val) % 3, Nat.mod_lt _ (by decide)⟩) 1536 := by decide +kernel
theorem off16_eq : ∀ i : grid0.Coords, k0_off16 i = semOff 0 (sl i 2) := by decide +kernel
theorem off17_eq : ∀ i : grid0.Coords, k0_off17 i = slotOff (sl i 2) := by decide +kernel
theorem off18_eq : ∀ i : grid0.Coords, k0_off18 i = semOff 1 (sl i 2) := by decide +kernel
theorem off19_eq : ∀ i : grid0.Coords, k0_off19 i = semOff 2 (sl i 2) := by decide +kernel
theorem off20_eq : ∀ i : grid0.Coords, k0_off20 i = slotOff (sl i 2) := by decide +kernel
theorem off21_eq : ∀ i : grid0.Coords, k0_off21 i = semOff 0 (sl i 2) := by decide +kernel
theorem off22_eq : ∀ i : grid0.Coords, k0_off22 i = slotOff (sl i 2) := by decide +kernel
theorem off23_eq : ∀ i : grid0.Coords, k0_off23 i = semOff 1 (sl i 2) := by decide +kernel
theorem off24_eq : ∀ i : grid0.Coords, k0_off24 i = semOff 2 (sl i 2) := by decide +kernel
theorem off25_eq : ∀ i : grid0.Coords, k0_off25 i = slotOff (sl i 2) := by decide +kernel
theorem off26_eq : ∀ i : grid0.Coords, k0_off26 i = semOff 0 (sl i 0) := by decide +kernel
theorem off27_eq : ∀ i : grid0.Coords, k0_off27 i = slotOff (sl i 0) := by decide +kernel
theorem off28_eq : ∀ i : grid0.Coords, k0_off28 i = semOff 1 (sl i 0) := by decide +kernel
theorem off29_eq : ∀ i : grid0.Coords, k0_off29 i = semOff 2 (sl i 0) := by decide +kernel
theorem off30_eq : ∀ i : grid0.Coords, k0_off30 i = slotOff (sl i 0) := by decide +kernel

theorem csm_congr {off : Fin 2 → Nat} {r s : Fin 3} (e : off = semOff r s) (hh) :
    (cc0_scratch6.slice (Rect.unit (s := S3x3) off S1x1.size hh)).squeeze S_ squeezes_S1x1_S_ = csm r s :=
  congrArg (fun A : DmaSems sig S1x1 => A.squeeze S_ squeezes_S1x1_S_) (SemArray.slice_unit_congr _ e _ _)
theorem wgS_congr {off : Fin 3 → Nat} {s : Fin 3} (e : off = slotOff s) (hh hs) :
    (wgR.slice (Rect.unit (s := S3x2048x512) off S1x2048x512.size hh) hs).squeeze S2048x512 squeezes_S1x2048x512_S2048x512 = wgS s :=
  congrArg (fun M : Memref sig .tc .vmem S1x2048x512 .bf16 => M.squeeze S2048x512 squeezes_S1x2048x512_S2048x512) (Memref.slice_unit_congr _ e _ _ _ _)
theorem wuS_congr {off : Fin 3 → Nat} {s : Fin 3} (e : off = slotOff s) (hh hs) :
    (wuR.slice (Rect.unit (s := S3x2048x512) off S1x2048x512.size hh) hs).squeeze S2048x512 squeezes_S1x2048x512_S2048x512 = wuS s :=
  congrArg (fun M : Memref sig .tc .vmem S1x2048x512 .bf16 => M.squeeze S2048x512 squeezes_S1x2048x512_S2048x512) (Memref.slice_unit_congr _ e _ _ _ _)
theorem wdS_congr {off : Fin 3 → Nat} {s : Fin 3} (e : off = slotOff s) (hh hs) :
    (wdR.slice (Rect.unit (s := S3x512x2048) off S1x512x2048.size hh) hs).squeeze S512x2048 squeezes_S1x512x2048_S512x2048 = wdS s :=
  congrArg (fun M : Memref sig .tc .vmem S1x512x2048 .bf16 => M.squeeze S512x2048 squeezes_S1x512x2048_S512x2048) (Memref.slice_unit_congr _ e _ _ _ _)
theorem wgB_congr {off : Fin 2 → Nat} {j : Fin 11} (e : off = colOff j) (hh hs) :
    wgM.slice (Rect.unit (s := S2048x5632) off S2048x512.size hh) hs = wgB j := Memref.slice_unit_congr _ e _ _ _ (fun _ => rfl)
theorem wuB_congr {off : Fin 2 → Nat} {j : Fin 11} (e : off = colOff j) (hh hs) :
    wuM.slice (Rect.unit (s := S2048x5632) off S2048x512.size hh) hs = wuB j := Memref.slice_unit_congr _ e _ _ _ (fun _ => rfl)
theorem wdB_congr {off : Fin 2 → Nat} {j : Fin 11} (e : off = rowOff j) (hh hs) :
    wdM.slice (Rect.unit (s := S5632x2048) off S512x2048.size hh) hs = wdB j := Memref.slice_unit_congr _ e _ _ _ (fun _ => rfl)

/-! The slices the body takes are the names above. -/
section Canon
variable (i : grid0.Coords)

@[sl_canon] theorem sem1_0 (hh) : (cc0_scratch6.slice (Rect.unit (s := S3x3) (k0_off1 i 0#32) S1x1.size hh)).squeeze S_ squeezes_S1x1_S_ = csm 0 (sl i 0) := csm_congr (off1_eq i 0) _
@[sl_canon] theorem sem3_0 (hh) : (cc0_scratch6.slice (Rect.unit (s := S3x3) (k0_off3 i 0#32) S1x1.size hh)).squeeze S_ squeezes_S1x1_S_ = csm 1 (sl i 0) := csm_congr (off3_eq i 0) _
@[sl_canon] theorem sem4_0 (hh) : (cc0_scratch6.slice (Rect.unit (s := S3x3) (k0_off4 i 0#32) S1x1.size hh)).squeeze S_ squeezes_S1x1_S_ = csm 2 (sl i 0) := csm_congr (off4_eq i 0) _
@[sl_canon] theorem wg2_0 (hh hs) : (wgR.slice (Rect.unit (s := S3x2048x512) (k0_off2 i 0#32) S1x2048x512.size hh) hs).squeeze S2048x512 squeezes_S1x2048x512_S2048x512 = wgS (sl i 0) := wgS_congr (off2_eq i 0) _ _
@[sl_canon] theorem wu2_0 (hh hs) : (wuR.slice (Rect.unit (s := S3x2048x512) (k0_off2 i 0#32) S1x2048x512.size hh) hs).squeeze S2048x512 squeezes_S1x2048x512_S2048x512 = wuS (sl i 0) := wuS_congr (off2_eq i 0) _ _
@[sl_canon] theorem wd5_0 (hh hs) : (wdR.slice (Rect.unit (s := S3x512x2048) (k0_off5 i 0#32) S1x512x2048.size hh) hs).squeeze S512x2048 squeezes_S1x512x2048_S512x2048 = wdS (sl i 0) := wdS_congr (off5_eq i 0) _ _
@[sl_canon] theorem sem1_1 (hh) : (cc0_scratch6.slice (Rect.unit (s := S3x3) (k0_off1 i 1#32) S1x1.size hh)).squeeze S_ squeezes_S1x1_S_ = csm 0 (sl i 1) := csm_congr (off1_eq i 1) _
@[sl_canon] theorem sem3_1 (hh) : (cc0_scratch6.slice (Rect.unit (s := S3x3) (k0_off3 i 1#32) S1x1.size hh)).squeeze S_ squeezes_S1x1_S_ = csm 1 (sl i 1) := csm_congr (off3_eq i 1) _
@[sl_canon] theorem sem4_1 (hh) : (cc0_scratch6.slice (Rect.unit (s := S3x3) (k0_off4 i 1#32) S1x1.size hh)).squeeze S_ squeezes_S1x1_S_ = csm 2 (sl i 1) := csm_congr (off4_eq i 1) _
@[sl_canon] theorem wg2_1 (hh hs) : (wgR.slice (Rect.unit (s := S3x2048x512) (k0_off2 i 1#32) S1x2048x512.size hh) hs).squeeze S2048x512 squeezes_S1x2048x512_S2048x512 = wgS (sl i 1) := wgS_congr (off2_eq i 1) _ _
@[sl_canon] theorem wu2_1 (hh hs) : (wuR.slice (Rect.unit (s := S3x2048x512) (k0_off2 i 1#32) S1x2048x512.size hh) hs).squeeze S2048x512 squeezes_S1x2048x512_S2048x512 = wuS (sl i 1) := wuS_congr (off2_eq i 1) _ _
@[sl_canon] theorem wd5_1 (hh hs) : (wdR.slice (Rect.unit (s := S3x512x2048) (k0_off5 i 1#32) S1x512x2048.size hh) hs).squeeze S512x2048 squeezes_S1x512x2048_S512x2048 = wdS (sl i 1) := wdS_congr (off5_eq i 1) _ _
@[sl_canon] theorem sem7_1 (hh) : (cc0_scratch6.slice (Rect.unit (s := S3x3) (k0_off7 i 1#32) S1x1.size hh)).squeeze S_ squeezes_S1x1_S_ = csm 0 (sl i 1) := csm_congr (off7_eq i 0) _
@[sl_canon] theorem sem9_1 (hh) : (cc0_scratch6.slice (Rect.unit (s := S3x3) (k0_off9 i 1#32) S1x1.size hh)).squeeze S_ squeezes_S1x1_S_ = csm 1 (sl i 1) := csm_congr (off9_eq i 0) _
@[sl_canon] theorem sem10_1 (hh) : (cc0_scratch6.slice (Rect.unit (s := S3x3) (k0_off10 i 1#32) S1x1.size hh)).squeeze S_ squeezes_S1x1_S_ = csm 2 (sl i 1) := csm_congr (off10_eq i 0) _
@[sl_canon] theorem wg8_1 (hh hs) : (wgR.slice (Rect.unit (s := S3x2048x512) (k0_off8 i 1#32) S1x2048x512.size hh) hs).squeeze S2048x512 squeezes_S1x2048x512_S2048x512 = wgS (sl i 1) := wgS_congr (off8_eq i 0) _ _
@[sl_canon] theorem wu8_1 (hh hs) : (wuR.slice (Rect.unit (s := S3x2048x512) (k0_off8 i 1#32) S1x2048x512.size hh) hs).squeeze S2048x512 squeezes_S1x2048x512_S2048x512 = wuS (sl i 1) := wuS_congr (off8_eq i 0) _ _
@[sl_canon] theorem wd11_1 (hh hs) : (wdR.slice (Rect.unit (s := S3x512x2048) (k0_off11 i 1#32) S1x512x2048.size hh) hs).squeeze S512x2048 squeezes_S1x512x2048_S512x2048 = wdS (sl i 1) := wdS_congr (off11_eq i 0) _ _
@[sl_canon] theorem sem7_2 (hh) : (cc0_scratch6.slice (Rect.unit (s := S3x3) (k0_off7 i 2#32) S1x1.size hh)).squeeze S_ squeezes_S1x1_S_ = csm 0 (sl i 2) := csm_congr (off7_eq i 1) _
@[sl_canon] theorem sem9_2 (hh) : (cc0_scratch6.slice (Rect.unit (s := S3x3) (k0_off9 i 2#32) S1x1.size hh)).squeeze S_ squeezes_S1x1_S_ = csm 1 (sl i 2) := csm_congr (off9_eq i 1) _
@[sl_canon] theorem sem10_2 (hh) : (cc0_scratch6.slice (Rect.unit (s := S3x3) (k0_off10 i 2#32) S1x1.size hh)).squeeze S_ squeezes_S1x1_S_ = csm 2 (sl i 2) := csm_congr (off10_eq i 1) _
@[sl_canon] theorem wg8_2 (hh hs) : (wgR.slice (Rect.unit (s := S3x2048x512) (k0_off8 i 2#32) S1x2048x512.size hh) hs).squeeze S2048x512 squeezes_S1x2048x512_S2048x512 = wgS (sl i 2) := wgS_congr (off8_eq i 1) _ _
@[sl_canon] theorem wu8_2 (hh hs) : (wuR.slice (Rect.unit (s := S3x2048x512) (k0_off8 i 2#32) S1x2048x512.size hh) hs).squeeze S2048x512 squeezes_S1x2048x512_S2048x512 = wuS (sl i 2) := wuS_congr (off8_eq i 1) _ _
@[sl_canon] theorem wd11_2 (hh hs) : (wdR.slice (Rect.unit (s := S3x512x2048) (k0_off11 i 2#32) S1x512x2048.size hh) hs).squeeze S512x2048 squeezes_S1x512x2048_S512x2048 = wdS (sl i 2) := wdS_congr (off11_eq i 1) _ _
@[sl_canon] theorem sem7_3 (hh) : (cc0_scratch6.slice (Rect.unit (s := S3x3) (k0_off7 i 3#32) S1x1.size hh)).squeeze S_ squeezes_S1x1_S_ = csm 0 (sl i 0) := csm_congr (off7_eq i 2) _
@[sl_canon] theorem sem9_3 (hh) : (cc0_scratch6.slice (Rect.unit (s := S3x3) (k0_off9 i 3#32) S1x1.size hh)).squeeze S_ squeezes_S1x1_S_ = csm 1 (sl i 0) := csm_congr (off9_eq i 2) _
@[sl_canon] theorem sem10_3 (hh) : (cc0_scratch6.slice (Rect.unit (s := S3x3) (k0_off10 i 3#32) S1x1.size hh)).squeeze S_ squeezes_S1x1_S_ = csm 2 (sl i 0) := csm_congr (off10_eq i 2) _
@[sl_canon] theorem wg8_3 (hh hs) : (wgR.slice (Rect.unit (s := S3x2048x512) (k0_off8 i 3#32) S1x2048x512.size hh) hs).squeeze S2048x512 squeezes_S1x2048x512_S2048x512 = wgS (sl i 0) := wgS_congr (off8_eq i 2) _ _
@[sl_canon] theorem wu8_3 (hh hs) : (wuR.slice (Rect.unit (s := S3x2048x512) (k0_off8 i 3#32) S1x2048x512.size hh) hs).squeeze S2048x512 squeezes_S1x2048x512_S2048x512 = wuS (sl i 0) := wuS_congr (off8_eq i 2) _ _
@[sl_canon] theorem wd11_3 (hh hs) : (wdR.slice (Rect.unit (s := S3x512x2048) (k0_off11 i 3#32) S1x512x2048.size hh) hs).squeeze S512x2048 squeezes_S1x512x2048_S512x2048 = wdS (sl i 0) := wdS_congr (off11_eq i 2) _ _
@[sl_canon] theorem sem7_4 (hh) : (cc0_scratch6.slice (Rect.unit (s := S3x3) (k0_off7 i 4#32) S1x1.size hh)).squeeze S_ squeezes_S1x1_S_ = csm 0 (sl i 1) := csm_congr (off7_eq i 3) _
@[sl_canon] theorem sem9_4 (hh) : (cc0_scratch6.slice (Rect.unit (s := S3x3) (k0_off9 i 4#32) S1x1.size hh)).squeeze S_ squeezes_S1x1_S_ = csm 1 (sl i 1) := csm_congr (off9_eq i 3) _
@[sl_canon] theorem sem10_4 (hh) : (cc0_scratch6.slice (Rect.unit (s := S3x3) (k0_off10 i 4#32) S1x1.size hh)).squeeze S_ squeezes_S1x1_S_ = csm 2 (sl i 1) := csm_congr (off10_eq i 3) _
@[sl_canon] theorem wg8_4 (hh hs) : (wgR.slice (Rect.unit (s := S3x2048x512) (k0_off8 i 4#32) S1x2048x512.size hh) hs).squeeze S2048x512 squeezes_S1x2048x512_S2048x512 = wgS (sl i 1) := wgS_congr (off8_eq i 3) _ _
@[sl_canon] theorem wu8_4 (hh hs) : (wuR.slice (Rect.unit (s := S3x2048x512) (k0_off8 i 4#32) S1x2048x512.size hh) hs).squeeze S2048x512 squeezes_S1x2048x512_S2048x512 = wuS (sl i 1) := wuS_congr (off8_eq i 3) _ _
@[sl_canon] theorem wd11_4 (hh hs) : (wdR.slice (Rect.unit (s := S3x512x2048) (k0_off11 i 4#32) S1x512x2048.size hh) hs).squeeze S512x2048 squeezes_S1x512x2048_S512x2048 = wdS (sl i 1) := wdS_congr (off11_eq i 3) _ _
@[sl_canon] theorem sem7_5 (hh) : (cc0_scratch6.slice (Rect.unit (s := S3x3) (k0_off7 i 5#32) S1x1.size hh)).squeeze S_ squeezes_S1x1_S_ = csm 0 (sl i 2) := csm_congr (off7_eq i 4) _
@[sl_canon] theorem sem9_5 (hh) : (cc0_scratch6.slice (Rect.unit (s := S3x3) (k0_off9 i 5#32) S1x1.size hh)).squeeze S_ squeezes_S1x1_S_ = csm 1 (sl i 2) := csm_congr (off9_eq i 4) _
@[sl_canon] theorem sem10_5 (hh) : (cc0_scratch6.slice (Rect.unit (s := S3x3) (k0_off10 i 5#32) S1x1.size hh)).squeeze S_ squeezes_S1x1_S_ = csm 2 (sl i 2) := csm_congr (off10_eq i 4) _
@[sl_canon] theorem wg8_5 (hh hs) : (wgR.slice (Rect.unit (s := S3x2048x512) (k0_off8 i 5#32) S1x2048x512.size hh) hs).squeeze S2048x512 squeezes_S1x2048x512_S2048x512 = wgS (sl i 2) := wgS_congr (off8_eq i 4) _ _
@[sl_canon] theorem wu8_5 (hh hs) : (wuR.slice (Rect.unit (s := S3x2048x512) (k0_off8 i 5#32) S1x2048x512.size hh) hs).squeeze S2048x512 squeezes_S1x2048x512_S2048x512 = wuS (sl i 2) := wuS_congr (off8_eq i 4) _ _
@[sl_canon] theorem wd11_5 (hh hs) : (wdR.slice (Rect.unit (s := S3x512x2048) (k0_off11 i 5#32) S1x512x2048.size hh) hs).squeeze S512x2048 squeezes_S1x512x2048_S512x2048 = wdS (sl i 2) := wdS_congr (off11_eq i 4) _ _
@[sl_canon] theorem sem7_6 (hh) : (cc0_scratch6.slice (Rect.unit (s := S3x3) (k0_off7 i 6#32) S1x1.size hh)).squeeze S_ squeezes_S1x1_S_ = csm 0 (sl i 0) := csm_congr (off7_eq i 5) _
@[sl_canon] theorem sem9_6 (hh) : (cc0_scratch6.slice (Rect.unit (s := S3x3) (k0_off9 i 6#32) S1x1.size hh)).squeeze S_ squeezes_S1x1_S_ = csm 1 (sl i 0) := csm_congr (off9_eq i 5) _
@[sl_canon] theorem sem10_6 (hh) : (cc0_scratch6.slice (Rect.unit (s := S3x3) (k0_off10 i 6#32) S1x1.size hh)).squeeze S_ squeezes_S1x1_S_ = csm 2 (sl i 0) := csm_congr (off10_eq i 5) _
@[sl_canon] theorem wg8_6 (hh hs) : (wgR.slice (Rect.unit (s := S3x2048x512) (k0_off8 i 6#32) S1x2048x512.size hh) hs).squeeze S2048x512 squeezes_S1x2048x512_S2048x512 = wgS (sl i 0) := wgS_congr (off8_eq i 5) _ _
@[sl_canon] theorem wu8_6 (hh hs) : (wuR.slice (Rect.unit (s := S3x2048x512) (k0_off8 i 6#32) S1x2048x512.size hh) hs).squeeze S2048x512 squeezes_S1x2048x512_S2048x512 = wuS (sl i 0) := wuS_congr (off8_eq i 5) _ _
@[sl_canon] theorem wd11_6 (hh hs) : (wdR.slice (Rect.unit (s := S3x512x2048) (k0_off11 i 6#32) S1x512x2048.size hh) hs).squeeze S512x2048 squeezes_S1x512x2048_S512x2048 = wdS (sl i 0) := wdS_congr (off11_eq i 5) _ _
@[sl_canon] theorem sem7_7 (hh) : (cc0_scratch6.slice (Rect.unit (s := S3x3) (k0_off7 i 7#32) S1x1.size hh)).squeeze S_ squeezes_S1x1_S_ = csm 0 (sl i 1) := csm_congr (off7_eq i 6) _
@[sl_canon] theorem sem9_7 (hh) : (cc0_scratch6.slice (Rect.unit (s := S3x3) (k0_off9 i 7#32) S1x1.size hh)).squeeze S_ squeezes_S1x1_S_ = csm 1 (sl i 1) := csm_congr (off9_eq i 6) _
@[sl_canon] theorem sem10_7 (hh) : (cc0_scratch6.slice (Rect.unit (s := S3x3) (k0_off10 i 7#32) S1x1.size hh)).squeeze S_ squeezes_S1x1_S_ = csm 2 (sl i 1) := csm_congr (off10_eq i 6) _
@[sl_canon] theorem wg8_7 (hh hs) : (wgR.slice (Rect.unit (s := S3x2048x512) (k0_off8 i 7#32) S1x2048x512.size hh) hs).squeeze S2048x512 squeezes_S1x2048x512_S2048x512 = wgS (sl i 1) := wgS_congr (off8_eq i 6) _ _
@[sl_canon] theorem wu8_7 (hh hs) : (wuR.slice (Rect.unit (s := S3x2048x512) (k0_off8 i 7#32) S1x2048x512.size hh) hs).squeeze S2048x512 squeezes_S1x2048x512_S2048x512 = wuS (sl i 1) := wuS_congr (off8_eq i 6) _ _
@[sl_canon] theorem wd11_7 (hh hs) : (wdR.slice (Rect.unit (s := S3x512x2048) (k0_off11 i 7#32) S1x512x2048.size hh) hs).squeeze S512x2048 squeezes_S1x512x2048_S512x2048 = wdS (sl i 1) := wdS_congr (off11_eq i 6) _ _
@[sl_canon] theorem sem7_8 (hh) : (cc0_scratch6.slice (Rect.unit (s := S3x3) (k0_off7 i 8#32) S1x1.size hh)).squeeze S_ squeezes_S1x1_S_ = csm 0 (sl i 2) := csm_congr (off7_eq i 7) _
@[sl_canon] theorem sem9_8 (hh) : (cc0_scratch6.slice (Rect.unit (s := S3x3) (k0_off9 i 8#32) S1x1.size hh)).squeeze S_ squeezes_S1x1_S_ = csm 1 (sl i 2) := csm_congr (off9_eq i 7) _
@[sl_canon] theorem sem10_8 (hh) : (cc0_scratch6.slice (Rect.unit (s := S3x3) (k0_off10 i 8#32) S1x1.size hh)).squeeze S_ squeezes_S1x1_S_ = csm 2 (sl i 2) := csm_congr (off10_eq i 7) _
@[sl_canon] theorem wg8_8 (hh hs) : (wgR.slice (Rect.unit (s := S3x2048x512) (k0_off8 i 8#32) S1x2048x512.size hh) hs).squeeze S2048x512 squeezes_S1x2048x512_S2048x512 = wgS (sl i 2) := wgS_congr (off8_eq i 7) _ _
@[sl_canon] theorem wu8_8 (hh hs) : (wuR.slice (Rect.unit (s := S3x2048x512) (k0_off8 i 8#32) S1x2048x512.size hh) hs).squeeze S2048x512 squeezes_S1x2048x512_S2048x512 = wuS (sl i 2) := wuS_congr (off8_eq i 7) _ _
@[sl_canon] theorem wd11_8 (hh hs) : (wdR.slice (Rect.unit (s := S3x512x2048) (k0_off11 i 8#32) S1x512x2048.size hh) hs).squeeze S512x2048 squeezes_S1x512x2048_S512x2048 = wdS (sl i 2) := wdS_congr (off11_eq i 7) _ _
@[sl_canon] theorem sem7_9 (hh) : (cc0_scratch6.slice (Rect.unit (s := S3x3) (k0_off7 i 9#32) S1x1.size hh)).squeeze S_ squeezes_S1x1_S_ = csm 0 (sl i 0) := csm_congr (off7_eq i 8) _
@[sl_canon] theorem sem9_9 (hh) : (cc0_scratch6.slice (Rect.unit (s := S3x3) (k0_off9 i 9#32) S1x1.size hh)).squeeze S_ squeezes_S1x1_S_ = csm 1 (sl i 0) := csm_congr (off9_eq i 8) _
@[sl_canon] theorem sem10_9 (hh) : (cc0_scratch6.slice (Rect.unit (s := S3x3) (k0_off10 i 9#32) S1x1.size hh)).squeeze S_ squeezes_S1x1_S_ = csm 2 (sl i 0) := csm_congr (off10_eq i 8) _
@[sl_canon] theorem wg8_9 (hh hs) : (wgR.slice (Rect.unit (s := S3x2048x512) (k0_off8 i 9#32) S1x2048x512.size hh) hs).squeeze S2048x512 squeezes_S1x2048x512_S2048x512 = wgS (sl i 0) := wgS_congr (off8_eq i 8) _ _
@[sl_canon] theorem wu8_9 (hh hs) : (wuR.slice (Rect.unit (s := S3x2048x512) (k0_off8 i 9#32) S1x2048x512.size hh) hs).squeeze S2048x512 squeezes_S1x2048x512_S2048x512 = wuS (sl i 0) := wuS_congr (off8_eq i 8) _ _
@[sl_canon] theorem wd11_9 (hh hs) : (wdR.slice (Rect.unit (s := S3x512x2048) (k0_off11 i 9#32) S1x512x2048.size hh) hs).squeeze S512x2048 squeezes_S1x512x2048_S512x2048 = wdS (sl i 0) := wdS_congr (off11_eq i 8) _ _
@[sl_canon] theorem sem7_10 (hh) : (cc0_scratch6.slice (Rect.unit (s := S3x3) (k0_off7 i 10#32) S1x1.size hh)).squeeze S_ squeezes_S1x1_S_ = csm 0 (sl i 1) := csm_congr (off7_eq i 9) _
@[sl_canon] theorem sem9_10 (hh) : (cc0_scratch6.slice (Rect.unit (s := S3x3) (k0_off9 i 10#32) S1x1.size hh)).squeeze S_ squeezes_S1x1_S_ = csm 1 (sl i 1) := csm_congr (off9_eq i 9) _
@[sl_canon] theorem sem10_10 (hh) : (cc0_scratch6.slice (Rect.unit (s := S3x3) (k0_off10 i 10#32) S1x1.size hh)).squeeze S_ squeezes_S1x1_S_ = csm 2 (sl i 1) := csm_congr (off10_eq i 9) _
@[sl_canon] theorem wg8_10 (hh hs) : (wgR.slice (Rect.unit (s := S3x2048x512) (k0_off8 i 10#32) S1x2048x512.size hh) hs).squeeze S2048x512 squeezes_S1x2048x512_S2048x512 = wgS (sl i 1) := wgS_congr (off8_eq i 9) _ _
@[sl_canon] theorem wu8_10 (hh hs) : (wuR.slice (Rect.unit (s := S3x2048x512) (k0_off8 i 10#32) S1x2048x512.size hh) hs).squeeze S2048x512 squeezes_S1x2048x512_S2048x512 = wuS (sl i 1) := wuS_congr (off8_eq i 9) _ _
@[sl_canon] theorem wd11_10 (hh hs) : (wdR.slice (Rect.unit (s := S3x512x2048) (k0_off11 i 10#32) S1x512x2048.size hh) hs).squeeze S512x2048 squeezes_S1x512x2048_S512x2048 = wdS (sl i 1) := wdS_congr (off11_eq i 9) _ _
@[sl_canon] theorem sem16 (hh) : (cc0_scratch6.slice (Rect.unit (s := S3x3) (k0_off16 i) S1x1.size hh)).squeeze S_ squeezes_S1x1_S_ = csm 0 (sl i 2) := csm_congr (off16_eq i) _
@[sl_canon] theorem sem18 (hh) : (cc0_scratch6.slice (Rect.unit (s := S3x3) (k0_off18 i) S1x1.size hh)).squeeze S_ squeezes_S1x1_S_ = csm 1 (sl i 2) := csm_congr (off18_eq i) _
@[sl_canon] theorem sem19 (hh) : (cc0_scratch6.slice (Rect.unit (s := S3x3) (k0_off19 i) S1x1.size hh)).squeeze S_ squeezes_S1x1_S_ = csm 2 (sl i 2) := csm_congr (off19_eq i) _
@[sl_canon] theorem wg17 (hh hs) : (wgR.slice (Rect.unit (s := S3x2048x512) (k0_off17 i) S1x2048x512.size hh) hs).squeeze S2048x512 squeezes_S1x2048x512_S2048x512 = wgS (sl i 2) := wgS_congr (off17_eq i) _ _
@[sl_canon] theorem wu17 (hh hs) : (wuR.slice (Rect.unit (s := S3x2048x512) (k0_off17 i) S1x2048x512.size hh) hs).squeeze S2048x512 squeezes_S1x2048x512_S2048x512 = wuS (sl i 2) := wuS_congr (off17_eq i) _ _
@[sl_canon] theorem wd20 (hh hs) : (wdR.slice (Rect.unit (s := S3x512x2048) (k0_off20 i) S1x512x2048.size hh) hs).squeeze S512x2048 squeezes_S1x512x2048_S512x2048 = wdS (sl i 2) := wdS_congr (off20_eq i) _ _
@[sl_canon] theorem sem21 (hh) : (cc0_scratch6.slice (Rect.unit (s := S3x3) (k0_off21 i) S1x1.size hh)).squeeze S_ squeezes_S1x1_S_ = csm 0 (sl i 2) := csm_congr (off21_eq i) _
@[sl_canon] theorem sem23 (hh) : (cc0_scratch6.slice (Rect.unit (s := S3x3) (k0_off23 i) S1x1.size hh)).squeeze S_ squeezes_S1x1_S_ = csm 1 (sl i 2) := csm_congr (off23_eq i) _
@[sl_canon] theorem sem24 (hh) : (cc0_scratch6.slice (Rect.unit (s := S3x3) (k0_off24 i) S1x1.size hh)).squeeze S_ squeezes_S1x1_S_ = csm 2 (sl i 2) := csm_congr (off24_eq i) _
@[sl_canon] theorem wg22 (hh hs) : (wgR.slice (Rect.unit (s := S3x2048x512) (k0_off22 i) S1x2048x512.size hh) hs).squeeze S2048x512 squeezes_S1x2048x512_S2048x512 = wgS (sl i 2) := wgS_congr (off22_eq i) _ _
@[sl_canon] theorem wu22 (hh hs) : (wuR.slice (Rect.unit (s := S3x2048x512) (k0_off22 i) S1x2048x512.size hh) hs).squeeze S2048x512 squeezes_S1x2048x512_S2048x512 = wuS (sl i 2) := wuS_congr (off22_eq i) _ _
@[sl_canon] theorem wd25 (hh hs) : (wdR.slice (Rect.unit (s := S3x512x2048) (k0_off25 i) S1x512x2048.size hh) hs).squeeze S512x2048 squeezes_S1x512x2048_S512x2048 = wdS (sl i 2) := wdS_congr (off25_eq i) _ _
@[sl_canon] theorem sem26 (hh) : (cc0_scratch6.slice (Rect.unit (s := S3x3) (k0_off26 i) S1x1.size hh)).squeeze S_ squeezes_S1x1_S_ = csm 0 (sl i 0) := csm_congr (off26_eq i) _
@[sl_canon] theorem sem28 (hh) : (cc0_scratch6.slice (Rect.unit (s := S3x3) (k0_off28 i) S1x1.size hh)).squeeze S_ squeezes_S1x1_S_ = csm 1 (sl i 0) := csm_congr (off28_eq i) _
@[sl_canon] theorem sem29 (hh) : (cc0_scratch6.slice (Rect.unit (s := S3x3) (k0_off29 i) S1x1.size hh)).squeeze S_ squeezes_S1x1_S_ = csm 2 (sl i 0) := csm_congr (off29_eq i) _
@[sl_canon] theorem wg27 (hh hs) : (wgR.slice (Rect.unit (s := S3x2048x512) (k0_off27 i) S1x2048x512.size hh) hs).squeeze S2048x512 squeezes_S1x2048x512_S2048x512 = wgS (sl i 0) := wgS_congr (off27_eq i) _ _
@[sl_canon] theorem wu27 (hh hs) : (wuR.slice (Rect.unit (s := S3x2048x512) (k0_off27 i) S1x2048x512.size hh) hs).squeeze S2048x512 squeezes_S1x2048x512_S2048x512 = wuS (sl i 0) := wuS_congr (off27_eq i) _ _
@[sl_canon] theorem wd30 (hh hs) : (wdR.slice (Rect.unit (s := S3x512x2048) (k0_off30 i) S1x512x2048.size hh) hs).squeeze S512x2048 squeezes_S1x512x2048_S512x2048 = wdS (sl i 0) := wdS_congr (off30_eq i) _ _
end Canon

@[sl_canon] theorem wgL0 (hh hs) : wgM.slice (Rect.unit (s := S2048x5632) ![0, 0] S2048x512.size hh) hs = wgB 0 := wgB_congr (by decide) _ _
@[sl_canon] theorem wuL0 (hh hs) : wuM.slice (Rect.unit (s := S2048x5632) ![0, 0] S2048x512.size hh) hs = wuB 0 := wuB_congr (by decide) _ _
@[sl_canon] theorem wdL0 (hh hs) : wdM.slice (Rect.unit (s := S5632x2048) ![0, 0] S512x2048.size hh) hs = wdB 0 := wdB_congr (by decide) _ _
@[sl_canon] theorem wgL1 (hh hs) : wgM.slice (Rect.unit (s := S2048x5632) ![0, 512] S2048x512.size hh) hs = wgB 1 := wgB_congr (by decide) _ _
@[sl_canon] theorem wuL1 (hh hs) : wuM.slice (Rect.unit (s := S2048x5632) ![0, 512] S2048x512.size hh) hs = wuB 1 := wuB_congr (by decide) _ _
@[sl_canon] theorem wdL1 (hh hs) : wdM.slice (Rect.unit (s := S5632x2048) ![512, 0] S512x2048.size hh) hs = wdB 1 := wdB_congr (by decide) _ _
@[sl_canon] theorem wgL2 (hh hs) : wgM.slice (Rect.unit (s := S2048x5632) ![0, 1024] S2048x512.size hh) hs = wgB 2 := wgB_congr (by decide) _ _
@[sl_canon] theorem wuL2 (hh hs) : wuM.slice (Rect.unit (s := S2048x5632) ![0, 1024] S2048x512.size hh) hs = wuB 2 := wuB_congr (by decide) _ _
@[sl_canon] theorem wdL2 (hh hs) : wdM.slice (Rect.unit (s := S5632x2048) ![1024, 0] S512x2048.size hh) hs = wdB 2 := wdB_congr (by decide) _ _
@[sl_canon] theorem wgL3 (hh hs) : wgM.slice (Rect.unit (s := S2048x5632) ![0, 1536] S2048x512.size hh) hs = wgB 3 := wgB_congr (by decide) _ _
@[sl_canon] theorem wuL3 (hh hs) : wuM.slice (Rect.unit (s := S2048x5632) ![0, 1536] S2048x512.size hh) hs = wuB 3 := wuB_congr (by decide) _ _
@[sl_canon] theorem wdL3 (hh hs) : wdM.slice (Rect.unit (s := S5632x2048) ![1536, 0] S512x2048.size hh) hs = wdB 3 := wdB_congr (by decide) _ _
@[sl_canon] theorem wgL4 (hh hs) : wgM.slice (Rect.unit (s := S2048x5632) ![0, 2048] S2048x512.size hh) hs = wgB 4 := wgB_congr (by decide) _ _
@[sl_canon] theorem wuL4 (hh hs) : wuM.slice (Rect.unit (s := S2048x5632) ![0, 2048] S2048x512.size hh) hs = wuB 4 := wuB_congr (by decide) _ _
@[sl_canon] theorem wdL4 (hh hs) : wdM.slice (Rect.unit (s := S5632x2048) ![2048, 0] S512x2048.size hh) hs = wdB 4 := wdB_congr (by decide) _ _
@[sl_canon] theorem wgL5 (hh hs) : wgM.slice (Rect.unit (s := S2048x5632) ![0, 2560] S2048x512.size hh) hs = wgB 5 := wgB_congr (by decide) _ _
@[sl_canon] theorem wuL5 (hh hs) : wuM.slice (Rect.unit (s := S2048x5632) ![0, 2560] S2048x512.size hh) hs = wuB 5 := wuB_congr (by decide) _ _
@[sl_canon] theorem wdL5 (hh hs) : wdM.slice (Rect.unit (s := S5632x2048) ![2560, 0] S512x2048.size hh) hs = wdB 5 := wdB_congr (by decide) _ _
@[sl_canon] theorem wgL6 (hh hs) : wgM.slice (Rect.unit (s := S2048x5632) ![0, 3072] S2048x512.size hh) hs = wgB 6 := wgB_congr (by decide) _ _
@[sl_canon] theorem wuL6 (hh hs) : wuM.slice (Rect.unit (s := S2048x5632) ![0, 3072] S2048x512.size hh) hs = wuB 6 := wuB_congr (by decide) _ _
@[sl_canon] theorem wdL6 (hh hs) : wdM.slice (Rect.unit (s := S5632x2048) ![3072, 0] S512x2048.size hh) hs = wdB 6 := wdB_congr (by decide) _ _
@[sl_canon] theorem wgL7 (hh hs) : wgM.slice (Rect.unit (s := S2048x5632) ![0, 3584] S2048x512.size hh) hs = wgB 7 := wgB_congr (by decide) _ _
@[sl_canon] theorem wuL7 (hh hs) : wuM.slice (Rect.unit (s := S2048x5632) ![0, 3584] S2048x512.size hh) hs = wuB 7 := wuB_congr (by decide) _ _
@[sl_canon] theorem wdL7 (hh hs) : wdM.slice (Rect.unit (s := S5632x2048) ![3584, 0] S512x2048.size hh) hs = wdB 7 := wdB_congr (by decide) _ _
@[sl_canon] theorem wgL8 (hh hs) : wgM.slice (Rect.unit (s := S2048x5632) ![0, 4096] S2048x512.size hh) hs = wgB 8 := wgB_congr (by decide) _ _
@[sl_canon] theorem wuL8 (hh hs) : wuM.slice (Rect.unit (s := S2048x5632) ![0, 4096] S2048x512.size hh) hs = wuB 8 := wuB_congr (by decide) _ _
@[sl_canon] theorem wdL8 (hh hs) : wdM.slice (Rect.unit (s := S5632x2048) ![4096, 0] S512x2048.size hh) hs = wdB 8 := wdB_congr (by decide) _ _
@[sl_canon] theorem wgL9 (hh hs) : wgM.slice (Rect.unit (s := S2048x5632) ![0, 4608] S2048x512.size hh) hs = wgB 9 := wgB_congr (by decide) _ _
@[sl_canon] theorem wuL9 (hh hs) : wuM.slice (Rect.unit (s := S2048x5632) ![0, 4608] S2048x512.size hh) hs = wuB 9 := wuB_congr (by decide) _ _
@[sl_canon] theorem wdL9 (hh hs) : wdM.slice (Rect.unit (s := S5632x2048) ![4608, 0] S512x2048.size hh) hs = wdB 9 := wdB_congr (by decide) _ _
@[sl_canon] theorem wgL10 (hh hs) : wgM.slice (Rect.unit (s := S2048x5632) ![0, 5120] S2048x512.size hh) hs = wgB 10 := wgB_congr (by decide) _ _
@[sl_canon] theorem wuL10 (hh hs) : wuM.slice (Rect.unit (s := S2048x5632) ![0, 5120] S2048x512.size hh) hs = wuB 10 := wuB_congr (by decide) _ _
@[sl_canon] theorem wdL10 (hh hs) : wdM.slice (Rect.unit (s := S5632x2048) ![5120, 0] S512x2048.size hh) hs = wdB 10 := wdB_congr (by decide) _ _

/-! The boxes the loads take lie in the slots. -/

instance (i : grid0.Coords) : ClosedOff (k0_off6 i 0#32) := ⟨slotOff (sl i 0), off6_eq i 0⟩
instance (i : grid0.Coords) : ClosedOff (k0_off12 i 0#32) := ⟨slotBox (sl i 0) 0, off12_eq i 0⟩
instance (i : grid0.Coords) : ClosedOff (k0_off13 i 0#32) := ⟨slotBox (sl i 0) 512, off13_eq i 0⟩
instance (i : grid0.Coords) : ClosedOff (k0_off14 i 0#32) := ⟨slotBox (sl i 0) 1024, off14_eq i 0⟩
instance (i : grid0.Coords) : ClosedOff (k0_off15 i 0#32) := ⟨slotBox (sl i 0) 1536, off15_eq i 0⟩
instance (i : grid0.Coords) : ClosedOff (k0_off6 i 1#32) := ⟨slotOff (sl i 1), off6_eq i 1⟩
instance (i : grid0.Coords) : ClosedOff (k0_off12 i 1#32) := ⟨slotBox (sl i 1) 0, off12_eq i 1⟩
instance (i : grid0.Coords) : ClosedOff (k0_off13 i 1#32) := ⟨slotBox (sl i 1) 512, off13_eq i 1⟩
instance (i : grid0.Coords) : ClosedOff (k0_off14 i 1#32) := ⟨slotBox (sl i 1) 1024, off14_eq i 1⟩
instance (i : grid0.Coords) : ClosedOff (k0_off15 i 1#32) := ⟨slotBox (sl i 1) 1536, off15_eq i 1⟩
instance (i : grid0.Coords) : ClosedOff (k0_off6 i 2#32) := ⟨slotOff (sl i 2), off6_eq i 2⟩
instance (i : grid0.Coords) : ClosedOff (k0_off12 i 2#32) := ⟨slotBox (sl i 2) 0, off12_eq i 2⟩
instance (i : grid0.Coords) : ClosedOff (k0_off13 i 2#32) := ⟨slotBox (sl i 2) 512, off13_eq i 2⟩
instance (i : grid0.Coords) : ClosedOff (k0_off14 i 2#32) := ⟨slotBox (sl i 2) 1024, off14_eq i 2⟩
instance (i : grid0.Coords) : ClosedOff (k0_off15 i 2#32) := ⟨slotBox (sl i 2) 1536, off15_eq i 2⟩
instance (i : grid0.Coords) : ClosedOff (k0_off6 i 3#32) := ⟨slotOff (sl i 0), off6_eq i 3⟩
instance (i : grid0.Coords) : ClosedOff (k0_off12 i 3#32) := ⟨slotBox (sl i 0) 0, off12_eq i 3⟩
instance (i : grid0.Coords) : ClosedOff (k0_off13 i 3#32) := ⟨slotBox (sl i 0) 512, off13_eq i 3⟩
instance (i : grid0.Coords) : ClosedOff (k0_off14 i 3#32) := ⟨slotBox (sl i 0) 1024, off14_eq i 3⟩
instance (i : grid0.Coords) : ClosedOff (k0_off15 i 3#32) := ⟨slotBox (sl i 0) 1536, off15_eq i 3⟩
instance (i : grid0.Coords) : ClosedOff (k0_off6 i 4#32) := ⟨slotOff (sl i 1), off6_eq i 4⟩
instance (i : grid0.Coords) : ClosedOff (k0_off12 i 4#32) := ⟨slotBox (sl i 1) 0, off12_eq i 4⟩
instance (i : grid0.Coords) : ClosedOff (k0_off13 i 4#32) := ⟨slotBox (sl i 1) 512, off13_eq i 4⟩
instance (i : grid0.Coords) : ClosedOff (k0_off14 i 4#32) := ⟨slotBox (sl i 1) 1024, off14_eq i 4⟩
instance (i : grid0.Coords) : ClosedOff (k0_off15 i 4#32) := ⟨slotBox (sl i 1) 1536, off15_eq i 4⟩
instance (i : grid0.Coords) : ClosedOff (k0_off6 i 5#32) := ⟨slotOff (sl i 2), off6_eq i 5⟩
instance (i : grid0.Coords) : ClosedOff (k0_off12 i 5#32) := ⟨slotBox (sl i 2) 0, off12_eq i 5⟩
instance (i : grid0.Coords) : ClosedOff (k0_off13 i 5#32) := ⟨slotBox (sl i 2) 512, off13_eq i 5⟩
instance (i : grid0.Coords) : ClosedOff (k0_off14 i 5#32) := ⟨slotBox (sl i 2) 1024, off14_eq i 5⟩
instance (i : grid0.Coords) : ClosedOff (k0_off15 i 5#32) := ⟨slotBox (sl i 2) 1536, off15_eq i 5⟩
instance (i : grid0.Coords) : ClosedOff (k0_off6 i 6#32) := ⟨slotOff (sl i 0), off6_eq i 6⟩
instance (i : grid0.Coords) : ClosedOff (k0_off12 i 6#32) := ⟨slotBox (sl i 0) 0, off12_eq i 6⟩
instance (i : grid0.Coords) : ClosedOff (k0_off13 i 6#32) := ⟨slotBox (sl i 0) 512, off13_eq i 6⟩
instance (i : grid0.Coords) : ClosedOff (k0_off14 i 6#32) := ⟨slotBox (sl i 0) 1024, off14_eq i 6⟩
instance (i : grid0.Coords) : ClosedOff (k0_off15 i 6#32) := ⟨slotBox (sl i 0) 1536, off15_eq i 6⟩
instance (i : grid0.Coords) : ClosedOff (k0_off6 i 7#32) := ⟨slotOff (sl i 1), off6_eq i 7⟩
instance (i : grid0.Coords) : ClosedOff (k0_off12 i 7#32) := ⟨slotBox (sl i 1) 0, off12_eq i 7⟩
instance (i : grid0.Coords) : ClosedOff (k0_off13 i 7#32) := ⟨slotBox (sl i 1) 512, off13_eq i 7⟩
instance (i : grid0.Coords) : ClosedOff (k0_off14 i 7#32) := ⟨slotBox (sl i 1) 1024, off14_eq i 7⟩
instance (i : grid0.Coords) : ClosedOff (k0_off15 i 7#32) := ⟨slotBox (sl i 1) 1536, off15_eq i 7⟩
instance (i : grid0.Coords) : ClosedOff (k0_off6 i 8#32) := ⟨slotOff (sl i 2), off6_eq i 8⟩
instance (i : grid0.Coords) : ClosedOff (k0_off12 i 8#32) := ⟨slotBox (sl i 2) 0, off12_eq i 8⟩
instance (i : grid0.Coords) : ClosedOff (k0_off13 i 8#32) := ⟨slotBox (sl i 2) 512, off13_eq i 8⟩
instance (i : grid0.Coords) : ClosedOff (k0_off14 i 8#32) := ⟨slotBox (sl i 2) 1024, off14_eq i 8⟩
instance (i : grid0.Coords) : ClosedOff (k0_off15 i 8#32) := ⟨slotBox (sl i 2) 1536, off15_eq i 8⟩
instance (i : grid0.Coords) : ClosedOff (k0_off6 i 9#32) := ⟨slotOff (sl i 0), off6_eq i 9⟩
instance (i : grid0.Coords) : ClosedOff (k0_off12 i 9#32) := ⟨slotBox (sl i 0) 0, off12_eq i 9⟩
instance (i : grid0.Coords) : ClosedOff (k0_off13 i 9#32) := ⟨slotBox (sl i 0) 512, off13_eq i 9⟩
instance (i : grid0.Coords) : ClosedOff (k0_off14 i 9#32) := ⟨slotBox (sl i 0) 1024, off14_eq i 9⟩
instance (i : grid0.Coords) : ClosedOff (k0_off15 i 9#32) := ⟨slotBox (sl i 0) 1536, off15_eq i 9⟩
instance (i : grid0.Coords) : ClosedOff (k0_off6 i 10#32) := ⟨slotOff (sl i 1), off6_eq i 10⟩
instance (i : grid0.Coords) : ClosedOff (k0_off12 i 10#32) := ⟨slotBox (sl i 1) 0, off12_eq i 10⟩
instance (i : grid0.Coords) : ClosedOff (k0_off13 i 10#32) := ⟨slotBox (sl i 1) 512, off13_eq i 10⟩
instance (i : grid0.Coords) : ClosedOff (k0_off14 i 10#32) := ⟨slotBox (sl i 1) 1024, off14_eq i 10⟩
instance (i : grid0.Coords) : ClosedOff (k0_off15 i 10#32) := ⟨slotBox (sl i 1) 1536, off15_eq i 10⟩

end Cert.FfnI

end
-- ==== Proof.FfnI.Reads.lean ====
/- What the feed-forward kernel's loads read: a block of a weight out of the ring slot it landed in, and an accumulator
   after four stores of a quarter each. -/
module

public import proofs.«01_k».proof.Proof.FfnI.Names
public import Idealize.ShloMosaic.Lib.Pipeline.ValueKit
public import Idealize.ShloMosaic.Lib.Pointwise
public import Idealize.ShloMosaic.Lib.ValueLayout

@[expose] public section

set_option maxRecDepth 16384

noncomputable section

namespace Cert.FfnI

open Cert.KernelFfnIdeal Cert.KernelFfnIdeal.Gen
open Idealize.ShloMosaic Idealize.ShloMosaic.TcCoe

/-- An index `(x, y)` seen in a shape with a unit axis put before it is `(0, x, y)`. -/
theorem resh_1ab {a b : ℕ} (h : (⟨2, ![a, b]⟩ : Shape).numel = (⟨3, ![1, a, b]⟩ : Shape).numel) (x : Fin a) (y : Fin b) :
    Shape.reshapeEquiv h (ix2 x y) = ix3 (⟨0, Nat.one_pos⟩ : Fin 1) x y := ValueIdx.reshapeEquiv_ix2_1ab h x y

/-- Block `j` of the gate weight, read out of slot `s` after the block's transfer landed there. -/
theorem wg_read (s : Fin 3) (j : Fin 11) (c : Dev nD) (X : Buf (Elt Ideal) (wgM.view.loc (c : Thread nD τ))) (off : Fin 3 → Nat) (inb)
    (ho : off = slotOff s) (L) (k : Fin 2048) (e : Fin 512) :
    View.readAt (Elt Ideal) wgR.view (Rect.unit (s := S3x2048x512) off S1x2048x512.size inb).toLoadRect
      ((wgS s).view.writes (Elt Ideal) (wgS s).view.junk (⟨Rect.whole S2048x512, ReadAs.same.apply (View.read (Elt Ideal) (wgB j).view X)⟩ :: L)) (ix3 0 k e)
      = X (ix2 k ⟨512 * j.val + e.val, by omega⟩) := by
  subst ho
  have h1 : ∀ f, View.readAt (Elt Ideal) wgR.view (Rect.unit (s := S3x2048x512) (slotOff s) S1x2048x512.size inb).toLoadRect f (ix3 0 k e)
      = (wgS s).view.read (Elt Ideal) f (ix2 k e) := fun f => by
    show View.read (Elt Ideal) wgR.view f _ = View.read (Elt Ideal) wgR.view f _
    refine congrArg _ ?_
    show _ = (Rect.unit (s := S3x2048x512) (slotOff s) S1x2048x512.size inb).emb (Shape.reshapeEquiv _ (ix2 k e))
    rw [resh_1ab]
    rfl
  refine (h1 _).trans ((congrFun (View.read_writes_junk_eq_canon _ _) _).trans ?_)
  have h2 := View.canon_cons_emb (Rect.whole S2048x512) (ReadAs.same.apply (View.read (Elt Ideal) (wgB j).view X)) L (ix2 k e)
  rw [Rect.emb_whole_apply] at h2
  refine h2.trans ?_
  show X _ = X _
  refine congrArg X (funext fun a => Fin.ext ?_)
  fin_cases a
  · show 0 + 1 * k.val = k.val; omega
  · show 512 * j.val + 1 * e.val = _; rw [Nat.one_mul]; rfl

/-- Block `j` of the up weight, likewise. -/
theorem wu_read (s : Fin 3) (j : Fin 11) (c : Dev nD) (X : Buf (Elt Ideal) (wuM.view.loc (c : Thread nD τ))) (off : Fin 3 → Nat) (inb)
    (ho : off = slotOff s) (L) (k : Fin 2048) (e : Fin 512) :
    View.readAt (Elt Ideal) wuR.view (Rect.unit (s := S3x2048x512) off S1x2048x512.size inb).toLoadRect
      ((wuS s).view.writes (Elt Ideal) (wuS s).view.junk (⟨Rect.whole S2048x512, ReadAs.same.apply (View.read (Elt Ideal) (wuB j).view X)⟩ :: L)) (ix3 0 k e)
      = X (ix2 k ⟨512 * j.val + e.val, by omega⟩) := by
  subst ho
  have h1 : ∀ f, View.readAt (Elt Ideal) wuR.view (Rect.unit (s := S3x2048x512) (slotOff s) S1x2048x512.size inb).toLoadRect f (ix3 0 k e)
      = (wuS s).view.read (Elt Ideal) f (ix2 k e) := fun f => by
    show View.read (Elt Ideal) wuR.view f _ = View.read (Elt Ideal) wuR.view f _
    refine congrArg _ ?_
    show _ = (Rect.unit (s := S3x2048x512) (slotOff s) S1x2048x512.size inb).emb (Shape.reshapeEquiv _ (ix2 k e))
    rw [resh_1ab]
    rfl
  refine (h1 _).trans ((congrFun (View.read_writes_junk_eq_canon _ _) _).trans ?_)
  have h2 := View.canon_cons_emb (Rect.whole S2048x512) (ReadAs.same.apply (View.read (Elt Ideal) (wuB j).view X)) L (ix2 k e)
  rw [Rect.emb_whole_apply] at h2
  refine h2.trans ?_
  show X _ = X _
  refine congrArg X (funext fun a => Fin.ext ?_)
  fin_cases a
  · show 0 + 1 * k.val = k.val; omega
  · show 512 * j.val + 1 * e.val = _; rw [Nat.one_mul]; rfl

/-- 512 columns of block `j` of the down weight, from column `q`. -/
theorem wd_read (s : Fin 3) (j : Fin 11) (c : Dev nD) (X : Buf (Elt Ideal) (wdM.view.loc (c : Thread nD τ))) (q : Nat) (hq : q + 512 ≤ 2048)
    (off : Fin 3 → Nat) (inb) (ho : off = slotBox s q) (L) (k e : Fin 512) :
    View.readAt (Elt Ideal) wdR.view (Rect.unit (s := S3x512x2048) off S1x512x512.size inb).toLoadRect
      ((wdS s).view.writes (Elt Ideal) (wdS s).view.junk (⟨Rect.whole S512x2048, ReadAs.same.apply (View.read (Elt Ideal) (wdB j).view X)⟩ :: L)) (ix3 0 k e)
      = X (ix2 ⟨512 * j.val + k.val, by omega⟩ ⟨q + e.val, by omega⟩) := by
  subst ho
  have h1 : ∀ f, View.readAt (Elt Ideal) wdR.view (Rect.unit (s := S3x512x2048) (slotBox s q) S1x512x512.size inb).toLoadRect f (ix3 0 k e)
      = (wdS s).view.read (Elt Ideal) f (ix2 k ⟨q + e.val, by omega⟩) := fun f => by
    show View.read (Elt Ideal) wdR.view f _ = View.read (Elt Ideal) wdR.view f _
    refine congrArg _ ?_
    show _ = (Rect.unit (s := S3x512x2048) (slotOff s) S1x512x2048.size (slotOff_inb' s)).emb (Shape.reshapeEquiv _ (ix2 k ⟨q + e.val, by omega⟩))
    rw [resh_1ab]
    refine funext fun a => Fin.ext ?_
    fin_cases a
    · rfl
    · rfl
    · show q + 1 * e.val = 0 + 1 * (q + e.val); omega
  refine (h1 _).trans ((congrFun (View.read_writes_junk_eq_canon _ _) _).trans ?_)
  have h2 := View.canon_cons_emb (Rect.whole S512x2048) (ReadAs.same.apply (View.read (Elt Ideal) (wdB j).view X)) L (ix2 k ⟨q + e.val, by omega⟩)
  rw [Rect.emb_whole_apply] at h2
  refine h2.trans ?_
  show X _ = X _
  refine congrArg X (funext fun a => Fin.ext ?_)
  fin_cases a
  · show 512 * j.val + 1 * k.val = _; rw [Nat.one_mul]; rfl
  · show 0 + 1 * (q + e.val) = _; rw [Nat.one_mul, Nat.zero_add]; rfl

variable {sp : Space}

/-- A load of 512 rows from row `o` of the gate scratch, after a store of all of it. -/
theorem g_read (v : View sig .tc sp S544x512 .f32) (P : S544x512.Idx → EReal) (L : List (View.Piece (Elt Ideal) S544x512 .f32)) (o : Nat) (inb0 inb)
    (ho : o + 512 ≤ 544) (r e : Fin 512) :
    v.readCov (Val := Elt Ideal) (⟨Rect.unit (s := S544x512) ![0, 0] S544x512.size inb0, P⟩ :: L) (Rect.unit (s := S544x512) ![o, 0] S512x512.size inb).toLoadRect (ix2 r e)
      = P (ix2 ⟨o + r.val, by omega⟩ e) := by
  rw [View.readCov_eq_canon', View.canon_cons_unit_lit' _ _ _ (by decide)]
  refine congrArg P (funext fun a => Fin.ext ?_)
  fin_cases a
  · show o + 1 * r.val = _; rw [Nat.one_mul]; rfl
  · show 0 + 1 * e.val = _; rw [Nat.one_mul, Nat.zero_add]; rfl

/-- A load of the accumulator's columns from `o` reads what the stores left there. -/
theorem a_read (v : View sig .tc sp S512x2048 .f32) (L : List (View.Piece (Elt Ideal) S512x2048 .f32)) (o : Nat) (inb) (ho : o + 512 ≤ 2048) (r e : Fin 512) :
    v.readCov (Val := Elt Ideal) L (Rect.unit (s := S512x2048) ![0, o] S512x512.size inb).toLoadRect (ix2 r e) = View.canon L (ix2 r ⟨o + e.val, by omega⟩) := by
  rw [View.readCov_eq_canon']
  refine congrArg (View.canon L) (funext fun a => Fin.ext ?_)
  fin_cases a
  · show 0 + 1 * r.val = _; rw [Nat.one_mul, Nat.zero_add]; rfl
  · show o + 1 * e.val = _; rw [Nat.one_mul]; rfl

/-- The accumulator after a store of the columns from `o`, at one of them; -/
theorem a_hit (P : S512x512.Idx → EReal) (L : List (View.Piece (Elt Ideal) S512x2048 .f32)) (o : Nat) (inb) (r : Fin 512) (e : Fin 2048) (h : o ≤ e.val) (h' : e.val < o + 512) :
    View.canon (⟨Rect.unit (s := S512x2048) ![0, o] S512x512.size inb, P⟩ :: L) (ix2 r e) = P (ix2 r ⟨e.val - o, by omega⟩) := by
  have := View.canon_cons_emb (Rect.unit (s := S512x2048) ![0, o] S512x512.size inb) P L (ix2 r ⟨e.val - o, by omega⟩)
  rw [← this]
  refine congrArg (View.canon _) (funext fun a => Fin.ext ?_)
  fin_cases a
  · show r.val = 0 + 1 * r.val; omega
  · show e.val = o + 1 * (e.val - o); omega

/-- and at another. -/
theorem a_miss (P : S512x512.Idx → EReal) (L : List (View.Piece (Elt Ideal) S512x2048 .f32)) (o : Nat) (inb) (r : Fin 512) (e : Fin 2048) (h : e.val < o ∨ o + 512 ≤ e.val) :
    View.canon (⟨Rect.unit (s := S512x2048) ![0, o] S512x512.size inb, P⟩ :: L) (ix2 r e) = View.canon L (ix2 r e) := by
  refine View.canon_cons_of_not_mem _ L fun hm => ?_
  obtain ⟨x, h3, h2⟩ := (LoadRect.mem_set _).mp hm 1
  have h3 : x < 512 := h3
  have h2 : e.val = o + 1 * x := h2
  omega

/-- ONE BLOCK'S FOUR STORES: each loads a quarter of the accumulator, adds the product of the block's activations with that quarter of the
    block's down weight, and stores it. Together they add the whole product. -/
theorem block_step (v : View sig .tc sp S512x2048 .f32) (L : List (View.Piece (Elt Ideal) S512x2048 .f32)) (a : Fin 512 → Fin 512 → EReal) (F : Fin 512 → Fin 2048 → EReal)
    (W : Fin 512 → Fin 2048 → EReal) (p0 p1 p2 p3 : S512x512.Idx → EReal) (i0 i1 i2 i3 i0' i1' i2' i3')
    (hL : ∀ r e, View.canon L (ix2 r e) = F r e)
    (h0 : ∀ r e : Fin 512, p0 (ix2 r e) = v.readCov (Val := Elt Ideal) L (Rect.unit (s := S512x2048) ![0, 0] S512x512.size i0').toLoadRect (ix2 r e) + ∑ k, a r k * W k ⟨0 + e.val, by omega⟩)
    (h1 : ∀ r e : Fin 512, p1 (ix2 r e) = v.readCov (Val := Elt Ideal) (⟨Rect.unit (s := S512x2048) ![0, 0] S512x512.size i0, p0⟩ :: L) (Rect.unit (s := S512x2048) ![0, 512] S512x512.size i1').toLoadRect (ix2 r e) + ∑ k, a r k * W k ⟨512 + e.val, by omega⟩)
    (h2 : ∀ r e : Fin 512, p2 (ix2 r e) = v.readCov (Val := Elt Ideal) (⟨Rect.unit (s := S512x2048) ![0, 512] S512x512.size i1, p1⟩ :: ⟨Rect.unit (s := S512x2048) ![0, 0] S512x512.size i0, p0⟩ :: L) (Rect.unit (s := S512x2048) ![0, 1024] S512x512.size i2').toLoadRect (ix2 r e) + ∑ k, a r k * W k ⟨1024 + e.val, by omega⟩)
    (h3 : ∀ r e : Fin 512, p3 (ix2 r e) = v.readCov (Val := Elt Ideal) (⟨Rect.unit (s := S512x2048) ![0, 1024] S512x512.size i2, p2⟩ :: ⟨Rect.unit (s := S512x2048) ![0, 512] S512x512.size i1, p1⟩ :: ⟨Rect.unit (s := S512x2048) ![0, 0] S512x512.size i0, p0⟩ :: L) (Rect.unit (s := S512x2048) ![0, 1536] S512x512.size i3').toLoadRect (ix2 r e) + ∑ k, a r k * W k ⟨1536 + e.val, by omega⟩)
    (r : Fin 512) (e : Fin 2048) :
    View.canon (⟨Rect.unit (s := S512x2048) ![0, 1536] S512x512.size i3, p3⟩ :: ⟨Rect.unit (s := S512x2048) ![0, 1024] S512x512.size i2, p2⟩ :: ⟨Rect.unit (s := S512x2048) ![0, 512] S512x512.size i1, p1⟩ :: ⟨Rect.unit (s := S512x2048) ![0, 0] S512x512.size i0, p0⟩ :: L) (ix2 r e)
      = F r e + ∑ k, a r k * W k e := by
  by_cases c3 : 1536 ≤ e.val
  · rw [a_hit _ _ _ _ _ _ c3 (by omega), h3, a_read _ _ _ _ (by omega), a_miss _ _ _ _ _ _ (by right; show _ ≤ 1536 + (e.val - 1536); omega), a_miss _ _ _ _ _ _ (by right; show _ ≤ 1536 + (e.val - 1536); omega), a_miss _ _ _ _ _ _ (by right; show _ ≤ 1536 + (e.val - 1536); omega), hL]
    have : (⟨1536 + (e.val - 1536), by omega⟩ : Fin 2048) = e := Fin.ext (by show 1536 + (e.val - 1536) = _; omega)
    simp only [this]
  rw [a_miss _ _ _ _ _ _ (by omega)]
  by_cases c2 : 1024 ≤ e.val
  · rw [a_hit _ _ _ _ _ _ c2 (by omega), h2, a_read _ _ _ _ (by omega), a_miss _ _ _ _ _ _ (by right; show _ ≤ 1024 + (e.val - 1024); omega), a_miss _ _ _ _ _ _ (by right; show _ ≤ 1024 + (e.val - 1024); omega), hL]
    have : (⟨1024 + (e.val - 1024), by omega⟩ : Fin 2048) = e := Fin.ext (by show 1024 + (e.val - 1024) = _; omega)
    simp only [this]
  rw [a_miss _ _ _ _ _ _ (by omega)]
  by_cases c1 : 512 ≤ e.val
  · rw [a_hit _ _ _ _ _ _ c1 (by omega), h1, a_read _ _ _ _ (by omega), a_miss _ _ _ _ _ _ (by right; show _ ≤ 512 + (e.val - 512); omega), hL]
    have : (⟨512 + (e.val - 512), by omega⟩ : Fin 2048) = e := Fin.ext (by show 512 + (e.val - 512) = _; omega)
    simp only [this]
  rw [a_miss _ _ _ _ _ _ (by omega)]
  rw [a_hit _ _ _ _ _ _ (by omega) (by omega), h0, a_read _ _ _ _ (by omega), hL]
  have : (⟨0 + (e.val - 0), by omega⟩ : Fin 2048) = e := Fin.ext (by show 0 + (e.val - 0) = _; omega)
  simp only [this]

end Cert.FfnI

end
-- ==== Proof.FfnI.Pays.lean ====
/- What the feed-forward kernel stores, at an index. -/
module

public import proofs.«01_k».proof.Proof.FfnI.Reads

@[expose] public section

set_option maxRecDepth 16384

noncomputable section

namespace Cert.FfnI

open Cert.KernelFfnIdeal Cert.KernelFfnIdeal.Gen
open Idealize.ShloMosaic Idealize.ShloMosaic.TcCoe

/-- A store of the accumulator: what it held plus the product of the activations with a box of the down weight. -/
theorem accP (a : S512x512.Idx → EReal) (v : S512x512.Idx → EReal) (w : S1x512x512.Idx → EReal) (r e : Fin 512) :
    k0_pay11 (F := Ideal) a v w (ix2 r e) = v (ix2 r e) + ∑ k : Fin 512, a (ix2 r k) * w (ix3 0 k e) := by
  pointwise [k0_pay11]

/-- A store of the gate scratch: the normalized rows times a block of the gate weight. -/
theorem gP (h : S544x2048.Idx → EReal) (w : S1x2048x512.Idx → EReal) (r : Fin 544) (e : Fin 512) :
    k0_pay16 (F := Ideal) h w (ix2 r e) = ∑ k : Fin 2048, h (ix2 r k) * w (ix3 0 k e) := by
  pointwise [k0_pay16]

/-- The activations of a block: the gate's convolution over three rows, times its logistic, times the up product. -/
theorem actP (h : S512x2048.Idx → EReal) (wu : S1x2048x512.Idx → EReal) (cw : S3x512.Idx → EReal) (g0 g1 g2 : S512x512.Idx → EReal) (cb : S1x512.Idx → EReal) (r e : Fin 512) :
    k0_pay10 (F := Ideal) h wu cw g0 g1 g2 cb (ix2 r e)
      = ((((cw (ix2 0 e) * g0 (ix2 r e) + cw (ix2 1 e) * g1 (ix2 r e)) + cw (ix2 2 e) * g2 (ix2 r e)) + cb (ix2 0 e))
          * Ideal.logistic ((((cw (ix2 0 e) * g0 (ix2 r e) + cw (ix2 1 e) * g1 (ix2 r e)) + cw (ix2 2 e) * g2 (ix2 r e)) + cb (ix2 0 e))))
          * ∑ k : Fin 2048, h (ix2 r k) * wu (ix3 0 k e) := by
  pointwise [k0_pay10]

/-- A row normalized by its root mean square and scaled. -/
def rmsAt (x g : Fin 2048 → EReal) (n : Fin 2048) : EReal :=
  x n * Ideal.rsqrt (Ideal.div (∑ k, x k * x k) (Ideal.ofBits FTy.f32 0x45000000#32) + Ideal.ofBits FTy.f32 0x358637BD#32) * g n

/-- A row normalized, scaled and shifted by the modulation. -/
def modAt (x g m4 m3 : Fin 2048 → EReal) (n : Fin 2048) : EReal := rmsAt x g n * (1 + m4 n) + m3 n

/-- The rows before the block's, put at zero when the block is the first of its sequence. -/
theorem h1P (b : BitVec 1) (x : S16x2048.Idx → EReal) (g : S1x2048.Idx → EReal) (m4 m3 : S1x1x2048.Idx → EReal) (r : Fin 16) (n : Fin 2048) :
    k0_pay1 (F := Ideal) b x g m4 m3 (ix2 r n)
      = Scalar.select b (modAt (fun k => x (ix2 r k)) (fun k => g (ix2 0 k)) (fun k => m4 (ix3 0 0 k)) (fun k => m3 (ix3 0 0 k)) n) 0 := by
  pointwise [k0_pay1, modAt, rmsAt]

/-- The block's own rows. -/
theorem h2P (x : S512x2048.Idx → EReal) (g : S1x2048.Idx → EReal) (m4 m3 : S1x1x2048.Idx → EReal) (r : Fin 512) (n : Fin 2048) :
    k0_pay3 (F := Ideal) x g (k0_pay2 x) (Scalar.ofBits .f32 0x45000000#32) m4 m3 (ix2 r n)
      = modAt (fun k => x (ix2 r k)) (fun k => g (ix2 0 k)) (fun k => m4 (ix3 0 0 k)) (fun k => m3 (ix3 0 0 k)) n := by
  pointwise [k0_pay3, k0_pay2, modAt, rmsAt]

/-- The rows after the block's, put at zero when the block is the last of its sequence. -/
theorem h3P (b : BitVec 1) (x : S16x2048.Idx → EReal) (g : S1x2048.Idx → EReal) (m4 m3 : S1x1x2048.Idx → EReal) (r : Fin 16) (n : Fin 2048) :
    k0_pay6 (F := Ideal) b (k0_pay4 x g) (k0_pay5 m4) m3 (ix2 r n)
      = Scalar.select b (modAt (fun k => x (ix2 r k)) (fun k => g (ix2 0 k)) (fun k => m4 (ix3 0 0 k)) (fun k => m3 (ix3 0 0 k)) n) 0 := by
  pointwise [k0_pay6, k0_pay4, k0_pay5, modAt, rmsAt]

/-- The accumulator starts at zero. -/
theorem zP (r : Fin 512) (e : Fin 2048) : k0_pay7 (F := Ideal) (ix2 r e) = 0 := by
  pointwise [k0_pay7]

/-- The result: the input plus the scaled accumulator, normalized and scaled. -/
theorem outP (x : S512x2048.Idx → EReal) (m5 : S1x1x2048.Idx → EReal) (a : S512x2048.Idx → EReal) (g : S1x2048.Idx → EReal) (r : Fin 512) (n : Fin 2048) :
    k0_pay97 (F := Ideal) x m5 a g (ix2 r n)
      = rmsAt (fun k => x (ix2 r k) + m5 (ix3 0 0 k) * a (ix2 r k)) (fun k => g (ix2 0 k)) n := by
  pointwise [k0_pay97, rmsAt]

/-- The activations of one block, spelt in three parts. -/
theorem e69 (h wu cw g0 g1 g2 cb) : k0_pay69 (F := Ideal) (k0_pay67 h wu) cw (k0_pay68 cw) g0 g1 g2 cb = k0_pay10 h wu cw g0 g1 g2 cb := rfl
/-- In the last block the first two stores spell out the activations; -/
theorem e93 (x y z v w) : k0_pay93 (F := Ideal) x y z v w = k0_pay11 (k0_pay92 x y z) v w := rfl
/-- they are the ones the other two load. -/
theorem e94 (x y z v w) : k0_pay94 (F := Ideal) x y z v w = k0_pay11 (k0_pay92 x y z) v w := rfl

end Cert.FfnI

end
-- ==== Proof.FfnI.Model.lean ====
/- One point of the feed-forward kernel as a function of the normalized rows and the weights, and how each load and store of the body meets it. -/
module

public import proofs.«01_k».proof.Proof.FfnI.Pays

@[expose] public section

set_option maxRecDepth 16384

noncomputable section

namespace Cert.FfnI

open Cert.KernelFfnIdeal Cert.KernelFfnIdeal.Gen
open Idealize.ShloMosaic Idealize.ShloMosaic.TcCoe

variable (H : Fin 544 → Fin 2048 → EReal) (XG XU : S2048x5632.Idx → EReal) (CW : S3x5632.Idx → EReal) (CB : S1x5632.Idx → EReal) (XD : S5632x2048.Idx → EReal)

/-- The gate product of a row. -/
def gm (r : Fin 544) (n : Fin 5632) : EReal := ∑ k : Fin 2048, H r k * XG (ix2 k n)

/-- Its convolution over three rows. -/
def cm (r : Fin 512) (n : Fin 5632) : EReal :=
  ((CW (ix2 0 n) * gm H XG ⟨15 + r.val, by omega⟩ n + CW (ix2 1 n) * gm H XG ⟨16 + r.val, by omega⟩ n) + CW (ix2 2 n) * gm H XG ⟨17 + r.val, by omega⟩ n) + CB (ix2 0 n)

/-- The activation: the convolution times its logistic, times the up product. -/
def am (r : Fin 512) (n : Fin 5632) : EReal :=
  (cm H XG CW CB r n * Ideal.logistic (cm H XG CW CB r n)) * ∑ k : Fin 2048, H ⟨16 + r.val, by omega⟩ k * XU (ix2 k n)

/-- What block `j` of the hidden columns adds to the result. -/
def blk (j : Fin 11) (r : Fin 512) (e : Fin 2048) : EReal :=
  ∑ k : Fin 512, am H XG XU CW CB r ⟨512 * j.val + k.val, by omega⟩ * XD (ix2 ⟨512 * j.val + k.val, by omega⟩ e)

/-- The accumulator after the first `n` blocks. -/
def accS (n : ℕ) (r : Fin 512) (e : Fin 2048) : EReal :=
  match n with
  | 0 => 0
  | n + 1 => accS n r e + blk H XG XU CW CB XD (Fin.ofNat 11 n) r e

variable {H XG XU CW CB XD} {sp : Space}

/-- A block of gate columns, loaded from row `o` of the gate scratch. -/
theorem g_gen (v : View sig .tc sp S544x512 .f32) (P : S544x512.Idx → EReal) (L : List (View.Piece (Elt Ideal) S544x512 .f32)) (o : Nat) (inb0 inb)
    (ho : o + 512 ≤ 544) (j : Fin 11) (V : S544x2048.Idx → EReal) (W : S1x2048x512.Idx → EReal) (hP : P = k0_pay16 (F := Ideal) V W)
    (hV : ∀ r k, V (ix2 r k) = H r k) (hW : ∀ k e, W (ix3 0 k e) = XG (ix2 k ⟨512 * j.val + e.val, by omega⟩)) (r e : Fin 512) :
    v.readCov (Val := Elt Ideal) (⟨Rect.unit (s := S544x512) ![0, 0] S544x512.size inb0, P⟩ :: L) (Rect.unit (s := S544x512) ![o, 0] S512x512.size inb).toLoadRect (ix2 r e)
      = gm H XG ⟨o + r.val, by omega⟩ ⟨512 * j.val + e.val, by omega⟩ := by
  rw [g_read v P L o inb0 inb ho, hP, gP]
  exact Finset.sum_congr rfl fun k _ => by rw [hV, hW]

/-- A block's activations. -/
theorem act_gen (j : Fin 11) (A : S512x2048.Idx → EReal) (wu : S1x2048x512.Idx → EReal) (cw : S3x512.Idx → EReal) (g0 g1 g2 : S512x512.Idx → EReal) (cb : S1x512.Idx → EReal)
    (hA : ∀ (r : Fin 512) k, A (ix2 r k) = H ⟨16 + r.val, by omega⟩ k) (hwu : ∀ k e, wu (ix3 0 k e) = XU (ix2 k ⟨512 * j.val + e.val, by omega⟩))
    (hcw : ∀ a e, cw (ix2 a e) = CW (ix2 a ⟨512 * j.val + e.val, by omega⟩)) (hcb : ∀ e, cb (ix2 0 e) = CB (ix2 0 ⟨512 * j.val + e.val, by omega⟩))
    (h0 : ∀ r e : Fin 512, g0 (ix2 r e) = gm H XG ⟨15 + r.val, by omega⟩ ⟨512 * j.val + e.val, by omega⟩)
    (h1 : ∀ r e : Fin 512, g1 (ix2 r e) = gm H XG ⟨16 + r.val, by omega⟩ ⟨512 * j.val + e.val, by omega⟩)
    (h2 : ∀ r e : Fin 512, g2 (ix2 r e) = gm H XG ⟨17 + r.val, by omega⟩ ⟨512 * j.val + e.val, by omega⟩) (r e : Fin 512) :
    k0_pay10 (F := Ideal) A wu cw g0 g1 g2 cb (ix2 r e) = am H XG XU CW CB r ⟨512 * j.val + e.val, by omega⟩ := by
  rw [actP, am, cm, h0, h1, h2, hcw, hcw, hcw, hcb]
  refine congrArg _ (Finset.sum_congr rfl fun k _ => ?_)
  rw [hA, hwu]

/-- A store of a quarter of the accumulator. -/
theorem st_gen (j : Fin 11) (q : Nat) (hq : q + 512 ≤ 2048) (a : S512x512.Idx → EReal) (v V : S512x512.Idx → EReal) (w : S1x512x512.Idx → EReal) (p : S512x512.Idx → EReal)
    (hp : p = k0_pay11 (F := Ideal) a v w) (hv : v = V)
    (ha : ∀ r k : Fin 512, a (ix2 r k) = am H XG XU CW CB r ⟨512 * j.val + k.val, by omega⟩)
    (hw : ∀ k e : Fin 512, w (ix3 0 k e) = XD (ix2 ⟨512 * j.val + k.val, by omega⟩ ⟨q + e.val, by omega⟩)) (r e : Fin 512) :
    p (ix2 r e) = V (ix2 r e) + ∑ k : Fin 512, am H XG XU CW CB r ⟨512 * j.val + k.val, by omega⟩ * XD (ix2 ⟨512 * j.val + k.val, by omega⟩ ⟨q + e.val, by omega⟩) := by
  rw [hp, accP, hv]
  exact congrArg _ (Finset.sum_congr rfl fun k _ => by rw [ha, hw])

variable {c : Dev nD}

/-- A load of a staged array's columns from `o`. -/
theorem col_read {R C C' : Nat} {ty : EltTy} (m : Memref sig .tc sp ⟨2, ![R, C]⟩ ty) (f : Buf (Elt Ideal) (m.view.loc (c : Thread nD τ))) (o : Nat) (inb) (ho : o + C' ≤ C) (a : Fin R) (e : Fin C') :
    View.readAt (Elt Ideal) m.view (Rect.unit (s := ⟨2, ![R, C]⟩) ![0, o] (⟨2, ![R, C']⟩ : Shape).size inb).toLoadRect f (ix2 a e)
      = View.read (Elt Ideal) m.view f (ix2 a ⟨o + e.val, by omega⟩) := by
  show View.read (Elt Ideal) m.view f _ = _
  refine congrArg _ (funext fun d => Fin.ext ?_)
  fin_cases d
  · show 0 + 1 * a.val = _; rw [Nat.one_mul, Nat.zero_add]; rfl
  · show o + 1 * e.val = _; rw [Nat.one_mul]; rfl

/-- A load of one row of the modulation. -/
theorem mod_read (m : Memref sig .tc sp S1x6x2048 .f32) (f : Buf (Elt Ideal) (m.view.loc (c : Thread nD τ))) (o : Nat) (inb) (ho : o < 6) (e : Fin 2048) :
    View.readAt (Elt Ideal) m.view (Rect.unit (s := S1x6x2048) ![0, o, 0] S1x1x2048.size inb).toLoadRect f (ix3 0 0 e)
      = View.read (Elt Ideal) m.view f (ix3 0 ⟨o, ho⟩ e) := by
  show View.read (Elt Ideal) m.view f _ = _
  refine congrArg _ (funext fun d => Fin.ext ?_)
  fin_cases d
  · rfl
  · rfl
  · show 0 + 1 * e.val = _; rw [Nat.one_mul, Nat.zero_add]; rfl

/-- A load of the normalized rows from `o` reads what the stores left there. -/
theorem h_read {R : Nat} (v : View sig .tc sp S544x2048 .bf16) (L : List (View.Piece (Elt Ideal) S544x2048 .bf16)) (o : Nat) (inb) (ho : o + R ≤ 544) (r : Fin R) (e : Fin 2048) :
    v.readCov (Val := Elt Ideal) L (Rect.unit (s := S544x2048) ![o, 0] (⟨2, ![R, 2048]⟩ : Shape).size inb).toLoadRect (ix2 r e) = View.canon L (ix2 ⟨o + r.val, by omega⟩ e) := by
  rw [View.readCov_eq_canon']
  refine congrArg (View.canon L) (funext fun a => Fin.ext ?_)
  fin_cases a
  · show o + 1 * r.val = _; rw [Nat.one_mul]; rfl
  · show 0 + 1 * e.val = _; rw [Nat.one_mul, Nat.zero_add]; rfl

/-- The normalized rows after their three stores. -/
theorem h_canon (p1 : S16x2048.Idx → EReal) (p2 : S512x2048.Idx → EReal) (p3 : S16x2048.Idx → EReal) (i1 i2 i3) (r : Fin 544) (k : Fin 2048) :
    View.canon (Val := Elt Ideal) (e := .bf16) (s := S544x2048)
      [⟨Rect.unit (s := S544x2048) ![528, 0] S16x2048.size i3, p3⟩, ⟨Rect.unit (s := S544x2048) ![16, 0] S512x2048.size i2, p2⟩, ⟨Rect.unit (s := S544x2048) ![0, 0] S16x2048.size i1, p1⟩] (ix2 r k)
      = if h : r.val < 16 then p1 (ix2 ⟨r.val, h⟩ k) else if h' : r.val < 528 then p2 (ix2 ⟨r.val - 16, by omega⟩ k) else p3 (ix2 ⟨r.val - 528, by omega⟩ k) := by
  have hit : ∀ (R o : Nat) (inb) (P : (⟨2, ![R, 2048]⟩ : Shape).Idx → EReal) (L : List (View.Piece (Elt Ideal) S544x2048 .bf16)) (y : Fin R), r.val = o + y.val →
      View.canon (⟨Rect.unit (s := S544x2048) ![o, 0] (⟨2, ![R, 2048]⟩ : Shape).size inb, P⟩ :: L) (ix2 r k) = P (ix2 y k) := by
    intro R o inb P L y hy
    rw [← View.canon_cons_emb (Rect.unit (s := S544x2048) ![o, 0] (⟨2, ![R, 2048]⟩ : Shape).size inb) P L (ix2 y k)]
    refine congrArg (View.canon _) (funext fun a => Fin.ext ?_)
    fin_cases a
    · show r.val = o + 1 * y.val; omega
    · show k.val = 0 + 1 * k.val; omega
  have miss : ∀ (R o : Nat) (inb) (P : (⟨2, ![R, 2048]⟩ : Shape).Idx → EReal) (L : List (View.Piece (Elt Ideal) S544x2048 .bf16)), r.val < o →
      View.canon (⟨Rect.unit (s := S544x2048) ![o, 0] (⟨2, ![R, 2048]⟩ : Shape).size inb, P⟩ :: L) (ix2 r k) = View.canon L (ix2 r k) := by
    intro R o inb P L ho
    refine View.canon_cons_of_not_mem _ L fun hm => ?_
    obtain ⟨x, h3, h2⟩ := (LoadRect.mem_set _).mp hm 0
    have h2 : r.val = o + 1 * x := h2
    omega
  by_cases h : r.val < 16
  · rw [dif_pos h, miss 16 528 _ _ _ (by omega), miss 512 16 _ _ _ (by omega)]
    exact hit 16 0 _ _ _ ⟨r.val, h⟩ (Nat.zero_add _).symm
  rw [dif_neg h]
  by_cases h' : r.val < 528
  · rw [dif_pos h', miss 16 528 _ _ _ (by omega)]
    exact hit 512 16 _ _ _ ⟨r.val - 16, by omega⟩ (by show _ = 16 + (r.val - 16); omega)
  rw [dif_neg h']
  exact hit 16 528 _ _ _ ⟨r.val - 528, by omega⟩ (by show _ = 528 + (r.val - 528); omega)

/-- The normalized rows of one point: 16 rows of the block before, its own 512, 16 of the block after, those outside the sequence at zero. -/
def hv (b : ℕ) (x1 : S512x2048.Idx → EReal) (x2 x3 : S16x2048.Idx → EReal) (x4 : S1x6x2048.Idx → EReal) (x5 : S1x2048.Idx → EReal) (r : Fin 544) (k : Fin 2048) : EReal :=
  if h : r.val < 16 then
    (if b % 8 = 0 then 0 else modAt (fun n => x2 (ix2 ⟨r.val, h⟩ n)) (fun n => x5 (ix2 0 n)) (fun n => x4 (ix3 0 4 n)) (fun n => x4 (ix3 0 3 n)) k)
  else if h' : r.val < 528 then
    modAt (fun n => x1 (ix2 ⟨r.val - 16, by omega⟩ n)) (fun n => x5 (ix2 0 n)) (fun n => x4 (ix3 0 4 n)) (fun n => x4 (ix3 0 3 n)) k
  else
    (if b % 8 = 7 then 0 else modAt (fun n => x3 (ix2 ⟨r.val - 528, by omega⟩ n)) (fun n => x5 (ix2 0 n)) (fun n => x4 (ix3 0 4 n)) (fun n => x4 (ix3 0 3 n)) k)

/-- What one point stores. -/
def pointOut (b : ℕ) (x1 : S512x2048.Idx → EReal) (x2 x3 : S16x2048.Idx → EReal) (x4 : S1x6x2048.Idx → EReal) (x5 : S1x2048.Idx → EReal) (x6 : S3x5632.Idx → EReal)
    (x7 : S1x5632.Idx → EReal) (x8 : S1x2048.Idx → EReal) (XG XU : S2048x5632.Idx → EReal) (XD : S5632x2048.Idx → EReal) (r : Fin 512) (e : Fin 2048) : EReal :=
  rmsAt (fun n => x1 (ix2 r n) + x4 (ix3 0 5 n) * accS (hv b x1 x2 x3 x4 x5) XG XU x6 x7 XD 11 r n) (fun n => x8 (ix2 0 n)) e

/-- A choice by a bit that says a condition fails. -/
theorem sel_eq (p : Prop) [Decidable p] (b : BitVec 1) (hb : b = if p then 0#1 else 1#1) (x : EReal) : Scalar.select b x 0 = if p then 0 else x := by
  subst hb; by_cases h : p
  · rw [if_pos h, if_pos h]; rfl
  · rw [if_neg h, if_neg h]; rfl

end Cert.FfnI

end
-- ==== Proof.FfnI.Whole.lean ====
/- The feed-forward layer's result array as a function of its arguments, and one grid point's part of it. -/
module

public import proofs.«01_k».proof.Proof.FfnI.Model

@[expose] public section

set_option maxRecDepth 16384

noncomputable section

namespace Cert.FfnI

open Cert.KernelFfnIdeal Cert.KernelFfnIdeal.Gen
open Idealize.ShloMosaic Idealize.ShloMosaic.TcCoe

variable (A0 : S32768x2048.Idx → EReal) (A1 : S8x6x2048.Idx → EReal) (A2 : S1x2048.Idx → EReal) (A3 A4 : S2048x5632.Idx → EReal) (A5 : S3x5632.Idx → EReal)
  (A6 : S1x5632.Idx → EReal) (A7 : S5632x2048.Idx → EReal) (A8 : S1x2048.Idx → EReal)

/-- Row `R` of the input normalized, scaled and shifted by its sequence's modulation. -/
def hN (R : Fin 32768) (k : Fin 2048) : EReal :=
  modAt (fun n => A0 (ix2 R n)) (fun n => A2 (ix2 0 n)) (fun n => A1 (ix3 ⟨R.val / 4096, by omega⟩ 4 n)) (fun n => A1 (ix3 ⟨R.val / 4096, by omega⟩ 3 n)) k

/-- The gate product of a row, -/
def gC (R : Fin 32768) (n : Fin 5632) : EReal := ∑ k : Fin 2048, hN A0 A1 A2 R k * A3 (ix2 k n)

/-- of the row before in the same sequence, zero at the sequence's start, -/
def gL (R : Fin 32768) (n : Fin 5632) : EReal := if h : R.val % 4096 = 0 then 0 else gC A0 A1 A2 A3 ⟨R.val - 1, by omega⟩ n

/-- and of the row after, zero at the sequence's end. -/
def gR (R : Fin 32768) (n : Fin 5632) : EReal := if h : R.val % 4096 = 4095 then 0 else gC A0 A1 A2 A3 ⟨R.val + 1, by omega⟩ n

/-- The convolution over the three rows. -/
def cN (R : Fin 32768) (n : Fin 5632) : EReal :=
  ((A5 (ix2 0 n) * gL A0 A1 A2 A3 R n + A5 (ix2 1 n) * gC A0 A1 A2 A3 R n) + A5 (ix2 2 n) * gR A0 A1 A2 A3 R n) + A6 (ix2 0 n)

/-- The activation. -/
def aN (R : Fin 32768) (n : Fin 5632) : EReal :=
  (cN A0 A1 A2 A3 A5 A6 R n * Ideal.logistic (cN A0 A1 A2 A3 A5 A6 R n)) * ∑ k : Fin 2048, hN A0 A1 A2 R k * A4 (ix2 k n)

/-- The layer's result: the input plus the scaled down product, normalized. -/
def yN (R : Fin 32768) (e : Fin 2048) : EReal :=
  rmsAt (fun n => A0 (ix2 R n) + A1 (ix3 ⟨R.val / 4096, by omega⟩ 5 n) * ∑ l : Fin 5632, aN A0 A1 A2 A3 A4 A5 A6 R l * A7 (ix2 l n)) (fun n => A8 (ix2 0 n)) e

/-- The result array. -/
def ffnArr : S32768x2048.Idx → EReal := fun i => yN A0 A1 A2 A3 A4 A5 A6 A7 A8 ⟨i 0, (i 0).isLt⟩ ⟨i 1, (i 1).isLt⟩

/-- The accumulator after all eleven blocks is the sum over all hidden columns. -/
theorem acc_all (H : Fin 544 → Fin 2048 → EReal) (XG XU : S2048x5632.Idx → EReal) (CW : S3x5632.Idx → EReal) (CB : S1x5632.Idx → EReal) (XD : S5632x2048.Idx → EReal)
    (r : Fin 512) (e : Fin 2048) : accS H XG XU CW CB XD 11 r e = ∑ l : Fin 5632, am H XG XU CW CB r l * XD (ix2 l e) := by
  have h1 : accS H XG XU CW CB XD 11 r e = ∑ j : Fin 11, blk H XG XU CW CB XD j r e := by
    simp only [Fin.sum_univ_succ, Fin.sum_univ_zero, accS, zero_add, add_zero, add_assoc]
    rfl
  rw [h1]
  simp only [blk]
  rw [← Fintype.sum_prod_type' (fun (j : Fin 11) (k : Fin 512) => am H XG XU CW CB r ⟨512 * j.val + k.val, by omega⟩ * XD (ix2 ⟨512 * j.val + k.val, by omega⟩ e))]
  refine Fintype.sum_equiv (finProdFinEquiv (m := 11) (n := 512)) _ _ fun p => ?_
  have : (⟨512 * p.1.val + p.2.val, by omega⟩ : Fin 5632) = finProdFinEquiv (m := 11) (n := 512) p := Fin.ext (by
    show 512 * p.1.val + p.2.val = p.2.val + 512 * p.1.val; omega)
  rw [this]

variable {A0 A1 A2 A3 A4 A5 A6 A7 A8}
variable (b : ℕ) (hb : b < 64) (x1 : S512x2048.Idx → EReal) (x2 x3 : S16x2048.Idx → EReal) (x4 : S1x6x2048.Idx → EReal) (x5 : S1x2048.Idx → EReal)
  (e1 : ∀ (r : Fin 512) k, x1 (ix2 r k) = A0 (ix2 ⟨b * 512 + r.val, by omega⟩ k))
  (e2 : ∀ (r : Fin 16) k, x2 (ix2 r k) = A0 (ix2 ⟨(b * 32 - 1) * 16 + r.val, by omega⟩ k))
  (e3 : ∀ (r : Fin 16) k, x3 (ix2 r k) = A0 (ix2 ⟨(min (b * 32 + 32) 2047) * 16 + r.val, by omega⟩ k))
  (e4 : ∀ (a : Fin 6) k, x4 (ix3 0 a k) = A1 (ix3 ⟨b / 8, by omega⟩ a k))
  (e5 : ∀ k, x5 (ix2 0 k) = A2 (ix2 0 k))

include e1 e2 e3 e4 e5

/-- A row of the block itself, -/
theorem hv_mid (r : Fin 512) (k : Fin 2048) (o : Nat) (ho : o < 544) (R : Nat) (hR : R < 32768) (h1 : 16 ≤ o) (h2 : o < 528) (h : R + 16 = b * 512 + o) :
    hv b x1 x2 x3 x4 x5 ⟨o, ho⟩ k = hN A0 A1 A2 ⟨R, hR⟩ k := by
  unfold hv hN
  rw [dif_neg (by show ¬ o < 16; omega), dif_pos (by show o < 528; omega)]
  have d : (⟨b / 8, by omega⟩ : Fin 8) = ⟨R / 4096, by omega⟩ := Fin.ext (by show b / 8 = R / 4096; omega)
  have d1 : (⟨b * 512 + (o - 16), by omega⟩ : Fin 32768) = ⟨R, hR⟩ := Fin.ext (by show b * 512 + (o - 16) = R; omega)
  simp only [e1, e4, e5, d]
  simp only [d1]

/-- the row before it, -/
theorem hv_prev (k : Fin 2048) :
    hv b x1 x2 x3 x4 x5 ⟨15, by omega⟩ k = if h : b % 8 = 0 then 0 else hN A0 A1 A2 ⟨b * 512 - 1, by omega⟩ k := by
  unfold hv hN
  rw [dif_pos (by show 15 < 16; omega)]
  by_cases h : b % 8 = 0
  · rw [if_pos h, dif_pos h]
  rw [if_neg h, dif_neg h]
  have d : (⟨b / 8, by omega⟩ : Fin 8) = ⟨(b * 512 - 1) / 4096, by omega⟩ := Fin.ext (by show b / 8 = (b * 512 - 1) / 4096; omega)
  have d1 : (⟨(b * 32 - 1) * 16 + 15, by omega⟩ : Fin 32768) = ⟨b * 512 - 1, by omega⟩ := Fin.ext (by show (b * 32 - 1) * 16 + 15 = b * 512 - 1; omega)
  simp only [e2, e4, e5, d]
  simp only [d1]

/-- and the row after it. -/
theorem hv_next (k : Fin 2048) :
    hv b x1 x2 x3 x4 x5 ⟨528, by omega⟩ k = if h : b % 8 = 7 then 0 else hN A0 A1 A2 ⟨b * 512 + 512, by omega⟩ k := by
  unfold hv hN
  rw [dif_neg (by show ¬ 528 < 16; omega), dif_neg (by show ¬ 528 < 528; omega)]
  by_cases h : b % 8 = 7
  · rw [if_pos h, dif_pos h]
  rw [if_neg h, dif_neg h]
  have d : (⟨b / 8, by omega⟩ : Fin 8) = ⟨(b * 512 + 512) / 4096, by omega⟩ := Fin.ext (by show b / 8 = (b * 512 + 512) / 4096; omega)
  have d1 : (⟨(min (b * 32 + 32) 2047) * 16 + (528 - 528), by omega⟩ : Fin 32768) = ⟨b * 512 + 512, by omega⟩ := Fin.ext (by show (min (b * 32 + 32) 2047) * 16 + (528 - 528) = b * 512 + 512; omega)
  simp only [e3, e4, e5, d]
  simp only [d1]

/-- The gate product of a block's row, -/
theorem gm_mid (r : Fin 512) (n : Fin 5632) : gm (hv b x1 x2 x3 x4 x5) A3 ⟨16 + r.val, by omega⟩ n = gC A0 A1 A2 A3 ⟨b * 512 + r.val, by omega⟩ n := by
  unfold gm gC
  refine Finset.sum_congr rfl fun k _ => ?_
  rw [hv_mid b hb x1 x2 x3 x4 x5 e1 e2 e3 e4 e5 r k (16 + r.val) (by omega) (b * 512 + r.val) (by omega) (by omega) (by omega) (by omega)]

/-- of the row before it, -/
theorem gm_prev (r : Fin 512) (n : Fin 5632) : gm (hv b x1 x2 x3 x4 x5) A3 ⟨15 + r.val, by omega⟩ n = gL A0 A1 A2 A3 ⟨b * 512 + r.val, by omega⟩ n := by
  unfold gL
  by_cases h0 : r.val = 0
  · have hv0 := hv_prev b hb x1 x2 x3 x4 x5 e1 e2 e3 e4 e5
    have dr : (⟨15 + r.val, by omega⟩ : Fin 544) = ⟨15, by omega⟩ := Fin.ext (by show 15 + r.val = 15; omega)
    rw [dr]
    by_cases h : b % 8 = 0
    · rw [dif_pos (by show (b * 512 + r.val) % 4096 = 0; omega)]
      unfold gm
      refine Finset.sum_eq_zero fun k _ => ?_
      rw [hv0, dif_pos h, zero_mul]
    · rw [dif_neg (by show ¬ (b * 512 + r.val) % 4096 = 0; omega)]
      unfold gm gC
      refine Finset.sum_congr rfl fun k _ => ?_
      rw [hv0, dif_neg h]
      have d : (⟨b * 512 - 1, by omega⟩ : Fin 32768) = ⟨b * 512 + r.val - 1, by omega⟩ := Fin.ext (by show b * 512 - 1 = b * 512 + r.val - 1; omega)
      rw [d]
  · rw [dif_neg (by show ¬ (b * 512 + r.val) % 4096 = 0; omega)]
    unfold gm gC
    refine Finset.sum_congr rfl fun k _ => ?_
    rw [hv_mid b hb x1 x2 x3 x4 x5 e1 e2 e3 e4 e5 r k (15 + r.val) (by omega) (b * 512 + r.val - 1) (by omega) (by omega) (by omega) (by omega)]

/-- and of the row after it. -/
theorem gm_next (r : Fin 512) (n : Fin 5632) : gm (hv b x1 x2 x3 x4 x5) A3 ⟨17 + r.val, by omega⟩ n = gR A0 A1 A2 A3 ⟨b * 512 + r.val, by omega⟩ n := by
  unfold gR
  by_cases h0 : r.val = 511
  · have hv0 := hv_next b hb x1 x2 x3 x4 x5 e1 e2 e3 e4 e5
    have dr : (⟨17 + r.val, by omega⟩ : Fin 544) = ⟨528, by omega⟩ := Fin.ext (by show 17 + r.val = 528; omega)
    rw [dr]
    by_cases h : b % 8 = 7
    · rw [dif_pos (by show (b * 512 + r.val) % 4096 = 4095; omega)]
      unfold gm
      refine Finset.sum_eq_zero fun k _ => ?_
      rw [hv0, dif_pos h, zero_mul]
    · rw [dif_neg (by show ¬ (b * 512 + r.val) % 4096 = 4095; omega)]
      unfold gm gC
      refine Finset.sum_congr rfl fun k _ => ?_
      rw [hv0, dif_neg h]
      have d : (⟨b * 512 + 512, by omega⟩ : Fin 32768) = ⟨b * 512 + r.val + 1, by omega⟩ := Fin.ext (by show b * 512 + 512 = b * 512 + r.val + 1; omega)
      rw [d]
  · rw [dif_neg (by show ¬ (b * 512 + r.val) % 4096 = 4095; omega)]
    unfold gm gC
    refine Finset.sum_congr rfl fun k _ => ?_
    rw [hv_mid b hb x1 x2 x3 x4 x5 e1 e2 e3 e4 e5 r k (17 + r.val) (by omega) (b * 512 + r.val + 1) (by omega) (by omega) (by omega) (by omega)]

/-- One point's result is its rows of the whole. -/
theorem point_eq (r : Fin 512) (e : Fin 2048) :
    pointOut b x1 x2 x3 x4 x5 A5 A6 A8 A3 A4 A7 r e = yN A0 A1 A2 A3 A4 A5 A6 A7 A8 ⟨b * 512 + r.val, by omega⟩ e := by
  unfold pointOut yN
  have d : (⟨b / 8, by omega⟩ : Fin 8) = ⟨(b * 512 + r.val) / 4096, by omega⟩ := Fin.ext (by show b / 8 = (b * 512 + r.val) / 4096; omega)
  have ha : ∀ l : Fin 5632, am (hv b x1 x2 x3 x4 x5) A3 A4 A5 A6 r l = aN A0 A1 A2 A3 A4 A5 A6 ⟨b * 512 + r.val, by omega⟩ l := by
    intro l
    have hc : cm (hv b x1 x2 x3 x4 x5) A3 A5 A6 r l = cN A0 A1 A2 A3 A5 A6 ⟨b * 512 + r.val, by omega⟩ l := by
      unfold cm cN
      rw [gm_prev b hb x1 x2 x3 x4 x5 e1 e2 e3 e4 e5, gm_mid b hb x1 x2 x3 x4 x5 e1 e2 e3 e4 e5, gm_next b hb x1 x2 x3 x4 x5 e1 e2 e3 e4 e5]
    unfold am aN
    rw [hc]
    refine congrArg _ (Finset.sum_congr rfl fun k _ => ?_)
    rw [hv_mid b hb x1 x2 x3 x4 x5 e1 e2 e3 e4 e5 r k (16 + r.val) (by omega) (b * 512 + r.val) (by omega) (by omega) (by omega) (by omega)]
  simp only [acc_all, e1, e4, ha, d]

omit hb e1 e2 e3 e4 e5

/-- The same with rows and sequences named by their numbers. -/
theorem point_at (h : b < 64)
    (d1 : ∀ (r : Fin 512) k (R : Fin 32768), R.val = b * 512 + r.val → x1 (ix2 r k) = A0 (ix2 R k))
    (d2 : ∀ (r : Fin 16) k (R : Fin 32768), R.val = (b * 32 - 1) * 16 + r.val → x2 (ix2 r k) = A0 (ix2 R k))
    (d3 : ∀ (r : Fin 16) k (R : Fin 32768), R.val = (min (b * 32 + 32) 2047) * 16 + r.val → x3 (ix2 r k) = A0 (ix2 R k))
    (d4 : ∀ (a : Fin 6) k (B : Fin 8), B.val = b / 8 → x4 (ix3 0 a k) = A1 (ix3 B a k))
    (d5 : ∀ k, x5 (ix2 0 k) = A2 (ix2 0 k)) (r : Fin 512) (e : Fin 2048) (R : Fin 32768) (hR : R.val = b * 512 + r.val) :
    pointOut b x1 x2 x3 x4 x5 A5 A6 A8 A3 A4 A7 r e = yN A0 A1 A2 A3 A4 A5 A6 A7 A8 R e := by
  have q : R = ⟨b * 512 + r.val, by omega⟩ := Fin.ext hR
  rw [q]
  exact point_eq b h x1 x2 x3 x4 x5 (fun r k => d1 r k _ rfl) (fun r k => d2 r k _ rfl) (fun r k => d3 r k _ rfl) (fun a k => d4 a k _ rfl) d5 r e

end Cert.FfnI

end
-- ==== Proof.FfnI.Pieces.lean ====
/- The resources the feed-forward kernel holds between two grid points: the weights' blocks home or in flight, the
   slots free, landed or in flight, their semaphores. -/
module

public import proofs.«01_k».proof.Proof.FfnI.Names

@[expose] public section

set_option maxRecDepth 16384

noncomputable section

namespace Cert.FfnI

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ

abbrev R00 : Rect S512x2048 := Rect.unit (s := S512x2048) ![0, 0] S512x2048.size inb_S512x2048_S512x2048_0_0

/-- The body on the given staging memrefs, the weights' arrays and the scratch its own. -/
abbrev bodyG (i : grid0.Coords)
    (arg1 : Memref sig .tc .vmem S512x2048 .f32) (harg1 : arg1.IsWhole)
    (arg2 : Memref sig .tc .vmem S16x2048 .f32) (harg2 : arg2.IsWhole)
    (arg3 : Memref sig .tc .vmem S16x2048 .f32) (harg3 : arg3.IsWhole)
    (arg4 : Memref sig .tc .vmem S1x6x2048 .f32) (harg4 : arg4.IsWhole)
    (arg5 : Memref sig .tc .vmem S1x2048 .f32) (harg5 : arg5.IsWhole)
    (arg6 : Memref sig .tc .vmem S3x5632 .f32) (harg6 : arg6.IsWhole)
    (arg7 : Memref sig .tc .vmem S1x5632 .f32) (harg7 : arg7.IsWhole)
    (arg8 : Memref sig .tc .vmem S1x2048 .f32) (harg8 : arg8.IsWhole)
    (arg12 : Memref sig .tc .vmem S512x2048 .f32) (harg12 : arg12.IsWhole)
    (arg13 : Memref sig .tc .vmem S544x2048 .bf16) (harg13 : arg13.IsWhole)
    (arg14 : Memref sig .tc .vmem S544x512 .f32) (harg14 : arg14.IsWhole)
    (arg15 : Memref sig .tc .vmem S512x2048 .f32) (harg15 : arg15.IsWhole) : Prog (TpuEff nD τ sig (Elt F) Λ₀ .tc) PUnit :=
  cc0_conv_ffn (F := F) i arg1 harg1 arg2 harg2 arg3 harg3 arg4 harg4 arg5 harg5 arg6 harg6 arg7 harg7 arg8 harg8 wgM (Memref.isWhole_whole _) wuM (Memref.isWhole_whole _) wdM (Memref.isWhole_whole _) arg12 harg12
    arg13 harg13 arg14 harg14 arg15 harg15 wgR (Memref.isWhole_whole _) wuR (Memref.isWhole_whole _) wdR (Memref.isWhole_whole _) cc0_scratch6

section
variable (c : Dev nD) (i : grid0.Coords)
  (XG : Buf (Elt F) (wgM.view.loc (c : Thread nD τ))) (XU : Buf (Elt F) (wuM.view.loc (c : Thread nD τ))) (XD : Buf (Elt F) (wdM.view.loc (c : Thread nD τ)))

abbrev cellP (r s : Fin 3) : sProp 𝕄 := semVal ((c : Thread nD τ), SemLoc.dma (csm r s).sem) 0
abbrev wgSP (s : Fin 3) (f : Buf (Elt F) ((wgS s).view.loc (c : Thread nD τ))) : sProp 𝕄 := (wgS s).view.loc (c : Thread nD τ) ↦[(wgS s).view.set]{fullShare} f
abbrev wuSP (s : Fin 3) (f : Buf (Elt F) ((wuS s).view.loc (c : Thread nD τ))) : sProp 𝕄 := (wuS s).view.loc (c : Thread nD τ) ↦[(wuS s).view.set]{fullShare} f
abbrev wdSP (s : Fin 3) (f : Buf (Elt F) ((wdS s).view.loc (c : Thread nD τ))) : sProp 𝕄 := (wdS s).view.loc (c : Thread nD τ) ↦[(wdS s).view.set]{fullShare} f
/-- A block of a weight's array, home. -/
abbrev wgHP (j : Fin 11) : sProp 𝕄 := (wgB j).view.loc (c : Thread nD τ) ↦[(wgB j).view.set]{fullShare} XG
abbrev wuHP (j : Fin 11) : sProp 𝕄 := (wuB j).view.loc (c : Thread nD τ) ↦[(wuB j).view.set]{fullShare} XU
abbrev wdHP (j : Fin 11) : sProp 𝕄 := (wdB j).view.loc (c : Thread nD τ) ↦[(wdB j).view.set]{fullShare} XD
/-- What a block's transfer leaves in a slot. -/
abbrev wgL (s : Fin 3) (j : Fin 11) (f : Buf (Elt F) ((wgS s).view.loc (c : Thread nD τ))) : Buf (Elt F) ((wgS s).view.loc (c : Thread nD τ)) :=
  (wgS s).view.writes (Elt F) f [⟨Rect.whole S2048x512, ReadAs.same.apply ((wgB j).view.read (Elt F) XG)⟩]
abbrev wuL (s : Fin 3) (j : Fin 11) (f : Buf (Elt F) ((wuS s).view.loc (c : Thread nD τ))) : Buf (Elt F) ((wuS s).view.loc (c : Thread nD τ)) :=
  (wuS s).view.writes (Elt F) f [⟨Rect.whole S2048x512, ReadAs.same.apply ((wuB j).view.read (Elt F) XU)⟩]
abbrev wdL (s : Fin 3) (j : Fin 11) (f : Buf (Elt F) ((wdS s).view.loc (c : Thread nD τ))) : Buf (Elt F) ((wdS s).view.loc (c : Thread nD τ)) :=
  (wdS s).view.writes (Elt F) f [⟨Rect.whole S512x2048, ReadAs.same.apply ((wdB j).view.read (Elt F) XD)⟩]
/-- A block on its way into a slot. -/
abbrev wgF (s : Fin 3) (j : Fin 11) (f : Buf (Elt F) ((wgS s).view.loc (c : Thread nD τ))) : sProp 𝕄 :=
  Transfers.Flight countersEmb (c : Thread nD τ) (SemLoc.dma (csm 0 s).sem) () (wgS s).view.dmaCredit iprop(wgSP c s (wgL c XG s j f) ∗ wgHP c XG j)
abbrev wuF (s : Fin 3) (j : Fin 11) (f : Buf (Elt F) ((wuS s).view.loc (c : Thread nD τ))) : sProp 𝕄 :=
  Transfers.Flight countersEmb (c : Thread nD τ) (SemLoc.dma (csm 1 s).sem) () (wuS s).view.dmaCredit iprop(wuSP c s (wuL c XU s j f) ∗ wuHP c XU j)
abbrev wdF (s : Fin 3) (j : Fin 11) (f : Buf (Elt F) ((wdS s).view.loc (c : Thread nD τ))) : sProp 𝕄 :=
  Transfers.Flight countersEmb (c : Thread nD τ) (SemLoc.dma (csm 2 s).sem) () (wdS s).view.dmaCredit iprop(wdSP c s (wdL c XD s j f) ∗ wdHP c XD j)

/-- The three scratch buffers that are written before they are read at every point. -/
def scr (arg13 : Memref sig .tc .vmem S544x2048 .bf16) (arg14 : Memref sig .tc .vmem S544x512 .f32) (arg15 : Memref sig .tc .vmem S512x2048 .f32) : sProp 𝕄 :=
  iprop((∃ f : Buf (Elt F) (arg13.view.loc (c : Thread nD τ)), arg13.view.loc (c : Thread nD τ) ↦[arg13.view.set]{fullShare} f)
    ∗ (∃ f : Buf (Elt F) (arg14.view.loc (c : Thread nD τ)), arg14.view.loc (c : Thread nD τ) ↦[arg14.view.set]{fullShare} f)
    ∗ (∃ f : Buf (Elt F) (arg15.view.loc (c : Thread nD τ)), arg15.view.loc (c : Thread nD τ) ↦[arg15.view.set]{fullShare} f))
/-- Every block home; every block but block 1. -/
def homesAll : sProp 𝕄 := iprop((wgHP c XG 0 ∗ wgHP c XG 1 ∗ wgHP c XG 2 ∗ wgHP c XG 3 ∗ wgHP c XG 4 ∗ wgHP c XG 5 ∗ wgHP c XG 6 ∗ wgHP c XG 7 ∗ wgHP c XG 8 ∗ wgHP c XG 9 ∗ wgHP c XG 10) ∗ (wuHP c XU 0 ∗ wuHP c XU 1 ∗ wuHP c XU 2 ∗ wuHP c XU 3 ∗ wuHP c XU 4 ∗ wuHP c XU 5 ∗ wuHP c XU 6 ∗ wuHP c XU 7 ∗ wuHP c XU 8 ∗ wuHP c XU 9 ∗ wuHP c XU 10) ∗ (wdHP c XD 0 ∗ wdHP c XD 1 ∗ wdHP c XD 2 ∗ wdHP c XD 3 ∗ wdHP c XD 4 ∗ wdHP c XD 5 ∗ wdHP c XD 6 ∗ wdHP c XD 7 ∗ wdHP c XD 8 ∗ wdHP c XD 9 ∗ wdHP c XD 10))
def homesBut : sProp 𝕄 := iprop((wgHP c XG 0 ∗ wgHP c XG 2 ∗ wgHP c XG 3 ∗ wgHP c XG 4 ∗ wgHP c XG 5 ∗ wgHP c XG 6 ∗ wgHP c XG 7 ∗ wgHP c XG 8 ∗ wgHP c XG 9 ∗ wgHP c XG 10) ∗ (wuHP c XU 0 ∗ wuHP c XU 2 ∗ wuHP c XU 3 ∗ wuHP c XU 4 ∗ wuHP c XU 5 ∗ wuHP c XU 6 ∗ wuHP c XU 7 ∗ wuHP c XU 8 ∗ wuHP c XU 9 ∗ wuHP c XU 10) ∗ (wdHP c XD 0 ∗ wdHP c XD 2 ∗ wdHP c XD 3 ∗ wdHP c XD 4 ∗ wdHP c XD 5 ∗ wdHP c XD 6 ∗ wdHP c XD 7 ∗ wdHP c XD 8 ∗ wdHP c XD 9 ∗ wdHP c XD 10))
/-- Slot `s` of the three buffers at anything; holding block 0; block 1 on its way; its semaphores at zero. -/
def slotsFree (s : Fin 3) : sProp 𝕄 := iprop((∃ f, wgSP c s f) ∗ (∃ f, wuSP c s f) ∗ (∃ f, wdSP c s f))
def slotsLanded (s : Fin 3) : sProp 𝕄 := iprop((∃ f, wgSP c s (wgL c XG s 0 f)) ∗ (∃ f, wuSP c s (wuL c XU s 0 f)) ∗ (∃ f, wdSP c s (wdL c XD s 0 f)))
def slotsFlight (s : Fin 3) : sProp 𝕄 := iprop((∃ f, wgF c XG s 1 f) ∗ (∃ f, wuF c XU s 1 f) ∗ (∃ f, wdF c XD s 1 f))
def cellsZero (s : Fin 3) : sProp 𝕄 := iprop(cellP c 0 s ∗ cellP c 1 s ∗ cellP c 2 s)

/-- Before the first point and after the last: everything home, the slots at anything. -/
def ringFree (s0 s1 s2 : Fin 3) : sProp 𝕄 := iprop(homesAll c XG XU XD ∗ slotsFree c s0 ∗ slotsFree c s1 ∗ slotsFree c s2 ∗ cellsZero c s0 ∗ cellsZero c s1 ∗ cellsZero c s2)
/-- Between two points: block 0 landed in slot `s0`, block 1 on its way into slot `s1`, slot `s2` at anything. -/
def ringBusy (s0 s1 s2 : Fin 3) : sProp 𝕄 := iprop(homesBut c XG XU XD ∗ slotsLanded c XG XU XD s0 ∗ slotsFlight c XG XU XD s1 ∗ slotsFree c s2 ∗ cellsZero c s0 ∗ cellsZero c s2)

/-- A slot last written by block `j`'s transfer holds block `j`; a transfer into it is block `j`'s. -/
theorem wg_landed (s : Fin 3) (j : Fin 11) (f : Buf (Elt F) ((wgS s).view.loc (c : Thread nD τ))) (p) (l) (h : p = ReadAs.same.apply ((wgB j).view.read (Elt F) XG)) :
    (wgSP c s ((wgS s).view.writes (Elt F) f (⟨Rect.whole S2048x512, p⟩ :: l)) : sProp 𝕄) ⊢ iprop(∃ f, wgSP c s (wgL c XG s j f)) := by
  subst h; iintro H; iexists (wgS s).view.writes (Elt F) f l; iexact H
theorem wu_landed (s : Fin 3) (j : Fin 11) (f : Buf (Elt F) ((wuS s).view.loc (c : Thread nD τ))) (p) (l) (h : p = ReadAs.same.apply ((wuB j).view.read (Elt F) XU)) :
    (wuSP c s ((wuS s).view.writes (Elt F) f (⟨Rect.whole S2048x512, p⟩ :: l)) : sProp 𝕄) ⊢ iprop(∃ f, wuSP c s (wuL c XU s j f)) := by
  subst h; iintro H; iexists (wuS s).view.writes (Elt F) f l; iexact H
theorem wd_landed (s : Fin 3) (j : Fin 11) (f : Buf (Elt F) ((wdS s).view.loc (c : Thread nD τ))) (p) (l) (h : p = ReadAs.same.apply ((wdB j).view.read (Elt F) XD)) :
    (wdSP c s ((wdS s).view.writes (Elt F) f (⟨Rect.whole S512x2048, p⟩ :: l)) : sProp 𝕄) ⊢ iprop(∃ f, wdSP c s (wdL c XD s j f)) := by
  subst h; iintro H; iexists (wdS s).view.writes (Elt F) f l; iexact H
theorem wg_flight (s : Fin 3) (j : Fin 11) (f : Buf (Elt F) ((wgS s).view.loc (c : Thread nD τ))) (p) (l) (h : p = ReadAs.same.apply ((wgB j).view.read (Elt F) XG)) :
    (Transfers.Flight countersEmb (c : Thread nD τ) (SemLoc.dma (csm 0 s).sem) default 65536 iprop(wgSP c s ((wgS s).view.writes (Elt F) f (⟨Rect.whole S2048x512, p⟩ :: l)) ∗ wgHP c XG j) : sProp 𝕄)
      ⊢ iprop(∃ f, wgF c XG s j f) := by
  subst h; iintro H; iexists (wgS s).view.writes (Elt F) f l; iexact H
theorem wu_flight (s : Fin 3) (j : Fin 11) (f : Buf (Elt F) ((wuS s).view.loc (c : Thread nD τ))) (p) (l) (h : p = ReadAs.same.apply ((wuB j).view.read (Elt F) XU)) :
    (Transfers.Flight countersEmb (c : Thread nD τ) (SemLoc.dma (csm 1 s).sem) default 65536 iprop(wuSP c s ((wuS s).view.writes (Elt F) f (⟨Rect.whole S2048x512, p⟩ :: l)) ∗ wuHP c XU j) : sProp 𝕄)
      ⊢ iprop(∃ f, wuF c XU s j f) := by
  subst h; iintro H; iexists (wuS s).view.writes (Elt F) f l; iexact H
theorem wd_flight (s : Fin 3) (j : Fin 11) (f : Buf (Elt F) ((wdS s).view.loc (c : Thread nD τ))) (p) (l) (h : p = ReadAs.same.apply ((wdB j).view.read (Elt F) XD)) :
    (Transfers.Flight countersEmb (c : Thread nD τ) (SemLoc.dma (csm 2 s).sem) default 65536 iprop(wdSP c s ((wdS s).view.writes (Elt F) f (⟨Rect.whole S512x2048, p⟩ :: l)) ∗ wdHP c XD j) : sProp 𝕄)
      ⊢ iprop(∃ f, wdF c XD s j f) := by
  subst h; iintro H; iexists (wdS s).view.writes (Elt F) f l; iexact H
end

end Cert.FfnI

end
-- ==== Proof.FfnI.Mid.lean ====
/- The feed-forward kernel's body run at a point that is neither the first nor the last. -/
module

public import proofs.«01_k».proof.Proof.FfnI.Pieces

@[expose] public section

set_option maxRecDepth 16384

noncomputable section

namespace Cert.FfnI

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD) (i : grid0.Coords)
  (arg1 : Memref sig .tc .vmem S512x2048 .f32) (harg1 : arg1.IsWhole)
  (arg2 : Memref sig .tc .vmem S16x2048 .f32) (harg2 : arg2.IsWhole)
  (arg3 : Memref sig .tc .vmem S16x2048 .f32) (harg3 : arg3.IsWhole)
  (arg4 : Memref sig .tc .vmem S1x6x2048 .f32) (harg4 : arg4.IsWhole)
  (arg5 : Memref sig .tc .vmem S1x2048 .f32) (harg5 : arg5.IsWhole)
  (arg6 : Memref sig .tc .vmem S3x5632 .f32) (harg6 : arg6.IsWhole)
  (arg7 : Memref sig .tc .vmem S1x5632 .f32) (harg7 : arg7.IsWhole)
  (arg8 : Memref sig .tc .vmem S1x2048 .f32) (harg8 : arg8.IsWhole)
  (arg12 : Memref sig .tc .vmem S512x2048 .f32) (harg12 : arg12.IsWhole)
  (arg13 : Memref sig .tc .vmem S544x2048 .bf16) (harg13 : arg13.IsWhole)
  (arg14 : Memref sig .tc .vmem S544x512 .f32) (harg14 : arg14.IsWhole)
  (arg15 : Memref sig .tc .vmem S512x2048 .f32) (harg15 : arg15.IsWhole)
  (XG : Buf (Elt F) (wgM.view.loc (c : Thread nD τ))) (XU : Buf (Elt F) (wuM.view.loc (c : Thread nD τ))) (XD : Buf (Elt F) (wdM.view.loc (c : Thread nD τ)))

/-- The body at a point that is neither the first nor the last, for any contents of the staging buffers: from the ring's state before the point to its
    state after it, the output's buffer holding some vector. -/
def runMid (h1 : ¬ k0_cond1 i = 1#1) (h2 : k0_cond2 i = 1#1) (h3 : k0_cond3 i = 1#1) (h4 : k0_cond4 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { w : S512x2048.Idx → Elt F .f32 //
      ∀ (g : Buf (Elt F) (arg12.view.loc (c : Thread nD τ))) (W : Waits sig Unit) (Q : PUnit → sProp 𝕄),
      iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} g) ∗ scr c arg13 arg14 arg15 ∗ ringBusy c XG XU XD (sl i 0) (sl i 1) (sl i 2) ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ owns (c : Thread nD τ) arg12 fullShare w
            ∗ scr c arg13 arg14 arg15 ∗ ringBusy c XG XU XD (sl i 2) (sl i 0) (sl i 1) ∗ ∃ W', owes (c : Thread nD τ) 0 W') -∗ Q ⟨⟩))
      ⊢ wp frame (wpE (defs₀ (F := F)) Variants.none (c : Thread nD τ) none) Set.univ
          (bodyG (F := F) i arg1 harg1 arg2 harg2 arg3 harg3 arg4 harg4 arg5 harg5 arg6 harg6 arg7 harg7 arg8 harg8 arg12 harg12 arg13 harg13 arg14 harg14 arg15 harg15) Q } := by
  refine ⟨?_, fun g W Q => ?run⟩
  case run =>
    simp only [ringFree, ringBusy, owns, scr, homesAll, homesBut, slotsFree, slotsLanded, slotsFlight, cellsZero]
    dsimp only [bodyG]
    simp only [cc0_conv_ffn_eq_skeleton]; unfold cc0_conv_ffn_skel
    iintro ⟨H1, H2, H3, H4, H5, H6, H7, H8, HO, ⟨⟨%eh, HH⟩, ⟨%eg, HG⟩, ⟨%ea, HA⟩⟩, ⟨⟨⟨Hg0, Hg2, Hg3, Hg4, Hg5, Hg6, Hg7, Hg8, Hg9, Hg10⟩, ⟨Hu0, Hu2, Hu3, Hu4, Hu5, Hu6, Hu7, Hu8, Hu9, Hu10⟩, ⟨Hd0, Hd2, Hd3, Hd4, Hd5, Hd6, Hd7, Hd8, Hd9, Hd10⟩⟩, ⟨⟨%e0g, S0g⟩, ⟨%e0u, S0u⟩, ⟨%e0d, S0d⟩⟩, ⟨⟨%e1g, S1g⟩, ⟨%e1u, S1u⟩, ⟨%e1d, S1d⟩⟩, ⟨⟨%e2g, S2g⟩, ⟨%e2u, S2u⟩, ⟨%e2d, S2d⟩⟩, ⟨C0g, C0u, C0d⟩, ⟨C2g, C2u, C2d⟩⟩, HW, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO]; · iexists _; isplitr; swap; (iexact HO); ipureintro; rfl
    isplitl [HH HG HA]
    · isplitl [HH]; · iexists _; iexact HH
      isplitl [HG]; · iexists _; iexact HG
      iexists _; iexact HA
    isplitl [Hg0 Hg2 Hg3 Hg4 Hg5 Hg6 Hg7 Hg8 Hg9 Hg10 Hu0 Hu2 Hu3 Hu4 Hu5 Hu6 Hu7 Hu8 Hu9 Hu10 Hd0 Hd2 Hd3 Hd4 Hd5 Hd6 Hd7 Hd8 Hd9 Hd10 S2g S2u S2d C0g C0u C0d S1g_dst S1u_dst S1d_dst C2g C2u C2d S1g S1u S1d]
    · isplitl [Hg0 Hg2 Hg3 Hg4 Hg5 Hg6 Hg7 Hg8 Hg9 Hg10 Hu0 Hu2 Hu3 Hu4 Hu5 Hu6 Hu7 Hu8 Hu9 Hu10 Hd0 Hd2 Hd3 Hd4 Hd5 Hd6 Hd7 Hd8 Hd9 Hd10]
      · isplitl [Hg0 Hg2 Hg3 Hg4 Hg5 Hg6 Hg7 Hg8 Hg9 Hg10]
        · isplitl [Hg0]; · iexact Hg0
          isplitl [Hg2]; · iexact Hg2
          isplitl [Hg3]; · iexact Hg3
          isplitl [Hg4]; · iexact Hg4
          isplitl [Hg5]; · iexact Hg5
          isplitl [Hg6]; · iexact Hg6
          isplitl [Hg7]; · iexact Hg7
          isplitl [Hg8]; · iexact Hg8
          isplitl [Hg9]; · iexact Hg9
          iexact Hg10
        isplitl [Hu0 Hu2 Hu3 Hu4 Hu5 Hu6 Hu7 Hu8 Hu9 Hu10]
        · isplitl [Hu0]; · iexact Hu0
          isplitl [Hu2]; · iexact Hu2
          isplitl [Hu3]; · iexact Hu3
          isplitl [Hu4]; · iexact Hu4
          isplitl [Hu5]; · iexact Hu5
          isplitl [Hu6]; · iexact Hu6
          isplitl [Hu7]; · iexact Hu7
          isplitl [Hu8]; · iexact Hu8
          isplitl [Hu9]; · iexact Hu9
          iexact Hu10
        isplitl [Hd0]; · iexact Hd0
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        isplitl [Hd9]; · iexact Hd9
        iexact Hd10
      isplitl [S2g S2u S2d]
      · isplitl [S2g]; · iapply (wg_landed c XG (sl i 2) 0 _ _ _ rfl); iexact S2g
        isplitl [S2u]; · iapply (wu_landed c XU (sl i 2) 0 _ _ _ rfl); iexact S2u
        iapply (wd_landed c XD (sl i 2) 0 _ _ _ rfl); iexact S2d
      isplitl [C0g C0u C0d]
      · isplitl [C0g]; · iapply (wg_flight c XG (sl i 0) 1 _ _ _ rfl); iexact C0g
        isplitl [C0u]; · iapply (wu_flight c XU (sl i 0) 1 _ _ _ rfl); iexact C0u
        iapply (wd_flight c XD (sl i 0) 1 _ _ _ rfl); iexact C0d
      isplitl [S1g_dst S1u_dst S1d_dst]
      · isplitl [S1g_dst]; · iexists _; iexact S1g_dst
        isplitl [S1u_dst]; · iexists _; iexact S1u_dst
        iexists _; iexact S1d_dst
      isplitl [C2g C2u C2d]
      · isplitl [C2g]; · iexact C2g
        isplitl [C2u]; · iexact C2u
        iexact C2d
      isplitl [S1g]; · iexact S1g
      isplitl [S1u]; · iexact S1u
      iexact S1d
    iexists _; iexact HW

end Cert.FfnI

end
-- ==== Proof.FfnI.First.lean ====
/- The feed-forward kernel's body run at the first point. -/
module

public import proofs.«01_k».proof.Proof.FfnI.Pieces

@[expose] public section

set_option maxRecDepth 16384

noncomputable section

namespace Cert.FfnI

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD) (i : grid0.Coords)
  (arg1 : Memref sig .tc .vmem S512x2048 .f32) (harg1 : arg1.IsWhole)
  (arg2 : Memref sig .tc .vmem S16x2048 .f32) (harg2 : arg2.IsWhole)
  (arg3 : Memref sig .tc .vmem S16x2048 .f32) (harg3 : arg3.IsWhole)
  (arg4 : Memref sig .tc .vmem S1x6x2048 .f32) (harg4 : arg4.IsWhole)
  (arg5 : Memref sig .tc .vmem S1x2048 .f32) (harg5 : arg5.IsWhole)
  (arg6 : Memref sig .tc .vmem S3x5632 .f32) (harg6 : arg6.IsWhole)
  (arg7 : Memref sig .tc .vmem S1x5632 .f32) (harg7 : arg7.IsWhole)
  (arg8 : Memref sig .tc .vmem S1x2048 .f32) (harg8 : arg8.IsWhole)
  (arg12 : Memref sig .tc .vmem S512x2048 .f32) (harg12 : arg12.IsWhole)
  (arg13 : Memref sig .tc .vmem S544x2048 .bf16) (harg13 : arg13.IsWhole)
  (arg14 : Memref sig .tc .vmem S544x512 .f32) (harg14 : arg14.IsWhole)
  (arg15 : Memref sig .tc .vmem S512x2048 .f32) (harg15 : arg15.IsWhole)
  (XG : Buf (Elt F) (wgM.view.loc (c : Thread nD τ))) (XU : Buf (Elt F) (wuM.view.loc (c : Thread nD τ))) (XD : Buf (Elt F) (wdM.view.loc (c : Thread nD τ)))

/-- The body at the first point, for any contents of the staging buffers: from the ring's state before the point to its
    state after it, the output's buffer holding some vector. -/
def runFirst (h1 : k0_cond1 i = 1#1) (h2 : k0_cond2 i = 1#1) (h3 : k0_cond3 i = 1#1) (h4 : k0_cond4 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { w : S512x2048.Idx → Elt F .f32 //
      ∀ (g : Buf (Elt F) (arg12.view.loc (c : Thread nD τ))) (W : Waits sig Unit) (Q : PUnit → sProp 𝕄),
      iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} g) ∗ scr c arg13 arg14 arg15 ∗ ringFree c XG XU XD (sl i 0) (sl i 1) (sl i 2) ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ owns (c : Thread nD τ) arg12 fullShare w
            ∗ scr c arg13 arg14 arg15 ∗ ringBusy c XG XU XD (sl i 2) (sl i 0) (sl i 1) ∗ ∃ W', owes (c : Thread nD τ) 0 W') -∗ Q ⟨⟩))
      ⊢ wp frame (wpE (defs₀ (F := F)) Variants.none (c : Thread nD τ) none) Set.univ
          (bodyG (F := F) i arg1 harg1 arg2 harg2 arg3 harg3 arg4 harg4 arg5 harg5 arg6 harg6 arg7 harg7 arg8 harg8 arg12 harg12 arg13 harg13 arg14 harg14 arg15 harg15) Q } := by
  refine ⟨?_, fun g W Q => ?run⟩
  case run =>
    simp only [ringFree, ringBusy, owns, scr, homesAll, homesBut, slotsFree, slotsLanded, slotsFlight, cellsZero]
    dsimp only [bodyG]
    simp only [cc0_conv_ffn_eq_skeleton]; unfold cc0_conv_ffn_skel
    iintro ⟨H1, H2, H3, H4, H5, H6, H7, H8, HO, ⟨⟨%eh, HH⟩, ⟨%eg, HG⟩, ⟨%ea, HA⟩⟩, ⟨⟨⟨Hg0, Hg1, Hg2, Hg3, Hg4, Hg5, Hg6, Hg7, Hg8, Hg9, Hg10⟩, ⟨Hu0, Hu1, Hu2, Hu3, Hu4, Hu5, Hu6, Hu7, Hu8, Hu9, Hu10⟩, ⟨Hd0, Hd1, Hd2, Hd3, Hd4, Hd5, Hd6, Hd7, Hd8, Hd9, Hd10⟩⟩, ⟨⟨%e0g, S0g⟩, ⟨%e0u, S0u⟩, ⟨%e0d, S0d⟩⟩, ⟨⟨%e1g, S1g⟩, ⟨%e1u, S1u⟩, ⟨%e1d, S1d⟩⟩, ⟨⟨%e2g, S2g⟩, ⟨%e2u, S2u⟩, ⟨%e2d, S2d⟩⟩, ⟨C0g, C0u, C0d⟩, ⟨C1g, C1u, C1d⟩, ⟨C2g, C2u, C2d⟩⟩, HW, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO]; · iexists _; isplitr; swap; (iexact HO); ipureintro; rfl
    isplitl [HH HG HA]
    · isplitl [HH]; · iexists _; iexact HH
      isplitl [HG]; · iexists _; iexact HG
      iexists _; iexact HA
    isplitl [Hg0 Hg2 Hg3 Hg4 Hg5 Hg6 Hg7 Hg8 Hg9 Hg10 Hu0 Hu2 Hu3 Hu4 Hu5 Hu6 Hu7 Hu8 Hu9 Hu10 Hd0 Hd2 Hd3 Hd4 Hd5 Hd6 Hd7 Hd8 Hd9 Hd10 S2g S2u S2d C0g C0u C0d S1g S1u S1d C2g C2u C2d C1g C1u C1d]
    · isplitl [Hg0 Hg2 Hg3 Hg4 Hg5 Hg6 Hg7 Hg8 Hg9 Hg10 Hu0 Hu2 Hu3 Hu4 Hu5 Hu6 Hu7 Hu8 Hu9 Hu10 Hd0 Hd2 Hd3 Hd4 Hd5 Hd6 Hd7 Hd8 Hd9 Hd10]
      · isplitl [Hg0 Hg2 Hg3 Hg4 Hg5 Hg6 Hg7 Hg8 Hg9 Hg10]
        · isplitl [Hg0]; · iexact Hg0
          isplitl [Hg2]; · iexact Hg2
          isplitl [Hg3]; · iexact Hg3
          isplitl [Hg4]; · iexact Hg4
          isplitl [Hg5]; · iexact Hg5
          isplitl [Hg6]; · iexact Hg6
          isplitl [Hg7]; · iexact Hg7
          isplitl [Hg8]; · iexact Hg8
          isplitl [Hg9]; · iexact Hg9
          iexact Hg10
        isplitl [Hu0 Hu2 Hu3 Hu4 Hu5 Hu6 Hu7 Hu8 Hu9 Hu10]
        · isplitl [Hu0]; · iexact Hu0
          isplitl [Hu2]; · iexact Hu2
          isplitl [Hu3]; · iexact Hu3
          isplitl [Hu4]; · iexact Hu4
          isplitl [Hu5]; · iexact Hu5
          isplitl [Hu6]; · iexact Hu6
          isplitl [Hu7]; · iexact Hu7
          isplitl [Hu8]; · iexact Hu8
          isplitl [Hu9]; · iexact Hu9
          iexact Hu10
        isplitl [Hd0]; · iexact Hd0
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        isplitl [Hd9]; · iexact Hd9
        iexact Hd10
      isplitl [S2g S2u S2d]
      · isplitl [S2g]; · iapply (wg_landed c XG (sl i 2) 0 _ _ _ rfl); iexact S2g
        isplitl [S2u]; · iapply (wu_landed c XU (sl i 2) 0 _ _ _ rfl); iexact S2u
        iapply (wd_landed c XD (sl i 2) 0 _ _ _ rfl); iexact S2d
      isplitl [C0g C0u C0d]
      · isplitl [C0g]; · iapply (wg_flight c XG (sl i 0) 1 _ _ _ rfl); iexact C0g
        isplitl [C0u]; · iapply (wu_flight c XU (sl i 0) 1 _ _ _ rfl); iexact C0u
        iapply (wd_flight c XD (sl i 0) 1 _ _ _ rfl); iexact C0d
      isplitl [S1g S1u S1d]
      · isplitl [S1g]; · iexists _; iexact S1g
        isplitl [S1u]; · iexists _; iexact S1u
        iexists _; iexact S1d
      isplitl [C2g C2u C2d]
      · isplitl [C2g]; · iexact C2g
        isplitl [C2u]; · iexact C2u
        iexact C2d
      isplitl [C1g]; · iexact C1g
      isplitl [C1u]; · iexact C1u
      iexact C1d
    iexists _; iexact HW

end Cert.FfnI

end
-- ==== Proof.FfnI.Last.lean ====
/- The feed-forward kernel's body run at the last point. -/
module

public import proofs.«01_k».proof.Proof.FfnI.Pieces

@[expose] public section

set_option maxRecDepth 16384

noncomputable section

namespace Cert.FfnI

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (c : Dev nD) (i : grid0.Coords)
  (arg1 : Memref sig .tc .vmem S512x2048 .f32) (harg1 : arg1.IsWhole)
  (arg2 : Memref sig .tc .vmem S16x2048 .f32) (harg2 : arg2.IsWhole)
  (arg3 : Memref sig .tc .vmem S16x2048 .f32) (harg3 : arg3.IsWhole)
  (arg4 : Memref sig .tc .vmem S1x6x2048 .f32) (harg4 : arg4.IsWhole)
  (arg5 : Memref sig .tc .vmem S1x2048 .f32) (harg5 : arg5.IsWhole)
  (arg6 : Memref sig .tc .vmem S3x5632 .f32) (harg6 : arg6.IsWhole)
  (arg7 : Memref sig .tc .vmem S1x5632 .f32) (harg7 : arg7.IsWhole)
  (arg8 : Memref sig .tc .vmem S1x2048 .f32) (harg8 : arg8.IsWhole)
  (arg12 : Memref sig .tc .vmem S512x2048 .f32) (harg12 : arg12.IsWhole)
  (arg13 : Memref sig .tc .vmem S544x2048 .bf16) (harg13 : arg13.IsWhole)
  (arg14 : Memref sig .tc .vmem S544x512 .f32) (harg14 : arg14.IsWhole)
  (arg15 : Memref sig .tc .vmem S512x2048 .f32) (harg15 : arg15.IsWhole)
  (XG : Buf (Elt F) (wgM.view.loc (c : Thread nD τ))) (XU : Buf (Elt F) (wuM.view.loc (c : Thread nD τ))) (XD : Buf (Elt F) (wdM.view.loc (c : Thread nD τ)))

/-- The body at the last point, for any contents of the staging buffers: from the ring's state before the point to its
    state after it, the output's buffer holding some vector. -/
def runLast (h1 : ¬ k0_cond1 i = 1#1) (h2 : ¬ k0_cond2 i = 1#1) (h3 : ¬ k0_cond3 i = 1#1) (h4 : ¬ k0_cond4 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) :
    { w : S512x2048.Idx → Elt F .f32 //
      ∀ (g : Buf (Elt F) (arg12.view.loc (c : Thread nD τ))) (W : Waits sig Unit) (Q : PUnit → sProp 𝕄),
      iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} g) ∗ scr c arg13 arg14 arg15 ∗ ringBusy c XG XU XD (sl i 0) (sl i 1) (sl i 2) ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ owns (c : Thread nD τ) arg12 fullShare w
            ∗ scr c arg13 arg14 arg15 ∗ ringFree c XG XU XD (sl i 0) (sl i 1) (sl i 2) ∗ ∃ W', owes (c : Thread nD τ) 0 W') -∗ Q ⟨⟩))
      ⊢ wp frame (wpE (defs₀ (F := F)) Variants.none (c : Thread nD τ) none) Set.univ
          (bodyG (F := F) i arg1 harg1 arg2 harg2 arg3 harg3 arg4 harg4 arg5 harg5 arg6 harg6 arg7 harg7 arg8 harg8 arg12 harg12 arg13 harg13 arg14 harg14 arg15 harg15) Q } := by
  refine ⟨?_, fun g W Q => ?run⟩
  case run =>
    simp only [ringFree, ringBusy, owns, scr, homesAll, homesBut, slotsFree, slotsLanded, slotsFlight, cellsZero]
    dsimp only [bodyG]
    simp only [cc0_conv_ffn_eq_skeleton]; unfold cc0_conv_ffn_skel
    iintro ⟨H1, H2, H3, H4, H5, H6, H7, H8, HO, ⟨⟨%eh, HH⟩, ⟨%eg, HG⟩, ⟨%ea, HA⟩⟩, ⟨⟨⟨Hg0, Hg2, Hg3, Hg4, Hg5, Hg6, Hg7, Hg8, Hg9, Hg10⟩, ⟨Hu0, Hu2, Hu3, Hu4, Hu5, Hu6, Hu7, Hu8, Hu9, Hu10⟩, ⟨Hd0, Hd2, Hd3, Hd4, Hd5, Hd6, Hd7, Hd8, Hd9, Hd10⟩⟩, ⟨⟨%e0g, S0g⟩, ⟨%e0u, S0u⟩, ⟨%e0d, S0d⟩⟩, ⟨⟨%e1g, S1g⟩, ⟨%e1u, S1u⟩, ⟨%e1d, S1d⟩⟩, ⟨⟨%e2g, S2g⟩, ⟨%e2u, S2u⟩, ⟨%e2d, S2d⟩⟩, ⟨C0g, C0u, C0d⟩, ⟨C2g, C2u, C2d⟩⟩, HW, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO]; · iexists _; isplitr; swap; (iexact HO); ipureintro; rfl
    isplitl [HH HG HA]
    · isplitl [HH]; · iexists _; iexact HH
      isplitl [HG]; · iexists _; iexact HG
      iexists _; iexact HA
    isplitl [Hg0 S1g_src Hg2 Hg3 Hg4 Hg5 Hg6 Hg7 Hg8 Hg9 Hg10 Hu0 S1u_src Hu2 Hu3 Hu4 Hu5 Hu6 Hu7 Hu8 Hu9 Hu10 Hd0 S1d_src Hd2 Hd3 Hd4 Hd5 Hd6 Hd7 Hd8 Hd9 Hd10 S0g S0u S0d S1g_dst S1u_dst S1d_dst S2g S2u S2d C0g C0u C0d S1g S1u S1d C2g C2u C2d]
    · isplitl [Hg0 S1g_src Hg2 Hg3 Hg4 Hg5 Hg6 Hg7 Hg8 Hg9 Hg10 Hu0 S1u_src Hu2 Hu3 Hu4 Hu5 Hu6 Hu7 Hu8 Hu9 Hu10 Hd0 S1d_src Hd2 Hd3 Hd4 Hd5 Hd6 Hd7 Hd8 Hd9 Hd10]
      · isplitl [Hg0 S1g_src Hg2 Hg3 Hg4 Hg5 Hg6 Hg7 Hg8 Hg9 Hg10]
        · isplitl [Hg0]; · iexact Hg0
          isplitl [S1g_src]; · iexact S1g_src
          isplitl [Hg2]; · iexact Hg2
          isplitl [Hg3]; · iexact Hg3
          isplitl [Hg4]; · iexact Hg4
          isplitl [Hg5]; · iexact Hg5
          isplitl [Hg6]; · iexact Hg6
          isplitl [Hg7]; · iexact Hg7
          isplitl [Hg8]; · iexact Hg8
          isplitl [Hg9]; · iexact Hg9
          iexact Hg10
        isplitl [Hu0 S1u_src Hu2 Hu3 Hu4 Hu5 Hu6 Hu7 Hu8 Hu9 Hu10]
        · isplitl [Hu0]; · iexact Hu0
          isplitl [S1u_src]; · iexact S1u_src
          isplitl [Hu2]; · iexact Hu2
          isplitl [Hu3]; · iexact Hu3
          isplitl [Hu4]; · iexact Hu4
          isplitl [Hu5]; · iexact Hu5
          isplitl [Hu6]; · iexact Hu6
          isplitl [Hu7]; · iexact Hu7
          isplitl [Hu8]; · iexact Hu8
          isplitl [Hu9]; · iexact Hu9
          iexact Hu10
        isplitl [Hd0]; · iexact Hd0
        isplitl [S1d_src]; · iexact S1d_src
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        isplitl [Hd9]; · iexact Hd9
        iexact Hd10
      isplitl [S0g S0u S0d]
      · isplitl [S0g]; · iexists _; iexact S0g
        isplitl [S0u]; · iexists _; iexact S0u
        iexists _; iexact S0d
      isplitl [S1g_dst S1u_dst S1d_dst]
      · isplitl [S1g_dst]; · iexists _; iexact S1g_dst
        isplitl [S1u_dst]; · iexists _; iexact S1u_dst
        iexists _; iexact S1d_dst
      isplitl [S2g S2u S2d]
      · isplitl [S2g]; · iexists _; iexact S2g
        isplitl [S2u]; · iexists _; iexact S2u
        iexists _; iexact S2d
      isplitl [C0g C0u C0d]
      · isplitl [C0g]; · iexact C0g
        isplitl [C0u]; · iexact C0u
        iexact C0d
      isplitl [S1g S1u S1d]
      · isplitl [S1g]; · iexact S1g
        isplitl [S1u]; · iexact S1u
        iexact S1d
      isplitl [C2g]; · iexact C2g
      isplitl [C2u]; · iexact C2u
      iexact C2d
    iexists _; iexact HW

end Cert.FfnI

end
-- ==== Proof.FfnI.Run.lean ====
/- The feed-forward kernel's run on its grid of 64 points: the ring's state between points, the body at every point, the
   launch, and what the run leaves. -/
module

public import proofs.«01_k».proof.Proof.Gen.KernelFfnIdeal.Frame
public import proofs.«01_k».proof.Proof.FfnI.Mid
public import proofs.«01_k».proof.Proof.FfnI.First
public import proofs.«01_k».proof.Proof.FfnI.Last

@[expose] public section

set_option maxRecDepth 16384

noncomputable section

namespace Cert.FfnI

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The slots' turning -/

/-- The slot of block `r` at point `n`. -/
def slot (n : Nat) (r : Fin 3) : Fin 3 := ⟨(11 * n + r.val) % 3, Nat.mod_lt _ (by decide)⟩

theorem coords_val : ∀ t : Fin cfg0.N, (grid0.coords t 0).val = t.val := (by decide +kernel : ∀ t : Fin grid0.N, (grid0.coords t 0).val = t.val)
theorem sl_coords (t : Fin cfg0.N) (r : Fin 3) : sl (grid0.coords t) r = slot t.val r := by
  unfold sl slot; apply Fin.ext; show (11 * (grid0.coords t 0).val + r.val) % 3 = _; rw [coords_val t]
theorem slot_succ0 (n : Nat) : slot (n + 1) 0 = slot n 2 := by apply Fin.ext; show (11 * (n + 1) + 0) % 3 = (11 * n + 2) % 3; omega
theorem slot_succ1 (n : Nat) : slot (n + 1) 1 = slot n 0 := by apply Fin.ext; show (11 * (n + 1) + 1) % 3 = (11 * n + 0) % 3; omega
theorem slot_succ2 (n : Nat) : slot (n + 1) 2 = slot n 1 := by apply Fin.ext; show (11 * (n + 1) + 2) % 3 = (11 * n + 1) % 3; omega

theorem cond1_iff : ∀ t : Fin cfg0.N, k0_cond1 (grid0.coords t) = 1#1 ↔ t.val = 0 := (by decide +kernel : ∀ t : Fin grid0.N, k0_cond1 (grid0.coords t) = 1#1 ↔ t.val = 0)
theorem cond2_iff : ∀ t : Fin cfg0.N, k0_cond2 (grid0.coords t) = 1#1 ↔ t.val ≠ 63 := (by decide +kernel : ∀ t : Fin grid0.N, k0_cond2 (grid0.coords t) = 1#1 ↔ t.val ≠ 63)
theorem cond3_iff : ∀ t : Fin cfg0.N, k0_cond3 (grid0.coords t) = 1#1 ↔ t.val ≠ 63 := (by decide +kernel : ∀ t : Fin grid0.N, k0_cond3 (grid0.coords t) = 1#1 ↔ t.val ≠ 63)
theorem cond4_iff : ∀ t : Fin cfg0.N, k0_cond4 (grid0.coords t) = 1#1 ↔ t.val ≠ 63 := (by decide +kernel : ∀ t : Fin grid0.N, k0_cond4 (grid0.coords t) = 1#1 ↔ t.val ≠ 63)

/-! ## The weights' arrays and the slots' buffers, by blocks -/

abbrev XG (c : Dev nD) : Buf (Elt F) (wgM.view.loc (c : Thread nD τ)) := m ((c : Thread nD τ).loc main_arg3)
abbrev XU (c : Dev nD) : Buf (Elt F) (wuM.view.loc (c : Thread nD τ)) := m ((c : Thread nD τ).loc main_arg4)
abbrev XD (c : Dev nD) : Buf (Elt F) (wdM.view.loc (c : Thread nD τ)) := m ((c : Thread nD τ).loc main_arg7)

abbrev colSet (j : Fin 11) : Finset S2048x5632.Idx := (Rect.unit (s := S2048x5632) (colOff j) S2048x512.size (colOff_inb j)).set
abbrev rowSet (j : Fin 11) : Finset S5632x2048.Idx := (Rect.unit (s := S5632x2048) (rowOff j) S512x2048.size (rowOff_inb j)).set
abbrev slotSet (s : Fin 3) : Finset S3x2048x512.Idx := (Rect.unit (s := S3x2048x512) (slotOff s) S1x2048x512.size (slotOff_inb s)).set
abbrev slotSet' (s : Fin 3) : Finset S3x512x2048.Idx := (Rect.unit (s := S3x512x2048) (slotOff s) S1x512x2048.size (slotOff_inb' s)).set

theorem colSet_disjoint : ∀ b b' : Fin 11, b ≠ b' → Disjoint (colSet b) (colSet b') :=
  Ring.lead_disjoint (s := S2048x5632) 1 512 colOff S2048x512.size colOff_inb (by decide) rfl
theorem colSet_cover : (Finset.univ : Finset (Fin 11)).biUnion colSet = Finset.univ :=
  Ring.lead_cover (s := S2048x5632) 1 512 colOff S2048x512.size colOff_inb (by decide) (by decide) rfl (by decide) (by decide)
theorem rowSet_disjoint : ∀ b b' : Fin 11, b ≠ b' → Disjoint (rowSet b) (rowSet b') :=
  Ring.lead_disjoint (s := S5632x2048) 0 512 rowOff S512x2048.size rowOff_inb (by decide) rfl
theorem rowSet_cover : (Finset.univ : Finset (Fin 11)).biUnion rowSet = Finset.univ :=
  Ring.lead_cover (s := S5632x2048) 0 512 rowOff S512x2048.size rowOff_inb (by decide) (by decide) rfl (by decide) (by decide)
theorem slotSet_disjoint : ∀ b b' : Fin 3, b ≠ b' → Disjoint (slotSet b) (slotSet b') :=
  Ring.lead_disjoint (s := S3x2048x512) 0 1 slotOff S1x2048x512.size slotOff_inb (by decide) rfl
theorem slotSet_cover : (Finset.univ : Finset (Fin 3)).biUnion slotSet = Finset.univ :=
  Ring.lead_cover (s := S3x2048x512) 0 1 slotOff S1x2048x512.size slotOff_inb (by decide) (by decide) rfl (by decide) (by decide)
theorem slotSet'_disjoint : ∀ b b' : Fin 3, b ≠ b' → Disjoint (slotSet' b) (slotSet' b') :=
  Ring.lead_disjoint (s := S3x512x2048) 0 1 slotOff S1x512x2048.size slotOff_inb' (by decide) rfl
theorem slotSet'_cover : (Finset.univ : Finset (Fin 3)).biUnion slotSet' = Finset.univ :=
  Ring.lead_cover (s := S3x512x2048) 0 1 slotOff S1x512x2048.size slotOff_inb' (by decide) (by decide) rfl (by decide) (by decide)

theorem wgB_set (j : Fin 11) : (wgB j).view.set = colSet j := View.set_slice_whole _ _
theorem wuB_set (j : Fin 11) : (wuB j).view.set = colSet j := View.set_slice_whole _ _
theorem wdB_set (j : Fin 11) : (wdB j).view.set = rowSet j := View.set_slice_whole _ _
theorem wgS_set (s : Fin 3) : (wgS s).view.set = slotSet s := (View.set_reshape _ _).trans (View.set_slice_whole _ _)
theorem wuS_set (s : Fin 3) : (wuS s).view.set = slotSet s := (View.set_reshape _ _).trans (View.set_slice_whole _ _)
theorem wdS_set (s : Fin 3) : (wdS s).view.set = slotSet' s := (View.set_reshape _ _).trans (View.set_slice_whole _ _)

theorem wgSP_eq (c : Dev nD) (s : Fin 3) (f) : (wgSP c s f : sProp 𝕄) = (((c : Thread nD τ).loc cc0_scratch3) ↦[slotSet s]{fullShare} f : sProp 𝕄) :=
  congrArg (fun S => (_ ↦[S]{fullShare} f : sProp 𝕄)) (wgS_set s)
theorem wuSP_eq (c : Dev nD) (s : Fin 3) (f) : (wuSP c s f : sProp 𝕄) = (((c : Thread nD τ).loc cc0_scratch4) ↦[slotSet s]{fullShare} f : sProp 𝕄) :=
  congrArg (fun S => (_ ↦[S]{fullShare} f : sProp 𝕄)) (wuS_set s)
theorem wdSP_eq (c : Dev nD) (s : Fin 3) (f) : (wdSP c s f : sProp 𝕄) = (((c : Thread nD τ).loc cc0_scratch5) ↦[slotSet' s]{fullShare} f : sProp 𝕄) :=
  congrArg (fun S => (_ ↦[S]{fullShare} f : sProp 𝕄)) (wdS_set s)

theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

/-- The three weights' arrays whole are their blocks home. -/
theorem homes_eq (c : Dev nD) :
    (iprop((((c : Thread nD τ).loc main_arg3) ↦{fullShare} m ((c : Thread nD τ).loc main_arg3)) ∗ (((c : Thread nD τ).loc main_arg4) ↦{fullShare} m ((c : Thread nD τ).loc main_arg4))
      ∗ (((c : Thread nD τ).loc main_arg7) ↦{fullShare} m ((c : Thread nD τ).loc main_arg7))) : sProp 𝕄) = homesAll c (XG m c) (XU m c) (XD m c) := by
  have e (j : Fin 11) : (wgHP c (XG m c) j : sProp 𝕄) = (((c : Thread nD τ).loc main_arg3) ↦[colSet j]{fullShare} m ((c : Thread nD τ).loc main_arg3) : sProp 𝕄) :=
    congrArg (fun S => (_ ↦[S]{fullShare} _ : sProp 𝕄)) (wgB_set j)
  have e' (j : Fin 11) : (wuHP c (XU m c) j : sProp 𝕄) = (((c : Thread nD τ).loc main_arg4) ↦[colSet j]{fullShare} m ((c : Thread nD τ).loc main_arg4) : sProp 𝕄) :=
    congrArg (fun S => (_ ↦[S]{fullShare} _ : sProp 𝕄)) (wuB_set j)
  have e'' (j : Fin 11) : (wdHP c (XD m c) j : sProp 𝕄) = (((c : Thread nD τ).loc main_arg7) ↦[rowSet j]{fullShare} m ((c : Thread nD τ).loc main_arg7) : sProp 𝕄) :=
    congrArg (fun S => (_ ↦[S]{fullShare} _ : sProp 𝕄)) (wdB_set j)
  unfold homesAll
  rw [Ring.pointsTo_blocks (ℓ := (c : Thread nD τ).loc main_arg3) colSet colSet_disjoint colSet_cover,
    Ring.pointsTo_blocks (ℓ := (c : Thread nD τ).loc main_arg4) colSet colSet_disjoint colSet_cover,
    Ring.pointsTo_blocks (ℓ := (c : Thread nD τ).loc main_arg7) rowSet rowSet_disjoint rowSet_cover,
    bigSep_fin11, bigSep_fin11, bigSep_fin11]
  simp only [e, e', e'']

/-- A whole scratch buffer, in the body's words. -/
theorem scr_eq (c : Dev nD) :
    (scr c hM gM accM : sProp 𝕄) = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) := by
  have e0 : hM.view.set = Finset.univ := View.set_whole cc0_scratch0
  have e1 : gM.view.set = Finset.univ := View.set_whole cc0_scratch1
  have e2 : accM.view.set = Finset.univ := View.set_whole cc0_scratch2
  unfold scr; rw [e0, e1, e2]

/-! ## The kernel's own semaphores -/

abbrev osem : Fin 9 → SemLoc sig := fun k => .dma (csm (k.divNat (m := 3) (n := 3)) (k.modNat (m := 3) (n := 3))).sem
theorem ownSemFacts : Pipeline.OwnSemFacts spec0 osem := by decide +kernel

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 0 2 ∗ cellP c 1 0 ∗ cellP c 1 1 ∗ cellP c 1 2 ∗ cellP c 2 0 ∗ cellP c 2 1 ∗ cellP c 2 2) := by
  unfold Pipeline.ownSems0; rw [bigSep_fin9]; rfl

/-! ## The pipeline's proof data -/

/-- The ring's state before point `n`. -/
def ring (c : Dev nD) (n : Nat) : sProp 𝕄 :=
  if n = 0 ∨ n = 64 then ringFree c (XG m c) (XU m c) (XD m c) 0 1 2 else ringBusy c (XG m c) (XU m c) (XD m c) (slot n 0) (slot n 1) (slot n 2)

/-- The region's invariant before point `n`. -/
def Φ (c : Dev nD) (n : Nat) : sProp 𝕄 := iprop((∃ r, prngReg c r) ∗ scr c hM gM accM ∗ ring m c n)

/-- The body's run at point `t`, the first. -/
def atFirst (c : Dev nD) (t : Fin cfg0.N) (h : t.val = 0) :=
  runFirst (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) hM (Memref.isWhole_whole _) gM (Memref.isWhole_whole _) accM (Memref.isWhole_whole _) (XG m c) (XU m c) (XD m c)
    ((cond1_iff t).2 h) ((cond2_iff t).2 (by omega)) ((cond3_iff t).2 (by omega)) ((cond4_iff t).2 (by omega))
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t))

/-- The body's run at point `t`, neither the first nor the last. -/
def atMid (c : Dev nD) (t : Fin cfg0.N) (h0 : t.val ≠ 0) (h1 : t.val ≠ 63) :=
  runMid (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) hM (Memref.isWhole_whole _) gM (Memref.isWhole_whole _) accM (Memref.isWhole_whole _) (XG m c) (XU m c) (XD m c)
    (fun e => h0 ((cond1_iff t).1 e)) ((cond2_iff t).2 h1) ((cond3_iff t).2 h1) ((cond4_iff t).2 h1)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t))

/-- The body's run at point `t`, the last. -/
def atLast (c : Dev nD) (t : Fin cfg0.N) (h : t.val = 63) :=
  runLast (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) hM (Memref.isWhole_whole _) gM (Memref.isWhole_whole _) accM (Memref.isWhole_whole _) (XG m c) (XU m c) (XD m c)
    (fun e => absurd ((cond1_iff t).1 e) (by omega)) (fun e => (cond2_iff t).1 e h) (fun e => (cond3_iff t).1 e h) (fun e => (cond4_iff t).1 e h)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t))

/-- What the body leaves in the output's staging buffer at point `t`. -/
def outAt (c : Dev nD) (t : Fin cfg0.N) : Vec F S512x2048 .f32 :=
  if h : t.val = 0 then (atFirst m c t h).1 else if h' : t.val = 63 then (atLast m c t h').1 else (atMid m c t h h').1

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Φ m c t.val
  q w := Pipeline.shareOf spec0 w
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = outAt m c t := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [A_eq]; try rfl) t d).trans
    (by unfold Dat.fetched Dat.blockOf iblk; rw [A_eq]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [A_eq]; try rfl) t d).trans
    (by unfold Dat.fetched Dat.blockOf iblk; rw [A_eq]; try rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rw [A_eq]; try rfl) t d).trans
    (by unfold Dat.fetched Dat.blockOf iblk; rw [A_eq]; try rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rw [A_eq]; try rfl) t d).trans
    (by unfold Dat.fetched Dat.blockOf iblk; rw [A_eq]; try rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rw [A_eq]; try rfl) t d).trans
    (by unfold Dat.fetched Dat.blockOf iblk; rw [A_eq]; try rfl)
theorem before_w5 (c : Dev nD) (t : Fin cfg0.N) (d) : (dats m 0 c).before 5 t d = iblk m c 5 t :=
  ((dats m 0 c).before_in_eq_fetched 5 rfl (fun _ => rfl) (fun _ _ _ => rfl) (fun t => by rw [after_w5]; unfold Dat.blockOf iblk; rw [A_eq]; try rfl) t d).trans
    (by unfold Dat.fetched Dat.blockOf iblk; rw [A_eq]; try rfl)
theorem before_w6 (c : Dev nD) (t : Fin cfg0.N) (d) : (dats m 0 c).before 6 t d = iblk m c 6 t :=
  ((dats m 0 c).before_in_eq_fetched 6 rfl (fun _ => rfl) (fun _ _ _ => rfl) (fun t => by rw [after_w6]; unfold Dat.blockOf iblk; rw [A_eq]; try rfl) t d).trans
    (by unfold Dat.fetched Dat.blockOf iblk; rw [A_eq]; try rfl)
theorem before_w7 (c : Dev nD) (t : Fin cfg0.N) (d) : (dats m 0 c).before 7 t d = iblk m c 7 t :=
  ((dats m 0 c).before_in_eq_fetched 7 rfl (fun _ => rfl) (fun _ _ _ => rfl) (fun t => by rw [after_w7]; unfold Dat.blockOf iblk; rw [A_eq]; try rfl) t d).trans
    (by unfold Dat.fetched Dat.blockOf iblk; rw [A_eq]; try rfl)

/-! ## The body at every point -/

theorem owns_open (c : Dev nD) {sp : Space} {sh : Shape} {e : EltTy} (M : Memref sig .tc sp sh e) (x : sh.Idx → Elt F e) :
    (owns (c : Thread nD τ) M fullShare x : sProp 𝕄) ⊢ iprop(∃ f, ⌜M.view.read (Elt F) f = x⌝ ∗ (M.view.loc (c : Thread nD τ) ↦[M.view.set]{fullShare} f)) := by
  unfold owns; exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option backward.isDefEq.respectTransparency.types false in
set_option maxHeartbeats 1600000 in
theorem soundFirst (c : Dev nD) (t : Fin cfg0.N) (h : t.val = 0) :
    bodyPre m c t ⊢ wp frame (wpE (defs₀ (F := F)) Variants.none c none) Set.univ (bodyAt0 t) (fun _ => bodyPost m c t) := by
  have hN : t.val < 64 := t.isLt
  have eo : outAt m c t = (atFirst m c t h).1 := by unfold outAt; rw [dif_pos h]
  have e1 : (ring m c t.val : sProp 𝕄) = ringFree c (XG m c) (XU m c) (XD m c) (sl (grid0.coords t) 0) (sl (grid0.coords t) 1) (sl (grid0.coords t) 2) := by
    unfold ring; rw [if_pos (Or.inl h), sl_coords, sl_coords, sl_coords, h]; rfl
  have e2 : (ring m c (t.val + 1) : sProp 𝕄) = ringBusy c (XG m c) (XU m c) (XD m c) (sl (grid0.coords t) 2) (sl (grid0.coords t) 0) (sl (grid0.coords t) 1) := by
    unfold ring; rw [if_neg (by omega), slot_succ0, slot_succ1, slot_succ2, sl_coords, sl_coords, sl_coords]
  unfold bodyPre bodyPost
  simp only [before_w0, before_w1, before_w2, before_w3, before_w4, before_w5, before_w6, before_w7, after_w0, after_w1, after_w2, after_w3, after_w4, after_w5, after_w6, after_w7, after_w8]
  rw [show (dats m 0 c).Φ t.castSucc = Φ m c t.val from rfl, show (dats m 0 c).Φ t.succ = Φ m c (t.val + 1) from rfl, eo]
  unfold Dat.owesAt Pipeline.owesWithin Φ
  rw [show (dats m 0 c).owed t.castSucc = 0 from rfl, show (dats m 0 c).owed t.succ = 0 from rfl, e1, e2]
  unfold owns
  iintro ⟨⟨Hp, Hs, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %gO, -, HO⟩⟩
  ihave J0 := (pointsTo_rep_entails (c : Thread nD τ) (st0_0 t) g0 fullShare) $$ H0
  ihave J1 := (pointsTo_rep_entails (c : Thread nD τ) (st0_1 t) g1 fullShare) $$ H1
  ihave J2 := (pointsTo_rep_entails (c : Thread nD τ) (st0_2 t) g2 fullShare) $$ H2
  ihave J3 := (pointsTo_rep_entails (c : Thread nD τ) (st0_3 t) g3 fullShare) $$ H3
  ihave J4 := (pointsTo_rep_entails (c : Thread nD τ) (st0_4 t) g4 fullShare) $$ H4
  ihave J5 := (pointsTo_rep_entails (c : Thread nD τ) (st0_5 t) g5 fullShare) $$ H5
  ihave J6 := (pointsTo_rep_entails (c : Thread nD τ) (st0_6 t) g6 fullShare) $$ H6
  ihave J7 := (pointsTo_rep_entails (c : Thread nD τ) (st0_7 t) g7 fullShare) $$ H7
  rw [hg0, hg1, hg2, hg3, hg4, hg5, hg6, hg7]
  iapply ((atFirst m c t h).2 gO W _)
  isplitl [J0]; · iexact J0
  isplitl [J1]; · iexact J1
  isplitl [J2]; · iexact J2
  isplitl [J3]; · iexact J3
  isplitl [J4]; · iexact J4
  isplitl [J5]; · iexact J5
  isplitl [J6]; · iexact J6
  isplitl [J7]; · iexact J7
  isplitl [HO]; · iexact HO
  isplitl [Hs]; · iexact Hs
  isplitl [Hr]; · iexact Hr
  isplitl [HW]; · iexact HW
  iintro ⟨J0, J1, J2, J3, J4, J5, J6, J7, HO, Hs, Hr, ⟨%W', HW⟩⟩
  isplitl [Hp Hs Hr]
  · isplitl [Hp]; · iexact Hp
    isplitl [Hs]; · iexact Hs
    iexact Hr
  isplitl [HW]; · iexists W'; isplitr; (ipureintro; exact fun _ _ => Or.inl trivial); iexact HW
  isplitl [J0]; · iexists _; isplitr; (ipureintro; exact View.read_rep _ _); iexact J0
  isplitl [J1]; · iexists _; isplitr; (ipureintro; exact View.read_rep _ _); iexact J1
  isplitl [J2]; · iexists _; isplitr; (ipureintro; exact View.read_rep _ _); iexact J2
  isplitl [J3]; · iexists _; isplitr; (ipureintro; exact View.read_rep _ _); iexact J3
  isplitl [J4]; · iexists _; isplitr; (ipureintro; exact View.read_rep _ _); iexact J4
  isplitl [J5]; · iexists _; isplitr; (ipureintro; exact View.read_rep _ _); iexact J5
  isplitl [J6]; · iexists _; isplitr; (ipureintro; exact View.read_rep _ _); iexact J6
  isplitl [J7]; · iexists _; isplitr; (ipureintro; exact View.read_rep _ _); iexact J7
  iapply (owns_open c (st0_8 t) _); iexact HO

set_option backward.isDefEq.respectTransparency.types false in
set_option maxHeartbeats 1600000 in
theorem soundMid (c : Dev nD) (t : Fin cfg0.N) (h0 : t.val ≠ 0) (h1 : t.val ≠ 63) :
    bodyPre m c t ⊢ wp frame (wpE (defs₀ (F := F)) Variants.none c none) Set.univ (bodyAt0 t) (fun _ => bodyPost m c t) := by
  have hN : t.val < 64 := t.isLt
  have eo : outAt m c t = (atMid m c t h0 h1).1 := by unfold outAt; rw [dif_neg h0, dif_neg h1]
  have e1 : (ring m c t.val : sProp 𝕄) = ringBusy c (XG m c) (XU m c) (XD m c) (sl (grid0.coords t) 0) (sl (grid0.coords t) 1) (sl (grid0.coords t) 2) := by
    unfold ring; rw [if_neg (by omega), sl_coords, sl_coords, sl_coords]
  have e2 : (ring m c (t.val + 1) : sProp 𝕄) = ringBusy c (XG m c) (XU m c) (XD m c) (sl (grid0.coords t) 2) (sl (grid0.coords t) 0) (sl (grid0.coords t) 1) := by
    unfold ring; rw [if_neg (by omega), slot_succ0, slot_succ1, slot_succ2, sl_coords, sl_coords, sl_coords]
  unfold bodyPre bodyPost
  simp only [before_w0, before_w1, before_w2, before_w3, before_w4, before_w5, before_w6, before_w7, after_w0, after_w1, after_w2, after_w3, after_w4, after_w5, after_w6, after_w7, after_w8]
  rw [show (dats m 0 c).Φ t.castSucc = Φ m c t.val from rfl, show (dats m 0 c).Φ t.succ = Φ m c (t.val + 1) from rfl, eo]
  unfold Dat.owesAt Pipeline.owesWithin Φ
  rw [show (dats m 0 c).owed t.castSucc = 0 from rfl, show (dats m 0 c).owed t.succ = 0 from rfl, e1, e2]
  unfold owns
  iintro ⟨⟨Hp, Hs, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %gO, -, HO⟩⟩
  ihave J0 := (pointsTo_rep_entails (c : Thread nD τ) (st0_0 t) g0 fullShare) $$ H0
  ihave J1 := (pointsTo_rep_entails (c : Thread nD τ) (st0_1 t) g1 fullShare) $$ H1
  ihave J2 := (pointsTo_rep_entails (c : Thread nD τ) (st0_2 t) g2 fullShare) $$ H2
  ihave J3 := (pointsTo_rep_entails (c : Thread nD τ) (st0_3 t) g3 fullShare) $$ H3
  ihave J4 := (pointsTo_rep_entails (c : Thread nD τ) (st0_4 t) g4 fullShare) $$ H4
  ihave J5 := (pointsTo_rep_entails (c : Thread nD τ) (st0_5 t) g5 fullShare) $$ H5
  ihave J6 := (pointsTo_rep_entails (c : Thread nD τ) (st0_6 t) g6 fullShare) $$ H6
  ihave J7 := (pointsTo_rep_entails (c : Thread nD τ) (st0_7 t) g7 fullShare) $$ H7
  rw [hg0, hg1, hg2, hg3, hg4, hg5, hg6, hg7]
  iapply ((atMid m c t h0 h1).2 gO W _)
  isplitl [J0]; · iexact J0
  isplitl [J1]; · iexact J1
  isplitl [J2]; · iexact J2
  isplitl [J3]; · iexact J3
  isplitl [J4]; · iexact J4
  isplitl [J5]; · iexact J5
  isplitl [J6]; · iexact J6
  isplitl [J7]; · iexact J7
  isplitl [HO]; · iexact HO
  isplitl [Hs]; · iexact Hs
  isplitl [Hr]; · iexact Hr
  isplitl [HW]; · iexact HW
  iintro ⟨J0, J1, J2, J3, J4, J5, J6, J7, HO, Hs, Hr, ⟨%W', HW⟩⟩
  isplitl [Hp Hs Hr]
  · isplitl [Hp]; · iexact Hp
    isplitl [Hs]; · iexact Hs
    iexact Hr
  isplitl [HW]; · iexists W'; isplitr; (ipureintro; exact fun _ _ => Or.inl trivial); iexact HW
  isplitl [J0]; · iexists _; isplitr; (ipureintro; exact View.read_rep _ _); iexact J0
  isplitl [J1]; · iexists _; isplitr; (ipureintro; exact View.read_rep _ _); iexact J1
  isplitl [J2]; · iexists _; isplitr; (ipureintro; exact View.read_rep _ _); iexact J2
  isplitl [J3]; · iexists _; isplitr; (ipureintro; exact View.read_rep _ _); iexact J3
  isplitl [J4]; · iexists _; isplitr; (ipureintro; exact View.read_rep _ _); iexact J4
  isplitl [J5]; · iexists _; isplitr; (ipureintro; exact View.read_rep _ _); iexact J5
  isplitl [J6]; · iexists _; isplitr; (ipureintro; exact View.read_rep _ _); iexact J6
  isplitl [J7]; · iexists _; isplitr; (ipureintro; exact View.read_rep _ _); iexact J7
  iapply (owns_open c (st0_8 t) _); iexact HO

set_option backward.isDefEq.respectTransparency.types false in
set_option maxHeartbeats 1600000 in
theorem soundLast (c : Dev nD) (t : Fin cfg0.N) (h : t.val = 63) :
    bodyPre m c t ⊢ wp frame (wpE (defs₀ (F := F)) Variants.none c none) Set.univ (bodyAt0 t) (fun _ => bodyPost m c t) := by
  have hN : t.val < 64 := t.isLt
  have eo : outAt m c t = (atLast m c t h).1 := by unfold outAt; rw [dif_neg (by omega), dif_pos h]
  have e1 : (ring m c t.val : sProp 𝕄) = ringBusy c (XG m c) (XU m c) (XD m c) (sl (grid0.coords t) 0) (sl (grid0.coords t) 1) (sl (grid0.coords t) 2) := by
    unfold ring; rw [if_neg (by omega), sl_coords, sl_coords, sl_coords]
  have e2 : (ring m c (t.val + 1) : sProp 𝕄) = ringFree c (XG m c) (XU m c) (XD m c) (sl (grid0.coords t) 0) (sl (grid0.coords t) 1) (sl (grid0.coords t) 2) := by
    unfold ring; rw [if_pos (Or.inr (by omega)), sl_coords, sl_coords, sl_coords, h]; rfl
  unfold bodyPre bodyPost
  simp only [before_w0, before_w1, before_w2, before_w3, before_w4, before_w5, before_w6, before_w7, after_w0, after_w1, after_w2, after_w3, after_w4, after_w5, after_w6, after_w7, after_w8]
  rw [show (dats m 0 c).Φ t.castSucc = Φ m c t.val from rfl, show (dats m 0 c).Φ t.succ = Φ m c (t.val + 1) from rfl, eo]
  unfold Dat.owesAt Pipeline.owesWithin Φ
  rw [show (dats m 0 c).owed t.castSucc = 0 from rfl, show (dats m 0 c).owed t.succ = 0 from rfl, e1, e2]
  unfold owns
  iintro ⟨⟨Hp, Hs, Hr⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %gO, -, HO⟩⟩
  ihave J0 := (pointsTo_rep_entails (c : Thread nD τ) (st0_0 t) g0 fullShare) $$ H0
  ihave J1 := (pointsTo_rep_entails (c : Thread nD τ) (st0_1 t) g1 fullShare) $$ H1
  ihave J2 := (pointsTo_rep_entails (c : Thread nD τ) (st0_2 t) g2 fullShare) $$ H2
  ihave J3 := (pointsTo_rep_entails (c : Thread nD τ) (st0_3 t) g3 fullShare) $$ H3
  ihave J4 := (pointsTo_rep_entails (c : Thread nD τ) (st0_4 t) g4 fullShare) $$ H4
  ihave J5 := (pointsTo_rep_entails (c : Thread nD τ) (st0_5 t) g5 fullShare) $$ H5
  ihave J6 := (pointsTo_rep_entails (c : Thread nD τ) (st0_6 t) g6 fullShare) $$ H6
  ihave J7 := (pointsTo_rep_entails (c : Thread nD τ) (st0_7 t) g7 fullShare) $$ H7
  rw [hg0, hg1, hg2, hg3, hg4, hg5, hg6, hg7]
  iapply ((atLast m c t h).2 gO W _)
  isplitl [J0]; · iexact J0
  isplitl [J1]; · iexact J1
  isplitl [J2]; · iexact J2
  isplitl [J3]; · iexact J3
  isplitl [J4]; · iexact J4
  isplitl [J5]; · iexact J5
  isplitl [J6]; · iexact J6
  isplitl [J7]; · iexact J7
  isplitl [HO]; · iexact HO
  isplitl [Hs]; · iexact Hs
  isplitl [Hr]; · iexact Hr
  isplitl [HW]; · iexact HW
  iintro ⟨J0, J1, J2, J3, J4, J5, J6, J7, HO, Hs, Hr, ⟨%W', HW⟩⟩
  isplitl [Hp Hs Hr]
  · isplitl [Hp]; · iexact Hp
    isplitl [Hs]; · iexact Hs
    iexact Hr
  isplitl [HW]; · iexists W'; isplitr; (ipureintro; exact fun _ _ => Or.inl trivial); iexact HW
  isplitl [J0]; · iexists _; isplitr; (ipureintro; exact View.read_rep _ _); iexact J0
  isplitl [J1]; · iexists _; isplitr; (ipureintro; exact View.read_rep _ _); iexact J1
  isplitl [J2]; · iexists _; isplitr; (ipureintro; exact View.read_rep _ _); iexact J2
  isplitl [J3]; · iexists _; isplitr; (ipureintro; exact View.read_rep _ _); iexact J3
  isplitl [J4]; · iexists _; isplitr; (ipureintro; exact View.read_rep _ _); iexact J4
  isplitl [J5]; · iexists _; isplitr; (ipureintro; exact View.read_rep _ _); iexact J5
  isplitl [J6]; · iexists _; isplitr; (ipureintro; exact View.read_rep _ _); iexact J6
  isplitl [J7]; · iexists _; isplitr; (ipureintro; exact View.read_rep _ _); iexact J7
  iapply (owns_open c (st0_8 t) _); iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val = 0
  · exact triple_restated (soundFirst m c t h) rfl .rfl fun _ => .rfl
  by_cases h' : t.val = 63
  · exact triple_restated (soundLast m c t h') rfl .rfl fun _ => .rfl
  exact triple_restated (soundMid m c t h h') rfl .rfl fun _ => .rfl

/-! ## The launch -/

theorem hmain (𝒱₀ : Variants) : Pipeline.HMain (Ix := Unit) (Name := ℕ) (U := UU nD τ) (Lvl := ℕ) cfgs 0 defs₀ 𝒱₀ m (main (F := F)) (V m) :=
  Pipeline.hmain_region cfgs 0 defs₀ 𝒱₀ m main fun c => (main_chain c).trans rfl

/-- The buffers the kernel reads where they lie. -/
abbrev H : Finset (Ref sig .tc) := {main_arg3, main_arg4, main_arg7}
theorem H_sub : H ⊆ Pipeline.restRefs sig spec0 := by decide
theorem bigSep_H (Φ : Ref sig .tc → sProp 𝕄) : bigSep H Φ = iprop(Φ main_arg3 ∗ Φ main_arg4 ∗ Φ main_arg7) := by
  unfold H; rw [bigSep_insert (by decide), bigSep_insert (by decide), bigSep_singleton]; rfl

theorem Φ_end (c : Dev nD) (n : Nat) (hn : n = 0 ∨ n = 64) :
    (Φ m c n : sProp 𝕄) = iprop((∃ r, prngReg c r) ∗ scr c hM gM accM ∗ ringFree c (XG m c) (XU m c) (XD m c) 0 1 2) := by
  unfold Φ ring; rw [if_pos hn]

theorem hin (c : Dev nD) : Pipeline.ΦD osem spec0 H (V m) c ⊢ (dats m 0 c).Φ 0 := by
  rw [show (dats m 0 c).Φ 0 = Φ m c 0 from rfl, Φ_end m c 0 (Or.inl rfl), Pipeline.ΦD_eq, scopedRest0_eq, ownSems0_eq, bigSep_H, homes_eq m c, scr_eq]
  unfold ringFree slotsFree cellsZero
  iintro ⟨⟨H0, H1, H2, H3, H4, H5⟩, Hp, ⟨C00, C01, C02, C10, C11, C12, C20, C21, C22⟩, Hh⟩
  ihave G3 := (Ring.slots3_split (ℓ := (c : Thread nD τ).loc cc0_scratch3) (q := fullShare) slotSet slotSet_disjoint slotSet_cover (wgSP c 0) (wgSP c 1) (wgSP c 2) (wgSP_eq c 0) (wgSP_eq c 1) (wgSP_eq c 2)) $$ H3
  ihave G4 := (Ring.slots3_split (ℓ := (c : Thread nD τ).loc cc0_scratch4) (q := fullShare) slotSet slotSet_disjoint slotSet_cover (wuSP c 0) (wuSP c 1) (wuSP c 2) (wuSP_eq c 0) (wuSP_eq c 1) (wuSP_eq c 2)) $$ H4
  ihave G5 := (Ring.slots3_split (ℓ := (c : Thread nD τ).loc cc0_scratch5) (q := fullShare) slotSet' slotSet'_disjoint slotSet'_cover (wdSP c 0) (wdSP c 1) (wdSP c 2) (wdSP_eq c 0) (wdSP_eq c 1) (wdSP_eq c 2)) $$ H5
  icases G3 with ⟨g0, g1, g2⟩
  icases G4 with ⟨u0, u1, u2⟩
  icases G5 with ⟨d0, d1, d2⟩
  isplitl [Hp]; · iexact Hp
  isplitl [H0 H1 H2]
  · isplitl [H0]; · iexact H0
    isplitl [H1]; · iexact H1
    iexact H2
  isplitl [Hh]; · iexact Hh
  isplitl [g0 u0 d0]
  · isplitl [g0]; · iexact g0
    isplitl [u0]; · iexact u0
    iexact d0
  isplitl [g1 u1 d1]
  · isplitl [g1]; · iexact g1
    isplitl [u1]; · iexact u1
    iexact d1
  isplitl [g2 u2 d2]
  · isplitl [g2]; · iexact g2
    isplitl [u2]; · iexact u2
    iexact d2
  isplitl [C00 C10 C20]
  · isplitl [C00]; · iexact C00
    isplitl [C10]; · iexact C10
    iexact C20
  isplitl [C01 C11 C21]
  · isplitl [C01]; · iexact C01
    isplitl [C11]; · iexact C11
    iexact C21
  isplitl [C02]; · iexact C02
  isplitl [C12]; · iexact C12
  iexact C22

theorem hout (c : Dev nD) : (dats m 0 c).Φ (Fin.last cfg0.N) ⊢ Pipeline.ΦD osem spec0 H (V m) c := by
  rw [show (dats m 0 c).Φ (Fin.last cfg0.N) = Φ m c 64 from rfl, Φ_end m c 64 (Or.inr rfl), Pipeline.ΦD_eq, scopedRest0_eq, ownSems0_eq, bigSep_H, homes_eq m c, scr_eq]
  unfold ringFree slotsFree cellsZero
  iintro ⟨Hp, ⟨H0, H1, H2⟩, Hh, ⟨g0, u0, d0⟩, ⟨g1, u1, d1⟩, ⟨g2, u2, d2⟩, ⟨C00, C10, C20⟩, ⟨C01, C11, C21⟩, ⟨C02, C12, C22⟩⟩
  ihave G3 := (Ring.slots3_join (ℓ := (c : Thread nD τ).loc cc0_scratch3) (q := fullShare) slotSet slotSet_disjoint slotSet_cover (wgSP c 0) (wgSP c 1) (wgSP c 2) (wgSP_eq c 0) (wgSP_eq c 1) (wgSP_eq c 2)) $$ [g0 g1 g2]
  · isplitl [g0]; · iexact g0
    isplitl [g1]; · iexact g1
    iexact g2
  ihave G4 := (Ring.slots3_join (ℓ := (c : Thread nD τ).loc cc0_scratch4) (q := fullShare) slotSet slotSet_disjoint slotSet_cover (wuSP c 0) (wuSP c 1) (wuSP c 2) (wuSP_eq c 0) (wuSP_eq c 1) (wuSP_eq c 2)) $$ [u0 u1 u2]
  · isplitl [u0]; · iexact u0
    isplitl [u1]; · iexact u1
    iexact u2
  ihave G5 := (Ring.slots3_join (ℓ := (c : Thread nD τ).loc cc0_scratch5) (q := fullShare) slotSet' slotSet'_disjoint slotSet'_cover (wdSP c 0) (wdSP c 1) (wdSP c 2) (wdSP_eq c 0) (wdSP_eq c 1) (wdSP_eq c 2)) $$ [d0 d1 d2]
  · isplitl [d0]; · iexact d0
    isplitl [d1]; · iexact d1
    iexact d2
  isplitl [H0 H1 H2 G3 G4 G5]
  · isplitl [H0]; · iexact H0
    isplitl [H1]; · iexact H1
    isplitl [H2]; · iexact H2
    isplitl [G3]; · iexact G3
    isplitl [G4]; · iexact G4
    iexact G5
  isplitl [Hp]; · iexact Hp
  isplitl [C00 C01 C02 C10 C11 C12 C20 C21 C22]
  · isplitl [C00]; · iexact C00
    isplitl [C01]; · iexact C01
    isplitl [C02]; · iexact C02
    isplitl [C10]; · iexact C10
    isplitl [C11]; · iexact C11
    isplitl [C12]; · iexact C12
    isplitl [C20]; · iexact C20
    isplitl [C21]; · iexact C21
    iexact C22
  iexact Hh

set_option backward.isDefEq.respectTransparency.types false in
set_option maxHeartbeats 1600000 in
/-- From any memory with zero counters every execution terminates, the arrays of the pipeline at what its points leave,
    every other buffer as it was, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem defs₀ Variants.none ownSemFacts H H_sub m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hh => ⟨fun c => have h := hh.1; ⟨((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c)))⟩, hh.2⟩) (run_main_quiescent m ρ)

end Cert.FfnI

end
-- ==== Proof.FfnI.MidVal.lean ====
/- What the mid run of the feed-forward body stores, block by block. -/
module

public import proofs.«01_k».proof.Proof.FfnI.Mid
public import proofs.«01_k».proof.Proof.FfnI.Model

@[expose] public section

set_option maxRecDepth 16384

noncomputable section

namespace Cert.FfnI.MidVal

open Cert.KernelFfnIdeal Cert.KernelFfnIdeal.Gen Cert.FfnI
open Idealize.ShloMosaic Idealize.ShloMosaic.TcCoe

/-- The row before the block is kept unless the block is the first of its sequence, -/
theorem bit_prev : ∀ i : grid0.Coords, runMid.sl.v24 i = if (i 0).val % 8 = 0 then 0#1 else 1#1 := by decide +kernel
/-- and the row after unless it is the last. -/
theorem bit_next : ∀ i : grid0.Coords, runMid.sl.v35 i = if (i 0).val % 8 = 7 then 0#1 else 1#1 := by decide +kernel

variable (c : Dev nD) (i : grid0.Coords)
  (arg1 : Memref sig .tc .vmem S512x2048 .f32) (arg2 : Memref sig .tc .vmem S16x2048 .f32) (arg3 : Memref sig .tc .vmem S16x2048 .f32)
  (arg4 : Memref sig .tc .vmem S1x6x2048 .f32) (arg5 : Memref sig .tc .vmem S1x2048 .f32) (arg6 : Memref sig .tc .vmem S3x5632 .f32)
  (arg7 : Memref sig .tc .vmem S1x5632 .f32) (arg8 : Memref sig .tc .vmem S1x2048 .f32)
  (arg13 : Memref sig .tc .vmem S544x2048 .bf16) (arg14 : Memref sig .tc .vmem S544x512 .f32) (arg15 : Memref sig .tc .vmem S512x2048 .f32)
  (XG : Buf (Elt Ideal) (wgM.view.loc (c : Thread nD τ))) (XU : Buf (Elt Ideal) (wuM.view.loc (c : Thread nD τ))) (XD : Buf (Elt Ideal) (wdM.view.loc (c : Thread nD τ)))
  (f1 : Buf (Elt Ideal) (arg1.view.loc (c : Thread nD τ))) (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ))) (f6 : Buf (Elt Ideal) (arg6.view.loc (c : Thread nD τ)))
  (f7 : Buf (Elt Ideal) (arg7.view.loc (c : Thread nD τ))) (f8 : Buf (Elt Ideal) (arg8.view.loc (c : Thread nD τ)))
  (H : Fin 544 → Fin 2048 → EReal)
  (hH : ∀ r k, View.canon (runMid.sl.HH_3 (F := Ideal) c i arg1 arg2 arg3 arg4 arg5 f1 f2 f3 f4 f5) (ix2 r k) = H r k)

include c i arg1 arg2 arg3 arg4 arg5 arg6 arg7 arg8 arg13 arg14 arg15 XG XU XD f1 f2 f3 f4 f5 f6 f7 f8 hH

/-- The rows loaded for the gate product, -/
theorem v139 (r k) : (runMid.sl.v139 (F := Ideal) c i arg1 arg2 arg3 arg4 arg5 arg13 f1 f2 f3 f4 f5) (ix2 r k) = H r k := by
  refine (h_read arg13.view (runMid.sl.HH_3 (F := Ideal) c i arg1 arg2 arg3 arg4 arg5 f1 f2 f3 f4 f5) 0 _ (by decide) r k).trans ((congrArg _ ?_).trans (hH r k))
  funext a; apply Fin.ext; fin_cases a
  · exact Nat.zero_add _
  · rfl

/-- and for the up product. -/
theorem v147 (r : Fin 512) (k) : (runMid.sl.v147 (F := Ideal) c i arg1 arg2 arg3 arg4 arg5 arg13 f1 f2 f3 f4 f5) (ix2 r k) = H ⟨16 + r.val, by omega⟩ k :=
  (h_read arg13.view (runMid.sl.HH_3 (F := Ideal) c i arg1 arg2 arg3 arg4 arg5 f1 f2 f3 f4 f5) 16 _ (by decide) r k).trans (hH _ k)

/-- The activations of block 0. -/
theorem act0 (r e : Fin 512) : (runMid.sl.r_6 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (0 : Fin 11).val + e.val, by omega⟩ := by
  refine act_gen (H := H) (XG := XG) (XU := XU) (CW := (View.read (Elt Ideal) arg6.view f6)) (CB := (View.read (Elt Ideal) arg7.view f7)) 0 (runMid.sl.v147 (F := Ideal) c i arg1 arg2 arg3 arg4 arg5 arg13 f1 f2 f3 f4 f5) (runMid.sl.v149 (F := Ideal) c i XU) _ (runMid.sl.v154 (F := Ideal) c i arg1 arg2 arg3 arg4 arg5 arg13 arg14 XG f1 f2 f3 f4 f5) (runMid.sl.v158 (F := Ideal) c i arg1 arg2 arg3 arg4 arg5 arg13 arg14 XG f1 f2 f3 f4 f5) (runMid.sl.v163 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 0 c XU _ _ (off6_eq i 0) _ k e
  · exact fun a e => col_read arg6 f6 0 _ (by decide) a e
  · exact fun e => col_read arg7 f7 0 _ (by decide) 0 e
  · intro r e
    exact g_gen arg14.view _ _ 15 _ _ (by decide) 0 (runMid.sl.v139 (F := Ideal) c i arg1 arg2 arg3 arg4 arg5 arg13 f1 f2 f3 f4 f5) (runMid.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e
  · intro r e
    exact g_gen arg14.view _ _ 16 _ _ (by decide) 0 (runMid.sl.v139 (F := Ideal) c i arg1 arg2 arg3 arg4 arg5 arg13 f1 f2 f3 f4 f5) (runMid.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e
  · intro r e
    exact g_gen arg14.view _ _ 17 _ _ (by decide) 0 (runMid.sl.v139 (F := Ideal) c i arg1 arg2 arg3 arg4 arg5 arg13 f1 f2 f3 f4 f5) (runMid.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e

/-- The accumulator after block 0. -/
theorem acc0 (r : Fin 512) (e : Fin 2048) : View.canon (runMid.sl.HA_5 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 1 r e := by
  refine block_step arg15.view (runMid.sl.HA_1 (F := Ideal)) (fun r k => am H XG XU (View.read (Elt Ideal) arg6.view f6) (View.read (Elt Ideal) arg7.view f7) r ⟨512 * (0 : Fin 11).val + k.val, by omega⟩) (accS H XG XU (View.read (Elt Ideal) arg6.view f6) (View.read (Elt Ideal) arg7.view f7) XD 0) (fun k e => XD (ix2 ⟨512 * (0 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact fun r e => (congrFun (View.canon_cons_unit_lit' _ _ _ (by decide)) (ix2 r e)).trans (zP r e)
  · exact st_gen (H := H) (XG := XG) (XU := XU) (CW := (View.read (Elt Ideal) arg6.view f6)) (CB := (View.read (Elt Ideal) arg7.view f7)) (XD := XD) 0 0 (by decide) (runMid.sl.r_6 (F := Ideal) c i arg1 arg2 arg3 arg4 arg5 arg6 arg7 arg13 arg14 XG XU f1 f2 f3 f4 f5 f6 f7) _ _ (runMid.sl.v228 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 0 (by decide) _ _ (off12_eq i 0) _ k e)
  · exact st_gen (H := H) (XG := XG) (XU := XU) (CW := (View.read (Elt Ideal) arg6.view f6)) (CB := (View.read (Elt Ideal) arg7.view f7)) (XD := XD) 0 512 (by decide) (runMid.sl.r_6 (F := Ideal) c i arg1 arg2 arg3 arg4 arg5 arg6 arg7 arg13 arg14 XG XU f1 f2 f3 f4 f5 f6 f7) _ _ (runMid.sl.v237 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 512 (by decide) _ _ (off13_eq i 0) _ k e)
  · exact st_gen (H := H) (XG := XG) (XU := XU) (CW := (View.read (Elt Ideal) arg6.view f6)) (CB := (View.read (Elt Ideal) arg7.view f7)) (XD := XD) 0 1024 (by decide) (runMid.sl.r_6 (F := Ideal) c i arg1 arg2 arg3 arg4 arg5 arg6 arg7 arg13 arg14 XG XU f1 f2 f3 f4 f5 f6 f7) _ _ (runMid.sl.v246 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 1024 (by decide) _ _ (off14_eq i 0) _ k e)
  · exact st_gen (H := H) (XG := XG) (XU := XU) (CW := (View.read (Elt Ideal) arg6.view f6)) (CB := (View.read (Elt Ideal) arg7.view f7)) (XD := XD) 0 1536 (by decide) (runMid.sl.r_6 (F := Ideal) c i arg1 arg2 arg3 arg4 arg5 arg6 arg7 arg13 arg14 XG XU f1 f2 f3 f4 f5 f6 f7) _ _ (runMid.sl.v255 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 1536 (by decide) _ _ (off15_eq i 0) _ k e)

/-- The activations of block 1. -/
theorem act1 (r e : Fin 512) : (runMid.sl.r_8 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (1 : Fin 11).val + e.val, by omega⟩ := by
  refine act_gen (H := H) (XG := XG) (XU := XU) (CW := (View.read (Elt Ideal) arg6.view f6)) (CB := (View.read (Elt Ideal) arg7.view f7)) 1 (runMid.sl.v147 (F := Ideal) c i arg1 arg2 arg3 arg4 arg5 arg13 f1 f2 f3 f4 f5) (runMid.sl.v283 (F := Ideal) c i XU) _ (runMid.sl.v288 (F := Ideal) c i arg1 arg2 arg3 arg4 arg5 arg13 arg14 XG f1 f2 f3 f4 f5) (runMid.sl.v292 (F := Ideal) c i arg1 arg2 arg3 arg4 arg5 arg13 arg14 XG f1 f2 f3 f4 f5) (runMid.sl.v297 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 1 c XU _ _ (off6_eq i 1) _ k e
  · exact fun a e => col_read arg6 f6 512 _ (by decide) a e
  · exact fun e => col_read arg7 f7 512 _ (by decide) 0 e
  · intro r e
    exact g_gen arg14.view _ _ 15 _ _ (by decide) 1 (runMid.sl.v139 (F := Ideal) c i arg1 arg2 arg3 arg4 arg5 arg13 f1 f2 f3 f4 f5) (runMid.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e
  · intro r e
    exact g_gen arg14.view _ _ 16 _ _ (by decide) 1 (runMid.sl.v139 (F := Ideal) c i arg1 arg2 arg3 arg4 arg5 arg13 f1 f2 f3 f4 f5) (runMid.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e
  · intro r e
    exact g_gen arg14.view _ _ 17 _ _ (by decide) 1 (runMid.sl.v139 (F := Ideal) c i arg1 arg2 arg3 arg4 arg5 arg13 f1 f2 f3 f4 f5) (runMid.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e

/-- The accumulator after block 1. -/
theorem acc1 (r : Fin 512) (e : Fin 2048) : View.canon (runMid.sl.HA_9 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 2 r e := by
  refine block_step arg15.view (runMid.sl.HA_5 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (1 : Fin 11).val + k.val, by omega⟩) (accS H XG XU (View.read (Elt Ideal) arg6.view f6) (View.read (Elt Ideal) arg7.view f7) XD 1) (fun k e => XD (ix2 ⟨512 * (1 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc0 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 1 0 (by decide) (runMid.sl.r_8 (F := Ideal) c i arg1 arg2 arg3 arg4 arg5 arg6 arg7 arg13 arg14 XG XU f1 f2 f3 f4 f5 f6 f7) _ _ (runMid.sl.v362 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 0 (by decide) _ _ (off12_eq i 1) _ k e)
  · exact st_gen (H := H) (XG := XG) (XU := XU) (CW := (View.read (Elt Ideal) arg6.view f6)) (CB := (View.read (Elt Ideal) arg7.view f7)) (XD := XD) 1 512 (by decide) (runMid.sl.r_8 (F := Ideal) c i arg1 arg2 arg3 arg4 arg5 arg6 arg7 arg13 arg14 XG XU f1 f2 f3 f4 f5 f6 f7) _ _ (runMid.sl.v371 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 512 (by decide) _ _ (off13_eq i 1) _ k e)
  · exact st_gen (H := H) (XG := XG) (XU := XU) (CW := (View.read (Elt Ideal) arg6.view f6)) (CB := (View.read (Elt Ideal) arg7.view f7)) (XD := XD) 1 1024 (by decide) (runMid.sl.r_8 (F := Ideal) c i arg1 arg2 arg3 arg4 arg5 arg6 arg7 arg13 arg14 XG XU f1 f2 f3 f4 f5 f6 f7) _ _ (runMid.sl.v380 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 1024 (by decide) _ _ (off14_eq i 1) _ k e)
  · exact st_gen (H := H) (XG := XG) (XU := XU) (CW := (View.read (Elt Ideal) arg6.view f6)) (CB := (View.read (Elt Ideal) arg7.view f7)) (XD := XD) 1 1536 (by decide) (runMid.sl.r_8 (F := Ideal) c i arg1 arg2 arg3 arg4 arg5 arg6 arg7 arg13 arg14 XG XU f1 f2 f3 f4 f5 f6 f7) _ _ (runMid.sl.v389 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 1536 (by decide) _ _ (off15_eq i 1) _ k e)

/-- The activations of block 2. -/
theorem act2 (r e : Fin 512) : (runMid.sl.r_10 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (2 : Fin 11).val + e.val, by omega⟩ := by
  refine act_gen (H := H) (XG := XG) (XU := XU) (CW := (View.read (Elt Ideal) arg6.view f6)) (CB := (View.read (Elt Ideal) arg7.view f7)) 2 (runMid.sl.v147 (F := Ideal) c i arg1 arg2 arg3 arg4 arg5 arg13 f1 f2 f3 f4 f5) (runMid.sl.v417 (F := Ideal) c i XU) _ (runMid.sl.v422 (F := Ideal) c i arg1 arg2 arg3 arg4 arg5 arg13 arg14 XG f1 f2 f3 f4 f5) (runMid.sl.v426 (F := Ideal) c i arg1 arg2 arg3 arg4 arg5 arg13 arg14 XG f1 f2 f3 f4 f5) (runMid.sl.v431 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 2 c XU _ _ (off6_eq i 2) _ k e
  · exact fun a e => col_read arg6 f6 1024 _ (by decide) a e
  · exact fun e => col_read arg7 f7 1024 _ (by decide) 0 e
  · intro r e
    exact g_gen arg14.view _ _ 15 _ _ (by decide) 2 (runMid.sl.v139 (F := Ideal) c i arg1 arg2 arg3 arg4 arg5 arg13 f1 f2 f3 f4 f5) (runMid.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e
  · intro r e
    exact g_gen arg14.view _ _ 16 _ _ (by decide) 2 (runMid.sl.v139 (F := Ideal) c i arg1 arg2 arg3 arg4 arg5 arg13 f1 f2 f3 f4 f5) (runMid.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e
  · intro r e
    exact g_gen arg14.view _ _ 17 _ _ (by decide) 2 (runMid.sl.v139 (F := Ideal) c i arg1 arg2 arg3 arg4 arg5 arg13 f1 f2 f3 f4 f5) (runMid.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e

/-- The accumulator after block 2. -/
theorem acc2 (r : Fin 512) (e : Fin 2048) : View.canon (runMid.sl.HA_13 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 3 r e := by
  refine block_step arg15.view (runMid.sl.HA_9 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (2 : Fin 11).val + k.val, by omega⟩) (accS H XG XU (View.read (Elt Ideal) arg6.view f6) (View.read (Elt Ideal) arg7.view f7) XD 2) (fun k e => XD (ix2 ⟨512 * (2 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc1 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 2 0 (by decide) (runMid.sl.r_10 (F := Ideal) c i arg1 arg2 arg3 arg4 arg5 arg6 arg7 arg13 arg14 XG XU f1 f2 f3 f4 f5 f6 f7) _ _ (runMid.sl.v496 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 0 (by decide) _ _ (off12_eq i 2) _ k e)
  · exact st_gen (H := H) (XG := XG) (XU := XU) (CW := (View.read (Elt Ideal) arg6.view f6)) (CB := (View.read (Elt Ideal) arg7.view f7)) (XD := XD) 2 512 (by decide) (runMid.sl.r_10 (F := Ideal) c i arg1 arg2 arg3 arg4 arg5 arg6 arg7 arg13 arg14 XG XU f1 f2 f3 f4 f5 f6 f7) _ _ (runMid.sl.v505 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 512 (by decide) _ _ (off13_eq i 2) _ k e)
  · exact st_gen (H := H) (XG := XG) (XU := XU) (CW := (View.read (Elt Ideal) arg6.view f6)) (CB := (View.read (Elt Ideal) arg7.view f7)) (XD := XD) 2 1024 (by decide) (runMid.sl.r_10 (F := Ideal) c i arg1 arg2 arg3 arg4 arg5 arg6 arg7 arg13 arg14 XG XU f1 f2 f3 f4 f5 f6 f7) _ _ (runMid.sl.v514 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 1024 (by decide) _ _ (off14_eq i 2) _ k e)
  · exact st_gen (H := H) (XG := XG) (XU := XU) (CW := (View.read (Elt Ideal) arg6.view f6)) (CB := (View.read (Elt Ideal) arg7.view f7)) (XD := XD) 2 1536 (by decide) (runMid.sl.r_10 (F := Ideal) c i arg1 arg2 arg3 arg4 arg5 arg6 arg7 arg13 arg14 XG XU f1 f2 f3 f4 f5 f6 f7) _ _ (runMid.sl.v523 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 1536 (by decide) _ _ (off15_eq i 2) _ k e)

/-- The activations of block 3. -/
theorem act3 (r e : Fin 512) : (runMid.sl.r_13 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (3 : Fin 11).val + e.val, by omega⟩ := by
  refine act_gen (H := H) (XG := XG) (XU := XU) (CW := (View.read (Elt Ideal) arg6.view f6)) (CB := (View.read (Elt Ideal) arg7.view f7)) 3 (runMid.sl.v147 (F := Ideal) c i arg1 arg2 arg3 arg4 arg5 arg13 f1 f2 f3 f4 f5) (runMid.sl.v551 (F := Ideal) c i XU) _ (runMid.sl.v556 (F := Ideal) c i arg1 arg2 arg3 arg4 arg5 arg13 arg14 XG f1 f2 f3 f4 f5) (runMid.sl.v560 (F := Ideal) c i arg1 arg2 arg3 arg4 arg5 arg13 arg14 XG f1 f2 f3 f4 f5) (runMid.sl.v565 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 3 c XU _ _ (off6_eq i 3) _ k e
  · exact fun a e => col_read arg6 f6 1536 _ (by decide) a e
  · exact fun e => col_read arg7 f7 1536 _ (by decide) 0 e
  · intro r e
    exact g_gen arg14.view _ _ 15 _ _ (by decide) 3 (runMid.sl.v139 (F := Ideal) c i arg1 arg2 arg3 arg4 arg5 arg13 f1 f2 f3 f4 f5) (runMid.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e
  · intro r e
    exact g_gen arg14.view _ _ 16 _ _ (by decide) 3 (runMid.sl.v139 (F := Ideal) c i arg1 arg2 arg3 arg4 arg5 arg13 f1 f2 f3 f4 f5) (runMid.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e
  · intro r e
    exact g_gen arg14.view _ _ 17 _ _ (by decide) 3 (runMid.sl.v139 (F := Ideal) c i arg1 arg2 arg3 arg4 arg5 arg13 f1 f2 f3 f4 f5) (runMid.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e

/-- The accumulator after block 3. -/
theorem acc3 (r : Fin 512) (e : Fin 2048) : View.canon (runMid.sl.HA_17 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 4 r e := by
  refine block_step arg15.view (runMid.sl.HA_13 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (3 : Fin 11).val + k.val, by omega⟩) (accS H XG XU (View.read (Elt Ideal) arg6.view f6) (View.read (Elt Ideal) arg7.view f7) XD 3) (fun k e => XD (ix2 ⟨512 * (3 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc2 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 3 0 (by decide) (runMid.sl.r_13 (F := Ideal) c i arg1 arg2 arg3 arg4 arg5 arg6 arg7 arg13 arg14 XG XU f1 f2 f3 f4 f5 f6 f7) _ _ (runMid.sl.v630 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 0 (by decide) _ _ (off12_eq i 3) _ k e)
  · exact st_gen (H := H) (XG := XG) (XU := XU) (CW := (View.read (Elt Ideal) arg6.view f6)) (CB := (View.read (Elt Ideal) arg7.view f7)) (XD := XD) 3 512 (by decide) (runMid.sl.r_13 (F := Ideal) c i arg1 arg2 arg3 arg4 arg5 arg6 arg7 arg13 arg14 XG XU f1 f2 f3 f4 f5 f6 f7) _ _ (runMid.sl.v639 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 512 (by decide) _ _ (off13_eq i 3) _ k e)
  · exact st_gen (H := H) (XG := XG) (XU := XU) (CW := (View.read (Elt Ideal) arg6.view f6)) (CB := (View.read (Elt Ideal) arg7.view f7)) (XD := XD) 3 1024 (by decide) (runMid.sl.r_13 (F := Ideal) c i arg1 arg2 arg3 arg4 arg5 arg6 arg7 arg13 arg14 XG XU f1 f2 f3 f4 f5 f6 f7) _ _ (runMid.sl.v648 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 1024 (by decide) _ _ (off14_eq i 3) _ k e)
  · exact st_gen (H := H) (XG := XG) (XU := XU) (CW := (View.read (Elt Ideal) arg6.view f6)) (CB := (View.read (Elt Ideal) arg7.view f7)) (XD := XD) 3 1536 (by decide) (runMid.sl.r_13 (F := Ideal) c i arg1 arg2 arg3 arg4 arg5 arg6 arg7 arg13 arg14 XG XU f1 f2 f3 f4 f5 f6 f7) _ _ (runMid.sl.v657 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 1536 (by decide) _ _ (off15_eq i 3) _ k e)

/-- The activations of block 4. -/
theorem act4 (r e : Fin 512) : (runMid.sl.r_18 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (4 : Fin 11).val + e.val, by omega⟩ := by
  refine act_gen (H := H) (XG := XG) (XU := XU) (CW := (View.read (Elt Ideal) arg6.view f6)) (CB := (View.read (Elt Ideal) arg7.view f7)) 4 (runMid.sl.v147 (F := Ideal) c i arg1 arg2 arg3 arg4 arg5 arg13 f1 f2 f3 f4 f5) (runMid.sl.v685 (F := Ideal) c i XU) _ (runMid.sl.v690 (F := Ideal) c i arg1 arg2 arg3 arg4 arg5 arg13 arg14 XG f1 f2 f3 f4 f5) (runMid.sl.v694 (F := Ideal) c i arg1 arg2 arg3 arg4 arg5 arg13 arg14 XG f1 f2 f3 f4 f5) (runMid.sl.v699 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 4 c XU _ _ (off6_eq i 4) _ k e
  · exact fun a e => col_read arg6 f6 2048 _ (by decide) a e
  · exact fun e => col_read arg7 f7 2048 _ (by decide) 0 e
  · intro r e
    exact g_gen arg14.view _ _ 15 _ _ (by decide) 4 (runMid.sl.v139 (F := Ideal) c i arg1 arg2 arg3 arg4 arg5 arg13 f1 f2 f3 f4 f5) (runMid.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e
  · intro r e
    exact g_gen arg14.view _ _ 16 _ _ (by decide) 4 (runMid.sl.v139 (F := Ideal) c i arg1 arg2 arg3 arg4 arg5 arg13 f1 f2 f3 f4 f5) (runMid.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e
  · intro r e
    exact g_gen arg14.view _ _ 17 _ _ (by decide) 4 (runMid.sl.v139 (F := Ideal) c i arg1 arg2 arg3 arg4 arg5 arg13 f1 f2 f3 f4 f5) (runMid.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e

/-- The accumulator after block 4. -/
theorem acc4 (r : Fin 512) (e : Fin 2048) : View.canon (runMid.sl.HA_21 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 5 r e := by
  refine block_step arg15.view (runMid.sl.HA_17 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (4 : Fin 11).val + k.val, by omega⟩) (accS H XG XU (View.read (Elt Ideal) arg6.view f6) (View.read (Elt Ideal) arg7.view f7) XD 4) (fun k e => XD (ix2 ⟨512 * (4 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc3 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 4 0 (by decide) (runMid.sl.r_18 (F := Ideal) c i arg1 arg2 arg3 arg4 arg5 arg6 arg7 arg13 arg14 XG XU f1 f2 f3 f4 f5 f6 f7) _ _ (runMid.sl.v764 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 0 (by decide) _ _ (off12_eq i 4) _ k e)
  · exact st_gen (H := H) (XG := XG) (XU := XU) (CW := (View.read (Elt Ideal) arg6.view f6)) (CB := (View.read (Elt Ideal) arg7.view f7)) (XD := XD) 4 512 (by decide) (runMid.sl.r_18 (F := Ideal) c i arg1 arg2 arg3 arg4 arg5 arg6 arg7 arg13 arg14 XG XU f1 f2 f3 f4 f5 f6 f7) _ _ (runMid.sl.v773 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 512 (by decide) _ _ (off13_eq i 4) _ k e)
  · exact st_gen (H := H) (XG := XG) (XU := XU) (CW := (View.read (Elt Ideal) arg6.view f6)) (CB := (View.read (Elt Ideal) arg7.view f7)) (XD := XD) 4 1024 (by decide) (runMid.sl.r_18 (F := Ideal) c i arg1 arg2 arg3 arg4 arg5 arg6 arg7 arg13 arg14 XG XU f1 f2 f3 f4 f5 f6 f7) _ _ (runMid.sl.v782 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 1024 (by decide) _ _ (off14_eq i 4) _ k e)
  · exact st_gen (H := H) (XG := XG) (XU := XU) (CW := (View.read (Elt Ideal) arg6.view f6)) (CB := (View.read (Elt Ideal) arg7.view f7)) (XD := XD) 4 1536 (by decide) (runMid.sl.r_18 (F := Ideal) c i arg1 arg2 arg3 arg4 arg5 arg6 arg7 arg13 arg14 XG XU f1 f2 f3 f4 f5 f6 f7) _ _ (runMid.sl.v791 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 1536 (by decide) _ _ (off15_eq i 4) _ k e)

/-- The activations of block 5. -/
theorem act5 (r e : Fin 512) : (runMid.sl.r_22 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (5 : Fin 11).val + e.val, by omega⟩ := by
  refine act_gen (H := H) (XG := XG) (XU := XU) (CW := (View.read (Elt Ideal) arg6.view f6)) (CB := (View.read (Elt Ideal) arg7.view f7)) 5 (runMid.sl.v147 (F := Ideal) c i arg1 arg2 arg3 arg4 arg5 arg13 f1 f2 f3 f4 f5) (runMid.sl.v819 (F := Ideal) c i XU) _ (runMid.sl.v824 (F := Ideal) c i arg1 arg2 arg3 arg4 arg5 arg13 arg14 XG f1 f2 f3 f4 f5) (runMid.sl.v828 (F := Ideal) c i arg1 arg2 arg3 arg4 arg5 arg13 arg14 XG f1 f2 f3 f4 f5) (runMid.sl.v833 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 5 c XU _ _ (off6_eq i 5) _ k e
  · exact fun a e => col_read arg6 f6 2560 _ (by decide) a e
  · exact fun e => col_read arg7 f7 2560 _ (by decide) 0 e
  · intro r e
    exact g_gen arg14.view _ _ 15 _ _ (by decide) 5 (runMid.sl.v139 (F := Ideal) c i arg1 arg2 arg3 arg4 arg5 arg13 f1 f2 f3 f4 f5) (runMid.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e
  · intro r e
    exact g_gen arg14.view _ _ 16 _ _ (by decide) 5 (runMid.sl.v139 (F := Ideal) c i arg1 arg2 arg3 arg4 arg5 arg13 f1 f2 f3 f4 f5) (runMid.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e
  · intro r e
    exact g_gen arg14.view _ _ 17 _ _ (by decide) 5 (runMid.sl.v139 (F := Ideal) c i arg1 arg2 arg3 arg4 arg5 arg13 f1 f2 f3 f4 f5) (runMid.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e

/-- The accumulator after block 5. -/
theorem acc5 (r : Fin 512) (e : Fin 2048) : View.canon (runMid.sl.HA_25 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 6 r e := by
  refine block_step arg15.view (runMid.sl.HA_21 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (5 : Fin 11).val + k.val, by omega⟩) (accS H XG XU (View.read (Elt Ideal) arg6.view f6) (View.read (Elt Ideal) arg7.view f7) XD 5) (fun k e => XD (ix2 ⟨512 * (5 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc4 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 5 0 (by decide) (runMid.sl.r_22 (F := Ideal) c i arg1 arg2 arg3 arg4 arg5 arg6 arg7 arg13 arg14 XG XU f1 f2 f3 f4 f5 f6 f7) _ _ (runMid.sl.v898 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 0 (by decide) _ _ (off12_eq i 5) _ k e)
  · exact st_gen (H := H) (XG := XG) (XU := XU) (CW := (View.read (Elt Ideal) arg6.view f6)) (CB := (View.read (Elt Ideal) arg7.view f7)) (XD := XD) 5 512 (by decide) (runMid.sl.r_22 (F := Ideal) c i arg1 arg2 arg3 arg4 arg5 arg6 arg7 arg13 arg14 XG XU f1 f2 f3 f4 f5 f6 f7) _ _ (runMid.sl.v907 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 512 (by decide) _ _ (off13_eq i 5) _ k e)
  · exact st_gen (H := H) (XG := XG) (XU := XU) (CW := (View.read (Elt Ideal) arg6.view f6)) (CB := (View.read (Elt Ideal) arg7.view f7)) (XD := XD) 5 1024 (by decide) (runMid.sl.r_22 (F := Ideal) c i arg1 arg2 arg3 arg4 arg5 arg6 arg7 arg13 arg14 XG XU f1 f2 f3 f4 f5 f6 f7) _ _ (runMid.sl.v916 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 1024 (by decide) _ _ (off14_eq i 5) _ k e)
  · exact st_gen (H := H) (XG := XG) (XU := XU) (CW := (View.read (Elt Ideal) arg6.view f6)) (CB := (View.read (Elt Ideal) arg7.view f7)) (XD := XD) 5 1536 (by decide) (runMid.sl.r_22 (F := Ideal) c i arg1 arg2 arg3 arg4 arg5 arg6 arg7 arg13 arg14 XG XU f1 f2 f3 f4 f5 f6 f7) _ _ (runMid.sl.v925 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 1536 (by decide) _ _ (off15_eq i 5) _ k e)

/-- The activations of block 6. -/
theorem act6 (r e : Fin 512) : (runMid.sl.r_28 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (6 : Fin 11).val + e.val, by omega⟩ := by
  refine act_gen (H := H) (XG := XG) (XU := XU) (CW := (View.read (Elt Ideal) arg6.view f6)) (CB := (View.read (Elt Ideal) arg7.view f7)) 6 (runMid.sl.v147 (F := Ideal) c i arg1 arg2 arg3 arg4 arg5 arg13 f1 f2 f3 f4 f5) (runMid.sl.v953 (F := Ideal) c i XU) _ (runMid.sl.v958 (F := Ideal) c i arg1 arg2 arg3 arg4 arg5 arg13 arg14 XG f1 f2 f3 f4 f5) (runMid.sl.v962 (F := Ideal) c i arg1 arg2 arg3 arg4 arg5 arg13 arg14 XG f1 f2 f3 f4 f5) (runMid.sl.v967 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 6 c XU _ _ (off6_eq i 6) _ k e
  · exact fun a e => col_read arg6 f6 3072 _ (by decide) a e
  · exact fun e => col_read arg7 f7 3072 _ (by decide) 0 e
  · intro r e
    exact g_gen arg14.view _ _ 15 _ _ (by decide) 6 (runMid.sl.v139 (F := Ideal) c i arg1 arg2 arg3 arg4 arg5 arg13 f1 f2 f3 f4 f5) (runMid.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e
  · intro r e
    exact g_gen arg14.view _ _ 16 _ _ (by decide) 6 (runMid.sl.v139 (F := Ideal) c i arg1 arg2 arg3 arg4 arg5 arg13 f1 f2 f3 f4 f5) (runMid.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e
  · intro r e
    exact g_gen arg14.view _ _ 17 _ _ (by decide) 6 (runMid.sl.v139 (F := Ideal) c i arg1 arg2 arg3 arg4 arg5 arg13 f1 f2 f3 f4 f5) (runMid.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e

/-- The accumulator after block 6. -/
theorem acc6 (r : Fin 512) (e : Fin 2048) : View.canon (runMid.sl.HA_29 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 7 r e := by
  refine block_step arg15.view (runMid.sl.HA_25 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (6 : Fin 11).val + k.val, by omega⟩) (accS H XG XU (View.read (Elt Ideal) arg6.view f6) (View.read (Elt Ideal) arg7.view f7) XD 6) (fun k e => XD (ix2 ⟨512 * (6 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc5 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 6 0 (by decide) (runMid.sl.r_28 (F := Ideal) c i arg1 arg2 arg3 arg4 arg5 arg6 arg7 arg13 arg14 XG XU f1 f2 f3 f4 f5 f6 f7) _ _ (runMid.sl.v1032 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 0 (by decide) _ _ (off12_eq i 6) _ k e)
  · exact st_gen (H := H) (XG := XG) (XU := XU) (CW := (View.read (Elt Ideal) arg6.view f6)) (CB := (View.read (Elt Ideal) arg7.view f7)) (XD := XD) 6 512 (by decide) (runMid.sl.r_28 (F := Ideal) c i arg1 arg2 arg3 arg4 arg5 arg6 arg7 arg13 arg14 XG XU f1 f2 f3 f4 f5 f6 f7) _ _ (runMid.sl.v1041 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 512 (by decide) _ _ (off13_eq i 6) _ k e)
  · exact st_gen (H := H) (XG := XG) (XU := XU) (CW := (View.read (Elt Ideal) arg6.view f6)) (CB := (View.read (Elt Ideal) arg7.view f7)) (XD := XD) 6 1024 (by decide) (runMid.sl.r_28 (F := Ideal) c i arg1 arg2 arg3 arg4 arg5 arg6 arg7 arg13 arg14 XG XU f1 f2 f3 f4 f5 f6 f7) _ _ (runMid.sl.v1050 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 1024 (by decide) _ _ (off14_eq i 6) _ k e)
  · exact st_gen (H := H) (XG := XG) (XU := XU) (CW := (View.read (Elt Ideal) arg6.view f6)) (CB := (View.read (Elt Ideal) arg7.view f7)) (XD := XD) 6 1536 (by decide) (runMid.sl.r_28 (F := Ideal) c i arg1 arg2 arg3 arg4 arg5 arg6 arg7 arg13 arg14 XG XU f1 f2 f3 f4 f5 f6 f7) _ _ (runMid.sl.v1059 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 1536 (by decide) _ _ (off15_eq i 6) _ k e)

/-- The activations of block 7. -/
theorem act7 (r e : Fin 512) : (runMid.sl.r_32 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (7 : Fin 11).val + e.val, by omega⟩ := by
  refine (congrFun (e69 (runMid.sl.v147 (F := Ideal) c i arg1 arg2 arg3 arg4 arg5 arg13 f1 f2 f3 f4 f5) (runMid.sl.v1087 (F := Ideal) c i XU) (runMid.sl.r_30 (F := Ideal) c arg6 f6) (runMid.sl.v1092 (F := Ideal) c i arg1 arg2 arg3 arg4 arg5 arg13 arg14 XG f1 f2 f3 f4 f5) (runMid.sl.v1096 (F := Ideal) c i arg1 arg2 arg3 arg4 arg5 arg13 arg14 XG f1 f2 f3 f4 f5) (runMid.sl.v1101 (F := Ideal) c i arg1 arg2 arg3 arg4 arg5 arg13 arg14 XG f1 f2 f3 f4 f5) _) (ix2 r e)).trans ?_
  refine act_gen (H := H) (XG := XG) (XU := XU) (CW := (View.read (Elt Ideal) arg6.view f6)) (CB := (View.read (Elt Ideal) arg7.view f7)) 7 (runMid.sl.v147 (F := Ideal) c i arg1 arg2 arg3 arg4 arg5 arg13 f1 f2 f3 f4 f5) (runMid.sl.v1087 (F := Ideal) c i XU) (runMid.sl.r_30 (F := Ideal) c arg6 f6) (runMid.sl.v1092 (F := Ideal) c i arg1 arg2 arg3 arg4 arg5 arg13 arg14 XG f1 f2 f3 f4 f5) (runMid.sl.v1096 (F := Ideal) c i arg1 arg2 arg3 arg4 arg5 arg13 arg14 XG f1 f2 f3 f4 f5) (runMid.sl.v1101 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 7 c XU _ _ (off6_eq i 7) _ k e
  · exact fun a e => col_read arg6 f6 3584 _ (by decide) a e
  · exact fun e => col_read arg7 f7 3584 _ (by decide) 0 e
  · intro r e
    exact g_gen arg14.view _ _ 15 _ _ (by decide) 7 (runMid.sl.v139 (F := Ideal) c i arg1 arg2 arg3 arg4 arg5 arg13 f1 f2 f3 f4 f5) (runMid.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e
  · intro r e
    exact g_gen arg14.view _ _ 16 _ _ (by decide) 7 (runMid.sl.v139 (F := Ideal) c i arg1 arg2 arg3 arg4 arg5 arg13 f1 f2 f3 f4 f5) (runMid.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e
  · intro r e
    exact g_gen arg14.view _ _ 17 _ _ (by decide) 7 (runMid.sl.v139 (F := Ideal) c i arg1 arg2 arg3 arg4 arg5 arg13 f1 f2 f3 f4 f5) (runMid.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e

/-- The accumulator after block 7. -/
theorem acc7 (r : Fin 512) (e : Fin 2048) : View.canon (runMid.sl.HA_33 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 8 r e := by
  refine block_step arg15.view (runMid.sl.HA_29 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (7 : Fin 11).val + k.val, by omega⟩) (accS H XG XU (View.read (Elt Ideal) arg6.view f6) (View.read (Elt Ideal) arg7.view f7) XD 7) (fun k e => XD (ix2 ⟨512 * (7 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc6 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 7 0 (by decide) (runMid.sl.r_32 (F := Ideal) c i arg1 arg2 arg3 arg4 arg5 arg6 arg7 arg13 arg14 XG XU f1 f2 f3 f4 f5 f6 f7) _ _ (runMid.sl.v1166 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 0 (by decide) _ _ (off12_eq i 7) _ k e)
  · exact st_gen (H := H) (XG := XG) (XU := XU) (CW := (View.read (Elt Ideal) arg6.view f6)) (CB := (View.read (Elt Ideal) arg7.view f7)) (XD := XD) 7 512 (by decide) (runMid.sl.r_32 (F := Ideal) c i arg1 arg2 arg3 arg4 arg5 arg6 arg7 arg13 arg14 XG XU f1 f2 f3 f4 f5 f6 f7) _ _ (runMid.sl.v1175 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 512 (by decide) _ _ (off13_eq i 7) _ k e)
  · exact st_gen (H := H) (XG := XG) (XU := XU) (CW := (View.read (Elt Ideal) arg6.view f6)) (CB := (View.read (Elt Ideal) arg7.view f7)) (XD := XD) 7 1024 (by decide) (runMid.sl.r_32 (F := Ideal) c i arg1 arg2 arg3 arg4 arg5 arg6 arg7 arg13 arg14 XG XU f1 f2 f3 f4 f5 f6 f7) _ _ (runMid.sl.v1184 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 1024 (by decide) _ _ (off14_eq i 7) _ k e)
  · exact st_gen (H := H) (XG := XG) (XU := XU) (CW := (View.read (Elt Ideal) arg6.view f6)) (CB := (View.read (Elt Ideal) arg7.view f7)) (XD := XD) 7 1536 (by decide) (runMid.sl.r_32 (F := Ideal) c i arg1 arg2 arg3 arg4 arg5 arg6 arg7 arg13 arg14 XG XU f1 f2 f3 f4 f5 f6 f7) _ _ (runMid.sl.v1193 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 1536 (by decide) _ _ (off15_eq i 7) _ k e)

/-- The activations of block 8. -/
theorem act8 (r e : Fin 512) : (runMid.sl.r_35 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (8 : Fin 11).val + e.val, by omega⟩ := by
  refine act_gen (H := H) (XG := XG) (XU := XU) (CW := (View.read (Elt Ideal) arg6.view f6)) (CB := (View.read (Elt Ideal) arg7.view f7)) 8 (runMid.sl.v147 (F := Ideal) c i arg1 arg2 arg3 arg4 arg5 arg13 f1 f2 f3 f4 f5) (runMid.sl.v1221 (F := Ideal) c i XU) _ (runMid.sl.v1226 (F := Ideal) c i arg1 arg2 arg3 arg4 arg5 arg13 arg14 XG f1 f2 f3 f4 f5) (runMid.sl.v1230 (F := Ideal) c i arg1 arg2 arg3 arg4 arg5 arg13 arg14 XG f1 f2 f3 f4 f5) (runMid.sl.v1235 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 8 c XU _ _ (off6_eq i 8) _ k e
  · exact fun a e => col_read arg6 f6 4096 _ (by decide) a e
  · exact fun e => col_read arg7 f7 4096 _ (by decide) 0 e
  · intro r e
    exact g_gen arg14.view _ _ 15 _ _ (by decide) 8 (runMid.sl.v139 (F := Ideal) c i arg1 arg2 arg3 arg4 arg5 arg13 f1 f2 f3 f4 f5) (runMid.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e
  · intro r e
    exact g_gen arg14.view _ _ 16 _ _ (by decide) 8 (runMid.sl.v139 (F := Ideal) c i arg1 arg2 arg3 arg4 arg5 arg13 f1 f2 f3 f4 f5) (runMid.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e
  · intro r e
    exact g_gen arg14.view _ _ 17 _ _ (by decide) 8 (runMid.sl.v139 (F := Ideal) c i arg1 arg2 arg3 arg4 arg5 arg13 f1 f2 f3 f4 f5) (runMid.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e

/-- The accumulator after block 8. -/
theorem acc8 (r : Fin 512) (e : Fin 2048) : View.canon (runMid.sl.HA_37 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 9 r e := by
  refine block_step arg15.view (runMid.sl.HA_33 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (8 : Fin 11).val + k.val, by omega⟩) (accS H XG XU (View.read (Elt Ideal) arg6.view f6) (View.read (Elt Ideal) arg7.view f7) XD 8) (fun k e => XD (ix2 ⟨512 * (8 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc7 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 8 0 (by decide) (runMid.sl.r_35 (F := Ideal) c i arg1 arg2 arg3 arg4 arg5 arg6 arg7 arg13 arg14 XG XU f1 f2 f3 f4 f5 f6 f7) _ _ (runMid.sl.v1300 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 0 (by decide) _ _ (off12_eq i 8) _ k e)
  · exact st_gen (H := H) (XG := XG) (XU := XU) (CW := (View.read (Elt Ideal) arg6.view f6)) (CB := (View.read (Elt Ideal) arg7.view f7)) (XD := XD) 8 512 (by decide) (runMid.sl.r_35 (F := Ideal) c i arg1 arg2 arg3 arg4 arg5 arg6 arg7 arg13 arg14 XG XU f1 f2 f3 f4 f5 f6 f7) _ _ (runMid.sl.v1309 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 512 (by decide) _ _ (off13_eq i 8) _ k e)
  · exact st_gen (H := H) (XG := XG) (XU := XU) (CW := (View.read (Elt Ideal) arg6.view f6)) (CB := (View.read (Elt Ideal) arg7.view f7)) (XD := XD) 8 1024 (by decide) (runMid.sl.r_35 (F := Ideal) c i arg1 arg2 arg3 arg4 arg5 arg6 arg7 arg13 arg14 XG XU f1 f2 f3 f4 f5 f6 f7) _ _ (runMid.sl.v1318 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 1024 (by decide) _ _ (off14_eq i 8) _ k e)
  · exact st_gen (H := H) (XG := XG) (XU := XU) (CW := (View.read (Elt Ideal) arg6.view f6)) (CB := (View.read (Elt Ideal) arg7.view f7)) (XD := XD) 8 1536 (by decide) (runMid.sl.r_35 (F := Ideal) c i arg1 arg2 arg3 arg4 arg5 arg6 arg7 arg13 arg14 XG XU f1 f2 f3 f4 f5 f6 f7) _ _ (runMid.sl.v1327 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 1536 (by decide) _ _ (off15_eq i 8) _ k e)

/-- The activations of block 9. -/
theorem act9 (r e : Fin 512) : (runMid.sl.r_37 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (9 : Fin 11).val + e.val, by omega⟩ := by
  refine act_gen (H := H) (XG := XG) (XU := XU) (CW := (View.read (Elt Ideal) arg6.view f6)) (CB := (View.read (Elt Ideal) arg7.view f7)) 9 (runMid.sl.v147 (F := Ideal) c i arg1 arg2 arg3 arg4 arg5 arg13 f1 f2 f3 f4 f5) (runMid.sl.v1355 (F := Ideal) c i XU) _ (runMid.sl.v1360 (F := Ideal) c i arg1 arg2 arg3 arg4 arg5 arg13 arg14 XG f1 f2 f3 f4 f5) (runMid.sl.v1364 (F := Ideal) c i arg1 arg2 arg3 arg4 arg5 arg13 arg14 XG f1 f2 f3 f4 f5) (runMid.sl.v1369 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 9 c XU _ _ (off6_eq i 9) _ k e
  · exact fun a e => col_read arg6 f6 4608 _ (by decide) a e
  · exact fun e => col_read arg7 f7 4608 _ (by decide) 0 e
  · intro r e
    exact g_gen arg14.view _ _ 15 _ _ (by decide) 9 (runMid.sl.v139 (F := Ideal) c i arg1 arg2 arg3 arg4 arg5 arg13 f1 f2 f3 f4 f5) (runMid.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e
  · intro r e
    exact g_gen arg14.view _ _ 16 _ _ (by decide) 9 (runMid.sl.v139 (F := Ideal) c i arg1 arg2 arg3 arg4 arg5 arg13 f1 f2 f3 f4 f5) (runMid.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e
  · intro r e
    exact g_gen arg14.view _ _ 17 _ _ (by decide) 9 (runMid.sl.v139 (F := Ideal) c i arg1 arg2 arg3 arg4 arg5 arg13 f1 f2 f3 f4 f5) (runMid.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e

/-- The accumulator after block 9. -/
theorem acc9 (r : Fin 512) (e : Fin 2048) : View.canon (runMid.sl.HA_41 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 10 r e := by
  refine block_step arg15.view (runMid.sl.HA_37 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (9 : Fin 11).val + k.val, by omega⟩) (accS H XG XU (View.read (Elt Ideal) arg6.view f6) (View.read (Elt Ideal) arg7.view f7) XD 9) (fun k e => XD (ix2 ⟨512 * (9 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc8 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 9 0 (by decide) (runMid.sl.r_37 (F := Ideal) c i arg1 arg2 arg3 arg4 arg5 arg6 arg7 arg13 arg14 XG XU f1 f2 f3 f4 f5 f6 f7) _ _ (runMid.sl.v1412 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 0 (by decide) _ _ (off12_eq i 9) _ k e)
  · exact st_gen (H := H) (XG := XG) (XU := XU) (CW := (View.read (Elt Ideal) arg6.view f6)) (CB := (View.read (Elt Ideal) arg7.view f7)) (XD := XD) 9 512 (by decide) (runMid.sl.r_37 (F := Ideal) c i arg1 arg2 arg3 arg4 arg5 arg6 arg7 arg13 arg14 XG XU f1 f2 f3 f4 f5 f6 f7) _ _ (runMid.sl.v1421 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 512 (by decide) _ _ (off13_eq i 9) _ k e)
  · exact st_gen (H := H) (XG := XG) (XU := XU) (CW := (View.read (Elt Ideal) arg6.view f6)) (CB := (View.read (Elt Ideal) arg7.view f7)) (XD := XD) 9 1024 (by decide) (runMid.sl.r_37 (F := Ideal) c i arg1 arg2 arg3 arg4 arg5 arg6 arg7 arg13 arg14 XG XU f1 f2 f3 f4 f5 f6 f7) _ _ (runMid.sl.v1430 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 1024 (by decide) _ _ (off14_eq i 9) _ k e)
  · exact st_gen (H := H) (XG := XG) (XU := XU) (CW := (View.read (Elt Ideal) arg6.view f6)) (CB := (View.read (Elt Ideal) arg7.view f7)) (XD := XD) 9 1536 (by decide) (runMid.sl.r_37 (F := Ideal) c i arg1 arg2 arg3 arg4 arg5 arg6 arg7 arg13 arg14 XG XU f1 f2 f3 f4 f5 f6 f7) _ _ (runMid.sl.v1439 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 1536 (by decide) _ _ (off15_eq i 9) _ k e)

/-- The activations of block 10. -/
theorem act10 (r e : Fin 512) : (runMid.sl.r_41 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (10 : Fin 11).val + e.val, by omega⟩ := by
  refine act_gen (H := H) (XG := XG) (XU := XU) (CW := (View.read (Elt Ideal) arg6.view f6)) (CB := (View.read (Elt Ideal) arg7.view f7)) 10 (runMid.sl.v147 (F := Ideal) c i arg1 arg2 arg3 arg4 arg5 arg13 f1 f2 f3 f4 f5) (runMid.sl.v1467 (F := Ideal) c i XU) _ (runMid.sl.v1472 (F := Ideal) c i arg1 arg2 arg3 arg4 arg5 arg13 arg14 XG f1 f2 f3 f4 f5) (runMid.sl.v1476 (F := Ideal) c i arg1 arg2 arg3 arg4 arg5 arg13 arg14 XG f1 f2 f3 f4 f5) (runMid.sl.v1481 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 10 c XU _ _ (off6_eq i 10) _ k e
  · exact fun a e => col_read arg6 f6 5120 _ (by decide) a e
  · exact fun e => col_read arg7 f7 5120 _ (by decide) 0 e
  · intro r e
    exact g_gen arg14.view _ _ 15 _ _ (by decide) 10 (runMid.sl.v139 (F := Ideal) c i arg1 arg2 arg3 arg4 arg5 arg13 f1 f2 f3 f4 f5) (runMid.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e
  · intro r e
    exact g_gen arg14.view _ _ 16 _ _ (by decide) 10 (runMid.sl.v139 (F := Ideal) c i arg1 arg2 arg3 arg4 arg5 arg13 f1 f2 f3 f4 f5) (runMid.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e
  · intro r e
    exact g_gen arg14.view _ _ 17 _ _ (by decide) 10 (runMid.sl.v139 (F := Ideal) c i arg1 arg2 arg3 arg4 arg5 arg13 f1 f2 f3 f4 f5) (runMid.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e

/-- The accumulator after block 10. -/
theorem acc10 (r : Fin 512) (e : Fin 2048) : View.canon (runMid.sl.HA_45 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 11 r e := by
  refine block_step arg15.view (runMid.sl.HA_41 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (10 : Fin 11).val + k.val, by omega⟩) (accS H XG XU (View.read (Elt Ideal) arg6.view f6) (View.read (Elt Ideal) arg7.view f7) XD 10) (fun k e => XD (ix2 ⟨512 * (10 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc9 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 10 0 (by decide) (runMid.sl.r_41 (F := Ideal) c i arg1 arg2 arg3 arg4 arg5 arg6 arg7 arg13 arg14 XG XU f1 f2 f3 f4 f5 f6 f7) _ _ (runMid.sl.v1502 (F := Ideal) c i XD) _ (e93 _ _ _ _ _) rfl (act10 c i arg1 arg2 arg3 arg4 arg5 arg6 arg7 arg8 arg13 arg14 arg15 XG XU XD f1 f2 f3 f4 f5 f6 f7 f8 H hH) (fun k e => wd_read (sl i 1) 10 c XD 0 (by decide) _ _ (off12_eq i 10) _ k e)
  · exact st_gen (H := H) (XG := XG) (XU := XU) (CW := (View.read (Elt Ideal) arg6.view f6)) (CB := (View.read (Elt Ideal) arg7.view f7)) (XD := XD) 10 512 (by decide) (runMid.sl.r_41 (F := Ideal) c i arg1 arg2 arg3 arg4 arg5 arg6 arg7 arg13 arg14 XG XU f1 f2 f3 f4 f5 f6 f7) _ _ (runMid.sl.v1511 (F := Ideal) c i XD) _ (e94 _ _ _ _ _) rfl (act10 c i arg1 arg2 arg3 arg4 arg5 arg6 arg7 arg8 arg13 arg14 arg15 XG XU XD f1 f2 f3 f4 f5 f6 f7 f8 H hH) (fun k e => wd_read (sl i 1) 10 c XD 512 (by decide) _ _ (off13_eq i 10) _ k e)
  · exact st_gen (H := H) (XG := XG) (XU := XU) (CW := (View.read (Elt Ideal) arg6.view f6)) (CB := (View.read (Elt Ideal) arg7.view f7)) (XD := XD) 10 1024 (by decide) (runMid.sl.r_41 (F := Ideal) c i arg1 arg2 arg3 arg4 arg5 arg6 arg7 arg13 arg14 XG XU f1 f2 f3 f4 f5 f6 f7) _ _ (runMid.sl.v1520 (F := Ideal) c i XD) _ rfl rfl (act10 c i arg1 arg2 arg3 arg4 arg5 arg6 arg7 arg8 arg13 arg14 arg15 XG XU XD f1 f2 f3 f4 f5 f6 f7 f8 H hH) (fun k e => wd_read (sl i 1) 10 c XD 1024 (by decide) _ _ (off14_eq i 10) _ k e)
  · exact st_gen (H := H) (XG := XG) (XU := XU) (CW := (View.read (Elt Ideal) arg6.view f6)) (CB := (View.read (Elt Ideal) arg7.view f7)) (XD := XD) 10 1536 (by decide) (runMid.sl.r_41 (F := Ideal) c i arg1 arg2 arg3 arg4 arg5 arg6 arg7 arg13 arg14 XG XU f1 f2 f3 f4 f5 f6 f7) _ _ (runMid.sl.v1529 (F := Ideal) c i XD) _ rfl rfl (act10 c i arg1 arg2 arg3 arg4 arg5 arg6 arg7 arg8 arg13 arg14 arg15 XG XU XD f1 f2 f3 f4 f5 f6 f7 f8 H hH) (fun k e => wd_read (sl i 1) 10 c XD 1536 (by decide) _ _ (off15_eq i 10) _ k e)

omit hH
/-- The normalized rows this run stores. -/
theorem h_eq (r k) : View.canon (runMid.sl.HH_3 (F := Ideal) c i arg1 arg2 arg3 arg4 arg5 f1 f2 f3 f4 f5) (ix2 r k) = (hv (i 0).val (View.read (Elt Ideal) arg1.view f1) (View.read (Elt Ideal) arg2.view f2) (View.read (Elt Ideal) arg3.view f3) (View.read (Elt Ideal) arg4.view f4) (View.read (Elt Ideal) arg5.view f5)) r k := by
  refine (h_canon _ _ _ inb_S544x2048_S16x2048_0_0 inb_S544x2048_S512x2048_16_0 inb_S544x2048_S16x2048_528_0 r k).trans ?_
  unfold hv
  by_cases h : r.val < 16
  · rw [dif_pos h, dif_pos h, h1P, sel_eq _ _ (bit_prev i)]
    simp only [mod_read arg4 f4 3 _ (by decide), mod_read arg4 f4 4 _ (by decide)]
    simp only [col_read (R := 16) (C := 2048) (C' := 2048) arg2 f2 0 _ (by decide), col_read (R := 1) (C := 2048) (C' := 2048) arg5 f5 0 _ (by decide), Nat.zero_add, Fin.eta]
    rfl
  rw [dif_neg h, dif_neg h]
  by_cases h' : r.val < 528
  · rw [dif_pos h', dif_pos h']
    refine (h2P _ _ _ _ _ _).trans ?_
    dsimp only [runMid.sl.r, runMid.sl.r_1]
    simp only [mod_read arg4 f4 3 _ (by decide), mod_read arg4 f4 4 _ (by decide)]
    simp only [col_read (R := 512) (C := 2048) (C' := 2048) arg1 f1 0 _ (by decide), col_read (R := 1) (C := 2048) (C' := 2048) arg5 f5 0 _ (by decide), Nat.zero_add, Fin.eta]
    rfl
  rw [dif_neg h', dif_neg h']
  refine (h3P _ _ _ _ _ _ _).trans ?_
  rw [sel_eq _ _ (bit_next i)]
  simp only [mod_read arg4 f4 3 _ (by decide), mod_read arg4 f4 4 _ (by decide)]
  simp only [col_read (R := 16) (C := 2048) (C' := 2048) arg3 f3 0 _ (by decide), col_read (R := 1) (C := 2048) (C' := 2048) arg5 f5 0 _ (by decide), Nat.zero_add, Fin.eta]
  rfl

/-- What this run stores in the output. -/
theorem out_eq (r : Fin 512) (e : Fin 2048) : View.canon (runMid.sl.HO_1 (F := Ideal) c i arg1 arg2 arg3 arg4 arg5 arg6 arg7 arg8 arg13 arg14 arg15 XG XU XD f1 f2 f3 f4 f5 f6 f7 f8) (ix2 r e)
    = pointOut (i 0).val (View.read (Elt Ideal) arg1.view f1) (View.read (Elt Ideal) arg2.view f2) (View.read (Elt Ideal) arg3.view f3) (View.read (Elt Ideal) arg4.view f4) (View.read (Elt Ideal) arg5.view f5) (View.read (Elt Ideal) arg6.view f6) (View.read (Elt Ideal) arg7.view f7) (View.read (Elt Ideal) arg8.view f8) XG XU XD r e := by
  refine (congrFun (View.canon_cons_unit_lit' _ _ _ (by decide)) (ix2 r e)).trans ((outP _ _ _ _ r e).trans ?_)
  unfold pointOut
  simp only [mod_read arg4 f4 5 _ (by decide)]
  simp only [col_read (R := 512) (C := 2048) (C' := 2048) arg1 f1 0 _ (by decide), col_read (R := 1) (C := 2048) (C' := 2048) arg8 f8 0 _ (by decide), Nat.zero_add, Fin.eta]
  have key : ∀ k : Fin 2048, (runMid.sl.v1539 (F := Ideal) c i arg1 arg2 arg3 arg4 arg5 arg6 arg7 arg13 arg14 arg15 XG XU XD f1 f2 f3 f4 f5 f6 f7) (ix2 r k) = accS (hv (i 0).val (View.read (Elt Ideal) arg1.view f1) (View.read (Elt Ideal) arg2.view f2) (View.read (Elt Ideal) arg3.view f3) (View.read (Elt Ideal) arg4.view f4) (View.read (Elt Ideal) arg5.view f5)) XG XU (View.read (Elt Ideal) arg6.view f6) (View.read (Elt Ideal) arg7.view f7) XD 11 r k := fun k =>
    ((congrFun (View.readCov_eq_canon' _ _ _) _).trans (congrArg _ (by
      funext a; apply Fin.ext; fin_cases a
      · exact (Nat.zero_add _).trans (Nat.one_mul _)
      · exact (Nat.zero_add _).trans (Nat.one_mul _)))).trans (acc10 c i arg1 arg2 arg3 arg4 arg5 arg6 arg7 arg8 arg13 arg14 arg15 XG XU XD f1 f2 f3 f4 f5 f6 f7 f8 _ (h_eq c i arg1 arg2 arg3 arg4 arg5 arg6 arg7 arg8 arg13 arg14 arg15 XG XU XD f1 f2 f3 f4 f5 f6 f7 f8) r k)
  simp only [key]
  rfl

end Cert.FfnI.MidVal

end
-- ==== Proof.FfnI.FirstVal.lean ====
/- What the first run of the feed-forward body stores, block by block. -/
module

public import proofs.«01_k».proof.Proof.FfnI.First
public import proofs.«01_k».proof.Proof.FfnI.Model

@[expose] public section

set_option maxRecDepth 16384

noncomputable section

namespace Cert.FfnI.FirstVal

open Cert.KernelFfnIdeal Cert.KernelFfnIdeal.Gen Cert.FfnI
open Idealize.ShloMosaic Idealize.ShloMosaic.TcCoe

/-- The row before the block is kept unless the block is the first of its sequence, -/
theorem bit_prev : ∀ i : grid0.Coords, runFirst.sl.v24 i = if (i 0).val % 8 = 0 then 0#1 else 1#1 := by decide +kernel
/-- and the row after unless it is the last. -/
theorem bit_next : ∀ i : grid0.Coords, runFirst.sl.v35 i = if (i 0).val % 8 = 7 then 0#1 else 1#1 := by decide +kernel

variable (c : Dev nD) (i : grid0.Coords)
  (arg1 : Memref sig .tc .vmem S512x2048 .f32) (arg2 : Memref sig .tc .vmem S16x2048 .f32) (arg3 : Memref sig .tc .vmem S16x2048 .f32)
  (arg4 : Memref sig .tc .vmem S1x6x2048 .f32) (arg5 : Memref sig .tc .vmem S1x2048 .f32) (arg6 : Memref sig .tc .vmem S3x5632 .f32)
  (arg7 : Memref sig .tc .vmem S1x5632 .f32) (arg8 : Memref sig .tc .vmem S1x2048 .f32)
  (arg13 : Memref sig .tc .vmem S544x2048 .bf16) (arg14 : Memref sig .tc .vmem S544x512 .f32) (arg15 : Memref sig .tc .vmem S512x2048 .f32)
  (XG : Buf (Elt Ideal) (wgM.view.loc (c : Thread nD τ))) (XU : Buf (Elt Ideal) (wuM.view.loc (c : Thread nD τ))) (XD : Buf (Elt Ideal) (wdM.view.loc (c : Thread nD τ)))
  (f1 : Buf (Elt Ideal) (arg1.view.loc (c : Thread nD τ))) (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ))) (f6 : Buf (Elt Ideal) (arg6.view.loc (c : Thread nD τ)))
  (f7 : Buf (Elt Ideal) (arg7.view.loc (c : Thread nD τ))) (f8 : Buf (Elt Ideal) (arg8.view.loc (c : Thread nD τ)))
  (H : Fin 544 → Fin 2048 → EReal)
  (hH : ∀ r k, View.canon (runFirst.sl.HH_3 (F := Ideal) c i arg1 arg2 arg3 arg4 arg5 f1 f2 f3 f4 f5) (ix2 r k) = H r k)

include c i arg1 arg2 arg3 arg4 arg5 arg6 arg7 arg8 arg13 arg14 arg15 XG XU XD f1 f2 f3 f4 f5 f6 f7 f8 hH

/-- The rows loaded for the gate product, -/
theorem v139 (r k) : (runFirst.sl.v139 (F := Ideal) c i arg1 arg2 arg3 arg4 arg5 arg13 f1 f2 f3 f4 f5) (ix2 r k) = H r k := by
  refine (h_read arg13.view (runFirst.sl.HH_3 (F := Ideal) c i arg1 arg2 arg3 arg4 arg5 f1 f2 f3 f4 f5) 0 _ (by decide) r k).trans ((congrArg _ ?_).trans (hH r k))
  funext a; apply Fin.ext; fin_cases a
  · exact Nat.zero_add _
  · rfl

/-- and for the up product. -/
theorem v147 (r : Fin 512) (k) : (runFirst.sl.v147 (F := Ideal) c i arg1 arg2 arg3 arg4 arg5 arg13 f1 f2 f3 f4 f5) (ix2 r k) = H ⟨16 + r.val, by omega⟩ k :=
  (h_read arg13.view (runFirst.sl.HH_3 (F := Ideal) c i arg1 arg2 arg3 arg4 arg5 f1 f2 f3 f4 f5) 16 _ (by decide) r k).trans (hH _ k)

/-- The activations of block 0. -/
theorem act0 (r e : Fin 512) : (runFirst.sl.r_6 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (0 : Fin 11).val + e.val, by omega⟩ := by
  refine act_gen (H := H) (XG := XG) (XU := XU) (CW := (View.read (Elt Ideal) arg6.view f6)) (CB := (View.read (Elt Ideal) arg7.view f7)) 0 (runFirst.sl.v147 (F := Ideal) c i arg1 arg2 arg3 arg4 arg5 arg13 f1 f2 f3 f4 f5) (runFirst.sl.v149 (F := Ideal) c i XU) _ (runFirst.sl.v154 (F := Ideal) c i arg1 arg2 arg3 arg4 arg5 arg13 arg14 XG f1 f2 f3 f4 f5) (runFirst.sl.v158 (F := Ideal) c i arg1 arg2 arg3 arg4 arg5 arg13 arg14 XG f1 f2 f3 f4 f5) (runFirst.sl.v163 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 0 c XU _ _ (off6_eq i 0) _ k e
  · exact fun a e => col_read arg6 f6 0 _ (by decide) a e
  · exact fun e => col_read arg7 f7 0 _ (by decide) 0 e
  · intro r e
    exact g_gen arg14.view _ _ 15 _ _ (by decide) 0 (runFirst.sl.v139 (F := Ideal) c i arg1 arg2 arg3 arg4 arg5 arg13 f1 f2 f3 f4 f5) (runFirst.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e
  · intro r e
    exact g_gen arg14.view _ _ 16 _ _ (by decide) 0 (runFirst.sl.v139 (F := Ideal) c i arg1 arg2 arg3 arg4 arg5 arg13 f1 f2 f3 f4 f5) (runFirst.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e
  · intro r e
    exact g_gen arg14.view _ _ 17 _ _ (by decide) 0 (runFirst.sl.v139 (F := Ideal) c i arg1 arg2 arg3 arg4 arg5 arg13 f1 f2 f3 f4 f5) (runFirst.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e

/-- The accumulator after block 0. -/
theorem acc0 (r : Fin 512) (e : Fin 2048) : View.canon (runFirst.sl.HA_5 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 1 r e := by
  refine block_step arg15.view (runFirst.sl.HA_1 (F := Ideal)) (fun r k => am H XG XU (View.read (Elt Ideal) arg6.view f6) (View.read (Elt Ideal) arg7.view f7) r ⟨512 * (0 : Fin 11).val + k.val, by omega⟩) (accS H XG XU (View.read (Elt Ideal) arg6.view f6) (View.read (Elt Ideal) arg7.view f7) XD 0) (fun k e => XD (ix2 ⟨512 * (0 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact fun r e => (congrFun (View.canon_cons_unit_lit' _ _ _ (by decide)) (ix2 r e)).trans (zP r e)
  · exact st_gen (H := H) (XG := XG) (XU := XU) (CW := (View.read (Elt Ideal) arg6.view f6)) (CB := (View.read (Elt Ideal) arg7.view f7)) (XD := XD) 0 0 (by decide) (runFirst.sl.r_6 (F := Ideal) c i arg1 arg2 arg3 arg4 arg5 arg6 arg7 arg13 arg14 XG XU f1 f2 f3 f4 f5 f6 f7) _ _ (runFirst.sl.v228 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 0 (by decide) _ _ (off12_eq i 0) _ k e)
  · exact st_gen (H := H) (XG := XG) (XU := XU) (CW := (View.read (Elt Ideal) arg6.view f6)) (CB := (View.read (Elt Ideal) arg7.view f7)) (XD := XD) 0 512 (by decide) (runFirst.sl.r_6 (F := Ideal) c i arg1 arg2 arg3 arg4 arg5 arg6 arg7 arg13 arg14 XG XU f1 f2 f3 f4 f5 f6 f7) _ _ (runFirst.sl.v237 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 512 (by decide) _ _ (off13_eq i 0) _ k e)
  · exact st_gen (H := H) (XG := XG) (XU := XU) (CW := (View.read (Elt Ideal) arg6.view f6)) (CB := (View.read (Elt Ideal) arg7.view f7)) (XD := XD) 0 1024 (by decide) (runFirst.sl.r_6 (F := Ideal) c i arg1 arg2 arg3 arg4 arg5 arg6 arg7 arg13 arg14 XG XU f1 f2 f3 f4 f5 f6 f7) _ _ (runFirst.sl.v246 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 1024 (by decide) _ _ (off14_eq i 0) _ k e)
  · exact st_gen (H := H) (XG := XG) (XU := XU) (CW := (View.read (Elt Ideal) arg6.view f6)) (CB := (View.read (Elt Ideal) arg7.view f7)) (XD := XD) 0 1536 (by decide) (runFirst.sl.r_6 (F := Ideal) c i arg1 arg2 arg3 arg4 arg5 arg6 arg7 arg13 arg14 XG XU f1 f2 f3 f4 f5 f6 f7) _ _ (runFirst.sl.v255 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 1536 (by decide) _ _ (off15_eq i 0) _ k e)

/-- The activations of block 1. -/
theorem act1 (r e : Fin 512) : (runFirst.sl.r_8 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (1 : Fin 11).val + e.val, by omega⟩ := by
  refine act_gen (H := H) (XG := XG) (XU := XU) (CW := (View.read (Elt Ideal) arg6.view f6)) (CB := (View.read (Elt Ideal) arg7.view f7)) 1 (runFirst.sl.v147 (F := Ideal) c i arg1 arg2 arg3 arg4 arg5 arg13 f1 f2 f3 f4 f5) (runFirst.sl.v283 (F := Ideal) c i XU) _ (runFirst.sl.v288 (F := Ideal) c i arg1 arg2 arg3 arg4 arg5 arg13 arg14 XG f1 f2 f3 f4 f5) (runFirst.sl.v292 (F := Ideal) c i arg1 arg2 arg3 arg4 arg5 arg13 arg14 XG f1 f2 f3 f4 f5) (runFirst.sl.v297 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 1 c XU _ _ (off6_eq i 1) _ k e
  · exact fun a e => col_read arg6 f6 512 _ (by decide) a e
  · exact fun e => col_read arg7 f7 512 _ (by decide) 0 e
  · intro r e
    exact g_gen arg14.view _ _ 15 _ _ (by decide) 1 (runFirst.sl.v139 (F := Ideal) c i arg1 arg2 arg3 arg4 arg5 arg13 f1 f2 f3 f4 f5) (runFirst.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e
  · intro r e
    exact g_gen arg14.view _ _ 16 _ _ (by decide) 1 (runFirst.sl.v139 (F := Ideal) c i arg1 arg2 arg3 arg4 arg5 arg13 f1 f2 f3 f4 f5) (runFirst.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e
  · intro r e
    exact g_gen arg14.view _ _ 17 _ _ (by decide) 1 (runFirst.sl.v139 (F := Ideal) c i arg1 arg2 arg3 arg4 arg5 arg13 f1 f2 f3 f4 f5) (runFirst.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e

/-- The accumulator after block 1. -/
theorem acc1 (r : Fin 512) (e : Fin 2048) : View.canon (runFirst.sl.HA_9 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 2 r e := by
  refine block_step arg15.view (runFirst.sl.HA_5 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (1 : Fin 11).val + k.val, by omega⟩) (accS H XG XU (View.read (Elt Ideal) arg6.view f6) (View.read (Elt Ideal) arg7.view f7) XD 1) (fun k e => XD (ix2 ⟨512 * (1 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc0 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 1 0 (by decide) (runFirst.sl.r_8 (F := Ideal) c i arg1 arg2 arg3 arg4 arg5 arg6 arg7 arg13 arg14 XG XU f1 f2 f3 f4 f5 f6 f7) _ _ (runFirst.sl.v362 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 0 (by decide) _ _ (off12_eq i 1) _ k e)
  · exact st_gen (H := H) (XG := XG) (XU := XU) (CW := (View.read (Elt Ideal) arg6.view f6)) (CB := (View.read (Elt Ideal) arg7.view f7)) (XD := XD) 1 512 (by decide) (runFirst.sl.r_8 (F := Ideal) c i arg1 arg2 arg3 arg4 arg5 arg6 arg7 arg13 arg14 XG XU f1 f2 f3 f4 f5 f6 f7) _ _ (runFirst.sl.v371 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 512 (by decide) _ _ (off13_eq i 1) _ k e)
  · exact st_gen (H := H) (XG := XG) (XU := XU) (CW := (View.read (Elt Ideal) arg6.view f6)) (CB := (View.read (Elt Ideal) arg7.view f7)) (XD := XD) 1 1024 (by decide) (runFirst.sl.r_8 (F := Ideal) c i arg1 arg2 arg3 arg4 arg5 arg6 arg7 arg13 arg14 XG XU f1 f2 f3 f4 f5 f6 f7) _ _ (runFirst.sl.v380 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 1024 (by decide) _ _ (off14_eq i 1) _ k e)
  · exact st_gen (H := H) (XG := XG) (XU := XU) (CW := (View.read (Elt Ideal) arg6.view f6)) (CB := (View.read (Elt Ideal) arg7.view f7)) (XD := XD) 1 1536 (by decide) (runFirst.sl.r_8 (F := Ideal) c i arg1 arg2 arg3 arg4 arg5 arg6 arg7 arg13 arg14 XG XU f1 f2 f3 f4 f5 f6 f7) _ _ (runFirst.sl.v389 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 1536 (by decide) _ _ (off15_eq i 1) _ k e)

/-- The activations of block 2. -/
theorem act2 (r e : Fin 512) : (runFirst.sl.r_10 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (2 : Fin 11).val + e.val, by omega⟩ := by
  refine act_gen (H := H) (XG := XG) (XU := XU) (CW := (View.read (Elt Ideal) arg6.view f6)) (CB := (View.read (Elt Ideal) arg7.view f7)) 2 (runFirst.sl.v147 (F := Ideal) c i arg1 arg2 arg3 arg4 arg5 arg13 f1 f2 f3 f4 f5) (runFirst.sl.v417 (F := Ideal) c i XU) _ (runFirst.sl.v422 (F := Ideal) c i arg1 arg2 arg3 arg4 arg5 arg13 arg14 XG f1 f2 f3 f4 f5) (runFirst.sl.v426 (F := Ideal) c i arg1 arg2 arg3 arg4 arg5 arg13 arg14 XG f1 f2 f3 f4 f5) (runFirst.sl.v431 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 2 c XU _ _ (off6_eq i 2) _ k e
  · exact fun a e => col_read arg6 f6 1024 _ (by decide) a e
  · exact fun e => col_read arg7 f7 1024 _ (by decide) 0 e
  · intro r e
    exact g_gen arg14.view _ _ 15 _ _ (by decide) 2 (runFirst.sl.v139 (F := Ideal) c i arg1 arg2 arg3 arg4 arg5 arg13 f1 f2 f3 f4 f5) (runFirst.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e
  · intro r e
    exact g_gen arg14.view _ _ 16 _ _ (by decide) 2 (runFirst.sl.v139 (F := Ideal) c i arg1 arg2 arg3 arg4 arg5 arg13 f1 f2 f3 f4 f5) (runFirst.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e
  · intro r e
    exact g_gen arg14.view _ _ 17 _ _ (by decide) 2 (runFirst.sl.v139 (F := Ideal) c i arg1 arg2 arg3 arg4 arg5 arg13 f1 f2 f3 f4 f5) (runFirst.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e

/-- The accumulator after block 2. -/
theorem acc2 (r : Fin 512) (e : Fin 2048) : View.canon (runFirst.sl.HA_13 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 3 r e := by
  refine block_step arg15.view (runFirst.sl.HA_9 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (2 : Fin 11).val + k.val, by omega⟩) (accS H XG XU (View.read (Elt Ideal) arg6.view f6) (View.read (Elt Ideal) arg7.view f7) XD 2) (fun k e => XD (ix2 ⟨512 * (2 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc1 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 2 0 (by decide) (runFirst.sl.r_10 (F := Ideal) c i arg1 arg2 arg3 arg4 arg5 arg6 arg7 arg13 arg14 XG XU f1 f2 f3 f4 f5 f6 f7) _ _ (runFirst.sl.v496 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 0 (by decide) _ _ (off12_eq i 2) _ k e)
  · exact st_gen (H := H) (XG := XG) (XU := XU) (CW := (View.read (Elt Ideal) arg6.view f6)) (CB := (View.read (Elt Ideal) arg7.view f7)) (XD := XD) 2 512 (by decide) (runFirst.sl.r_10 (F := Ideal) c i arg1 arg2 arg3 arg4 arg5 arg6 arg7 arg13 arg14 XG XU f1 f2 f3 f4 f5 f6 f7) _ _ (runFirst.sl.v505 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 512 (by decide) _ _ (off13_eq i 2) _ k e)
  · exact st_gen (H := H) (XG := XG) (XU := XU) (CW := (View.read (Elt Ideal) arg6.view f6)) (CB := (View.read (Elt Ideal) arg7.view f7)) (XD := XD) 2 1024 (by decide) (runFirst.sl.r_10 (F := Ideal) c i arg1 arg2 arg3 arg4 arg5 arg6 arg7 arg13 arg14 XG XU f1 f2 f3 f4 f5 f6 f7) _ _ (runFirst.sl.v514 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 1024 (by decide) _ _ (off14_eq i 2) _ k e)
  · exact st_gen (H := H) (XG := XG) (XU := XU) (CW := (View.read (Elt Ideal) arg6.view f6)) (CB := (View.read (Elt Ideal) arg7.view f7)) (XD := XD) 2 1536 (by decide) (runFirst.sl.r_10 (F := Ideal) c i arg1 arg2 arg3 arg4 arg5 arg6 arg7 arg13 arg14 XG XU f1 f2 f3 f4 f5 f6 f7) _ _ (runFirst.sl.v523 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 1536 (by decide) _ _ (off15_eq i 2) _ k e)

/-- The activations of block 3. -/
theorem act3 (r e : Fin 512) : (runFirst.sl.r_13 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (3 : Fin 11).val + e.val, by omega⟩ := by
  refine act_gen (H := H) (XG := XG) (XU := XU) (CW := (View.read (Elt Ideal) arg6.view f6)) (CB := (View.read (Elt Ideal) arg7.view f7)) 3 (runFirst.sl.v147 (F := Ideal) c i arg1 arg2 arg3 arg4 arg5 arg13 f1 f2 f3 f4 f5) (runFirst.sl.v551 (F := Ideal) c i XU) _ (runFirst.sl.v556 (F := Ideal) c i arg1 arg2 arg3 arg4 arg5 arg13 arg14 XG f1 f2 f3 f4 f5) (runFirst.sl.v560 (F := Ideal) c i arg1 arg2 arg3 arg4 arg5 arg13 arg14 XG f1 f2 f3 f4 f5) (runFirst.sl.v565 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 3 c XU _ _ (off6_eq i 3) _ k e
  · exact fun a e => col_read arg6 f6 1536 _ (by decide) a e
  · exact fun e => col_read arg7 f7 1536 _ (by decide) 0 e
  · intro r e
    exact g_gen arg14.view _ _ 15 _ _ (by decide) 3 (runFirst.sl.v139 (F := Ideal) c i arg1 arg2 arg3 arg4 arg5 arg13 f1 f2 f3 f4 f5) (runFirst.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e
  · intro r e
    exact g_gen arg14.view _ _ 16 _ _ (by decide) 3 (runFirst.sl.v139 (F := Ideal) c i arg1 arg2 arg3 arg4 arg5 arg13 f1 f2 f3 f4 f5) (runFirst.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e
  · intro r e
    exact g_gen arg14.view _ _ 17 _ _ (by decide) 3 (runFirst.sl.v139 (F := Ideal) c i arg1 arg2 arg3 arg4 arg5 arg13 f1 f2 f3 f4 f5) (runFirst.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e

/-- The accumulator after block 3. -/
theorem acc3 (r : Fin 512) (e : Fin 2048) : View.canon (runFirst.sl.HA_17 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 4 r e := by
  refine block_step arg15.view (runFirst.sl.HA_13 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (3 : Fin 11).val + k.val, by omega⟩) (accS H XG XU (View.read (Elt Ideal) arg6.view f6) (View.read (Elt Ideal) arg7.view f7) XD 3) (fun k e => XD (ix2 ⟨512 * (3 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc2 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 3 0 (by decide) (runFirst.sl.r_13 (F := Ideal) c i arg1 arg2 arg3 arg4 arg5 arg6 arg7 arg13 arg14 XG XU f1 f2 f3 f4 f5 f6 f7) _ _ (runFirst.sl.v630 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 0 (by decide) _ _ (off12_eq i 3) _ k e)
  · exact st_gen (H := H) (XG := XG) (XU := XU) (CW := (View.read (Elt Ideal) arg6.view f6)) (CB := (View.read (Elt Ideal) arg7.view f7)) (XD := XD) 3 512 (by decide) (runFirst.sl.r_13 (F := Ideal) c i arg1 arg2 arg3 arg4 arg5 arg6 arg7 arg13 arg14 XG XU f1 f2 f3 f4 f5 f6 f7) _ _ (runFirst.sl.v639 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 512 (by decide) _ _ (off13_eq i 3) _ k e)
  · exact st_gen (H := H) (XG := XG) (XU := XU) (CW := (View.read (Elt Ideal) arg6.view f6)) (CB := (View.read (Elt Ideal) arg7.view f7)) (XD := XD) 3 1024 (by decide) (runFirst.sl.r_13 (F := Ideal) c i arg1 arg2 arg3 arg4 arg5 arg6 arg7 arg13 arg14 XG XU f1 f2 f3 f4 f5 f6 f7) _ _ (runFirst.sl.v648 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 1024 (by decide) _ _ (off14_eq i 3) _ k e)
  · exact st_gen (H := H) (XG := XG) (XU := XU) (CW := (View.read (Elt Ideal) arg6.view f6)) (CB := (View.read (Elt Ideal) arg7.view f7)) (XD := XD) 3 1536 (by decide) (runFirst.sl.r_13 (F := Ideal) c i arg1 arg2 arg3 arg4 arg5 arg6 arg7 arg13 arg14 XG XU f1 f2 f3 f4 f5 f6 f7) _ _ (runFirst.sl.v657 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 1536 (by decide) _ _ (off15_eq i 3) _ k e)

/-- The activations of block 4. -/
theorem act4 (r e : Fin 512) : (runFirst.sl.r_18 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (4 : Fin 11).val + e.val, by omega⟩ := by
  refine act_gen (H := H) (XG := XG) (XU := XU) (CW := (View.read (Elt Ideal) arg6.view f6)) (CB := (View.read (Elt Ideal) arg7.view f7)) 4 (runFirst.sl.v147 (F := Ideal) c i arg1 arg2 arg3 arg4 arg5 arg13 f1 f2 f3 f4 f5) (runFirst.sl.v685 (F := Ideal) c i XU) _ (runFirst.sl.v690 (F := Ideal) c i arg1 arg2 arg3 arg4 arg5 arg13 arg14 XG f1 f2 f3 f4 f5) (runFirst.sl.v694 (F := Ideal) c i arg1 arg2 arg3 arg4 arg5 arg13 arg14 XG f1 f2 f3 f4 f5) (runFirst.sl.v699 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 4 c XU _ _ (off6_eq i 4) _ k e
  · exact fun a e => col_read arg6 f6 2048 _ (by decide) a e
  · exact fun e => col_read arg7 f7 2048 _ (by decide) 0 e
  · intro r e
    exact g_gen arg14.view _ _ 15 _ _ (by decide) 4 (runFirst.sl.v139 (F := Ideal) c i arg1 arg2 arg3 arg4 arg5 arg13 f1 f2 f3 f4 f5) (runFirst.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e
  · intro r e
    exact g_gen arg14.view _ _ 16 _ _ (by decide) 4 (runFirst.sl.v139 (F := Ideal) c i arg1 arg2 arg3 arg4 arg5 arg13 f1 f2 f3 f4 f5) (runFirst.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e
  · intro r e
    exact g_gen arg14.view _ _ 17 _ _ (by decide) 4 (runFirst.sl.v139 (F := Ideal) c i arg1 arg2 arg3 arg4 arg5 arg13 f1 f2 f3 f4 f5) (runFirst.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e

/-- The accumulator after block 4. -/
theorem acc4 (r : Fin 512) (e : Fin 2048) : View.canon (runFirst.sl.HA_21 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 5 r e := by
  refine block_step arg15.view (runFirst.sl.HA_17 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (4 : Fin 11).val + k.val, by omega⟩) (accS H XG XU (View.read (Elt Ideal) arg6.view f6) (View.read (Elt Ideal) arg7.view f7) XD 4) (fun k e => XD (ix2 ⟨512 * (4 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc3 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 4 0 (by decide) (runFirst.sl.r_18 (F := Ideal) c i arg1 arg2 arg3 arg4 arg5 arg6 arg7 arg13 arg14 XG XU f1 f2 f3 f4 f5 f6 f7) _ _ (runFirst.sl.v764 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 0 (by decide) _ _ (off12_eq i 4) _ k e)
  · exact st_gen (H := H) (XG := XG) (XU := XU) (CW := (View.read (Elt Ideal) arg6.view f6)) (CB := (View.read (Elt Ideal) arg7.view f7)) (XD := XD) 4 512 (by decide) (runFirst.sl.r_18 (F := Ideal) c i arg1 arg2 arg3 arg4 arg5 arg6 arg7 arg13 arg14 XG XU f1 f2 f3 f4 f5 f6 f7) _ _ (runFirst.sl.v773 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 512 (by decide) _ _ (off13_eq i 4) _ k e)
  · exact st_gen (H := H) (XG := XG) (XU := XU) (CW := (View.read (Elt Ideal) arg6.view f6)) (CB := (View.read (Elt Ideal) arg7.view f7)) (XD := XD) 4 1024 (by decide) (runFirst.sl.r_18 (F := Ideal) c i arg1 arg2 arg3 arg4 arg5 arg6 arg7 arg13 arg14 XG XU f1 f2 f3 f4 f5 f6 f7) _ _ (runFirst.sl.v782 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 1024 (by decide) _ _ (off14_eq i 4) _ k e)
  · exact st_gen (H := H) (XG := XG) (XU := XU) (CW := (View.read (Elt Ideal) arg6.view f6)) (CB := (View.read (Elt Ideal) arg7.view f7)) (XD := XD) 4 1536 (by decide) (runFirst.sl.r_18 (F := Ideal) c i arg1 arg2 arg3 arg4 arg5 arg6 arg7 arg13 arg14 XG XU f1 f2 f3 f4 f5 f6 f7) _ _ (runFirst.sl.v791 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 1536 (by decide) _ _ (off15_eq i 4) _ k e)

/-- The activations of block 5. -/
theorem act5 (r e : Fin 512) : (runFirst.sl.r_22 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (5 : Fin 11).val + e.val, by omega⟩ := by
  refine act_gen (H := H) (XG := XG) (XU := XU) (CW := (View.read (Elt Ideal) arg6.view f6)) (CB := (View.read (Elt Ideal) arg7.view f7)) 5 (runFirst.sl.v147 (F := Ideal) c i arg1 arg2 arg3 arg4 arg5 arg13 f1 f2 f3 f4 f5) (runFirst.sl.v819 (F := Ideal) c i XU) _ (runFirst.sl.v824 (F := Ideal) c i arg1 arg2 arg3 arg4 arg5 arg13 arg14 XG f1 f2 f3 f4 f5) (runFirst.sl.v828 (F := Ideal) c i arg1 arg2 arg3 arg4 arg5 arg13 arg14 XG f1 f2 f3 f4 f5) (runFirst.sl.v833 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 5 c XU _ _ (off6_eq i 5) _ k e
  · exact fun a e => col_read arg6 f6 2560 _ (by decide) a e
  · exact fun e => col_read arg7 f7 2560 _ (by decide) 0 e
  · intro r e
    exact g_gen arg14.view _ _ 15 _ _ (by decide) 5 (runFirst.sl.v139 (F := Ideal) c i arg1 arg2 arg3 arg4 arg5 arg13 f1 f2 f3 f4 f5) (runFirst.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e
  · intro r e
    exact g_gen arg14.view _ _ 16 _ _ (by decide) 5 (runFirst.sl.v139 (F := Ideal) c i arg1 arg2 arg3 arg4 arg5 arg13 f1 f2 f3 f4 f5) (runFirst.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e
  · intro r e
    exact g_gen arg14.view _ _ 17 _ _ (by decide) 5 (runFirst.sl.v139 (F := Ideal) c i arg1 arg2 arg3 arg4 arg5 arg13 f1 f2 f3 f4 f5) (runFirst.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e

/-- The accumulator after block 5. -/
theorem acc5 (r : Fin 512) (e : Fin 2048) : View.canon (runFirst.sl.HA_25 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 6 r e := by
  refine block_step arg15.view (runFirst.sl.HA_21 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (5 : Fin 11).val + k.val, by omega⟩) (accS H XG XU (View.read (Elt Ideal) arg6.view f6) (View.read (Elt Ideal) arg7.view f7) XD 5) (fun k e => XD (ix2 ⟨512 * (5 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc4 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 5 0 (by decide) (runFirst.sl.r_22 (F := Ideal) c i arg1 arg2 arg3 arg4 arg5 arg6 arg7 arg13 arg14 XG XU f1 f2 f3 f4 f5 f6 f7) _ _ (runFirst.sl.v898 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 0 (by decide) _ _ (off12_eq i 5) _ k e)
  · exact st_gen (H := H) (XG := XG) (XU := XU) (CW := (View.read (Elt Ideal) arg6.view f6)) (CB := (View.read (Elt Ideal) arg7.view f7)) (XD := XD) 5 512 (by decide) (runFirst.sl.r_22 (F := Ideal) c i arg1 arg2 arg3 arg4 arg5 arg6 arg7 arg13 arg14 XG XU f1 f2 f3 f4 f5 f6 f7) _ _ (runFirst.sl.v907 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 512 (by decide) _ _ (off13_eq i 5) _ k e)
  · exact st_gen (H := H) (XG := XG) (XU := XU) (CW := (View.read (Elt Ideal) arg6.view f6)) (CB := (View.read (Elt Ideal) arg7.view f7)) (XD := XD) 5 1024 (by decide) (runFirst.sl.r_22 (F := Ideal) c i arg1 arg2 arg3 arg4 arg5 arg6 arg7 arg13 arg14 XG XU f1 f2 f3 f4 f5 f6 f7) _ _ (runFirst.sl.v916 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 1024 (by decide) _ _ (off14_eq i 5) _ k e)
  · exact st_gen (H := H) (XG := XG) (XU := XU) (CW := (View.read (Elt Ideal) arg6.view f6)) (CB := (View.read (Elt Ideal) arg7.view f7)) (XD := XD) 5 1536 (by decide) (runFirst.sl.r_22 (F := Ideal) c i arg1 arg2 arg3 arg4 arg5 arg6 arg7 arg13 arg14 XG XU f1 f2 f3 f4 f5 f6 f7) _ _ (runFirst.sl.v925 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 1536 (by decide) _ _ (off15_eq i 5) _ k e)

/-- The activations of block 6. -/
theorem act6 (r e : Fin 512) : (runFirst.sl.r_28 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (6 : Fin 11).val + e.val, by omega⟩ := by
  refine act_gen (H := H) (XG := XG) (XU := XU) (CW := (View.read (Elt Ideal) arg6.view f6)) (CB := (View.read (Elt Ideal) arg7.view f7)) 6 (runFirst.sl.v147 (F := Ideal) c i arg1 arg2 arg3 arg4 arg5 arg13 f1 f2 f3 f4 f5) (runFirst.sl.v953 (F := Ideal) c i XU) _ (runFirst.sl.v958 (F := Ideal) c i arg1 arg2 arg3 arg4 arg5 arg13 arg14 XG f1 f2 f3 f4 f5) (runFirst.sl.v962 (F := Ideal) c i arg1 arg2 arg3 arg4 arg5 arg13 arg14 XG f1 f2 f3 f4 f5) (runFirst.sl.v967 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 6 c XU _ _ (off6_eq i 6) _ k e
  · exact fun a e => col_read arg6 f6 3072 _ (by decide) a e
  · exact fun e => col_read arg7 f7 3072 _ (by decide) 0 e
  · intro r e
    exact g_gen arg14.view _ _ 15 _ _ (by decide) 6 (runFirst.sl.v139 (F := Ideal) c i arg1 arg2 arg3 arg4 arg5 arg13 f1 f2 f3 f4 f5) (runFirst.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e
  · intro r e
    exact g_gen arg14.view _ _ 16 _ _ (by decide) 6 (runFirst.sl.v139 (F := Ideal) c i arg1 arg2 arg3 arg4 arg5 arg13 f1 f2 f3 f4 f5) (runFirst.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e
  · intro r e
    exact g_gen arg14.view _ _ 17 _ _ (by decide) 6 (runFirst.sl.v139 (F := Ideal) c i arg1 arg2 arg3 arg4 arg5 arg13 f1 f2 f3 f4 f5) (runFirst.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e

/-- The accumulator after block 6. -/
theorem acc6 (r : Fin 512) (e : Fin 2048) : View.canon (runFirst.sl.HA_29 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 7 r e := by
  refine block_step arg15.view (runFirst.sl.HA_25 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (6 : Fin 11).val + k.val, by omega⟩) (accS H XG XU (View.read (Elt Ideal) arg6.view f6) (View.read (Elt Ideal) arg7.view f7) XD 6) (fun k e => XD (ix2 ⟨512 * (6 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc5 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 6 0 (by decide) (runFirst.sl.r_28 (F := Ideal) c i arg1 arg2 arg3 arg4 arg5 arg6 arg7 arg13 arg14 XG XU f1 f2 f3 f4 f5 f6 f7) _ _ (runFirst.sl.v1032 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 0 (by decide) _ _ (off12_eq i 6) _ k e)
  · exact st_gen (H := H) (XG := XG) (XU := XU) (CW := (View.read (Elt Ideal) arg6.view f6)) (CB := (View.read (Elt Ideal) arg7.view f7)) (XD := XD) 6 512 (by decide) (runFirst.sl.r_28 (F := Ideal) c i arg1 arg2 arg3 arg4 arg5 arg6 arg7 arg13 arg14 XG XU f1 f2 f3 f4 f5 f6 f7) _ _ (runFirst.sl.v1041 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 512 (by decide) _ _ (off13_eq i 6) _ k e)
  · exact st_gen (H := H) (XG := XG) (XU := XU) (CW := (View.read (Elt Ideal) arg6.view f6)) (CB := (View.read (Elt Ideal) arg7.view f7)) (XD := XD) 6 1024 (by decide) (runFirst.sl.r_28 (F := Ideal) c i arg1 arg2 arg3 arg4 arg5 arg6 arg7 arg13 arg14 XG XU f1 f2 f3 f4 f5 f6 f7) _ _ (runFirst.sl.v1050 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 1024 (by decide) _ _ (off14_eq i 6) _ k e)
  · exact st_gen (H := H) (XG := XG) (XU := XU) (CW := (View.read (Elt Ideal) arg6.view f6)) (CB := (View.read (Elt Ideal) arg7.view f7)) (XD := XD) 6 1536 (by decide) (runFirst.sl.r_28 (F := Ideal) c i arg1 arg2 arg3 arg4 arg5 arg6 arg7 arg13 arg14 XG XU f1 f2 f3 f4 f5 f6 f7) _ _ (runFirst.sl.v1059 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 1536 (by decide) _ _ (off15_eq i 6) _ k e)

/-- The activations of block 7. -/
theorem act7 (r e : Fin 512) : (runFirst.sl.r_32 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (7 : Fin 11).val + e.val, by omega⟩ := by
  refine (congrFun (e69 (runFirst.sl.v147 (F := Ideal) c i arg1 arg2 arg3 arg4 arg5 arg13 f1 f2 f3 f4 f5) (runFirst.sl.v1087 (F := Ideal) c i XU) (runFirst.sl.r_30 (F := Ideal) c arg6 f6) (runFirst.sl.v1092 (F := Ideal) c i arg1 arg2 arg3 arg4 arg5 arg13 arg14 XG f1 f2 f3 f4 f5) (runFirst.sl.v1096 (F := Ideal) c i arg1 arg2 arg3 arg4 arg5 arg13 arg14 XG f1 f2 f3 f4 f5) (runFirst.sl.v1101 (F := Ideal) c i arg1 arg2 arg3 arg4 arg5 arg13 arg14 XG f1 f2 f3 f4 f5) _) (ix2 r e)).trans ?_
  refine act_gen (H := H) (XG := XG) (XU := XU) (CW := (View.read (Elt Ideal) arg6.view f6)) (CB := (View.read (Elt Ideal) arg7.view f7)) 7 (runFirst.sl.v147 (F := Ideal) c i arg1 arg2 arg3 arg4 arg5 arg13 f1 f2 f3 f4 f5) (runFirst.sl.v1087 (F := Ideal) c i XU) (runFirst.sl.r_30 (F := Ideal) c arg6 f6) (runFirst.sl.v1092 (F := Ideal) c i arg1 arg2 arg3 arg4 arg5 arg13 arg14 XG f1 f2 f3 f4 f5) (runFirst.sl.v1096 (F := Ideal) c i arg1 arg2 arg3 arg4 arg5 arg13 arg14 XG f1 f2 f3 f4 f5) (runFirst.sl.v1101 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 7 c XU _ _ (off6_eq i 7) _ k e
  · exact fun a e => col_read arg6 f6 3584 _ (by decide) a e
  · exact fun e => col_read arg7 f7 3584 _ (by decide) 0 e
  · intro r e
    exact g_gen arg14.view _ _ 15 _ _ (by decide) 7 (runFirst.sl.v139 (F := Ideal) c i arg1 arg2 arg3 arg4 arg5 arg13 f1 f2 f3 f4 f5) (runFirst.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e
  · intro r e
    exact g_gen arg14.view _ _ 16 _ _ (by decide) 7 (runFirst.sl.v139 (F := Ideal) c i arg1 arg2 arg3 arg4 arg5 arg13 f1 f2 f3 f4 f5) (runFirst.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e
  · intro r e
    exact g_gen arg14.view _ _ 17 _ _ (by decide) 7 (runFirst.sl.v139 (F := Ideal) c i arg1 arg2 arg3 arg4 arg5 arg13 f1 f2 f3 f4 f5) (runFirst.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e

/-- The accumulator after block 7. -/
theorem acc7 (r : Fin 512) (e : Fin 2048) : View.canon (runFirst.sl.HA_33 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 8 r e := by
  refine block_step arg15.view (runFirst.sl.HA_29 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (7 : Fin 11).val + k.val, by omega⟩) (accS H XG XU (View.read (Elt Ideal) arg6.view f6) (View.read (Elt Ideal) arg7.view f7) XD 7) (fun k e => XD (ix2 ⟨512 * (7 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc6 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 7 0 (by decide) (runFirst.sl.r_32 (F := Ideal) c i arg1 arg2 arg3 arg4 arg5 arg6 arg7 arg13 arg14 XG XU f1 f2 f3 f4 f5 f6 f7) _ _ (runFirst.sl.v1166 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 0 (by decide) _ _ (off12_eq i 7) _ k e)
  · exact st_gen (H := H) (XG := XG) (XU := XU) (CW := (View.read (Elt Ideal) arg6.view f6)) (CB := (View.read (Elt Ideal) arg7.view f7)) (XD := XD) 7 512 (by decide) (runFirst.sl.r_32 (F := Ideal) c i arg1 arg2 arg3 arg4 arg5 arg6 arg7 arg13 arg14 XG XU f1 f2 f3 f4 f5 f6 f7) _ _ (runFirst.sl.v1175 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 512 (by decide) _ _ (off13_eq i 7) _ k e)
  · exact st_gen (H := H) (XG := XG) (XU := XU) (CW := (View.read (Elt Ideal) arg6.view f6)) (CB := (View.read (Elt Ideal) arg7.view f7)) (XD := XD) 7 1024 (by decide) (runFirst.sl.r_32 (F := Ideal) c i arg1 arg2 arg3 arg4 arg5 arg6 arg7 arg13 arg14 XG XU f1 f2 f3 f4 f5 f6 f7) _ _ (runFirst.sl.v1184 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 1024 (by decide) _ _ (off14_eq i 7) _ k e)
  · exact st_gen (H := H) (XG := XG) (XU := XU) (CW := (View.read (Elt Ideal) arg6.view f6)) (CB := (View.read (Elt Ideal) arg7.view f7)) (XD := XD) 7 1536 (by decide) (runFirst.sl.r_32 (F := Ideal) c i arg1 arg2 arg3 arg4 arg5 arg6 arg7 arg13 arg14 XG XU f1 f2 f3 f4 f5 f6 f7) _ _ (runFirst.sl.v1193 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 1536 (by decide) _ _ (off15_eq i 7) _ k e)

/-- The activations of block 8. -/
theorem act8 (r e : Fin 512) : (runFirst.sl.r_35 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (8 : Fin 11).val + e.val, by omega⟩ := by
  refine act_gen (H := H) (XG := XG) (XU := XU) (CW := (View.read (Elt Ideal) arg6.view f6)) (CB := (View.read (Elt Ideal) arg7.view f7)) 8 (runFirst.sl.v147 (F := Ideal) c i arg1 arg2 arg3 arg4 arg5 arg13 f1 f2 f3 f4 f5) (runFirst.sl.v1221 (F := Ideal) c i XU) _ (runFirst.sl.v1226 (F := Ideal) c i arg1 arg2 arg3 arg4 arg5 arg13 arg14 XG f1 f2 f3 f4 f5) (runFirst.sl.v1230 (F := Ideal) c i arg1 arg2 arg3 arg4 arg5 arg13 arg14 XG f1 f2 f3 f4 f5) (runFirst.sl.v1235 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 8 c XU _ _ (off6_eq i 8) _ k e
  · exact fun a e => col_read arg6 f6 4096 _ (by decide) a e
  · exact fun e => col_read arg7 f7 4096 _ (by decide) 0 e
  · intro r e
    exact g_gen arg14.view _ _ 15 _ _ (by decide) 8 (runFirst.sl.v139 (F := Ideal) c i arg1 arg2 arg3 arg4 arg5 arg13 f1 f2 f3 f4 f5) (runFirst.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e
  · intro r e
    exact g_gen arg14.view _ _ 16 _ _ (by decide) 8 (runFirst.sl.v139 (F := Ideal) c i arg1 arg2 arg3 arg4 arg5 arg13 f1 f2 f3 f4 f5) (runFirst.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e
  · intro r e
    exact g_gen arg14.view _ _ 17 _ _ (by decide) 8 (runFirst.sl.v139 (F := Ideal) c i arg1 arg2 arg3 arg4 arg5 arg13 f1 f2 f3 f4 f5) (runFirst.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e

/-- The accumulator after block 8. -/
theorem acc8 (r : Fin 512) (e : Fin 2048) : View.canon (runFirst.sl.HA_37 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 9 r e := by
  refine block_step arg15.view (runFirst.sl.HA_33 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (8 : Fin 11).val + k.val, by omega⟩) (accS H XG XU (View.read (Elt Ideal) arg6.view f6) (View.read (Elt Ideal) arg7.view f7) XD 8) (fun k e => XD (ix2 ⟨512 * (8 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc7 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 8 0 (by decide) (runFirst.sl.r_35 (F := Ideal) c i arg1 arg2 arg3 arg4 arg5 arg6 arg7 arg13 arg14 XG XU f1 f2 f3 f4 f5 f6 f7) _ _ (runFirst.sl.v1300 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 0 (by decide) _ _ (off12_eq i 8) _ k e)
  · exact st_gen (H := H) (XG := XG) (XU := XU) (CW := (View.read (Elt Ideal) arg6.view f6)) (CB := (View.read (Elt Ideal) arg7.view f7)) (XD := XD) 8 512 (by decide) (runFirst.sl.r_35 (F := Ideal) c i arg1 arg2 arg3 arg4 arg5 arg6 arg7 arg13 arg14 XG XU f1 f2 f3 f4 f5 f6 f7) _ _ (runFirst.sl.v1309 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 512 (by decide) _ _ (off13_eq i 8) _ k e)
  · exact st_gen (H := H) (XG := XG) (XU := XU) (CW := (View.read (Elt Ideal) arg6.view f6)) (CB := (View.read (Elt Ideal) arg7.view f7)) (XD := XD) 8 1024 (by decide) (runFirst.sl.r_35 (F := Ideal) c i arg1 arg2 arg3 arg4 arg5 arg6 arg7 arg13 arg14 XG XU f1 f2 f3 f4 f5 f6 f7) _ _ (runFirst.sl.v1318 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 1024 (by decide) _ _ (off14_eq i 8) _ k e)
  · exact st_gen (H := H) (XG := XG) (XU := XU) (CW := (View.read (Elt Ideal) arg6.view f6)) (CB := (View.read (Elt Ideal) arg7.view f7)) (XD := XD) 8 1536 (by decide) (runFirst.sl.r_35 (F := Ideal) c i arg1 arg2 arg3 arg4 arg5 arg6 arg7 arg13 arg14 XG XU f1 f2 f3 f4 f5 f6 f7) _ _ (runFirst.sl.v1327 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 1536 (by decide) _ _ (off15_eq i 8) _ k e)

/-- The activations of block 9. -/
theorem act9 (r e : Fin 512) : (runFirst.sl.r_37 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (9 : Fin 11).val + e.val, by omega⟩ := by
  refine act_gen (H := H) (XG := XG) (XU := XU) (CW := (View.read (Elt Ideal) arg6.view f6)) (CB := (View.read (Elt Ideal) arg7.view f7)) 9 (runFirst.sl.v147 (F := Ideal) c i arg1 arg2 arg3 arg4 arg5 arg13 f1 f2 f3 f4 f5) (runFirst.sl.v1355 (F := Ideal) c i XU) _ (runFirst.sl.v1360 (F := Ideal) c i arg1 arg2 arg3 arg4 arg5 arg13 arg14 XG f1 f2 f3 f4 f5) (runFirst.sl.v1364 (F := Ideal) c i arg1 arg2 arg3 arg4 arg5 arg13 arg14 XG f1 f2 f3 f4 f5) (runFirst.sl.v1369 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 9 c XU _ _ (off6_eq i 9) _ k e
  · exact fun a e => col_read arg6 f6 4608 _ (by decide) a e
  · exact fun e => col_read arg7 f7 4608 _ (by decide) 0 e
  · intro r e
    exact g_gen arg14.view _ _ 15 _ _ (by decide) 9 (runFirst.sl.v139 (F := Ideal) c i arg1 arg2 arg3 arg4 arg5 arg13 f1 f2 f3 f4 f5) (runFirst.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e
  · intro r e
    exact g_gen arg14.view _ _ 16 _ _ (by decide) 9 (runFirst.sl.v139 (F := Ideal) c i arg1 arg2 arg3 arg4 arg5 arg13 f1 f2 f3 f4 f5) (runFirst.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e
  · intro r e
    exact g_gen arg14.view _ _ 17 _ _ (by decide) 9 (runFirst.sl.v139 (F := Ideal) c i arg1 arg2 arg3 arg4 arg5 arg13 f1 f2 f3 f4 f5) (runFirst.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e

/-- The accumulator after block 9. -/
theorem acc9 (r : Fin 512) (e : Fin 2048) : View.canon (runFirst.sl.HA_41 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 10 r e := by
  refine block_step arg15.view (runFirst.sl.HA_37 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (9 : Fin 11).val + k.val, by omega⟩) (accS H XG XU (View.read (Elt Ideal) arg6.view f6) (View.read (Elt Ideal) arg7.view f7) XD 9) (fun k e => XD (ix2 ⟨512 * (9 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc8 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 9 0 (by decide) (runFirst.sl.r_37 (F := Ideal) c i arg1 arg2 arg3 arg4 arg5 arg6 arg7 arg13 arg14 XG XU f1 f2 f3 f4 f5 f6 f7) _ _ (runFirst.sl.v1412 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 0 (by decide) _ _ (off12_eq i 9) _ k e)
  · exact st_gen (H := H) (XG := XG) (XU := XU) (CW := (View.read (Elt Ideal) arg6.view f6)) (CB := (View.read (Elt Ideal) arg7.view f7)) (XD := XD) 9 512 (by decide) (runFirst.sl.r_37 (F := Ideal) c i arg1 arg2 arg3 arg4 arg5 arg6 arg7 arg13 arg14 XG XU f1 f2 f3 f4 f5 f6 f7) _ _ (runFirst.sl.v1421 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 512 (by decide) _ _ (off13_eq i 9) _ k e)
  · exact st_gen (H := H) (XG := XG) (XU := XU) (CW := (View.read (Elt Ideal) arg6.view f6)) (CB := (View.read (Elt Ideal) arg7.view f7)) (XD := XD) 9 1024 (by decide) (runFirst.sl.r_37 (F := Ideal) c i arg1 arg2 arg3 arg4 arg5 arg6 arg7 arg13 arg14 XG XU f1 f2 f3 f4 f5 f6 f7) _ _ (runFirst.sl.v1430 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 1024 (by decide) _ _ (off14_eq i 9) _ k e)
  · exact st_gen (H := H) (XG := XG) (XU := XU) (CW := (View.read (Elt Ideal) arg6.view f6)) (CB := (View.read (Elt Ideal) arg7.view f7)) (XD := XD) 9 1536 (by decide) (runFirst.sl.r_37 (F := Ideal) c i arg1 arg2 arg3 arg4 arg5 arg6 arg7 arg13 arg14 XG XU f1 f2 f3 f4 f5 f6 f7) _ _ (runFirst.sl.v1439 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 1536 (by decide) _ _ (off15_eq i 9) _ k e)

/-- The activations of block 10. -/
theorem act10 (r e : Fin 512) : (runFirst.sl.r_41 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (10 : Fin 11).val + e.val, by omega⟩ := by
  refine act_gen (H := H) (XG := XG) (XU := XU) (CW := (View.read (Elt Ideal) arg6.view f6)) (CB := (View.read (Elt Ideal) arg7.view f7)) 10 (runFirst.sl.v147 (F := Ideal) c i arg1 arg2 arg3 arg4 arg5 arg13 f1 f2 f3 f4 f5) (runFirst.sl.v1467 (F := Ideal) c i XU) _ (runFirst.sl.v1472 (F := Ideal) c i arg1 arg2 arg3 arg4 arg5 arg13 arg14 XG f1 f2 f3 f4 f5) (runFirst.sl.v1476 (F := Ideal) c i arg1 arg2 arg3 arg4 arg5 arg13 arg14 XG f1 f2 f3 f4 f5) (runFirst.sl.v1481 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 10 c XU _ _ (off6_eq i 10) _ k e
  · exact fun a e => col_read arg6 f6 5120 _ (by decide) a e
  · exact fun e => col_read arg7 f7 5120 _ (by decide) 0 e
  · intro r e
    exact g_gen arg14.view _ _ 15 _ _ (by decide) 10 (runFirst.sl.v139 (F := Ideal) c i arg1 arg2 arg3 arg4 arg5 arg13 f1 f2 f3 f4 f5) (runFirst.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e
  · intro r e
    exact g_gen arg14.view _ _ 16 _ _ (by decide) 10 (runFirst.sl.v139 (F := Ideal) c i arg1 arg2 arg3 arg4 arg5 arg13 f1 f2 f3 f4 f5) (runFirst.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e
  · intro r e
    exact g_gen arg14.view _ _ 17 _ _ (by decide) 10 (runFirst.sl.v139 (F := Ideal) c i arg1 arg2 arg3 arg4 arg5 arg13 f1 f2 f3 f4 f5) (runFirst.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e

/-- The accumulator after block 10. -/
theorem acc10 (r : Fin 512) (e : Fin 2048) : View.canon (runFirst.sl.HA_45 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 11 r e := by
  refine block_step arg15.view (runFirst.sl.HA_41 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (10 : Fin 11).val + k.val, by omega⟩) (accS H XG XU (View.read (Elt Ideal) arg6.view f6) (View.read (Elt Ideal) arg7.view f7) XD 10) (fun k e => XD (ix2 ⟨512 * (10 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc9 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 10 0 (by decide) (runFirst.sl.r_41 (F := Ideal) c i arg1 arg2 arg3 arg4 arg5 arg6 arg7 arg13 arg14 XG XU f1 f2 f3 f4 f5 f6 f7) _ _ (runFirst.sl.v1502 (F := Ideal) c i XD) _ (e93 _ _ _ _ _) rfl (act10 c i arg1 arg2 arg3 arg4 arg5 arg6 arg7 arg8 arg13 arg14 arg15 XG XU XD f1 f2 f3 f4 f5 f6 f7 f8 H hH) (fun k e => wd_read (sl i 1) 10 c XD 0 (by decide) _ _ (off12_eq i 10) _ k e)
  · exact st_gen (H := H) (XG := XG) (XU := XU) (CW := (View.read (Elt Ideal) arg6.view f6)) (CB := (View.read (Elt Ideal) arg7.view f7)) (XD := XD) 10 512 (by decide) (runFirst.sl.r_41 (F := Ideal) c i arg1 arg2 arg3 arg4 arg5 arg6 arg7 arg13 arg14 XG XU f1 f2 f3 f4 f5 f6 f7) _ _ (runFirst.sl.v1511 (F := Ideal) c i XD) _ (e94 _ _ _ _ _) rfl (act10 c i arg1 arg2 arg3 arg4 arg5 arg6 arg7 arg8 arg13 arg14 arg15 XG XU XD f1 f2 f3 f4 f5 f6 f7 f8 H hH) (fun k e => wd_read (sl i 1) 10 c XD 512 (by decide) _ _ (off13_eq i 10) _ k e)
  · exact st_gen (H := H) (XG := XG) (XU := XU) (CW := (View.read (Elt Ideal) arg6.view f6)) (CB := (View.read (Elt Ideal) arg7.view f7)) (XD := XD) 10 1024 (by decide) (runFirst.sl.r_41 (F := Ideal) c i arg1 arg2 arg3 arg4 arg5 arg6 arg7 arg13 arg14 XG XU f1 f2 f3 f4 f5 f6 f7) _ _ (runFirst.sl.v1520 (F := Ideal) c i XD) _ rfl rfl (act10 c i arg1 arg2 arg3 arg4 arg5 arg6 arg7 arg8 arg13 arg14 arg15 XG XU XD f1 f2 f3 f4 f5 f6 f7 f8 H hH) (fun k e => wd_read (sl i 1) 10 c XD 1024 (by decide) _ _ (off14_eq i 10) _ k e)
  · exact st_gen (H := H) (XG := XG) (XU := XU) (CW := (View.read (Elt Ideal) arg6.view f6)) (CB := (View.read (Elt Ideal) arg7.view f7)) (XD := XD) 10 1536 (by decide) (runFirst.sl.r_41 (F := Ideal) c i arg1 arg2 arg3 arg4 arg5 arg6 arg7 arg13 arg14 XG XU f1 f2 f3 f4 f5 f6 f7) _ _ (runFirst.sl.v1529 (F := Ideal) c i XD) _ rfl rfl (act10 c i arg1 arg2 arg3 arg4 arg5 arg6 arg7 arg8 arg13 arg14 arg15 XG XU XD f1 f2 f3 f4 f5 f6 f7 f8 H hH) (fun k e => wd_read (sl i 1) 10 c XD 1536 (by decide) _ _ (off15_eq i 10) _ k e)

omit hH
/-- The normalized rows this run stores. -/
theorem h_eq (r k) : View.canon (runFirst.sl.HH_3 (F := Ideal) c i arg1 arg2 arg3 arg4 arg5 f1 f2 f3 f4 f5) (ix2 r k) = (hv (i 0).val (View.read (Elt Ideal) arg1.view f1) (View.read (Elt Ideal) arg2.view f2) (View.read (Elt Ideal) arg3.view f3) (View.read (Elt Ideal) arg4.view f4) (View.read (Elt Ideal) arg5.view f5)) r k := by
  refine (h_canon _ _ _ inb_S544x2048_S16x2048_0_0 inb_S544x2048_S512x2048_16_0 inb_S544x2048_S16x2048_528_0 r k).trans ?_
  unfold hv
  by_cases h : r.val < 16
  · rw [dif_pos h, dif_pos h, h1P, sel_eq _ _ (bit_prev i)]
    simp only [mod_read arg4 f4 3 _ (by decide), mod_read arg4 f4 4 _ (by decide)]
    simp only [col_read (R := 16) (C := 2048) (C' := 2048) arg2 f2 0 _ (by decide), col_read (R := 1) (C := 2048) (C' := 2048) arg5 f5 0 _ (by decide), Nat.zero_add, Fin.eta]
    rfl
  rw [dif_neg h, dif_neg h]
  by_cases h' : r.val < 528
  · rw [dif_pos h', dif_pos h']
    refine (h2P _ _ _ _ _ _).trans ?_
    dsimp only [runFirst.sl.r, runFirst.sl.r_1]
    simp only [mod_read arg4 f4 3 _ (by decide), mod_read arg4 f4 4 _ (by decide)]
    simp only [col_read (R := 512) (C := 2048) (C' := 2048) arg1 f1 0 _ (by decide), col_read (R := 1) (C := 2048) (C' := 2048) arg5 f5 0 _ (by decide), Nat.zero_add, Fin.eta]
    rfl
  rw [dif_neg h', dif_neg h']
  refine (h3P _ _ _ _ _ _ _).trans ?_
  rw [sel_eq _ _ (bit_next i)]
  simp only [mod_read arg4 f4 3 _ (by decide), mod_read arg4 f4 4 _ (by decide)]
  simp only [col_read (R := 16) (C := 2048) (C' := 2048) arg3 f3 0 _ (by decide), col_read (R := 1) (C := 2048) (C' := 2048) arg5 f5 0 _ (by decide), Nat.zero_add, Fin.eta]
  rfl

/-- What this run stores in the output. -/
theorem out_eq (r : Fin 512) (e : Fin 2048) : View.canon (runFirst.sl.HO_1 (F := Ideal) c i arg1 arg2 arg3 arg4 arg5 arg6 arg7 arg8 arg13 arg14 arg15 XG XU XD f1 f2 f3 f4 f5 f6 f7 f8) (ix2 r e)
    = pointOut (i 0).val (View.read (Elt Ideal) arg1.view f1) (View.read (Elt Ideal) arg2.view f2) (View.read (Elt Ideal) arg3.view f3) (View.read (Elt Ideal) arg4.view f4) (View.read (Elt Ideal) arg5.view f5) (View.read (Elt Ideal) arg6.view f6) (View.read (Elt Ideal) arg7.view f7) (View.read (Elt Ideal) arg8.view f8) XG XU XD r e := by
  refine (congrFun (View.canon_cons_unit_lit' _ _ _ (by decide)) (ix2 r e)).trans ((outP _ _ _ _ r e).trans ?_)
  unfold pointOut
  simp only [mod_read arg4 f4 5 _ (by decide)]
  simp only [col_read (R := 512) (C := 2048) (C' := 2048) arg1 f1 0 _ (by decide), col_read (R := 1) (C := 2048) (C' := 2048) arg8 f8 0 _ (by decide), Nat.zero_add, Fin.eta]
  have key : ∀ k : Fin 2048, (runFirst.sl.v1539 (F := Ideal) c i arg1 arg2 arg3 arg4 arg5 arg6 arg7 arg13 arg14 arg15 XG XU XD f1 f2 f3 f4 f5 f6 f7) (ix2 r k) = accS (hv (i 0).val (View.read (Elt Ideal) arg1.view f1) (View.read (Elt Ideal) arg2.view f2) (View.read (Elt Ideal) arg3.view f3) (View.read (Elt Ideal) arg4.view f4) (View.read (Elt Ideal) arg5.view f5)) XG XU (View.read (Elt Ideal) arg6.view f6) (View.read (Elt Ideal) arg7.view f7) XD 11 r k := fun k =>
    ((congrFun (View.readCov_eq_canon' _ _ _) _).trans (congrArg _ (by
      funext a; apply Fin.ext; fin_cases a
      · exact (Nat.zero_add _).trans (Nat.one_mul _)
      · exact (Nat.zero_add _).trans (Nat.one_mul _)))).trans (acc10 c i arg1 arg2 arg3 arg4 arg5 arg6 arg7 arg8 arg13 arg14 arg15 XG XU XD f1 f2 f3 f4 f5 f6 f7 f8 _ (h_eq c i arg1 arg2 arg3 arg4 arg5 arg6 arg7 arg8 arg13 arg14 arg15 XG XU XD f1 f2 f3 f4 f5 f6 f7 f8) r k)
  simp only [key]
  rfl

end Cert.FfnI.FirstVal

end
-- ==== Proof.FfnI.LastVal.lean ====
/- What the last run of the feed-forward body stores, block by block. -/
module

public import proofs.«01_k».proof.Proof.FfnI.Last
public import proofs.«01_k».proof.Proof.FfnI.Model

@[expose] public section

set_option maxRecDepth 16384

noncomputable section

namespace Cert.FfnI.LastVal

open Cert.KernelFfnIdeal Cert.KernelFfnIdeal.Gen Cert.FfnI
open Idealize.ShloMosaic Idealize.ShloMosaic.TcCoe

/-- The row before the block is kept unless the block is the first of its sequence, -/
theorem bit_prev : ∀ i : grid0.Coords, runLast.sl.v24 i = if (i 0).val % 8 = 0 then 0#1 else 1#1 := by decide +kernel
/-- and the row after unless it is the last. -/
theorem bit_next : ∀ i : grid0.Coords, runLast.sl.v35 i = if (i 0).val % 8 = 7 then 0#1 else 1#1 := by decide +kernel

variable (c : Dev nD) (i : grid0.Coords)
  (arg1 : Memref sig .tc .vmem S512x2048 .f32) (arg2 : Memref sig .tc .vmem S16x2048 .f32) (arg3 : Memref sig .tc .vmem S16x2048 .f32)
  (arg4 : Memref sig .tc .vmem S1x6x2048 .f32) (arg5 : Memref sig .tc .vmem S1x2048 .f32) (arg6 : Memref sig .tc .vmem S3x5632 .f32)
  (arg7 : Memref sig .tc .vmem S1x5632 .f32) (arg8 : Memref sig .tc .vmem S1x2048 .f32)
  (arg13 : Memref sig .tc .vmem S544x2048 .bf16) (arg14 : Memref sig .tc .vmem S544x512 .f32) (arg15 : Memref sig .tc .vmem S512x2048 .f32)
  (XG : Buf (Elt Ideal) (wgM.view.loc (c : Thread nD τ))) (XU : Buf (Elt Ideal) (wuM.view.loc (c : Thread nD τ))) (XD : Buf (Elt Ideal) (wdM.view.loc (c : Thread nD τ)))
  (f1 : Buf (Elt Ideal) (arg1.view.loc (c : Thread nD τ))) (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ))) (f6 : Buf (Elt Ideal) (arg6.view.loc (c : Thread nD τ)))
  (f7 : Buf (Elt Ideal) (arg7.view.loc (c : Thread nD τ))) (f8 : Buf (Elt Ideal) (arg8.view.loc (c : Thread nD τ)))
  (H : Fin 544 → Fin 2048 → EReal)
  (hH : ∀ r k, View.canon (runLast.sl.HH_3 (F := Ideal) c i arg1 arg2 arg3 arg4 arg5 f1 f2 f3 f4 f5) (ix2 r k) = H r k)

include c i arg1 arg2 arg3 arg4 arg5 arg6 arg7 arg8 arg13 arg14 arg15 XG XU XD f1 f2 f3 f4 f5 f6 f7 f8 hH

/-- The rows loaded for the gate product, -/
theorem v139 (r k) : (runLast.sl.v139 (F := Ideal) c i arg1 arg2 arg3 arg4 arg5 arg13 f1 f2 f3 f4 f5) (ix2 r k) = H r k := by
  refine (h_read arg13.view (runLast.sl.HH_3 (F := Ideal) c i arg1 arg2 arg3 arg4 arg5 f1 f2 f3 f4 f5) 0 _ (by decide) r k).trans ((congrArg _ ?_).trans (hH r k))
  funext a; apply Fin.ext; fin_cases a
  · exact Nat.zero_add _
  · rfl

/-- and for the up product. -/
theorem v147 (r : Fin 512) (k) : (runLast.sl.v147 (F := Ideal) c i arg1 arg2 arg3 arg4 arg5 arg13 f1 f2 f3 f4 f5) (ix2 r k) = H ⟨16 + r.val, by omega⟩ k :=
  (h_read arg13.view (runLast.sl.HH_3 (F := Ideal) c i arg1 arg2 arg3 arg4 arg5 f1 f2 f3 f4 f5) 16 _ (by decide) r k).trans (hH _ k)

/-- The activations of block 0. -/
theorem act0 (r e : Fin 512) : (runLast.sl.r_6 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (0 : Fin 11).val + e.val, by omega⟩ := by
  refine act_gen (H := H) (XG := XG) (XU := XU) (CW := (View.read (Elt Ideal) arg6.view f6)) (CB := (View.read (Elt Ideal) arg7.view f7)) 0 (runLast.sl.v147 (F := Ideal) c i arg1 arg2 arg3 arg4 arg5 arg13 f1 f2 f3 f4 f5) (runLast.sl.v149 (F := Ideal) c i XU) _ (runLast.sl.v154 (F := Ideal) c i arg1 arg2 arg3 arg4 arg5 arg13 arg14 XG f1 f2 f3 f4 f5) (runLast.sl.v158 (F := Ideal) c i arg1 arg2 arg3 arg4 arg5 arg13 arg14 XG f1 f2 f3 f4 f5) (runLast.sl.v163 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 0 c XU _ _ (off6_eq i 0) _ k e
  · exact fun a e => col_read arg6 f6 0 _ (by decide) a e
  · exact fun e => col_read arg7 f7 0 _ (by decide) 0 e
  · intro r e
    exact g_gen arg14.view _ _ 15 _ _ (by decide) 0 (runLast.sl.v139 (F := Ideal) c i arg1 arg2 arg3 arg4 arg5 arg13 f1 f2 f3 f4 f5) (runLast.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e
  · intro r e
    exact g_gen arg14.view _ _ 16 _ _ (by decide) 0 (runLast.sl.v139 (F := Ideal) c i arg1 arg2 arg3 arg4 arg5 arg13 f1 f2 f3 f4 f5) (runLast.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e
  · intro r e
    exact g_gen arg14.view _ _ 17 _ _ (by decide) 0 (runLast.sl.v139 (F := Ideal) c i arg1 arg2 arg3 arg4 arg5 arg13 f1 f2 f3 f4 f5) (runLast.sl.v141 (F := Ideal) c i XG) rfl (v139 c i arg1 arg2 arg3 arg4 arg5 arg6 arg7 arg8 arg13 arg14 arg15 XG XU XD f1 f2 f3 f4 f5 f6 f7 f8 H hH) (fun k e => wg_read (sl i 0) 0 c XG _ _ (off6_eq i 0) _ k e) r e

/-- The accumulator after block 0. -/
theorem acc0 (r : Fin 512) (e : Fin 2048) : View.canon (runLast.sl.HA_5 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 1 r e := by
  refine block_step arg15.view (runLast.sl.HA_1 (F := Ideal)) (fun r k => am H XG XU (View.read (Elt Ideal) arg6.view f6) (View.read (Elt Ideal) arg7.view f7) r ⟨512 * (0 : Fin 11).val + k.val, by omega⟩) (accS H XG XU (View.read (Elt Ideal) arg6.view f6) (View.read (Elt Ideal) arg7.view f7) XD 0) (fun k e => XD (ix2 ⟨512 * (0 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact fun r e => (congrFun (View.canon_cons_unit_lit' _ _ _ (by decide)) (ix2 r e)).trans (zP r e)
  · exact st_gen (H := H) (XG := XG) (XU := XU) (CW := (View.read (Elt Ideal) arg6.view f6)) (CB := (View.read (Elt Ideal) arg7.view f7)) (XD := XD) 0 0 (by decide) (runLast.sl.r_6 (F := Ideal) c i arg1 arg2 arg3 arg4 arg5 arg6 arg7 arg13 arg14 XG XU f1 f2 f3 f4 f5 f6 f7) _ _ (runLast.sl.v228 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 0 (by decide) _ _ (off12_eq i 0) _ k e)
  · exact st_gen (H := H) (XG := XG) (XU := XU) (CW := (View.read (Elt Ideal) arg6.view f6)) (CB := (View.read (Elt Ideal) arg7.view f7)) (XD := XD) 0 512 (by decide) (runLast.sl.r_6 (F := Ideal) c i arg1 arg2 arg3 arg4 arg5 arg6 arg7 arg13 arg14 XG XU f1 f2 f3 f4 f5 f6 f7) _ _ (runLast.sl.v237 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 512 (by decide) _ _ (off13_eq i 0) _ k e)
  · exact st_gen (H := H) (XG := XG) (XU := XU) (CW := (View.read (Elt Ideal) arg6.view f6)) (CB := (View.read (Elt Ideal) arg7.view f7)) (XD := XD) 0 1024 (by decide) (runLast.sl.r_6 (F := Ideal) c i arg1 arg2 arg3 arg4 arg5 arg6 arg7 arg13 arg14 XG XU f1 f2 f3 f4 f5 f6 f7) _ _ (runLast.sl.v246 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 1024 (by decide) _ _ (off14_eq i 0) _ k e)
  · exact st_gen (H := H) (XG := XG) (XU := XU) (CW := (View.read (Elt Ideal) arg6.view f6)) (CB := (View.read (Elt Ideal) arg7.view f7)) (XD := XD) 0 1536 (by decide) (runLast.sl.r_6 (F := Ideal) c i arg1 arg2 arg3 arg4 arg5 arg6 arg7 arg13 arg14 XG XU f1 f2 f3 f4 f5 f6 f7) _ _ (runLast.sl.v255 (F := Ideal) c i XD) _ rfl rfl (act0 c i arg1 arg2 arg3 arg4 arg5 arg6 arg7 arg8 arg13 arg14 arg15 XG XU XD f1 f2 f3 f4 f5 f6 f7 f8 H hH) (fun k e => wd_read (sl i 0) 0 c XD 1536 (by decide) _ _ (off15_eq i 0) _ k e)

/-- The activations of block 1. -/
theorem act1 (r e : Fin 512) : (runLast.sl.r_8 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (1 : Fin 11).val + e.val, by omega⟩ := by
  refine act_gen (H := H) (XG := XG) (XU := XU) (CW := (View.read (Elt Ideal) arg6.view f6)) (CB := (View.read (Elt Ideal) arg7.view f7)) 1 (runLast.sl.v147 (F := Ideal) c i arg1 arg2 arg3 arg4 arg5 arg13 f1 f2 f3 f4 f5) (runLast.sl.v283 (F := Ideal) c i XU) _ (runLast.sl.v288 (F := Ideal) c i arg1 arg2 arg3 arg4 arg5 arg13 arg14 XG f1 f2 f3 f4 f5) (runLast.sl.v292 (F := Ideal) c i arg1 arg2 arg3 arg4 arg5 arg13 arg14 XG f1 f2 f3 f4 f5) (runLast.sl.v297 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 1 c XU _ _ (off6_eq i 1) _ k e
  · exact fun a e => col_read arg6 f6 512 _ (by decide) a e
  · exact fun e => col_read arg7 f7 512 _ (by decide) 0 e
  · intro r e
    exact g_gen arg14.view _ _ 15 _ _ (by decide) 1 (runLast.sl.v139 (F := Ideal) c i arg1 arg2 arg3 arg4 arg5 arg13 f1 f2 f3 f4 f5) (runLast.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e
  · intro r e
    exact g_gen arg14.view _ _ 16 _ _ (by decide) 1 (runLast.sl.v139 (F := Ideal) c i arg1 arg2 arg3 arg4 arg5 arg13 f1 f2 f3 f4 f5) (runLast.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e
  · intro r e
    exact g_gen arg14.view _ _ 17 _ _ (by decide) 1 (runLast.sl.v139 (F := Ideal) c i arg1 arg2 arg3 arg4 arg5 arg13 f1 f2 f3 f4 f5) (runLast.sl.v275 (F := Ideal) c i XG) rfl (v139 c i arg1 arg2 arg3 arg4 arg5 arg6 arg7 arg8 arg13 arg14 arg15 XG XU XD f1 f2 f3 f4 f5 f6 f7 f8 H hH) (fun k e => wg_read (sl i 1) 1 c XG _ _ (off6_eq i 1) _ k e) r e

/-- The accumulator after block 1. -/
theorem acc1 (r : Fin 512) (e : Fin 2048) : View.canon (runLast.sl.HA_9 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 2 r e := by
  refine block_step arg15.view (runLast.sl.HA_5 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (1 : Fin 11).val + k.val, by omega⟩) (accS H XG XU (View.read (Elt Ideal) arg6.view f6) (View.read (Elt Ideal) arg7.view f7) XD 1) (fun k e => XD (ix2 ⟨512 * (1 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc0 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 1 0 (by decide) (runLast.sl.r_8 (F := Ideal) c i arg1 arg2 arg3 arg4 arg5 arg6 arg7 arg13 arg14 XG XU f1 f2 f3 f4 f5 f6 f7) _ _ (runLast.sl.v362 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 0 (by decide) _ _ (off12_eq i 1) _ k e)
  · exact st_gen (H := H) (XG := XG) (XU := XU) (CW := (View.read (Elt Ideal) arg6.view f6)) (CB := (View.read (Elt Ideal) arg7.view f7)) (XD := XD) 1 512 (by decide) (runLast.sl.r_8 (F := Ideal) c i arg1 arg2 arg3 arg4 arg5 arg6 arg7 arg13 arg14 XG XU f1 f2 f3 f4 f5 f6 f7) _ _ (runLast.sl.v371 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 512 (by decide) _ _ (off13_eq i 1) _ k e)
  · exact st_gen (H := H) (XG := XG) (XU := XU) (CW := (View.read (Elt Ideal) arg6.view f6)) (CB := (View.read (Elt Ideal) arg7.view f7)) (XD := XD) 1 1024 (by decide) (runLast.sl.r_8 (F := Ideal) c i arg1 arg2 arg3 arg4 arg5 arg6 arg7 arg13 arg14 XG XU f1 f2 f3 f4 f5 f6 f7) _ _ (runLast.sl.v380 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 1024 (by decide) _ _ (off14_eq i 1) _ k e)
  · exact st_gen (H := H) (XG := XG) (XU := XU) (CW := (View.read (Elt Ideal) arg6.view f6)) (CB := (View.read (Elt Ideal) arg7.view f7)) (XD := XD) 1 1536 (by decide) (runLast.sl.r_8 (F := Ideal) c i arg1 arg2 arg3 arg4 arg5 arg6 arg7 arg13 arg14 XG XU f1 f2 f3 f4 f5 f6 f7) _ _ (runLast.sl.v389 (F := Ideal) c i XD) _ rfl rfl (act1 c i arg1 arg2 arg3 arg4 arg5 arg6 arg7 arg8 arg13 arg14 arg15 XG XU XD f1 f2 f3 f4 f5 f6 f7 f8 H hH) (fun k e => wd_read (sl i 1) 1 c XD 1536 (by decide) _ _ (off15_eq i 1) _ k e)

/-- The activations of block 2. -/
theorem act2 (r e : Fin 512) : (runLast.sl.r_10 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (2 : Fin 11).val + e.val, by omega⟩ := by
  refine act_gen (H := H) (XG := XG) (XU := XU) (CW := (View.read (Elt Ideal) arg6.view f6)) (CB := (View.read (Elt Ideal) arg7.view f7)) 2 (runLast.sl.v147 (F := Ideal) c i arg1 arg2 arg3 arg4 arg5 arg13 f1 f2 f3 f4 f5) (runLast.sl.v417 (F := Ideal) c i XU) _ (runLast.sl.v422 (F := Ideal) c i arg1 arg2 arg3 arg4 arg5 arg13 arg14 XG f1 f2 f3 f4 f5) (runLast.sl.v426 (F := Ideal) c i arg1 arg2 arg3 arg4 arg5 arg13 arg14 XG f1 f2 f3 f4 f5) (runLast.sl.v431 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 2 c XU _ _ (off6_eq i 2) _ k e
  · exact fun a e => col_read arg6 f6 1024 _ (by decide) a e
  · exact fun e => col_read arg7 f7 1024 _ (by decide) 0 e
  · intro r e
    exact g_gen arg14.view _ _ 15 _ _ (by decide) 2 (runLast.sl.v139 (F := Ideal) c i arg1 arg2 arg3 arg4 arg5 arg13 f1 f2 f3 f4 f5) (runLast.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e
  · intro r e
    exact g_gen arg14.view _ _ 16 _ _ (by decide) 2 (runLast.sl.v139 (F := Ideal) c i arg1 arg2 arg3 arg4 arg5 arg13 f1 f2 f3 f4 f5) (runLast.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e
  · intro r e
    exact g_gen arg14.view _ _ 17 _ _ (by decide) 2 (runLast.sl.v139 (F := Ideal) c i arg1 arg2 arg3 arg4 arg5 arg13 f1 f2 f3 f4 f5) (runLast.sl.v409 (F := Ideal) c i XG) rfl (v139 c i arg1 arg2 arg3 arg4 arg5 arg6 arg7 arg8 arg13 arg14 arg15 XG XU XD f1 f2 f3 f4 f5 f6 f7 f8 H hH) (fun k e => wg_read (sl i 2) 2 c XG _ _ (off6_eq i 2) _ k e) r e

/-- The accumulator after block 2. -/
theorem acc2 (r : Fin 512) (e : Fin 2048) : View.canon (runLast.sl.HA_13 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 3 r e := by
  refine block_step arg15.view (runLast.sl.HA_9 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (2 : Fin 11).val + k.val, by omega⟩) (accS H XG XU (View.read (Elt Ideal) arg6.view f6) (View.read (Elt Ideal) arg7.view f7) XD 2) (fun k e => XD (ix2 ⟨512 * (2 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc1 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 2 0 (by decide) (runLast.sl.r_10 (F := Ideal) c i arg1 arg2 arg3 arg4 arg5 arg6 arg7 arg13 arg14 XG XU f1 f2 f3 f4 f5 f6 f7) _ _ (runLast.sl.v496 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 0 (by decide) _ _ (off12_eq i 2) _ k e)
  · exact st_gen (H := H) (XG := XG) (XU := XU) (CW := (View.read (Elt Ideal) arg6.view f6)) (CB := (View.read (Elt Ideal) arg7.view f7)) (XD := XD) 2 512 (by decide) (runLast.sl.r_10 (F := Ideal) c i arg1 arg2 arg3 arg4 arg5 arg6 arg7 arg13 arg14 XG XU f1 f2 f3 f4 f5 f6 f7) _ _ (runLast.sl.v505 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 512 (by decide) _ _ (off13_eq i 2) _ k e)
  · exact st_gen (H := H) (XG := XG) (XU := XU) (CW := (View.read (Elt Ideal) arg6.view f6)) (CB := (View.read (Elt Ideal) arg7.view f7)) (XD := XD) 2 1024 (by decide) (runLast.sl.r_10 (F := Ideal) c i arg1 arg2 arg3 arg4 arg5 arg6 arg7 arg13 arg14 XG XU f1 f2 f3 f4 f5 f6 f7) _ _ (runLast.sl.v514 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 1024 (by decide) _ _ (off14_eq i 2) _ k e)
  · exact st_gen (H := H) (XG := XG) (XU := XU) (CW := (View.read (Elt Ideal) arg6.view f6)) (CB := (View.read (Elt Ideal) arg7.view f7)) (XD := XD) 2 1536 (by decide) (runLast.sl.r_10 (F := Ideal) c i arg1 arg2 arg3 arg4 arg5 arg6 arg7 arg13 arg14 XG XU f1 f2 f3 f4 f5 f6 f7) _ _ (runLast.sl.v523 (F := Ideal) c i XD) _ rfl rfl (act2 c i arg1 arg2 arg3 arg4 arg5 arg6 arg7 arg8 arg13 arg14 arg15 XG XU XD f1 f2 f3 f4 f5 f6 f7 f8 H hH) (fun k e => wd_read (sl i 2) 2 c XD 1536 (by decide) _ _ (off15_eq i 2) _ k e)

/-- The activations of block 3. -/
theorem act3 (r e : Fin 512) : (runLast.sl.r_13 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (3 : Fin 11).val + e.val, by omega⟩ := by
  refine act_gen (H := H) (XG := XG) (XU := XU) (CW := (View.read (Elt Ideal) arg6.view f6)) (CB := (View.read (Elt Ideal) arg7.view f7)) 3 (runLast.sl.v147 (F := Ideal) c i arg1 arg2 arg3 arg4 arg5 arg13 f1 f2 f3 f4 f5) (runLast.sl.v551 (F := Ideal) c i XU) _ (runLast.sl.v556 (F := Ideal) c i arg1 arg2 arg3 arg4 arg5 arg13 arg14 XG f1 f2 f3 f4 f5) (runLast.sl.v560 (F := Ideal) c i arg1 arg2 arg3 arg4 arg5 arg13 arg14 XG f1 f2 f3 f4 f5) (runLast.sl.v565 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 3 c XU _ _ (off6_eq i 3) _ k e
  · exact fun a e => col_read arg6 f6 1536 _ (by decide) a e
  · exact fun e => col_read arg7 f7 1536 _ (by decide) 0 e
  · intro r e
    exact g_gen arg14.view _ _ 15 _ _ (by decide) 3 (runLast.sl.v139 (F := Ideal) c i arg1 arg2 arg3 arg4 arg5 arg13 f1 f2 f3 f4 f5) (runLast.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e
  · intro r e
    exact g_gen arg14.view _ _ 16 _ _ (by decide) 3 (runLast.sl.v139 (F := Ideal) c i arg1 arg2 arg3 arg4 arg5 arg13 f1 f2 f3 f4 f5) (runLast.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e
  · intro r e
    exact g_gen arg14.view _ _ 17 _ _ (by decide) 3 (runLast.sl.v139 (F := Ideal) c i arg1 arg2 arg3 arg4 arg5 arg13 f1 f2 f3 f4 f5) (runLast.sl.v543 (F := Ideal) c i XG) rfl (v139 c i arg1 arg2 arg3 arg4 arg5 arg6 arg7 arg8 arg13 arg14 arg15 XG XU XD f1 f2 f3 f4 f5 f6 f7 f8 H hH) (fun k e => wg_read (sl i 0) 3 c XG _ _ (off6_eq i 3) _ k e) r e

/-- The accumulator after block 3. -/
theorem acc3 (r : Fin 512) (e : Fin 2048) : View.canon (runLast.sl.HA_17 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 4 r e := by
  refine block_step arg15.view (runLast.sl.HA_13 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (3 : Fin 11).val + k.val, by omega⟩) (accS H XG XU (View.read (Elt Ideal) arg6.view f6) (View.read (Elt Ideal) arg7.view f7) XD 3) (fun k e => XD (ix2 ⟨512 * (3 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc2 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 3 0 (by decide) (runLast.sl.r_13 (F := Ideal) c i arg1 arg2 arg3 arg4 arg5 arg6 arg7 arg13 arg14 XG XU f1 f2 f3 f4 f5 f6 f7) _ _ (runLast.sl.v630 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 0 (by decide) _ _ (off12_eq i 3) _ k e)
  · exact st_gen (H := H) (XG := XG) (XU := XU) (CW := (View.read (Elt Ideal) arg6.view f6)) (CB := (View.read (Elt Ideal) arg7.view f7)) (XD := XD) 3 512 (by decide) (runLast.sl.r_13 (F := Ideal) c i arg1 arg2 arg3 arg4 arg5 arg6 arg7 arg13 arg14 XG XU f1 f2 f3 f4 f5 f6 f7) _ _ (runLast.sl.v639 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 512 (by decide) _ _ (off13_eq i 3) _ k e)
  · exact st_gen (H := H) (XG := XG) (XU := XU) (CW := (View.read (Elt Ideal) arg6.view f6)) (CB := (View.read (Elt Ideal) arg7.view f7)) (XD := XD) 3 1024 (by decide) (runLast.sl.r_13 (F := Ideal) c i arg1 arg2 arg3 arg4 arg5 arg6 arg7 arg13 arg14 XG XU f1 f2 f3 f4 f5 f6 f7) _ _ (runLast.sl.v648 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 1024 (by decide) _ _ (off14_eq i 3) _ k e)
  · exact st_gen (H := H) (XG := XG) (XU := XU) (CW := (View.read (Elt Ideal) arg6.view f6)) (CB := (View.read (Elt Ideal) arg7.view f7)) (XD := XD) 3 1536 (by decide) (runLast.sl.r_13 (F := Ideal) c i arg1 arg2 arg3 arg4 arg5 arg6 arg7 arg13 arg14 XG XU f1 f2 f3 f4 f5 f6 f7) _ _ (runLast.sl.v657 (F := Ideal) c i XD) _ rfl rfl (act3 c i arg1 arg2 arg3 arg4 arg5 arg6 arg7 arg8 arg13 arg14 arg15 XG XU XD f1 f2 f3 f4 f5 f6 f7 f8 H hH) (fun k e => wd_read (sl i 0) 3 c XD 1536 (by decide) _ _ (off15_eq i 3) _ k e)

/-- The activations of block 4. -/
theorem act4 (r e : Fin 512) : (runLast.sl.r_18 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (4 : Fin 11).val + e.val, by omega⟩ := by
  refine act_gen (H := H) (XG := XG) (XU := XU) (CW := (View.read (Elt Ideal) arg6.view f6)) (CB := (View.read (Elt Ideal) arg7.view f7)) 4 (runLast.sl.v147 (F := Ideal) c i arg1 arg2 arg3 arg4 arg5 arg13 f1 f2 f3 f4 f5) (runLast.sl.v685 (F := Ideal) c i XU) _ (runLast.sl.v690 (F := Ideal) c i arg1 arg2 arg3 arg4 arg5 arg13 arg14 XG f1 f2 f3 f4 f5) (runLast.sl.v694 (F := Ideal) c i arg1 arg2 arg3 arg4 arg5 arg13 arg14 XG f1 f2 f3 f4 f5) (runLast.sl.v699 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 4 c XU _ _ (off6_eq i 4) _ k e
  · exact fun a e => col_read arg6 f6 2048 _ (by decide) a e
  · exact fun e => col_read arg7 f7 2048 _ (by decide) 0 e
  · intro r e
    exact g_gen arg14.view _ _ 15 _ _ (by decide) 4 (runLast.sl.v139 (F := Ideal) c i arg1 arg2 arg3 arg4 arg5 arg13 f1 f2 f3 f4 f5) (runLast.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e
  · intro r e
    exact g_gen arg14.view _ _ 16 _ _ (by decide) 4 (runLast.sl.v139 (F := Ideal) c i arg1 arg2 arg3 arg4 arg5 arg13 f1 f2 f3 f4 f5) (runLast.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e
  · intro r e
    exact g_gen arg14.view _ _ 17 _ _ (by decide) 4 (runLast.sl.v139 (F := Ideal) c i arg1 arg2 arg3 arg4 arg5 arg13 f1 f2 f3 f4 f5) (runLast.sl.v677 (F := Ideal) c i XG) rfl (v139 c i arg1 arg2 arg3 arg4 arg5 arg6 arg7 arg8 arg13 arg14 arg15 XG XU XD f1 f2 f3 f4 f5 f6 f7 f8 H hH) (fun k e => wg_read (sl i 1) 4 c XG _ _ (off6_eq i 4) _ k e) r e

/-- The accumulator after block 4. -/
theorem acc4 (r : Fin 512) (e : Fin 2048) : View.canon (runLast.sl.HA_21 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 5 r e := by
  refine block_step arg15.view (runLast.sl.HA_17 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (4 : Fin 11).val + k.val, by omega⟩) (accS H XG XU (View.read (Elt Ideal) arg6.view f6) (View.read (Elt Ideal) arg7.view f7) XD 4) (fun k e => XD (ix2 ⟨512 * (4 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc3 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 4 0 (by decide) (runLast.sl.r_18 (F := Ideal) c i arg1 arg2 arg3 arg4 arg5 arg6 arg7 arg13 arg14 XG XU f1 f2 f3 f4 f5 f6 f7) _ _ (runLast.sl.v764 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 0 (by decide) _ _ (off12_eq i 4) _ k e)
  · exact st_gen (H := H) (XG := XG) (XU := XU) (CW := (View.read (Elt Ideal) arg6.view f6)) (CB := (View.read (Elt Ideal) arg7.view f7)) (XD := XD) 4 512 (by decide) (runLast.sl.r_18 (F := Ideal) c i arg1 arg2 arg3 arg4 arg5 arg6 arg7 arg13 arg14 XG XU f1 f2 f3 f4 f5 f6 f7) _ _ (runLast.sl.v773 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 512 (by decide) _ _ (off13_eq i 4) _ k e)
  · exact st_gen (H := H) (XG := XG) (XU := XU) (CW := (View.read (Elt Ideal) arg6.view f6)) (CB := (View.read (Elt Ideal) arg7.view f7)) (XD := XD) 4 1024 (by decide) (runLast.sl.r_18 (F := Ideal) c i arg1 arg2 arg3 arg4 arg5 arg6 arg7 arg13 arg14 XG XU f1 f2 f3 f4 f5 f6 f7) _ _ (runLast.sl.v782 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 1024 (by decide) _ _ (off14_eq i 4) _ k e)
  · exact st_gen (H := H) (XG := XG) (XU := XU) (CW := (View.read (Elt Ideal) arg6.view f6)) (CB := (View.read (Elt Ideal) arg7.view f7)) (XD := XD) 4 1536 (by decide) (runLast.sl.r_18 (F := Ideal) c i arg1 arg2 arg3 arg4 arg5 arg6 arg7 arg13 arg14 XG XU f1 f2 f3 f4 f5 f6 f7) _ _ (runLast.sl.v791 (F := Ideal) c i XD) _ rfl rfl (act4 c i arg1 arg2 arg3 arg4 arg5 arg6 arg7 arg8 arg13 arg14 arg15 XG XU XD f1 f2 f3 f4 f5 f6 f7 f8 H hH) (fun k e => wd_read (sl i 1) 4 c XD 1536 (by decide) _ _ (off15_eq i 4) _ k e)

/-- The activations of block 5. -/
theorem act5 (r e : Fin 512) : (runLast.sl.r_22 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (5 : Fin 11).val + e.val, by omega⟩ := by
  refine act_gen (H := H) (XG := XG) (XU := XU) (CW := (View.read (Elt Ideal) arg6.view f6)) (CB := (View.read (Elt Ideal) arg7.view f7)) 5 (runLast.sl.v147 (F := Ideal) c i arg1 arg2 arg3 arg4 arg5 arg13 f1 f2 f3 f4 f5) (runLast.sl.v819 (F := Ideal) c i XU) _ (runLast.sl.v824 (F := Ideal) c i arg1 arg2 arg3 arg4 arg5 arg13 arg14 XG f1 f2 f3 f4 f5) (runLast.sl.v828 (F := Ideal) c i arg1 arg2 arg3 arg4 arg5 arg13 arg14 XG f1 f2 f3 f4 f5) (runLast.sl.v833 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 5 c XU _ _ (off6_eq i 5) _ k e
  · exact fun a e => col_read arg6 f6 2560 _ (by decide) a e
  · exact fun e => col_read arg7 f7 2560 _ (by decide) 0 e
  · intro r e
    exact g_gen arg14.view _ _ 15 _ _ (by decide) 5 (runLast.sl.v139 (F := Ideal) c i arg1 arg2 arg3 arg4 arg5 arg13 f1 f2 f3 f4 f5) (runLast.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e
  · intro r e
    exact g_gen arg14.view _ _ 16 _ _ (by decide) 5 (runLast.sl.v139 (F := Ideal) c i arg1 arg2 arg3 arg4 arg5 arg13 f1 f2 f3 f4 f5) (runLast.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e
  · intro r e
    exact g_gen arg14.view _ _ 17 _ _ (by decide) 5 (runLast.sl.v139 (F := Ideal) c i arg1 arg2 arg3 arg4 arg5 arg13 f1 f2 f3 f4 f5) (runLast.sl.v811 (F := Ideal) c i XG) rfl (v139 c i arg1 arg2 arg3 arg4 arg5 arg6 arg7 arg8 arg13 arg14 arg15 XG XU XD f1 f2 f3 f4 f5 f6 f7 f8 H hH) (fun k e => wg_read (sl i 2) 5 c XG _ _ (off6_eq i 5) _ k e) r e

/-- The accumulator after block 5. -/
theorem acc5 (r : Fin 512) (e : Fin 2048) : View.canon (runLast.sl.HA_25 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 6 r e := by
  refine block_step arg15.view (runLast.sl.HA_21 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (5 : Fin 11).val + k.val, by omega⟩) (accS H XG XU (View.read (Elt Ideal) arg6.view f6) (View.read (Elt Ideal) arg7.view f7) XD 5) (fun k e => XD (ix2 ⟨512 * (5 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc4 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 5 0 (by decide) (runLast.sl.r_22 (F := Ideal) c i arg1 arg2 arg3 arg4 arg5 arg6 arg7 arg13 arg14 XG XU f1 f2 f3 f4 f5 f6 f7) _ _ (runLast.sl.v898 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 0 (by decide) _ _ (off12_eq i 5) _ k e)
  · exact st_gen (H := H) (XG := XG) (XU := XU) (CW := (View.read (Elt Ideal) arg6.view f6)) (CB := (View.read (Elt Ideal) arg7.view f7)) (XD := XD) 5 512 (by decide) (runLast.sl.r_22 (F := Ideal) c i arg1 arg2 arg3 arg4 arg5 arg6 arg7 arg13 arg14 XG XU f1 f2 f3 f4 f5 f6 f7) _ _ (runLast.sl.v907 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 512 (by decide) _ _ (off13_eq i 5) _ k e)
  · exact st_gen (H := H) (XG := XG) (XU := XU) (CW := (View.read (Elt Ideal) arg6.view f6)) (CB := (View.read (Elt Ideal) arg7.view f7)) (XD := XD) 5 1024 (by decide) (runLast.sl.r_22 (F := Ideal) c i arg1 arg2 arg3 arg4 arg5 arg6 arg7 arg13 arg14 XG XU f1 f2 f3 f4 f5 f6 f7) _ _ (runLast.sl.v916 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 1024 (by decide) _ _ (off14_eq i 5) _ k e)
  · exact st_gen (H := H) (XG := XG) (XU := XU) (CW := (View.read (Elt Ideal) arg6.view f6)) (CB := (View.read (Elt Ideal) arg7.view f7)) (XD := XD) 5 1536 (by decide) (runLast.sl.r_22 (F := Ideal) c i arg1 arg2 arg3 arg4 arg5 arg6 arg7 arg13 arg14 XG XU f1 f2 f3 f4 f5 f6 f7) _ _ (runLast.sl.v925 (F := Ideal) c i XD) _ rfl rfl (act5 c i arg1 arg2 arg3 arg4 arg5 arg6 arg7 arg8 arg13 arg14 arg15 XG XU XD f1 f2 f3 f4 f5 f6 f7 f8 H hH) (fun k e => wd_read (sl i 2) 5 c XD 1536 (by decide) _ _ (off15_eq i 5) _ k e)

/-- The activations of block 6. -/
theorem act6 (r e : Fin 512) : (runLast.sl.r_28 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (6 : Fin 11).val + e.val, by omega⟩ := by
  refine act_gen (H := H) (XG := XG) (XU := XU) (CW := (View.read (Elt Ideal) arg6.view f6)) (CB := (View.read (Elt Ideal) arg7.view f7)) 6 (runLast.sl.v147 (F := Ideal) c i arg1 arg2 arg3 arg4 arg5 arg13 f1 f2 f3 f4 f5) (runLast.sl.v953 (F := Ideal) c i XU) _ (runLast.sl.v958 (F := Ideal) c i arg1 arg2 arg3 arg4 arg5 arg13 arg14 XG f1 f2 f3 f4 f5) (runLast.sl.v962 (F := Ideal) c i arg1 arg2 arg3 arg4 arg5 arg13 arg14 XG f1 f2 f3 f4 f5) (runLast.sl.v967 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 6 c XU _ _ (off6_eq i 6) _ k e
  · exact fun a e => col_read arg6 f6 3072 _ (by decide) a e
  · exact fun e => col_read arg7 f7 3072 _ (by decide) 0 e
  · intro r e
    exact g_gen arg14.view _ _ 15 _ _ (by decide) 6 (runLast.sl.v139 (F := Ideal) c i arg1 arg2 arg3 arg4 arg5 arg13 f1 f2 f3 f4 f5) (runLast.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e
  · intro r e
    exact g_gen arg14.view _ _ 16 _ _ (by decide) 6 (runLast.sl.v139 (F := Ideal) c i arg1 arg2 arg3 arg4 arg5 arg13 f1 f2 f3 f4 f5) (runLast.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e
  · intro r e
    exact g_gen arg14.view _ _ 17 _ _ (by decide) 6 (runLast.sl.v139 (F := Ideal) c i arg1 arg2 arg3 arg4 arg5 arg13 f1 f2 f3 f4 f5) (runLast.sl.v945 (F := Ideal) c i XG) rfl (v139 c i arg1 arg2 arg3 arg4 arg5 arg6 arg7 arg8 arg13 arg14 arg15 XG XU XD f1 f2 f3 f4 f5 f6 f7 f8 H hH) (fun k e => wg_read (sl i 0) 6 c XG _ _ (off6_eq i 6) _ k e) r e

/-- The accumulator after block 6. -/
theorem acc6 (r : Fin 512) (e : Fin 2048) : View.canon (runLast.sl.HA_29 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 7 r e := by
  refine block_step arg15.view (runLast.sl.HA_25 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (6 : Fin 11).val + k.val, by omega⟩) (accS H XG XU (View.read (Elt Ideal) arg6.view f6) (View.read (Elt Ideal) arg7.view f7) XD 6) (fun k e => XD (ix2 ⟨512 * (6 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc5 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 6 0 (by decide) (runLast.sl.r_28 (F := Ideal) c i arg1 arg2 arg3 arg4 arg5 arg6 arg7 arg13 arg14 XG XU f1 f2 f3 f4 f5 f6 f7) _ _ (runLast.sl.v1032 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 0 (by decide) _ _ (off12_eq i 6) _ k e)
  · exact st_gen (H := H) (XG := XG) (XU := XU) (CW := (View.read (Elt Ideal) arg6.view f6)) (CB := (View.read (Elt Ideal) arg7.view f7)) (XD := XD) 6 512 (by decide) (runLast.sl.r_28 (F := Ideal) c i arg1 arg2 arg3 arg4 arg5 arg6 arg7 arg13 arg14 XG XU f1 f2 f3 f4 f5 f6 f7) _ _ (runLast.sl.v1041 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 512 (by decide) _ _ (off13_eq i 6) _ k e)
  · exact st_gen (H := H) (XG := XG) (XU := XU) (CW := (View.read (Elt Ideal) arg6.view f6)) (CB := (View.read (Elt Ideal) arg7.view f7)) (XD := XD) 6 1024 (by decide) (runLast.sl.r_28 (F := Ideal) c i arg1 arg2 arg3 arg4 arg5 arg6 arg7 arg13 arg14 XG XU f1 f2 f3 f4 f5 f6 f7) _ _ (runLast.sl.v1050 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 1024 (by decide) _ _ (off14_eq i 6) _ k e)
  · exact st_gen (H := H) (XG := XG) (XU := XU) (CW := (View.read (Elt Ideal) arg6.view f6)) (CB := (View.read (Elt Ideal) arg7.view f7)) (XD := XD) 6 1536 (by decide) (runLast.sl.r_28 (F := Ideal) c i arg1 arg2 arg3 arg4 arg5 arg6 arg7 arg13 arg14 XG XU f1 f2 f3 f4 f5 f6 f7) _ _ (runLast.sl.v1059 (F := Ideal) c i XD) _ rfl rfl (act6 c i arg1 arg2 arg3 arg4 arg5 arg6 arg7 arg8 arg13 arg14 arg15 XG XU XD f1 f2 f3 f4 f5 f6 f7 f8 H hH) (fun k e => wd_read (sl i 0) 6 c XD 1536 (by decide) _ _ (off15_eq i 6) _ k e)

/-- The activations of block 7. -/
theorem act7 (r e : Fin 512) : (runLast.sl.r_32 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (7 : Fin 11).val + e.val, by omega⟩ := by
  refine (congrFun (e69 (runLast.sl.v147 (F := Ideal) c i arg1 arg2 arg3 arg4 arg5 arg13 f1 f2 f3 f4 f5) (runLast.sl.v1087 (F := Ideal) c i XU) (runLast.sl.r_30 (F := Ideal) c arg6 f6) (runLast.sl.v1092 (F := Ideal) c i arg1 arg2 arg3 arg4 arg5 arg13 arg14 XG f1 f2 f3 f4 f5) (runLast.sl.v1096 (F := Ideal) c i arg1 arg2 arg3 arg4 arg5 arg13 arg14 XG f1 f2 f3 f4 f5) (runLast.sl.v1101 (F := Ideal) c i arg1 arg2 arg3 arg4 arg5 arg13 arg14 XG f1 f2 f3 f4 f5) _) (ix2 r e)).trans ?_
  refine act_gen (H := H) (XG := XG) (XU := XU) (CW := (View.read (Elt Ideal) arg6.view f6)) (CB := (View.read (Elt Ideal) arg7.view f7)) 7 (runLast.sl.v147 (F := Ideal) c i arg1 arg2 arg3 arg4 arg5 arg13 f1 f2 f3 f4 f5) (runLast.sl.v1087 (F := Ideal) c i XU) (runLast.sl.r_30 (F := Ideal) c arg6 f6) (runLast.sl.v1092 (F := Ideal) c i arg1 arg2 arg3 arg4 arg5 arg13 arg14 XG f1 f2 f3 f4 f5) (runLast.sl.v1096 (F := Ideal) c i arg1 arg2 arg3 arg4 arg5 arg13 arg14 XG f1 f2 f3 f4 f5) (runLast.sl.v1101 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 7 c XU _ _ (off6_eq i 7) _ k e
  · exact fun a e => col_read arg6 f6 3584 _ (by decide) a e
  · exact fun e => col_read arg7 f7 3584 _ (by decide) 0 e
  · intro r e
    exact g_gen arg14.view _ _ 15 _ _ (by decide) 7 (runLast.sl.v139 (F := Ideal) c i arg1 arg2 arg3 arg4 arg5 arg13 f1 f2 f3 f4 f5) (runLast.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e
  · intro r e
    exact g_gen arg14.view _ _ 16 _ _ (by decide) 7 (runLast.sl.v139 (F := Ideal) c i arg1 arg2 arg3 arg4 arg5 arg13 f1 f2 f3 f4 f5) (runLast.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e
  · intro r e
    exact g_gen arg14.view _ _ 17 _ _ (by decide) 7 (runLast.sl.v139 (F := Ideal) c i arg1 arg2 arg3 arg4 arg5 arg13 f1 f2 f3 f4 f5) (runLast.sl.v1079 (F := Ideal) c i XG) rfl (v139 c i arg1 arg2 arg3 arg4 arg5 arg6 arg7 arg8 arg13 arg14 arg15 XG XU XD f1 f2 f3 f4 f5 f6 f7 f8 H hH) (fun k e => wg_read (sl i 1) 7 c XG _ _ (off6_eq i 7) _ k e) r e

/-- The accumulator after block 7. -/
theorem acc7 (r : Fin 512) (e : Fin 2048) : View.canon (runLast.sl.HA_33 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 8 r e := by
  refine block_step arg15.view (runLast.sl.HA_29 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (7 : Fin 11).val + k.val, by omega⟩) (accS H XG XU (View.read (Elt Ideal) arg6.view f6) (View.read (Elt Ideal) arg7.view f7) XD 7) (fun k e => XD (ix2 ⟨512 * (7 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc6 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 7 0 (by decide) (runLast.sl.r_32 (F := Ideal) c i arg1 arg2 arg3 arg4 arg5 arg6 arg7 arg13 arg14 XG XU f1 f2 f3 f4 f5 f6 f7) _ _ (runLast.sl.v1166 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 0 (by decide) _ _ (off12_eq i 7) _ k e)
  · exact st_gen (H := H) (XG := XG) (XU := XU) (CW := (View.read (Elt Ideal) arg6.view f6)) (CB := (View.read (Elt Ideal) arg7.view f7)) (XD := XD) 7 512 (by decide) (runLast.sl.r_32 (F := Ideal) c i arg1 arg2 arg3 arg4 arg5 arg6 arg7 arg13 arg14 XG XU f1 f2 f3 f4 f5 f6 f7) _ _ (runLast.sl.v1175 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 512 (by decide) _ _ (off13_eq i 7) _ k e)
  · exact st_gen (H := H) (XG := XG) (XU := XU) (CW := (View.read (Elt Ideal) arg6.view f6)) (CB := (View.read (Elt Ideal) arg7.view f7)) (XD := XD) 7 1024 (by decide) (runLast.sl.r_32 (F := Ideal) c i arg1 arg2 arg3 arg4 arg5 arg6 arg7 arg13 arg14 XG XU f1 f2 f3 f4 f5 f6 f7) _ _ (runLast.sl.v1184 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 1024 (by decide) _ _ (off14_eq i 7) _ k e)
  · exact st_gen (H := H) (XG := XG) (XU := XU) (CW := (View.read (Elt Ideal) arg6.view f6)) (CB := (View.read (Elt Ideal) arg7.view f7)) (XD := XD) 7 1536 (by decide) (runLast.sl.r_32 (F := Ideal) c i arg1 arg2 arg3 arg4 arg5 arg6 arg7 arg13 arg14 XG XU f1 f2 f3 f4 f5 f6 f7) _ _ (runLast.sl.v1193 (F := Ideal) c i XD) _ rfl rfl (act7 c i arg1 arg2 arg3 arg4 arg5 arg6 arg7 arg8 arg13 arg14 arg15 XG XU XD f1 f2 f3 f4 f5 f6 f7 f8 H hH) (fun k e => wd_read (sl i 1) 7 c XD 1536 (by decide) _ _ (off15_eq i 7) _ k e)

/-- The activations of block 8. -/
theorem act8 (r e : Fin 512) : (runLast.sl.r_35 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (8 : Fin 11).val + e.val, by omega⟩ := by
  refine act_gen (H := H) (XG := XG) (XU := XU) (CW := (View.read (Elt Ideal) arg6.view f6)) (CB := (View.read (Elt Ideal) arg7.view f7)) 8 (runLast.sl.v147 (F := Ideal) c i arg1 arg2 arg3 arg4 arg5 arg13 f1 f2 f3 f4 f5) (runLast.sl.v1221 (F := Ideal) c i XU) _ (runLast.sl.v1226 (F := Ideal) c i arg1 arg2 arg3 arg4 arg5 arg13 arg14 XG f1 f2 f3 f4 f5) (runLast.sl.v1230 (F := Ideal) c i arg1 arg2 arg3 arg4 arg5 arg13 arg14 XG f1 f2 f3 f4 f5) (runLast.sl.v1235 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 2) 8 c XU _ _ (off6_eq i 8) _ k e
  · exact fun a e => col_read arg6 f6 4096 _ (by decide) a e
  · exact fun e => col_read arg7 f7 4096 _ (by decide) 0 e
  · intro r e
    exact g_gen arg14.view _ _ 15 _ _ (by decide) 8 (runLast.sl.v139 (F := Ideal) c i arg1 arg2 arg3 arg4 arg5 arg13 f1 f2 f3 f4 f5) (runLast.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e
  · intro r e
    exact g_gen arg14.view _ _ 16 _ _ (by decide) 8 (runLast.sl.v139 (F := Ideal) c i arg1 arg2 arg3 arg4 arg5 arg13 f1 f2 f3 f4 f5) (runLast.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e
  · intro r e
    exact g_gen arg14.view _ _ 17 _ _ (by decide) 8 (runLast.sl.v139 (F := Ideal) c i arg1 arg2 arg3 arg4 arg5 arg13 f1 f2 f3 f4 f5) (runLast.sl.v1213 (F := Ideal) c i XG) rfl (v139 c i arg1 arg2 arg3 arg4 arg5 arg6 arg7 arg8 arg13 arg14 arg15 XG XU XD f1 f2 f3 f4 f5 f6 f7 f8 H hH) (fun k e => wg_read (sl i 2) 8 c XG _ _ (off6_eq i 8) _ k e) r e

/-- The accumulator after block 8. -/
theorem acc8 (r : Fin 512) (e : Fin 2048) : View.canon (runLast.sl.HA_37 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 9 r e := by
  refine block_step arg15.view (runLast.sl.HA_33 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (8 : Fin 11).val + k.val, by omega⟩) (accS H XG XU (View.read (Elt Ideal) arg6.view f6) (View.read (Elt Ideal) arg7.view f7) XD 8) (fun k e => XD (ix2 ⟨512 * (8 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc7 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 8 0 (by decide) (runLast.sl.r_35 (F := Ideal) c i arg1 arg2 arg3 arg4 arg5 arg6 arg7 arg13 arg14 XG XU f1 f2 f3 f4 f5 f6 f7) _ _ (runLast.sl.v1300 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 0 (by decide) _ _ (off12_eq i 8) _ k e)
  · exact st_gen (H := H) (XG := XG) (XU := XU) (CW := (View.read (Elt Ideal) arg6.view f6)) (CB := (View.read (Elt Ideal) arg7.view f7)) (XD := XD) 8 512 (by decide) (runLast.sl.r_35 (F := Ideal) c i arg1 arg2 arg3 arg4 arg5 arg6 arg7 arg13 arg14 XG XU f1 f2 f3 f4 f5 f6 f7) _ _ (runLast.sl.v1309 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 512 (by decide) _ _ (off13_eq i 8) _ k e)
  · exact st_gen (H := H) (XG := XG) (XU := XU) (CW := (View.read (Elt Ideal) arg6.view f6)) (CB := (View.read (Elt Ideal) arg7.view f7)) (XD := XD) 8 1024 (by decide) (runLast.sl.r_35 (F := Ideal) c i arg1 arg2 arg3 arg4 arg5 arg6 arg7 arg13 arg14 XG XU f1 f2 f3 f4 f5 f6 f7) _ _ (runLast.sl.v1318 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 1024 (by decide) _ _ (off14_eq i 8) _ k e)
  · exact st_gen (H := H) (XG := XG) (XU := XU) (CW := (View.read (Elt Ideal) arg6.view f6)) (CB := (View.read (Elt Ideal) arg7.view f7)) (XD := XD) 8 1536 (by decide) (runLast.sl.r_35 (F := Ideal) c i arg1 arg2 arg3 arg4 arg5 arg6 arg7 arg13 arg14 XG XU f1 f2 f3 f4 f5 f6 f7) _ _ (runLast.sl.v1327 (F := Ideal) c i XD) _ rfl rfl (act8 c i arg1 arg2 arg3 arg4 arg5 arg6 arg7 arg8 arg13 arg14 arg15 XG XU XD f1 f2 f3 f4 f5 f6 f7 f8 H hH) (fun k e => wd_read (sl i 2) 8 c XD 1536 (by decide) _ _ (off15_eq i 8) _ k e)

/-- The activations of block 9. -/
theorem act9 (r e : Fin 512) : (runLast.sl.r_37 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (9 : Fin 11).val + e.val, by omega⟩ := by
  refine act_gen (H := H) (XG := XG) (XU := XU) (CW := (View.read (Elt Ideal) arg6.view f6)) (CB := (View.read (Elt Ideal) arg7.view f7)) 9 (runLast.sl.v147 (F := Ideal) c i arg1 arg2 arg3 arg4 arg5 arg13 f1 f2 f3 f4 f5) (runLast.sl.v1355 (F := Ideal) c i XU) _ (runLast.sl.v1360 (F := Ideal) c i arg1 arg2 arg3 arg4 arg5 arg13 arg14 XG f1 f2 f3 f4 f5) (runLast.sl.v1364 (F := Ideal) c i arg1 arg2 arg3 arg4 arg5 arg13 arg14 XG f1 f2 f3 f4 f5) (runLast.sl.v1369 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 0) 9 c XU _ _ (off6_eq i 9) _ k e
  · exact fun a e => col_read arg6 f6 4608 _ (by decide) a e
  · exact fun e => col_read arg7 f7 4608 _ (by decide) 0 e
  · intro r e
    exact g_gen arg14.view _ _ 15 _ _ (by decide) 9 (runLast.sl.v139 (F := Ideal) c i arg1 arg2 arg3 arg4 arg5 arg13 f1 f2 f3 f4 f5) (runLast.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e
  · intro r e
    exact g_gen arg14.view _ _ 16 _ _ (by decide) 9 (runLast.sl.v139 (F := Ideal) c i arg1 arg2 arg3 arg4 arg5 arg13 f1 f2 f3 f4 f5) (runLast.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e
  · intro r e
    exact g_gen arg14.view _ _ 17 _ _ (by decide) 9 (runLast.sl.v139 (F := Ideal) c i arg1 arg2 arg3 arg4 arg5 arg13 f1 f2 f3 f4 f5) (runLast.sl.v1347 (F := Ideal) c i XG) rfl (v139 c i arg1 arg2 arg3 arg4 arg5 arg6 arg7 arg8 arg13 arg14 arg15 XG XU XD f1 f2 f3 f4 f5 f6 f7 f8 H hH) (fun k e => wg_read (sl i 0) 9 c XG _ _ (off6_eq i 9) _ k e) r e

/-- The accumulator after block 9. -/
theorem acc9 (r : Fin 512) (e : Fin 2048) : View.canon (runLast.sl.HA_41 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 10 r e := by
  refine block_step arg15.view (runLast.sl.HA_37 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (9 : Fin 11).val + k.val, by omega⟩) (accS H XG XU (View.read (Elt Ideal) arg6.view f6) (View.read (Elt Ideal) arg7.view f7) XD 9) (fun k e => XD (ix2 ⟨512 * (9 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc8 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 9 0 (by decide) (runLast.sl.r_37 (F := Ideal) c i arg1 arg2 arg3 arg4 arg5 arg6 arg7 arg13 arg14 XG XU f1 f2 f3 f4 f5 f6 f7) _ _ (runLast.sl.v1412 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 0 (by decide) _ _ (off12_eq i 9) _ k e)
  · exact st_gen (H := H) (XG := XG) (XU := XU) (CW := (View.read (Elt Ideal) arg6.view f6)) (CB := (View.read (Elt Ideal) arg7.view f7)) (XD := XD) 9 512 (by decide) (runLast.sl.r_37 (F := Ideal) c i arg1 arg2 arg3 arg4 arg5 arg6 arg7 arg13 arg14 XG XU f1 f2 f3 f4 f5 f6 f7) _ _ (runLast.sl.v1421 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 512 (by decide) _ _ (off13_eq i 9) _ k e)
  · exact st_gen (H := H) (XG := XG) (XU := XU) (CW := (View.read (Elt Ideal) arg6.view f6)) (CB := (View.read (Elt Ideal) arg7.view f7)) (XD := XD) 9 1024 (by decide) (runLast.sl.r_37 (F := Ideal) c i arg1 arg2 arg3 arg4 arg5 arg6 arg7 arg13 arg14 XG XU f1 f2 f3 f4 f5 f6 f7) _ _ (runLast.sl.v1430 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 1024 (by decide) _ _ (off14_eq i 9) _ k e)
  · exact st_gen (H := H) (XG := XG) (XU := XU) (CW := (View.read (Elt Ideal) arg6.view f6)) (CB := (View.read (Elt Ideal) arg7.view f7)) (XD := XD) 9 1536 (by decide) (runLast.sl.r_37 (F := Ideal) c i arg1 arg2 arg3 arg4 arg5 arg6 arg7 arg13 arg14 XG XU f1 f2 f3 f4 f5 f6 f7) _ _ (runLast.sl.v1439 (F := Ideal) c i XD) _ rfl rfl (act9 c i arg1 arg2 arg3 arg4 arg5 arg6 arg7 arg8 arg13 arg14 arg15 XG XU XD f1 f2 f3 f4 f5 f6 f7 f8 H hH) (fun k e => wd_read (sl i 0) 9 c XD 1536 (by decide) _ _ (off15_eq i 9) _ k e)

/-- The activations of block 10. -/
theorem act10 (r e : Fin 512) : (runLast.sl.r_41 (F := Ideal) c i arg1 arg2 arg3 arg4 arg5 arg6 arg7 arg13 arg14 XG XU f1 f2 f3 f4 f5 f6 f7) (ix2 r e) = am H XG XU (View.read (Elt Ideal) arg6.view f6) (View.read (Elt Ideal) arg7.view f7) r ⟨512 * (10 : Fin 11).val + e.val, by omega⟩ := by
  refine act_gen (H := H) (XG := XG) (XU := XU) (CW := (View.read (Elt Ideal) arg6.view f6)) (CB := (View.read (Elt Ideal) arg7.view f7)) 10 (runLast.sl.v147 (F := Ideal) c i arg1 arg2 arg3 arg4 arg5 arg13 f1 f2 f3 f4 f5) (runLast.sl.v1467 (F := Ideal) c i XU) _ (runLast.sl.v1472 (F := Ideal) c i arg1 arg2 arg3 arg4 arg5 arg13 arg14 XG f1 f2 f3 f4 f5) (runLast.sl.v1476 (F := Ideal) c i arg1 arg2 arg3 arg4 arg5 arg13 arg14 XG f1 f2 f3 f4 f5) (runLast.sl.v1481 (F := Ideal) c i arg1 arg2 arg3 arg4 arg5 arg13 arg14 XG f1 f2 f3 f4 f5) _ ?_ ?_ ?_ ?_ ?_ ?_ ?_ r e
  · exact v147 c i arg1 arg2 arg3 arg4 arg5 arg6 arg7 arg8 arg13 arg14 arg15 XG XU XD f1 f2 f3 f4 f5 f6 f7 f8 H hH
  · exact fun k e => wu_read (sl i 1) 10 c XU _ _ (off6_eq i 10) _ k e
  · exact fun a e => col_read arg6 f6 5120 _ (by decide) a e
  · exact fun e => col_read arg7 f7 5120 _ (by decide) 0 e
  · intro r e
    exact g_gen arg14.view _ _ 15 _ _ (by decide) 10 (runLast.sl.v139 (F := Ideal) c i arg1 arg2 arg3 arg4 arg5 arg13 f1 f2 f3 f4 f5) (runLast.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e
  · intro r e
    exact g_gen arg14.view _ _ 16 _ _ (by decide) 10 (runLast.sl.v139 (F := Ideal) c i arg1 arg2 arg3 arg4 arg5 arg13 f1 f2 f3 f4 f5) (runLast.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e
  · intro r e
    exact g_gen arg14.view _ _ 17 _ _ (by decide) 10 (runLast.sl.v139 (F := Ideal) c i arg1 arg2 arg3 arg4 arg5 arg13 f1 f2 f3 f4 f5) (runLast.sl.v1459 (F := Ideal) c i XG) rfl (v139 c i arg1 arg2 arg3 arg4 arg5 arg6 arg7 arg8 arg13 arg14 arg15 XG XU XD f1 f2 f3 f4 f5 f6 f7 f8 H hH) (fun k e => wg_read (sl i 1) 10 c XG _ _ (off6_eq i 10) _ k e) r e

/-- The accumulator after block 10. -/
theorem acc10 (r : Fin 512) (e : Fin 2048) : View.canon (runLast.sl.HA_45 (F := Ideal) c i arg1 arg2 arg3 arg4 arg5 arg6 arg7 arg13 arg14 arg15 XG XU XD f1 f2 f3 f4 f5 f6 f7) (ix2 r e) = accS H XG XU (View.read (Elt Ideal) arg6.view f6) (View.read (Elt Ideal) arg7.view f7) XD 11 r e := by
  refine block_step arg15.view (runLast.sl.HA_41 (F := Ideal) c i arg1 arg2 arg3 arg4 arg5 arg6 arg7 arg13 arg14 arg15 XG XU XD f1 f2 f3 f4 f5 f6 f7) (fun r k => am H XG XU (View.read (Elt Ideal) arg6.view f6) (View.read (Elt Ideal) arg7.view f7) r ⟨512 * (10 : Fin 11).val + k.val, by omega⟩) (accS H XG XU (View.read (Elt Ideal) arg6.view f6) (View.read (Elt Ideal) arg7.view f7) XD 10) (fun k e => XD (ix2 ⟨512 * (10 : Fin 11).val + k.val, by omega⟩ e))
    _ _ _ _ inb_S512x2048_S512x512_0_0 inb_S512x2048_S512x512_0_512 inb_S512x2048_S512x512_0_1024 inb_S512x2048_S512x512_0_1536
    inb_S512x2048_S512x512_0_0 inb_S512x2048_S512x512_0_512 inb_S512x2048_S512x512_0_1024 inb_S512x2048_S512x512_0_1536 ?_ ?_ ?_ ?_ ?_ r e
  · exact acc9 c i arg1 arg2 arg3 arg4 arg5 arg6 arg7 arg8 arg13 arg14 arg15 XG XU XD f1 f2 f3 f4 f5 f6 f7 f8 H hH
  · exact st_gen (H := H) (XG := XG) (XU := XU) (CW := (View.read (Elt Ideal) arg6.view f6)) (CB := (View.read (Elt Ideal) arg7.view f7)) (XD := XD) 10 0 (by decide) (runLast.sl.r_41 (F := Ideal) c i arg1 arg2 arg3 arg4 arg5 arg6 arg7 arg13 arg14 XG XU f1 f2 f3 f4 f5 f6 f7) _ _ (runLast.sl.v1502 (F := Ideal) c i XD) _ (e93 _ _ _ _ _) rfl (act10 c i arg1 arg2 arg3 arg4 arg5 arg6 arg7 arg8 arg13 arg14 arg15 XG XU XD f1 f2 f3 f4 f5 f6 f7 f8 H hH) (fun k e => wd_read (sl i 1) 10 c XD 0 (by decide) _ _ (off12_eq i 10) _ k e)
  · exact st_gen (H := H) (XG := XG) (XU := XU) (CW := (View.read (Elt Ideal) arg6.view f6)) (CB := (View.read (Elt Ideal) arg7.view f7)) (XD := XD) 10 512 (by decide) (runLast.sl.r_41 (F := Ideal) c i arg1 arg2 arg3 arg4 arg5 arg6 arg7 arg13 arg14 XG XU f1 f2 f3 f4 f5 f6 f7) _ _ (runLast.sl.v1511 (F := Ideal) c i XD) _ (e94 _ _ _ _ _) rfl (act10 c i arg1 arg2 arg3 arg4 arg5 arg6 arg7 arg8 arg13 arg14 arg15 XG XU XD f1 f2 f3 f4 f5 f6 f7 f8 H hH) (fun k e => wd_read (sl i 1) 10 c XD 512 (by decide) _ _ (off13_eq i 10) _ k e)
  · exact st_gen (H := H) (XG := XG) (XU := XU) (CW := (View.read (Elt Ideal) arg6.view f6)) (CB := (View.read (Elt Ideal) arg7.view f7)) (XD := XD) 10 1024 (by decide) (runLast.sl.r_41 (F := Ideal) c i arg1 arg2 arg3 arg4 arg5 arg6 arg7 arg13 arg14 XG XU f1 f2 f3 f4 f5 f6 f7) _ _ (runLast.sl.v1520 (F := Ideal) c i XD) _ rfl rfl (act10 c i arg1 arg2 arg3 arg4 arg5 arg6 arg7 arg8 arg13 arg14 arg15 XG XU XD f1 f2 f3 f4 f5 f6 f7 f8 H hH) (fun k e => wd_read (sl i 1) 10 c XD 1024 (by decide) _ _ (off14_eq i 10) _ k e)
  · exact st_gen (H := H) (XG := XG) (XU := XU) (CW := (View.read (Elt Ideal) arg6.view f6)) (CB := (View.read (Elt Ideal) arg7.view f7)) (XD := XD) 10 1536 (by decide) (runLast.sl.r_41 (F := Ideal) c i arg1 arg2 arg3 arg4 arg5 arg6 arg7 arg13 arg14 XG XU f1 f2 f3 f4 f5 f6 f7) _ _ (runLast.sl.v1529 (F := Ideal) c i XD) _ rfl rfl (act10 c i arg1 arg2 arg3 arg4 arg5 arg6 arg7 arg8 arg13 arg14 arg15 XG XU XD f1 f2 f3 f4 f5 f6 f7 f8 H hH) (fun k e => wd_read (sl i 1) 10 c XD 1536 (by decide) _ _ (off15_eq i 10) _ k e)

omit hH
/-- The normalized rows this run stores. -/
theorem h_eq (r k) : View.canon (runLast.sl.HH_3 (F := Ideal) c i arg1 arg2 arg3 arg4 arg5 f1 f2 f3 f4 f5) (ix2 r k) = (hv (i 0).val (View.read (Elt Ideal) arg1.view f1) (View.read (Elt Ideal) arg2.view f2) (View.read (Elt Ideal) arg3.view f3) (View.read (Elt Ideal) arg4.view f4) (View.read (Elt Ideal) arg5.view f5)) r k := by
  refine (h_canon _ _ _ inb_S544x2048_S16x2048_0_0 inb_S544x2048_S512x2048_16_0 inb_S544x2048_S16x2048_528_0 r k).trans ?_
  unfold hv
  by_cases h : r.val < 16
  · rw [dif_pos h, dif_pos h, h1P, sel_eq _ _ (bit_prev i)]
    simp only [mod_read arg4 f4 3 _ (by decide), mod_read arg4 f4 4 _ (by decide)]
    simp only [col_read (R := 16) (C := 2048) (C' := 2048) arg2 f2 0 _ (by decide), col_read (R := 1) (C := 2048) (C' := 2048) arg5 f5 0 _ (by decide), Nat.zero_add, Fin.eta]
    rfl
  rw [dif_neg h, dif_neg h]
  by_cases h' : r.val < 528
  · rw [dif_pos h', dif_pos h']
    refine (h2P _ _ _ _ _ _).trans ?_
    dsimp only [runLast.sl.r, runLast.sl.r_1]
    simp only [mod_read arg4 f4 3 _ (by decide), mod_read arg4 f4 4 _ (by decide)]
    simp only [col_read (R := 512) (C := 2048) (C' := 2048) arg1 f1 0 _ (by decide), col_read (R := 1) (C := 2048) (C' := 2048) arg5 f5 0 _ (by decide), Nat.zero_add, Fin.eta]
    rfl
  rw [dif_neg h', dif_neg h']
  refine (h3P _ _ _ _ _ _ _).trans ?_
  rw [sel_eq _ _ (bit_next i)]
  simp only [mod_read arg4 f4 3 _ (by decide), mod_read arg4 f4 4 _ (by decide)]
  simp only [col_read (R := 16) (C := 2048) (C' := 2048) arg3 f3 0 _ (by decide), col_read (R := 1) (C := 2048) (C' := 2048) arg5 f5 0 _ (by decide), Nat.zero_add, Fin.eta]
  rfl

/-- What this run stores in the output. -/
theorem out_eq (r : Fin 512) (e : Fin 2048) : View.canon (runLast.sl.HO_1 (F := Ideal) c i arg1 arg2 arg3 arg4 arg5 arg6 arg7 arg8 arg13 arg14 arg15 XG XU XD f1 f2 f3 f4 f5 f6 f7 f8) (ix2 r e)
    = pointOut (i 0).val (View.read (Elt Ideal) arg1.view f1) (View.read (Elt Ideal) arg2.view f2) (View.read (Elt Ideal) arg3.view f3) (View.read (Elt Ideal) arg4.view f4) (View.read (Elt Ideal) arg5.view f5) (View.read (Elt Ideal) arg6.view f6) (View.read (Elt Ideal) arg7.view f7) (View.read (Elt Ideal) arg8.view f8) XG XU XD r e := by
  refine (congrFun (View.canon_cons_unit_lit' _ _ _ (by decide)) (ix2 r e)).trans ((outP _ _ _ _ r e).trans ?_)
  unfold pointOut
  simp only [mod_read arg4 f4 5 _ (by decide)]
  simp only [col_read (R := 512) (C := 2048) (C' := 2048) arg1 f1 0 _ (by decide), col_read (R := 1) (C := 2048) (C' := 2048) arg8 f8 0 _ (by decide), Nat.zero_add, Fin.eta]
  have key : ∀ k : Fin 2048, (runLast.sl.v1539 (F := Ideal) c i arg1 arg2 arg3 arg4 arg5 arg6 arg7 arg13 arg14 arg15 XG XU XD f1 f2 f3 f4 f5 f6 f7) (ix2 r k) = accS (hv (i 0).val (View.read (Elt Ideal) arg1.view f1) (View.read (Elt Ideal) arg2.view f2) (View.read (Elt Ideal) arg3.view f3) (View.read (Elt Ideal) arg4.view f4) (View.read (Elt Ideal) arg5.view f5)) XG XU (View.read (Elt Ideal) arg6.view f6) (View.read (Elt Ideal) arg7.view f7) XD 11 r k := fun k =>
    ((congrFun (View.readCov_eq_canon' _ _ _) _).trans (congrArg _ (by
      funext a; apply Fin.ext; fin_cases a
      · exact (Nat.zero_add _).trans (Nat.one_mul _)
      · exact (Nat.zero_add _).trans (Nat.one_mul _)))).trans (acc10 c i arg1 arg2 arg3 arg4 arg5 arg6 arg7 arg8 arg13 arg14 arg15 XG XU XD f1 f2 f3 f4 f5 f6 f7 f8 _ (h_eq c i arg1 arg2 arg3 arg4 arg5 arg6 arg7 arg8 arg13 arg14 arg15 XG XU XD f1 f2 f3 f4 f5 f6 f7 f8) r k)
  simp only [key]
  rfl

end Cert.FfnI.LastVal

end
-- ==== Proof.FfnI.Array.lean ====
/- The feed-forward kernel leaves the result array `ffnArr` of its arguments: each of the 64 grid points writes its 512 rows. -/
module

public import proofs.«01_k».proof.Proof.FfnI.Whole
public import proofs.«01_k».proof.Proof.FfnI.Run
public import proofs.«01_k».proof.Proof.FfnI.MidVal
public import proofs.«01_k».proof.Proof.FfnI.FirstVal
public import proofs.«01_k».proof.Proof.FfnI.LastVal
public import Idealize.ShloMosaic.Lib.Pipeline.ValueKit
public import Idealize.ShloMosaic.Lib.Pointwise
public import Idealize.ShloMosaic.Lib.Pipeline.Covers

@[expose] public section

set_option maxRecDepth 16384

noncomputable section

namespace Cert.FfnI

open Idealize.ShloMosaic Idealize.ShloMosaic.TcCoe Cert.KernelFfnIdeal Cert.KernelFfnIdeal.Gen Cert.KernelFfnIdeal.Facts

variable (m : (ℓ : Loc nD τ sig) → Buf (Elt Ideal) ℓ)

/-- A grid point's result from its blocks. -/
theorem outAt_eq (c : Dev nD) (t : Fin cfg0.N) (r : Fin 512) (e : Fin 2048) : outAt m c t (ix2 r e)
    = pointOut (grid0.coords t 0).val (iblk m c 0 t) (iblk m c 1 t) (iblk m c 2 t) (iblk m c 3 t) (iblk m c 4 t) (iblk m c 5 t) (iblk m c 6 t) (iblk m c 7 t)
        (m ((c : Thread nD τ).loc main_arg3)) (m ((c : Thread nD τ).loc main_arg4)) (m ((c : Thread nD τ).loc main_arg7)) r e := by
  unfold outAt
  split
  · refine (congrFun (View.read_writes_junk_eq_canon _ _) _).trans ((FirstVal.out_eq c (grid0.coords t) _ _ _ _ _ _ _ _ _ _ _ _ _ _ _ _ _ _ _ _ _ _ r e).trans ?_)
    simp only [View.read_rep]
  split
  · refine (congrFun (View.read_writes_junk_eq_canon _ _) _).trans ((LastVal.out_eq c (grid0.coords t) _ _ _ _ _ _ _ _ _ _ _ _ _ _ _ _ _ _ _ _ _ _ r e).trans ?_)
    simp only [View.read_rep]
  · refine (congrFun (View.read_writes_junk_eq_canon _ _) _).trans ((MidVal.out_eq c (grid0.coords t) _ _ _ _ _ _ _ _ _ _ _ _ _ _ _ _ _ _ _ _ _ _ r e).trans ?_)
    simp only [View.read_rep]

theorem idx_0 : ∀ t : Fin cfg0.N, win0_0.index t = ![(grid0.coords t 0).val, 0] := by decide +kernel
theorem idx_1 : ∀ t : Fin cfg0.N, win0_1.index t = ![(grid0.coords t 0).val * 32 - 1, 0] := by decide +kernel
theorem idx_2 : ∀ t : Fin cfg0.N, win0_2.index t = ![min ((grid0.coords t 0).val * 32 + 32) 2047, 0] := by decide +kernel
theorem idx_3 : ∀ t : Fin cfg0.N, win0_3.index t = ![(grid0.coords t 0).val / 8, 0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![(grid0.coords t 0).val, 0] := by decide +kernel

/-- The kernel's result array. -/
theorem final (c : Dev nD) : (dats m 0 c).arrAt 8 cfg0.N
    = ffnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 8 _ (by decide +kernel) fun t hf y => ?_
  blk_simp
  rw [after_w8]
  obtain ⟨b, eb, hb⟩ : ∃ b, b = (grid0.coords t 0).val ∧ b < 64 := ⟨_, rfl, (grid0.coords t 0).isLt⟩
  have i0 : win0_0.index t = ![b, 0] := by rw [eb]; exact idx_0 t
  have i1 : win0_1.index t = ![b * 32 - 1, 0] := by rw [eb]; exact idx_1 t
  have i2 : win0_2.index t = ![min (b * 32 + 32) 2047, 0] := by rw [eb]; exact idx_2 t
  have i3 : win0_3.index t = ![b / 8, 0, 0] := by rw [eb]; exact idx_3 t
  have i8 : win0_8.index t = ![b, 0] := by rw [eb]; exact idx_8 t
  idx_vars y
  have e0 : ∀ (r : Fin 512) (k : Fin 2048) (R : Fin 32768), R.val = b * 512 + r.val → iblk m c 0 t (ix2 r k) = (m ((c : Thread nD τ).loc main_arg0)) (ix2 R k) := by
    intro r k R hR
    blk_ext [iblk, V, i0]
  have e1 : ∀ (r : Fin 16) (k : Fin 2048) (R : Fin 32768), R.val = (b * 32 - 1) * 16 + r.val → iblk m c 1 t (ix2 r k) = (m ((c : Thread nD τ).loc main_arg0)) (ix2 R k) := by
    intro r k R hR
    blk_ext [iblk, V, i1]
  have e2 : ∀ (r : Fin 16) (k : Fin 2048) (R : Fin 32768), R.val = (min (b * 32 + 32) 2047) * 16 + r.val → iblk m c 2 t (ix2 r k) = (m ((c : Thread nD τ).loc main_arg0)) (ix2 R k) := by
    intro r k R hR
    blk_ext [iblk, V, i2]
  have e3 : ∀ (a : Fin 6) (k : Fin 2048) (B : Fin 8), B.val = b / 8 → iblk m c 3 t (ix3 0 a k) = (m ((c : Thread nD τ).loc main_arg1)) (ix3 B a k) := by
    intro a k B hB
    blk_ext [iblk, V, i3]
  have e4 : iblk m c 4 t = m ((c : Thread nD τ).loc main_arg2) := by
    funext j
    blk_ext! [iblk, V, idx_4 t]
  have e5 : iblk m c 5 t = m ((c : Thread nD τ).loc main_arg5) := by
    funext j
    blk_ext! [iblk, V, idx_5 t]
  have e6 : iblk m c 6 t = m ((c : Thread nD τ).loc main_arg6) := by
    funext j
    blk_ext! [iblk, V, idx_6 t]
  have e7 : iblk m c 7 t = m ((c : Thread nD τ).loc main_arg8) := by
    funext j
    blk_ext! [iblk, V, idx_7 t]
  have e8 : ((View.whole main_v0).slice (win0_8.rect t)).emb (ix2 y0 y1) = (ix2 ⟨b * 512 + y0, by omega⟩ y1 : S32768x2048.Idx) := by
    funext a
    apply Fin.ext
    fin_cases a
    · blk_simp [i8]
      rfl
    · blk_simp [i8]
      rfl
  rw [e8, outAt_eq, e5, e6, e7, ← eb]
  exact point_at b _ _ _ _ _ hb e0 e1 e2 e3 (fun k => congrFun e4 _) y0 y1 _ rfl

end Cert.FfnI

end
-- ==== Proof.Ffn.Ref.lean ====
/- The reference's result array, stage by stage. -/
module

public import proofs.«01_k».proof.Proof.Gen.ReferenceFfnIdeal.Read
public import proofs.«01_k».proof.Proof.FfnI.Whole
public import Idealize.ShloMosaic.Lib.Pipeline.ValueKit
public import Idealize.ShloMosaic.Lib.Pointwise

@[expose] public section

set_option maxRecDepth 16384

noncomputable section

namespace Cert.Ffn.Ref

open Idealize.ShloMosaic Cert.ReferenceFfnIdeal Cert.ReferenceFfnIdeal.Gen Cert.ReferenceFfnIdeal.Read Cert.FfnI

variable (A0 : S32768x2048.Idx → EReal) (A1 : S8x6x2048.Idx → EReal) (A2 : S1x2048.Idx → EReal) (A3 A4 : S2048x5632.Idx → EReal) (A5 : S3x5632.Idx → EReal)
  (A6 : S1x5632.Idx → EReal) (A7 : S5632x2048.Idx → EReal) (A8 : S1x2048.Idx → EReal)
  (b : Fin 8) (s : Fin 4096) (R : Fin 32768) (hR : R.val = b.val * 4096 + s.val)

include hR

/-- The input by sequences, -/
theorem v0_at (k : Fin 2048) : val_main_v0 (F := Ideal) A0 (ix3 b s k) = A0 (ix2 R k) := by
  rw [val_main_v0_apply]
  refine congrArg A0 (funext fun a => Fin.ext ?_)
  match a with
  | ⟨0, _⟩ => show ((b.val * 4096 + s.val) * 2048 + k.val) / 2048 = R.val; omega
  | ⟨1, _⟩ => show ((b.val * 4096 + s.val) * 2048 + k.val) % 2048 = k.val; omega

/-- and the normalized, scaled and shifted input. -/
theorem v29_at (k : Fin 2048) : val_main_v29 (F := Ideal) A0 A1 A2 (ix3 b s k) = hN A0 A1 A2 R k := by
  have d : (⟨R.val / 4096, by omega⟩ : Fin 8) = b := Fin.ext (by show R.val / 4096 = b.val; omega)
  unfold hN
  rw [d]
  have e0 := v0_at A0 b s R hR
  pointwise [val_main_v29, val_main_v28, val_main_v27, val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_v6, val_main_v5, val_main_v4, val_main_v3, val_main_v2, val_main_v1, val_main_cst, val_main_cst_0, val_main_cst_1, val_main_cst_2, modAt, rmsAt, e0]

/-- The gate product. -/
theorem v34_at (n : Fin 5632) : val_main_v34 (F := Ideal) A0 A1 A2 A3 (ix3 b s n) = gC A0 A1 A2 A3 R n := by
  rw [val_main_v34_apply]
  unfold gC
  refine Finset.sum_congr rfl fun k _ => ?_
  have e : lidx_main_v34 (ix3 b s n) k = ix3 b s k := by funext a; match a with | ⟨0, _⟩ => rfl | ⟨1, _⟩ => rfl | ⟨2, _⟩ => rfl
  have e' : ridx_main_v34 (ix3 b s n) k = ix2 k n := by funext a; match a with | ⟨0, _⟩ => rfl | ⟨1, _⟩ => rfl
  rw [e, e', v29_at A0 A1 A2 b s R hR]
  rfl

/-- The gate product with a zero row before and after each sequence: row `p` of sequence `b`. -/
theorem v36_at (p : Fin 4098) (n : Fin 5632) (hp : p.val = s.val + 1) :
    val_main_v36 (F := Ideal) A0 A1 A2 A3 (ix3 b p n) = gC A0 A1 A2 A3 R n := by
  rw [← v34_at A0 A1 A2 A3 b s R hR n]
  unfold val_main_v36
  generalize val_main_v34 (F := Ideal) A0 A1 A2 A3 = y
  pointwise []
  rw [dif_neg (by omega), dif_pos (by omega)]
  exact congrArg y (congrArg (fun q => ix3 b q n) (Fin.ext (by show p.val - 1 = s.val; omega)))

omit hR in
/-- The zero rows. -/
theorem v36_zero (p : Fin 4098) (n : Fin 5632) (hp : p.val = 0 ∨ p.val = 4097) :
    val_main_v36 (F := Ideal) A0 A1 A2 A3 (ix3 b p n) = 0 := by
  unfold val_main_v36
  generalize val_main_v34 (F := Ideal) A0 A1 A2 A3 = y
  rcases hp with h | h
  · pointwise [val_main_v35, val_main_cst_3]
    rw [dif_pos (by omega)]
  · pointwise [val_main_v35, val_main_cst_3]
    rw [dif_neg (by omega), dif_neg (by omega)]

/-- The three rows the convolution takes. -/
theorem v37_at (n : Fin 5632) : val_main_v37 (F := Ideal) A0 A1 A2 A3 (ix3 b s n) = gL A0 A1 A2 A3 R n := by
  rw [val_main_v37_apply]
  have e : idx_main_v37 (ix3 b s n) = ix3 b ⟨s.val, by omega⟩ n := by funext a; match a with | ⟨0, _⟩ => rfl | ⟨1, _⟩ => rfl | ⟨2, _⟩ => rfl
  rw [e]
  unfold gL
  by_cases h : R.val % 4096 = 0
  · rw [dif_pos h]
    exact v36_zero A0 A1 A2 A3 b _ n (Or.inl (by show s.val = 0; omega))
  · rw [dif_neg h]
    exact v36_at A0 A1 A2 A3 b ⟨s.val - 1, by omega⟩ ⟨R.val - 1, by omega⟩ (by show R.val - 1 = b.val * 4096 + (s.val - 1); omega) _ n (by show s.val = s.val - 1 + 1; omega)

theorem v43_at (n : Fin 5632) : val_main_v43 (F := Ideal) A0 A1 A2 A3 (ix3 b s n) = gC A0 A1 A2 A3 R n := by
  rw [val_main_v43_apply]
  have e : idx_main_v43 (ix3 b s n) = ix3 b ⟨1 + s.val, by omega⟩ n := by funext a; match a with | ⟨0, _⟩ => rfl | ⟨1, _⟩ => rfl | ⟨2, _⟩ => rfl
  rw [e]
  exact v36_at A0 A1 A2 A3 b s R hR _ n (by show 1 + s.val = s.val + 1; omega)

theorem v50_at (n : Fin 5632) : val_main_v50 (F := Ideal) A0 A1 A2 A3 (ix3 b s n) = gR A0 A1 A2 A3 R n := by
  rw [val_main_v50_apply]
  have e : idx_main_v50 (ix3 b s n) = ix3 b ⟨2 + s.val, by omega⟩ n := by funext a; match a with | ⟨0, _⟩ => rfl | ⟨1, _⟩ => rfl | ⟨2, _⟩ => rfl
  rw [e]
  unfold gR
  by_cases h : R.val % 4096 = 4095
  · rw [dif_pos h]
    exact v36_zero A0 A1 A2 A3 b _ n (Or.inr (by show 2 + s.val = 4097; omega))
  · rw [dif_neg h]
    exact v36_at A0 A1 A2 A3 b ⟨s.val + 1, by omega⟩ ⟨R.val + 1, by omega⟩ (by show R.val + 1 = b.val * 4096 + (s.val + 1); omega) _ n (by show 2 + s.val = s.val + 1 + 1; omega)

/-- The convolution. -/
theorem v59_at (n : Fin 5632) : val_main_v59 (F := Ideal) A0 A1 A2 A3 A5 A6 (ix3 b s n) = cN A0 A1 A2 A3 A5 A6 R n := by
  have e0 := v37_at A0 A1 A2 A3 b s R hR
  have e1 := v43_at A0 A1 A2 A3 b s R hR
  have e2 := v50_at A0 A1 A2 A3 b s R hR
  unfold cN
  rw [mul_comm (A5 (ix2 0 n)), mul_comm (A5 (ix2 1 n)), mul_comm (A5 (ix2 2 n))]
  pointwise [val_main_v59, val_main_v58, val_main_v57, val_main_v56, val_main_v55, val_main_v54, val_main_v53, val_main_v52, val_main_v51, val_main_v49, val_main_v48, val_main_v47, val_main_v46, val_main_v45, val_main_v44,
    val_main_v42, val_main_v41, val_main_v40, val_main_v39, val_main_v38, val_main_v32, e0, e1, e2]

/-- The activation. -/
theorem v62_at (n : Fin 5632) : val_main_v62 (F := Ideal) A0 A1 A2 A3 A4 A5 A6 (ix3 b s n) = aN A0 A1 A2 A3 A4 A5 A6 R n := by
  have e0 := v59_at A0 A1 A2 A3 A5 A6 b s R hR n
  have eu : val_main_v61 (F := Ideal) A0 A1 A2 A4 (ix3 b s n) = ∑ k : Fin 2048, hN A0 A1 A2 R k * A4 (ix2 k n) := by
    rw [val_main_v61_apply]
    refine Finset.sum_congr rfl fun k _ => ?_
    have e : lidx_main_v61 (ix3 b s n) k = ix3 b s k := by funext a; match a with | ⟨0, _⟩ => rfl | ⟨1, _⟩ => rfl | ⟨2, _⟩ => rfl
    have e' : ridx_main_v61 (ix3 b s n) k = ix2 k n := by funext a; match a with | ⟨0, _⟩ => rfl | ⟨1, _⟩ => rfl
    rw [e, e', v29_at A0 A1 A2 b s R hR]
    rfl
  have es : val_main_v60 (F := Ideal) A0 A1 A2 A3 A5 A6 (ix3 b s n) = cN A0 A1 A2 A3 A5 A6 R n * Ideal.logistic (cN A0 A1 A2 A3 A5 A6 R n) := by
    pointwise [val_main_v60, val_main_call0_v5, val_main_call0_v4, val_main_call0_v3, val_main_call0_v2, val_main_call0_v1, val_main_call0_v0, val_main_call0_cst, val_main_call0_cst_0, e0]
    rfl
  rw [val_main_v62_apply, eu, es]
  rfl

/-- The input plus the scaled down product. -/
theorem v66_at (e : Fin 2048) : val_main_v66 (F := Ideal) A0 A1 A2 A3 A4 A5 A6 A7 (ix3 b s e)
    = A0 (ix2 R e) + A1 (ix3 b 5 e) * ∑ l : Fin 5632, aN A0 A1 A2 A3 A4 A5 A6 R l * A7 (ix2 l e) := by
  have ed : val_main_v63 (F := Ideal) A0 A1 A2 A3 A4 A5 A6 A7 (ix3 b s e) = ∑ l : Fin 5632, aN A0 A1 A2 A3 A4 A5 A6 R l * A7 (ix2 l e) := by
    rw [val_main_v63_apply]
    refine Finset.sum_congr rfl fun k _ => ?_
    have h : lidx_main_v63 (ix3 b s e) k = ix3 b s k := by funext a; match a with | ⟨0, _⟩ => rfl | ⟨1, _⟩ => rfl | ⟨2, _⟩ => rfl
    have h' : ridx_main_v63 (ix3 b s e) k = ix2 k e := by funext a; match a with | ⟨0, _⟩ => rfl | ⟨1, _⟩ => rfl
    rw [h, h', v62_at A0 A1 A2 A3 A4 A5 A6 b s R hR]
    rfl
  have e0 := v0_at A0 b s R hR e
  pointwise [val_main_v66, val_main_v65, val_main_v64, val_main_v9, val_main_v8, val_main_v7, ed, e0]

/-- The normalized result. -/
theorem v80_at (e : Fin 2048) : val_main_v80 (F := Ideal) A0 A1 A2 A3 A4 A5 A6 A7 A8 (ix3 b s e) = yN A0 A1 A2 A3 A4 A5 A6 A7 A8 R e := by
  have d : (⟨R.val / 4096, by omega⟩ : Fin 8) = b := Fin.ext (by show R.val / 4096 = b.val; omega)
  have e0 := v66_at A0 A1 A2 A3 A4 A5 A6 A7 b s R hR
  unfold yN
  rw [d]
  pointwise [val_main_v80, val_main_v79, val_main_v78, val_main_v77, val_main_v76, val_main_v75, val_main_v74, val_main_v73, val_main_v72, val_main_v71, val_main_v70, val_main_v69, val_main_v68, val_main_v67,
    val_main_cst_4, val_main_cst_5, val_main_cst_6, rmsAt, e0]

omit hR in
/-- The reference's result array. -/
theorem ref_eq : val_main_v81 (F := Ideal) A0 A1 A2 A3 A4 A5 A6 A7 A8 = ffnArr A0 A1 A2 A3 A4 A5 A6 A7 A8 := by
  funext i
  obtain ⟨R, e, rfl⟩ : ∃ (R : Fin 32768) (e : Fin 2048), i = ix2 R e := ⟨⟨(i 0).val, (i 0).isLt⟩, ⟨(i 1).val, (i 1).isLt⟩, by
    funext a; match a with | ⟨0, _⟩ => rfl | ⟨1, _⟩ => rfl⟩
  rw [val_main_v81_apply]
  have h : idx_main_v81 (ix2 R e) = ix3 (⟨R.val / 4096, by omega⟩ : Fin 8) (⟨R.val % 4096, by omega⟩ : Fin 4096) e := by
    funext a
    apply Fin.ext
    match a with
    | ⟨0, _⟩ => show (R.val * 2048 + e.val) / 8388608 = R.val / 4096; omega
    | ⟨1, _⟩ => show (R.val * 2048 + e.val) / 2048 % 4096 = R.val % 4096; omega
    | ⟨2, _⟩ => show (R.val * 2048 + e.val) % 2048 = e.val; omega
  rw [h]
  exact v80_at A0 A1 A2 A3 A4 A5 A6 A7 A8 _ _ R (by show R.val = R.val / 4096 * 4096 + R.val % 4096; omega) e

end Cert.Ffn.Ref

end
-- ==== Proof.Ffn.Claim.lean ====
/- The feed-forward layer's claims: the two frames of the kernel, the reference's, and that kernel and reference both end with the array `ffnArr`. -/
module

public import proofs.«01_k».proof.Defs
public import proofs.«01_k».proof.Proof.Ffn.Run
public import proofs.«01_k».proof.Proof.FfnI.Array
public import proofs.«01_k».proof.Proof.Gen.ReferenceFfnIdeal.Run
public import proofs.«01_k».proof.Proof.Gen.ReferenceFfnIdeal.Read
public import proofs.«01_k».proof.Proof.Ffn.Ref

@[expose] public section

set_option maxRecDepth 16384

noncomputable section

namespace Cert.Ffn

open Idealize.ShloMosaic Idealize.SL.Sem

/-- The compiled kernel's run changes no argument and leaves every counter at zero. -/
theorem frame_p : Cert.quiescent_KernelFfn (hKernelFfn := Cert.KernelFfn.Gen.facts) := fun m ρ _ => Cert.Ffn.frame m ρ

/-- So does the idealized kernel's, -/
theorem frame_pi : Cert.quiescent_KernelFfnIdeal (hKernelFfnIdeal := Cert.KernelFfnIdeal.Gen.facts) := fun m ρ _ => Cert.FfnI.frame m ρ

/-- and the reference's. -/
theorem frame_r : Cert.quiescent_ReferenceFfnIdeal (hReferenceFfnIdeal := Cert.ReferenceFfnIdeal.Gen.facts) := fun m ρ _ =>
  (θ_run Cert.ReferenceFfnIdeal.defs _ _).mono
    (fun r h => ⟨fun c => (h c).2, sem_eq_zero_of_no_sems (by decide) r.2⟩) (Cert.ReferenceFfnIdeal.Value.run (F := Ideal) m ρ)

end Cert.Ffn

namespace Cert.FfnI

open Idealize.ShloMosaic Idealize.SL.Sem Cert.KernelFfnIdeal Cert.KernelFfnIdeal.Gen

/-- The idealized kernel's run: the result is `ffnArr` of the arguments, which end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = ffnArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 8).trans (final m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c)))⟩) (run_main m ρ)

end Cert.FfnI

namespace Cert.Ffn

open Idealize.ShloMosaic Idealize.SL.Sem

/-- Kernel and reference end with equal results. -/
theorem algebraic : Cert.algebraic_KernelFfnIdeal_ReferenceFfnIdeal (hKernelFfnIdeal := Cert.KernelFfnIdeal.Gen.facts)
    (hReferenceFfnIdeal := Cert.ReferenceFfnIdeal.Gen.facts) := by
  intro m ρ m' ρ' _ hagree
  refine ⟨_, Cert.FfnI.run_value m ρ, (θ_run Cert.ReferenceFfnIdeal.defs _ _).mono (fun r h c => ?_) (Cert.ReferenceFfnIdeal.Value.run (F := Ideal) m' ρ')⟩
  obtain ⟨a0, a1, a2, a3, a4, a5, a6, a7, a8⟩ := hagree c
  refine ⟨(h c).1.trans ?_, (h c).2⟩
  rw [Cert.ReferenceFfnIdeal.Read.val_main_v81_eq, a0, a1, a2, a3, a4, a5, a6, a7, a8]
  exact Cert.Ffn.Ref.ref_eq _ _ _ _ _ _ _ _ _

end Cert.Ffn

end
-- ==== Proof.lean ====
/-
  The proof of `Cert.Claim` (Defs.lean): the frames are the generated ones, the value claims are those of the modules under
  Proof/, one folder for each call of the kernel.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Run
public import proofs.«01_k».proof.Proof.Gen.ReferenceGateIdeal.Read
public import proofs.«01_k».proof.Proof.Gen.KernelVal
public import proofs.«01_k».proof.Proof.Gen.KernelVal.Skeleton
public import proofs.«01_k».proof.Proof.Gen.KernelVal.Launch
public import proofs.«01_k».proof.Proof.Gen.KernelVal.Points
public import proofs.«01_k».proof.Proof.Gen.KernelVal.Frame
public import proofs.«01_k».proof.Proof.Gen.KernelValIdeal
public import proofs.«01_k».proof.Proof.Gen.KernelValIdeal.Skeleton
public import proofs.«01_k».proof.Proof.Gen.KernelValIdeal.Launch
public import proofs.«01_k».proof.Proof.Gen.KernelValIdeal.Points
public import proofs.«01_k».proof.Proof.Gen.KernelValIdeal.Frame
public import proofs.«01_k».proof.Proof.Gen.KernelValIdeal.Value
public import proofs.«01_k».proof.Proof.Gen.ReferenceValIdeal
public import proofs.«01_k».proof.Proof.Gen.ReferenceValIdeal.Run
public import proofs.«01_k».proof.Proof.Gen.ReferenceValIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Attn.Claim
public import proofs.«01_k».proof.Proof.Gate.Claim
public import proofs.«01_k».proof.Proof.Val.Claim
public import proofs.«01_k».proof.Proof.Mix.Claim
public import proofs.«01_k».proof.Proof.Ffn.Claim
public import Idealize.ShloMosaic.Adequacy
public import Idealize.ShloMosaic.Init

@[expose] public section

noncomputable section

namespace Cert.Proof

open Idealize.ShloMosaic Idealize.SL.Sem Cert.Kernel

/-- Everything `Cert.Claim` states. -/
theorem claim : Cert.Claim := ⟨Cert.Kernel.Gen.facts, Cert.KernelIdeal.Gen.facts, Cert.ReferenceIdeal.Gen.facts,
  Cert.KernelGate.Gen.facts, Cert.KernelGateIdeal.Gen.facts, Cert.ReferenceGateIdeal.Gen.facts,
  Cert.KernelVal.Gen.facts, Cert.KernelValIdeal.Gen.facts, Cert.ReferenceValIdeal.Gen.facts,
  Cert.KernelMix.Gen.facts, Cert.KernelMixIdeal.Gen.facts, Cert.ReferenceMixIdeal.Gen.facts,
  Cert.KernelFfn.Gen.facts, Cert.KernelFfnIdeal.Gen.facts, Cert.ReferenceFfnIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  Cert.Attn.frame_r,
  fun m ρ _ => Cert.Attn.frame_r m ρ trivial,
  fun m ρ _ => Cert.KernelGate.Gen.frame m ρ,
  fun m ρ _ => Cert.KernelGateIdeal.Gen.frame m ρ,
  Cert.Gate.frame_r,
  fun m ρ _ => Cert.KernelVal.Gen.frame m ρ,
  fun m ρ _ => Cert.KernelValIdeal.Gen.frame m ρ,
  Cert.Val.frame_r,
  fun m ρ _ => Cert.KernelMix.Gen.frame m ρ,
  fun m ρ _ => Cert.KernelMixIdeal.Gen.frame m ρ,
  Cert.Mix.frame_r,
  Cert.Ffn.frame_p,
  Cert.Ffn.frame_pi,
  Cert.Ffn.frame_r,
  trivial,
  Cert.Attn.algebraic,
  trivial,
  Cert.Gate.algebraic,
  trivial,
  Cert.Val.algebraic,
  trivial,
  Cert.Mix.algebraic,
  trivial,
  Cert.Ffn.algebraic⟩

end Cert.Proof

end
